-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPostRec (m : (ℓ : Loc Cert.KernelPostRec.nD Cert.KernelPostRec.τ Cert.KernelPostRec.sig) → Buf (Elt Bits) ℓ) : Prop :=
  True

def Pre_KernelPostRecIdeal (m : (ℓ : Loc Cert.KernelPostRecIdeal.nD Cert.KernelPostRecIdeal.τ Cert.KernelPostRecIdeal.sig) → Buf (Elt Ideal) ℓ) : Prop :=
  True

def Pre_ReferencePostRecIdeal (m : (ℓ : Loc Cert.ReferencePostRecIdeal.nD Cert.ReferencePostRecIdeal.τ Cert.ReferencePostRecIdeal.sig) → Buf (Elt Ideal) ℓ) : Prop :=
  True

def Pre_KernelRecIn (m : (ℓ : Loc Cert.KernelRecIn.nD Cert.KernelRecIn.τ Cert.KernelRecIn.sig) → Buf (Elt Bits) ℓ) : Prop :=
  True

def Pre_KernelRecInIdeal (m : (ℓ : Loc Cert.KernelRecInIdeal.nD Cert.KernelRecInIdeal.τ Cert.KernelRecInIdeal.sig) → Buf (Elt Ideal) ℓ) : Prop :=
  True

def Pre_ReferenceRecInIdeal (m : (ℓ : Loc Cert.ReferenceRecInIdeal.nD Cert.ReferenceRecInIdeal.τ Cert.ReferenceRecInIdeal.sig) → Buf (Elt Ideal) ℓ) : Prop :=
  True

def Pre_KernelAttnIn (m : (ℓ : Loc Cert.KernelAttnIn.nD Cert.KernelAttnIn.τ Cert.KernelAttnIn.sig) → Buf (Elt Bits) ℓ) : Prop :=
  True

def Pre_KernelAttnInIdeal (m : (ℓ : Loc Cert.KernelAttnInIdeal.nD Cert.KernelAttnInIdeal.τ Cert.KernelAttnInIdeal.sig) → Buf (Elt Ideal) ℓ) : Prop :=
  True

def Pre_ReferenceAttnInIdeal (m : (ℓ : Loc Cert.ReferenceAttnInIdeal.nD Cert.ReferenceAttnInIdeal.τ Cert.ReferenceAttnInIdeal.sig) → Buf (Elt Ideal) ℓ) : Prop :=
  True

def Pre_KernelRecInFirst (m : (ℓ : Loc Cert.KernelRecInFirst.nD Cert.KernelRecInFirst.τ Cert.KernelRecInFirst.sig) → Buf (Elt Bits) ℓ) : Prop :=
  True

def Pre_KernelRecInFirstIdeal (m : (ℓ : Loc Cert.KernelRecInFirstIdeal.nD Cert.KernelRecInFirstIdeal.τ Cert.KernelRecInFirstIdeal.sig) → Buf (Elt Ideal) ℓ) : Prop :=
  True

def Pre_ReferenceRecInFirstIdeal (m : (ℓ : Loc Cert.ReferenceRecInFirstIdeal.nD Cert.ReferenceRecInFirstIdeal.τ Cert.ReferenceRecInFirstIdeal.sig) → Buf (Elt Ideal) ℓ) : Prop :=
  True

def Pre_KernelAttnMeta (m : (ℓ : Loc Cert.KernelAttnMeta.nD Cert.KernelAttnMeta.τ Cert.KernelAttnMeta.sig) → Buf (Elt Bits) ℓ) : Prop :=
  True

def Pre_KernelAttnMetaIdeal (m : (ℓ : Loc Cert.KernelAttnMetaIdeal.nD Cert.KernelAttnMetaIdeal.τ Cert.KernelAttnMetaIdeal.sig) → Buf (Elt Ideal) ℓ) : Prop :=
  True

def Pre_KernelAttnMetaIdeal_finite_meta_scores [hPre_finite_meta_scores : Cert.Pre_finite_meta_scores.Facts] (m : (ℓ : Loc Cert.KernelAttnMetaIdeal.nD Cert.KernelAttnMetaIdeal.τ Cert.KernelAttnMetaIdeal.sig) → Buf (Elt Ideal) ℓ) : Prop :=
  ∀ c : Dev Cert.KernelAttnMetaIdeal.nD,
    (Cert.Pre_finite_meta_scores.fn (F := Ideal) (m ((c.tc : Thread Cert.KernelAttnMetaIdeal.nD Cert.KernelAttnMetaIdeal.τ).loc Cert.KernelAttnMetaIdeal.main_arg0)) (m ((c.tc : Thread Cert.KernelAttnMetaIdeal.nD Cert.KernelAttnMetaIdeal.τ).loc Cert.KernelAttnMetaIdeal.main_arg1)) (m ((c.tc : Thread Cert.KernelAttnMetaIdeal.nD Cert.KernelAttnMetaIdeal.τ).loc Cert.KernelAttnMetaIdeal.main_arg2)) (m ((c.tc : Thread Cert.KernelAttnMetaIdeal.nD Cert.KernelAttnMetaIdeal.τ).loc Cert.KernelAttnMetaIdeal.main_arg3)) (m ((c.tc : Thread Cert.KernelAttnMetaIdeal.nD Cert.KernelAttnMetaIdeal.τ).loc Cert.KernelAttnMetaIdeal.main_arg4)) (m ((c.tc : Thread Cert.KernelAttnMetaIdeal.nD Cert.KernelAttnMetaIdeal.τ).loc Cert.KernelAttnMetaIdeal.main_arg5))).1 = (fun _ => 1#1)
    ∧ (Cert.Pre_finite_meta_scores.fn (F := Ideal) (m ((c.tc : Thread Cert.KernelAttnMetaIdeal.nD Cert.KernelAttnMetaIdeal.τ).loc Cert.KernelAttnMetaIdeal.main_arg0)) (m ((c.tc : Thread Cert.KernelAttnMetaIdeal.nD Cert.KernelAttnMetaIdeal.τ).loc Cert.KernelAttnMetaIdeal.main_arg1)) (m ((c.tc : Thread Cert.KernelAttnMetaIdeal.nD Cert.KernelAttnMetaIdeal.τ).loc Cert.KernelAttnMetaIdeal.main_arg2)) (m ((c.tc : Thread Cert.KernelAttnMetaIdeal.nD Cert.KernelAttnMetaIdeal.τ).loc Cert.KernelAttnMetaIdeal.main_arg3)) (m ((c.tc : Thread Cert.KernelAttnMetaIdeal.nD Cert.KernelAttnMetaIdeal.τ).loc Cert.KernelAttnMetaIdeal.main_arg4)) (m ((c.tc : Thread Cert.KernelAttnMetaIdeal.nD Cert.KernelAttnMetaIdeal.τ).loc Cert.KernelAttnMetaIdeal.main_arg5))).2.1 = (fun _ => 1#1)
    ∧ (Cert.Pre_finite_meta_scores.fn (F := Ideal) (m ((c.tc : Thread Cert.KernelAttnMetaIdeal.nD Cert.KernelAttnMetaIdeal.τ).loc Cert.KernelAttnMetaIdeal.main_arg0)) (m ((c.tc : Thread Cert.KernelAttnMetaIdeal.nD Cert.KernelAttnMetaIdeal.τ).loc Cert.KernelAttnMetaIdeal.main_arg1)) (m ((c.tc : Thread Cert.KernelAttnMetaIdeal.nD Cert.KernelAttnMetaIdeal.τ).loc Cert.KernelAttnMetaIdeal.main_arg2)) (m ((c.tc : Thread Cert.KernelAttnMetaIdeal.nD Cert.KernelAttnMetaIdeal.τ).loc Cert.KernelAttnMetaIdeal.main_arg3)) (m ((c.tc : Thread Cert.KernelAttnMetaIdeal.nD Cert.KernelAttnMetaIdeal.τ).loc Cert.KernelAttnMetaIdeal.main_arg4)) (m ((c.tc : Thread Cert.KernelAttnMetaIdeal.nD Cert.KernelAttnMetaIdeal.τ).loc Cert.KernelAttnMetaIdeal.main_arg5))).2.2.1 = (fun _ => 1#1)
    ∧ (Cert.Pre_finite_meta_scores.fn (F := Ideal) (m ((c.tc : Thread Cert.KernelAttnMetaIdeal.nD Cert.KernelAttnMetaIdeal.τ).loc Cert.KernelAttnMetaIdeal.main_arg0)) (m ((c.tc : Thread Cert.KernelAttnMetaIdeal.nD Cert.KernelAttnMetaIdeal.τ).loc Cert.KernelAttnMetaIdeal.main_arg1)) (m ((c.tc : Thread Cert.KernelAttnMetaIdeal.nD Cert.KernelAttnMetaIdeal.τ).loc Cert.KernelAttnMetaIdeal.main_arg2)) (m ((c.tc : Thread Cert.KernelAttnMetaIdeal.nD Cert.KernelAttnMetaIdeal.τ).loc Cert.KernelAttnMetaIdeal.main_arg3)) (m ((c.tc : Thread Cert.KernelAttnMetaIdeal.nD Cert.KernelAttnMetaIdeal.τ).loc Cert.KernelAttnMetaIdeal.main_arg4)) (m ((c.tc : Thread Cert.KernelAttnMetaIdeal.nD Cert.KernelAttnMetaIdeal.τ).loc Cert.KernelAttnMetaIdeal.main_arg5))).2.2.2 = (fun _ => 1#1)

def Pre_ReferenceAttnMetaIdeal (m : (ℓ : Loc Cert.ReferenceAttnMetaIdeal.nD Cert.ReferenceAttnMetaIdeal.τ Cert.ReferenceAttnMetaIdeal.sig) → Buf (Elt Ideal) ℓ) : Prop :=
  True

def Pre_ReferenceAttnMetaIdeal_finite_meta_scores [hPre_finite_meta_scores : Cert.Pre_finite_meta_scores.Facts] (m : (ℓ : Loc Cert.ReferenceAttnMetaIdeal.nD Cert.ReferenceAttnMetaIdeal.τ Cert.ReferenceAttnMetaIdeal.sig) → Buf (Elt Ideal) ℓ) : Prop :=
  ∀ c : Dev Cert.ReferenceAttnMetaIdeal.nD,
    (Cert.Pre_finite_meta_scores.fn (F := Ideal) (m ((c.tc : Thread Cert.ReferenceAttnMetaIdeal.nD Cert.ReferenceAttnMetaIdeal.τ).loc Cert.ReferenceAttnMetaIdeal.main_arg0)) (m ((c.tc : Thread Cert.ReferenceAttnMetaIdeal.nD Cert.ReferenceAttnMetaIdeal.τ).loc Cert.ReferenceAttnMetaIdeal.main_arg1)) (m ((c.tc : Thread Cert.ReferenceAttnMetaIdeal.nD Cert.ReferenceAttnMetaIdeal.τ).loc Cert.ReferenceAttnMetaIdeal.main_arg2)) (m ((c.tc : Thread Cert.ReferenceAttnMetaIdeal.nD Cert.ReferenceAttnMetaIdeal.τ).loc Cert.ReferenceAttnMetaIdeal.main_arg3)) (m ((c.tc : Thread Cert.ReferenceAttnMetaIdeal.nD Cert.ReferenceAttnMetaIdeal.τ).loc Cert.ReferenceAttnMetaIdeal.main_arg4)) (m ((c.tc : Thread Cert.ReferenceAttnMetaIdeal.nD Cert.ReferenceAttnMetaIdeal.τ).loc Cert.ReferenceAttnMetaIdeal.main_arg5))).1 = (fun _ => 1#1)
    ∧ (Cert.Pre_finite_meta_scores.fn (F := Ideal) (m ((c.tc : Thread Cert.ReferenceAttnMetaIdeal.nD Cert.ReferenceAttnMetaIdeal.τ).loc Cert.ReferenceAttnMetaIdeal.main_arg0)) (m ((c.tc : Thread Cert.ReferenceAttnMetaIdeal.nD Cert.ReferenceAttnMetaIdeal.τ).loc Cert.ReferenceAttnMetaIdeal.main_arg1)) (m ((c.tc : Thread Cert.ReferenceAttnMetaIdeal.nD Cert.ReferenceAttnMetaIdeal.τ).loc Cert.ReferenceAttnMetaIdeal.main_arg2)) (m ((c.tc : Thread Cert.ReferenceAttnMetaIdeal.nD Cert.ReferenceAttnMetaIdeal.τ).loc Cert.ReferenceAttnMetaIdeal.main_arg3)) (m ((c.tc : Thread Cert.ReferenceAttnMetaIdeal.nD Cert.ReferenceAttnMetaIdeal.τ).loc Cert.ReferenceAttnMetaIdeal.main_arg4)) (m ((c.tc : Thread Cert.ReferenceAttnMetaIdeal.nD Cert.ReferenceAttnMetaIdeal.τ).loc Cert.ReferenceAttnMetaIdeal.main_arg5))).2.1 = (fun _ => 1#1)
    ∧ (Cert.Pre_finite_meta_scores.fn (F := Ideal) (m ((c.tc : Thread Cert.ReferenceAttnMetaIdeal.nD Cert.ReferenceAttnMetaIdeal.τ).loc Cert.ReferenceAttnMetaIdeal.main_arg0)) (m ((c.tc : Thread Cert.ReferenceAttnMetaIdeal.nD Cert.ReferenceAttnMetaIdeal.τ).loc Cert.ReferenceAttnMetaIdeal.main_arg1)) (m ((c.tc : Thread Cert.ReferenceAttnMetaIdeal.nD Cert.ReferenceAttnMetaIdeal.τ).loc Cert.ReferenceAttnMetaIdeal.main_arg2)) (m ((c.tc : Thread Cert.ReferenceAttnMetaIdeal.nD Cert.ReferenceAttnMetaIdeal.τ).loc Cert.ReferenceAttnMetaIdeal.main_arg3)) (m ((c.tc : Thread Cert.ReferenceAttnMetaIdeal.nD Cert.ReferenceAttnMetaIdeal.τ).loc Cert.ReferenceAttnMetaIdeal.main_arg4)) (m ((c.tc : Thread Cert.ReferenceAttnMetaIdeal.nD Cert.ReferenceAttnMetaIdeal.τ).loc Cert.ReferenceAttnMetaIdeal.main_arg5))).2.2.1 = (fun _ => 1#1)
    ∧ (Cert.Pre_finite_meta_scores.fn (F := Ideal) (m ((c.tc : Thread Cert.ReferenceAttnMetaIdeal.nD Cert.ReferenceAttnMetaIdeal.τ).loc Cert.ReferenceAttnMetaIdeal.main_arg0)) (m ((c.tc : Thread Cert.ReferenceAttnMetaIdeal.nD Cert.ReferenceAttnMetaIdeal.τ).loc Cert.ReferenceAttnMetaIdeal.main_arg1)) (m ((c.tc : Thread Cert.ReferenceAttnMetaIdeal.nD Cert.ReferenceAttnMetaIdeal.τ).loc Cert.ReferenceAttnMetaIdeal.main_arg2)) (m ((c.tc : Thread Cert.ReferenceAttnMetaIdeal.nD Cert.ReferenceAttnMetaIdeal.τ).loc Cert.ReferenceAttnMetaIdeal.main_arg3)) (m ((c.tc : Thread Cert.ReferenceAttnMetaIdeal.nD Cert.ReferenceAttnMetaIdeal.τ).loc Cert.ReferenceAttnMetaIdeal.main_arg4)) (m ((c.tc : Thread Cert.ReferenceAttnMetaIdeal.nD Cert.ReferenceAttnMetaIdeal.τ).loc Cert.ReferenceAttnMetaIdeal.main_arg5))).2.2.2 = (fun _ => 1#1)

def Pre_KernelRecInMeta (m : (ℓ : Loc Cert.KernelRecInMeta.nD Cert.KernelRecInMeta.τ Cert.KernelRecInMeta.sig) → Buf (Elt Bits) ℓ) : Prop :=
  True

def Pre_KernelRecInMetaIdeal (m : (ℓ : Loc Cert.KernelRecInMetaIdeal.nD Cert.KernelRecInMetaIdeal.τ Cert.KernelRecInMetaIdeal.sig) → Buf (Elt Ideal) ℓ) : Prop :=
  True

def Pre_ReferenceRecInMetaIdeal (m : (ℓ : Loc Cert.ReferenceRecInMetaIdeal.nD Cert.ReferenceRecInMetaIdeal.τ Cert.ReferenceRecInMetaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5))
      ∧ r.2.sem = fun _ => 0)

def quiescent_KernelPostRec [hKernelPostRec : Cert.KernelPostRec.Facts] : Prop :=
  ∀ (m : (ℓ : Loc Cert.KernelPostRec.nD Cert.KernelPostRec.τ Cert.KernelPostRec.sig) → Buf (Elt Bits) ℓ) (g : Dev Cert.KernelPostRec.nD → PrngReg), Pre_KernelPostRec m →
    θ_run (Cert.KernelPostRec.defs (F := Bits)) (onTc (τ := Cert.KernelPostRec.τ) (Cert.KernelPostRec.main (F := Bits))) ⟨m, fun _ => 0, g⟩ (fun r => (∀ c : Dev Cert.KernelPostRec.nD,
      r.2.mem ((c.tc : Thread Cert.KernelPostRec.nD Cert.KernelPostRec.τ).loc Cert.KernelPostRec.main_arg0) = m ((c.tc : Thread Cert.KernelPostRec.nD Cert.KernelPostRec.τ).loc Cert.KernelPostRec.main_arg0)
      ∧ r.2.mem ((c.tc : Thread Cert.KernelPostRec.nD Cert.KernelPostRec.τ).loc Cert.KernelPostRec.main_arg1) = m ((c.tc : Thread Cert.KernelPostRec.nD Cert.KernelPostRec.τ).loc Cert.KernelPostRec.main_arg1)
      ∧ r.2.mem ((c.tc : Thread Cert.KernelPostRec.nD Cert.KernelPostRec.τ).loc Cert.KernelPostRec.main_arg2) = m ((c.tc : Thread Cert.KernelPostRec.nD Cert.KernelPostRec.τ).loc Cert.KernelPostRec.main_arg2)
      ∧ r.2.mem ((c.tc : Thread Cert.KernelPostRec.nD Cert.KernelPostRec.τ).loc Cert.KernelPostRec.main_arg3) = m ((c.tc : Thread Cert.KernelPostRec.nD Cert.KernelPostRec.τ).loc Cert.KernelPostRec.main_arg3)
      ∧ r.2.mem ((c.tc : Thread Cert.KernelPostRec.nD Cert.KernelPostRec.τ).loc Cert.KernelPostRec.main_arg4) = m ((c.tc : Thread Cert.KernelPostRec.nD Cert.KernelPostRec.τ).loc Cert.KernelPostRec.main_arg4)
      ∧ r.2.mem ((c.tc : Thread Cert.KernelPostRec.nD Cert.KernelPostRec.τ).loc Cert.KernelPostRec.main_arg5) = m ((c.tc : Thread Cert.KernelPostRec.nD Cert.KernelPostRec.τ).loc Cert.KernelPostRec.main_arg5)
      ∧ r.2.mem ((c.tc : Thread Cert.KernelPostRec.nD Cert.KernelPostRec.τ).loc Cert.KernelPostRec.main_arg6) = m ((c.tc : Thread Cert.KernelPostRec.nD Cert.KernelPostRec.τ).loc Cert.KernelPostRec.main_arg6)
      ∧ r.2.mem ((c.tc : Thread Cert.KernelPostRec.nD Cert.KernelPostRec.τ).loc Cert.KernelPostRec.main_arg7) = m ((c.tc : Thread Cert.KernelPostRec.nD Cert.KernelPostRec.τ).loc Cert.KernelPostRec.main_arg7)
      ∧ r.2.mem ((c.tc : Thread Cert.KernelPostRec.nD Cert.KernelPostRec.τ).loc Cert.KernelPostRec.main_arg8) = m ((c.tc : Thread Cert.KernelPostRec.nD Cert.KernelPostRec.τ).loc Cert.KernelPostRec.main_arg8))
      ∧ r.2.sem = fun _ => 0)

def quiescent_KernelPostRecIdeal [hKernelPostRecIdeal : Cert.KernelPostRecIdeal.Facts] : Prop :=
  ∀ (m : (ℓ : Loc Cert.KernelPostRecIdeal.nD Cert.KernelPostRecIdeal.τ Cert.KernelPostRecIdeal.sig) → Buf (Elt Ideal) ℓ) (g : Dev Cert.KernelPostRecIdeal.nD → PrngReg), Pre_KernelPostRecIdeal m →
    θ_run (Cert.KernelPostRecIdeal.defs (F := Ideal)) (onTc (τ := Cert.KernelPostRecIdeal.τ) (Cert.KernelPostRecIdeal.main (F := Ideal))) ⟨m, fun _ => 0, g⟩ (fun r => (∀ c : Dev Cert.KernelPostRecIdeal.nD,
      r.2.mem ((c.tc : Thread Cert.KernelPostRecIdeal.nD Cert.KernelPostRecIdeal.τ).loc Cert.KernelPostRecIdeal.main_arg0) = m ((c.tc : Thread Cert.KernelPostRecIdeal.nD Cert.KernelPostRecIdeal.τ).loc Cert.KernelPostRecIdeal.main_arg0)
      ∧ r.2.mem ((c.tc : Thread Cert.KernelPostRecIdeal.nD Cert.KernelPostRecIdeal.τ).loc Cert.KernelPostRecIdeal.main_arg1) = m ((c.tc : Thread Cert.KernelPostRecIdeal.nD Cert.KernelPostRecIdeal.τ).loc Cert.KernelPostRecIdeal.main_arg1)
      ∧ r.2.mem ((c.tc : Thread Cert.KernelPostRecIdeal.nD Cert.KernelPostRecIdeal.τ).loc Cert.KernelPostRecIdeal.main_arg2) = m ((c.tc : Thread Cert.KernelPostRecIdeal.nD Cert.KernelPostRecIdeal.τ).loc Cert.KernelPostRecIdeal.main_arg2)
      ∧ r.2.mem ((c.tc : Thread Cert.KernelPostRecIdeal.nD Cert.KernelPostRecIdeal.τ).loc Cert.KernelPostRecIdeal.main_arg3) = m ((c.tc : Thread Cert.KernelPostRecIdeal.nD Cert.KernelPostRecIdeal.τ).loc Cert.KernelPostRecIdeal.main_arg3)
      ∧ r.2.mem ((c.tc : Thread Cert.KernelPostRecIdeal.nD Cert.KernelPostRecIdeal.τ).loc Cert.KernelPostRecIdeal.main_arg4) = m ((c.tc : Thread Cert.KernelPostRecIdeal.nD Cert.KernelPostRecIdeal.τ).loc Cert.KernelPostRecIdeal.main_arg4)
      ∧ r.2.mem ((c.tc : Thread Cert.KernelPostRecIdeal.nD Cert.KernelPostRecIdeal.τ).loc Cert.KernelPostRecIdeal.main_arg5) = m ((c.tc : Thread Cert.KernelPostRecIdeal.nD Cert.KernelPostRecIdeal.τ).loc Cert.KernelPostRecIdeal.main_arg5)
      ∧ r.2.mem ((c.tc : Thread Cert.KernelPostRecIdeal.nD Cert.KernelPostRecIdeal.τ).loc Cert.KernelPostRecIdeal.main_arg6) = m ((c.tc : Thread Cert.KernelPostRecIdeal.nD Cert.KernelPostRecIdeal.τ).loc Cert.KernelPostRecIdeal.main_arg6)
      ∧ r.2.mem ((c.tc : Thread Cert.KernelPostRecIdeal.nD Cert.KernelPostRecIdeal.τ).loc Cert.KernelPostRecIdeal.main_arg7) = m ((c.tc : Thread Cert.KernelPostRecIdeal.nD Cert.KernelPostRecIdeal.τ).loc Cert.KernelPostRecIdeal.main_arg7)
      ∧ r.2.mem ((c.tc : Thread Cert.KernelPostRecIdeal.nD Cert.KernelPostRecIdeal.τ).loc Cert.KernelPostRecIdeal.main_arg8) = m ((c.tc : Thread Cert.KernelPostRecIdeal.nD Cert.KernelPostRecIdeal.τ).loc Cert.KernelPostRecIdeal.main_arg8))
      ∧ r.2.sem = fun _ => 0)

def quiescent_ReferencePostRecIdeal [hReferencePostRecIdeal : Cert.ReferencePostRecIdeal.Facts] : Prop :=
  ∀ (m : (ℓ : Loc Cert.ReferencePostRecIdeal.nD Cert.ReferencePostRecIdeal.τ Cert.ReferencePostRecIdeal.sig) → Buf (Elt Ideal) ℓ) (g : Dev Cert.ReferencePostRecIdeal.nD → PrngReg), Pre_ReferencePostRecIdeal m →
    θ_run (Cert.ReferencePostRecIdeal.defs (F := Ideal)) (onTc (τ := Cert.ReferencePostRecIdeal.τ) (Cert.ReferencePostRecIdeal.main (F := Ideal))) ⟨m, fun _ => 0, g⟩ (fun r => (∀ c : Dev Cert.ReferencePostRecIdeal.nD,
      r.2.mem ((c.tc : Thread Cert.ReferencePostRecIdeal.nD Cert.ReferencePostRecIdeal.τ).loc Cert.ReferencePostRecIdeal.main_arg0) = m ((c.tc : Thread Cert.ReferencePostRecIdeal.nD Cert.ReferencePostRecIdeal.τ).loc Cert.ReferencePostRecIdeal.main_arg0)
      ∧ r.2.mem ((c.tc : Thread Cert.ReferencePostRecIdeal.nD Cert.ReferencePostRecIdeal.τ).loc Cert.ReferencePostRecIdeal.main_arg1) = m ((c.tc : Thread Cert.ReferencePostRecIdeal.nD Cert.ReferencePostRecIdeal.τ).loc Cert.ReferencePostRecIdeal.main_arg1)
      ∧ r.2.mem ((c.tc : Thread Cert.ReferencePostRecIdeal.nD Cert.ReferencePostRecIdeal.τ).loc Cert.ReferencePostRecIdeal.main_arg2) = m ((c.tc : Thread Cert.ReferencePostRecIdeal.nD Cert.ReferencePostRecIdeal.τ).loc Cert.ReferencePostRecIdeal.main_arg2)
      ∧ r.2.mem ((c.tc : Thread Cert.ReferencePostRecIdeal.nD Cert.ReferencePostRecIdeal.τ).loc Cert.ReferencePostRecIdeal.main_arg3) = m ((c.tc : Thread Cert.ReferencePostRecIdeal.nD Cert.ReferencePostRecIdeal.τ).loc Cert.ReferencePostRecIdeal.main_arg3)
      ∧ r.2.mem ((c.tc : Thread Cert.ReferencePostRecIdeal.nD Cert.ReferencePostRecIdeal.τ).loc Cert.ReferencePostRecIdeal.main_arg4) = m ((c.tc : Thread Cert.ReferencePostRecIdeal.nD Cert.ReferencePostRecIdeal.τ).loc Cert.ReferencePostRecIdeal.main_arg4)
      ∧ r.2.mem ((c.tc : Thread Cert.ReferencePostRecIdeal.nD Cert.ReferencePostRecIdeal.τ).loc Cert.ReferencePostRecIdeal.main_arg5) = m ((c.tc : Thread Cert.ReferencePostRecIdeal.nD Cert.ReferencePostRecIdeal.τ).loc Cert.ReferencePostRecIdeal.main_arg5)
      ∧ r.2.mem ((c.tc : Thread Cert.ReferencePostRecIdeal.nD Cert.ReferencePostRecIdeal.τ).loc Cert.ReferencePostRecIdeal.main_arg6) = m ((c.tc : Thread Cert.ReferencePostRecIdeal.nD Cert.ReferencePostRecIdeal.τ).loc Cert.ReferencePostRecIdeal.main_arg6)
      ∧ r.2.mem ((c.tc : Thread Cert.ReferencePostRecIdeal.nD Cert.ReferencePostRecIdeal.τ).loc Cert.ReferencePostRecIdeal.main_arg7) = m ((c.tc : Thread Cert.ReferencePostRecIdeal.nD Cert.ReferencePostRecIdeal.τ).loc Cert.ReferencePostRecIdeal.main_arg7)
      ∧ r.2.mem ((c.tc : Thread Cert.ReferencePostRecIdeal.nD Cert.ReferencePostRecIdeal.τ).loc Cert.ReferencePostRecIdeal.main_arg8) = m ((c.tc : Thread Cert.ReferencePostRecIdeal.nD Cert.ReferencePostRecIdeal.τ).loc Cert.ReferencePostRecIdeal.main_arg8))
      ∧ r.2.sem = fun _ => 0)

def quiescent_KernelRecIn [hKernelRecIn : Cert.KernelRecIn.Facts] : Prop :=
  ∀ (m : (ℓ : Loc Cert.KernelRecIn.nD Cert.KernelRecIn.τ Cert.KernelRecIn.sig) → Buf (Elt Bits) ℓ) (g : Dev Cert.KernelRecIn.nD → PrngReg), Pre_KernelRecIn m →
    θ_run (Cert.KernelRecIn.defs (F := Bits)) (onTc (τ := Cert.KernelRecIn.τ) (Cert.KernelRecIn.main (F := Bits))) ⟨m, fun _ => 0, g⟩ (fun r => (∀ c : Dev Cert.KernelRecIn.nD,
      r.2.mem ((c.tc : Thread Cert.KernelRecIn.nD Cert.KernelRecIn.τ).loc Cert.KernelRecIn.main_arg0) = m ((c.tc : Thread Cert.KernelRecIn.nD Cert.KernelRecIn.τ).loc Cert.KernelRecIn.main_arg0)
      ∧ r.2.mem ((c.tc : Thread Cert.KernelRecIn.nD Cert.KernelRecIn.τ).loc Cert.KernelRecIn.main_arg1) = m ((c.tc : Thread Cert.KernelRecIn.nD Cert.KernelRecIn.τ).loc Cert.KernelRecIn.main_arg1)
      ∧ r.2.mem ((c.tc : Thread Cert.KernelRecIn.nD Cert.KernelRecIn.τ).loc Cert.KernelRecIn.main_arg2) = m ((c.tc : Thread Cert.KernelRecIn.nD Cert.KernelRecIn.τ).loc Cert.KernelRecIn.main_arg2)
      ∧ r.2.mem ((c.tc : Thread Cert.KernelRecIn.nD Cert.KernelRecIn.τ).loc Cert.KernelRecIn.main_arg3) = m ((c.tc : Thread Cert.KernelRecIn.nD Cert.KernelRecIn.τ).loc Cert.KernelRecIn.main_arg3)
      ∧ r.2.mem ((c.tc : Thread Cert.KernelRecIn.nD Cert.KernelRecIn.τ).loc Cert.KernelRecIn.main_arg4) = m ((c.tc : Thread Cert.KernelRecIn.nD Cert.KernelRecIn.τ).loc Cert.KernelRecIn.main_arg4))
      ∧ r.2.sem = fun _ => 0)

def quiescent_KernelRecInIdeal [hKernelRecInIdeal : Cert.KernelRecInIdeal.Facts] : Prop :=
  ∀ (m : (ℓ : Loc Cert.KernelRecInIdeal.nD Cert.KernelRecInIdeal.τ Cert.KernelRecInIdeal.sig) → Buf (Elt Ideal) ℓ) (g : Dev Cert.KernelRecInIdeal.nD → PrngReg), Pre_KernelRecInIdeal m →
    θ_run (Cert.KernelRecInIdeal.defs (F := Ideal)) (onTc (τ := Cert.KernelRecInIdeal.τ) (Cert.KernelRecInIdeal.main (F := Ideal))) ⟨m, fun _ => 0, g⟩ (fun r => (∀ c : Dev Cert.KernelRecInIdeal.nD,
      r.2.mem ((c.tc : Thread Cert.KernelRecInIdeal.nD Cert.KernelRecInIdeal.τ).loc Cert.KernelRecInIdeal.main_arg0) = m ((c.tc : Thread Cert.KernelRecInIdeal.nD Cert.KernelRecInIdeal.τ).loc Cert.KernelRecInIdeal.main_arg0)
      ∧ r.2.mem ((c.tc : Thread Cert.KernelRecInIdeal.nD Cert.KernelRecInIdeal.τ).loc Cert.KernelRecInIdeal.main_arg1) = m ((c.tc : Thread Cert.KernelRecInIdeal.nD Cert.KernelRecInIdeal.τ).loc Cert.KernelRecInIdeal.main_arg1)
      ∧ r.2.mem ((c.tc : Thread Cert.KernelRecInIdeal.nD Cert.KernelRecInIdeal.τ).loc Cert.KernelRecInIdeal.main_arg2) = m ((c.tc : Thread Cert.KernelRecInIdeal.nD Cert.KernelRecInIdeal.τ).loc Cert.KernelRecInIdeal.main_arg2)
      ∧ r.2.mem ((c.tc : Thread Cert.KernelRecInIdeal.nD Cert.KernelRecInIdeal.τ).loc Cert.KernelRecInIdeal.main_arg3) = m ((c.tc : Thread Cert.KernelRecInIdeal.nD Cert.KernelRecInIdeal.τ).loc Cert.KernelRecInIdeal.main_arg3)
      ∧ r.2.mem ((c.tc : Thread Cert.KernelRecInIdeal.nD Cert.KernelRecInIdeal.τ).loc Cert.KernelRecInIdeal.main_arg4) = m ((c.tc : Thread Cert.KernelRecInIdeal.nD Cert.KernelRecInIdeal.τ).loc Cert.KernelRecInIdeal.main_arg4))
      ∧ r.2.sem = fun _ => 0)

def quiescent_ReferenceRecInIdeal [hReferenceRecInIdeal : Cert.ReferenceRecInIdeal.Facts] : Prop :=
  ∀ (m : (ℓ : Loc Cert.ReferenceRecInIdeal.nD Cert.ReferenceRecInIdeal.τ Cert.ReferenceRecInIdeal.sig) → Buf (Elt Ideal) ℓ) (g : Dev Cert.ReferenceRecInIdeal.nD → PrngReg), Pre_ReferenceRecInIdeal m →
    θ_run (Cert.ReferenceRecInIdeal.defs (F := Ideal)) (onTc (τ := Cert.ReferenceRecInIdeal.τ) (Cert.ReferenceRecInIdeal.main (F := Ideal))) ⟨m, fun _ => 0, g⟩ (fun r => (∀ c : Dev Cert.ReferenceRecInIdeal.nD,
      r.2.mem ((c.tc : Thread Cert.ReferenceRecInIdeal.nD Cert.ReferenceRecInIdeal.τ).loc Cert.ReferenceRecInIdeal.main_arg0) = m ((c.tc : Thread Cert.ReferenceRecInIdeal.nD Cert.ReferenceRecInIdeal.τ).loc Cert.ReferenceRecInIdeal.main_arg0)
      ∧ r.2.mem ((c.tc : Thread Cert.ReferenceRecInIdeal.nD Cert.ReferenceRecInIdeal.τ).loc Cert.ReferenceRecInIdeal.main_arg1) = m ((c.tc : Thread Cert.ReferenceRecInIdeal.nD Cert.ReferenceRecInIdeal.τ).loc Cert.ReferenceRecInIdeal.main_arg1)
      ∧ r.2.mem ((c.tc : Thread Cert.ReferenceRecInIdeal.nD Cert.ReferenceRecInIdeal.τ).loc Cert.ReferenceRecInIdeal.main_arg2) = m ((c.tc : Thread Cert.ReferenceRecInIdeal.nD Cert.ReferenceRecInIdeal.τ).loc Cert.ReferenceRecInIdeal.main_arg2)
      ∧ r.2.mem ((c.tc : Thread Cert.ReferenceRecInIdeal.nD Cert.ReferenceRecInIdeal.τ).loc Cert.ReferenceRecInIdeal.main_arg3) = m ((c.tc : Thread Cert.ReferenceRecInIdeal.nD Cert.ReferenceRecInIdeal.τ).loc Cert.ReferenceRecInIdeal.main_arg3)
      ∧ r.2.mem ((c.tc : Thread Cert.ReferenceRecInIdeal.nD Cert.ReferenceRecInIdeal.τ).loc Cert.ReferenceRecInIdeal.main_arg4) = m ((c.tc : Thread Cert.ReferenceRecInIdeal.nD Cert.ReferenceRecInIdeal.τ).loc Cert.ReferenceRecInIdeal.main_arg4))
      ∧ r.2.sem = fun _ => 0)

def quiescent_KernelAttnIn [hKernelAttnIn : Cert.KernelAttnIn.Facts] : Prop :=
  ∀ (m : (ℓ : Loc Cert.KernelAttnIn.nD Cert.KernelAttnIn.τ Cert.KernelAttnIn.sig) → Buf (Elt Bits) ℓ) (g : Dev Cert.KernelAttnIn.nD → PrngReg), Pre_KernelAttnIn m →
    θ_run (Cert.KernelAttnIn.defs (F := Bits)) (onTc (τ := Cert.KernelAttnIn.τ) (Cert.KernelAttnIn.main (F := Bits))) ⟨m, fun _ => 0, g⟩ (fun r => (∀ c : Dev Cert.KernelAttnIn.nD,
      r.2.mem ((c.tc : Thread Cert.KernelAttnIn.nD Cert.KernelAttnIn.τ).loc Cert.KernelAttnIn.main_arg0) = m ((c.tc : Thread Cert.KernelAttnIn.nD Cert.KernelAttnIn.τ).loc Cert.KernelAttnIn.main_arg0)
      ∧ r.2.mem ((c.tc : Thread Cert.KernelAttnIn.nD Cert.KernelAttnIn.τ).loc Cert.KernelAttnIn.main_arg1) = m ((c.tc : Thread Cert.KernelAttnIn.nD Cert.KernelAttnIn.τ).loc Cert.KernelAttnIn.main_arg1)
      ∧ r.2.mem ((c.tc : Thread Cert.KernelAttnIn.nD Cert.KernelAttnIn.τ).loc Cert.KernelAttnIn.main_arg2) = m ((c.tc : Thread Cert.KernelAttnIn.nD Cert.KernelAttnIn.τ).loc Cert.KernelAttnIn.main_arg2)
      ∧ r.2.mem ((c.tc : Thread Cert.KernelAttnIn.nD Cert.KernelAttnIn.τ).loc Cert.KernelAttnIn.main_arg3) = m ((c.tc : Thread Cert.KernelAttnIn.nD Cert.KernelAttnIn.τ).loc Cert.KernelAttnIn.main_arg3)
      ∧ r.2.mem ((c.tc : Thread Cert.KernelAttnIn.nD Cert.KernelAttnIn.τ).loc Cert.KernelAttnIn.main_arg4) = m ((c.tc : Thread Cert.KernelAttnIn.nD Cert.KernelAttnIn.τ).loc Cert.KernelAttnIn.main_arg4)
      ∧ r.2.mem ((c.tc : Thread Cert.KernelAttnIn.nD Cert.KernelAttnIn.τ).loc Cert.KernelAttnIn.main_arg5) = m ((c.tc : Thread Cert.KernelAttnIn.nD Cert.KernelAttnIn.τ).loc Cert.KernelAttnIn.main_arg5)
      ∧ r.2.mem ((c.tc : Thread Cert.KernelAttnIn.nD Cert.KernelAttnIn.τ).loc Cert.KernelAttnIn.main_arg6) = m ((c.tc : Thread Cert.KernelAttnIn.nD Cert.KernelAttnIn.τ).loc Cert.KernelAttnIn.main_arg6))
      ∧ r.2.sem = fun _ => 0)

def quiescent_KernelAttnInIdeal [hKernelAttnInIdeal : Cert.KernelAttnInIdeal.Facts] : Prop :=
  ∀ (m : (ℓ : Loc Cert.KernelAttnInIdeal.nD Cert.KernelAttnInIdeal.τ Cert.KernelAttnInIdeal.sig) → Buf (Elt Ideal) ℓ) (g : Dev Cert.KernelAttnInIdeal.nD → PrngReg), Pre_KernelAttnInIdeal m →
    θ_run (Cert.KernelAttnInIdeal.defs (F := Ideal)) (onTc (τ := Cert.KernelAttnInIdeal.τ) (Cert.KernelAttnInIdeal.main (F := Ideal))) ⟨m, fun _ => 0, g⟩ (fun r => (∀ c : Dev Cert.KernelAttnInIdeal.nD,
      r.2.mem ((c.tc : Thread Cert.KernelAttnInIdeal.nD Cert.KernelAttnInIdeal.τ).loc Cert.KernelAttnInIdeal.main_arg0) = m ((c.tc : Thread Cert.KernelAttnInIdeal.nD Cert.KernelAttnInIdeal.τ).loc Cert.KernelAttnInIdeal.main_arg0)
      ∧ r.2.mem ((c.tc : Thread Cert.KernelAttnInIdeal.nD Cert.KernelAttnInIdeal.τ).loc Cert.KernelAttnInIdeal.main_arg1) = m ((c.tc : Thread Cert.KernelAttnInIdeal.nD Cert.KernelAttnInIdeal.τ).loc Cert.KernelAttnInIdeal.main_arg1)
      ∧ r.2.mem ((c.tc : Thread Cert.KernelAttnInIdeal.nD Cert.KernelAttnInIdeal.τ).loc Cert.KernelAttnInIdeal.main_arg2) = m ((c.tc : Thread Cert.KernelAttnInIdeal.nD Cert.KernelAttnInIdeal.τ).loc Cert.KernelAttnInIdeal.main_arg2)
      ∧ r.2.mem ((c.tc : Thread Cert.KernelAttnInIdeal.nD Cert.KernelAttnInIdeal.τ).loc Cert.KernelAttnInIdeal.main_arg3) = m ((c.tc : Thread Cert.KernelAttnInIdeal.nD Cert.KernelAttnInIdeal.τ).loc Cert.KernelAttnInIdeal.main_arg3)
      ∧ r.2.mem ((c.tc : Thread Cert.KernelAttnInIdeal.nD Cert.KernelAttnInIdeal.τ).loc Cert.KernelAttnInIdeal.main_arg4) = m ((c.tc : Thread Cert.KernelAttnInIdeal.nD Cert.KernelAttnInIdeal.τ).loc Cert.KernelAttnInIdeal.main_arg4)
      ∧ r.2.mem ((c.tc : Thread Cert.KernelAttnInIdeal.nD Cert.KernelAttnInIdeal.τ).loc Cert.KernelAttnInIdeal.main_arg5) = m ((c.tc : Thread Cert.KernelAttnInIdeal.nD Cert.KernelAttnInIdeal.τ).loc Cert.KernelAttnInIdeal.main_arg5)
      ∧ r.2.mem ((c.tc : Thread Cert.KernelAttnInIdeal.nD Cert.KernelAttnInIdeal.τ).loc Cert.KernelAttnInIdeal.main_arg6) = m ((c.tc : Thread Cert.KernelAttnInIdeal.nD Cert.KernelAttnInIdeal.τ).loc Cert.KernelAttnInIdeal.main_arg6))
      ∧ r.2.sem = fun _ => 0)

def quiescent_ReferenceAttnInIdeal [hReferenceAttnInIdeal : Cert.ReferenceAttnInIdeal.Facts] : Prop :=
  ∀ (m : (ℓ : Loc Cert.ReferenceAttnInIdeal.nD Cert.ReferenceAttnInIdeal.τ Cert.ReferenceAttnInIdeal.sig) → Buf (Elt Ideal) ℓ) (g : Dev Cert.ReferenceAttnInIdeal.nD → PrngReg), Pre_ReferenceAttnInIdeal m →
    θ_run (Cert.ReferenceAttnInIdeal.defs (F := Ideal)) (onTc (τ := Cert.ReferenceAttnInIdeal.τ) (Cert.ReferenceAttnInIdeal.main (F := Ideal))) ⟨m, fun _ => 0, g⟩ (fun r => (∀ c : Dev Cert.ReferenceAttnInIdeal.nD,
      r.2.mem ((c.tc : Thread Cert.ReferenceAttnInIdeal.nD Cert.ReferenceAttnInIdeal.τ).loc Cert.ReferenceAttnInIdeal.main_arg0) = m ((c.tc : Thread Cert.ReferenceAttnInIdeal.nD Cert.ReferenceAttnInIdeal.τ).loc Cert.ReferenceAttnInIdeal.main_arg0)
      ∧ r.2.mem ((c.tc : Thread Cert.ReferenceAttnInIdeal.nD Cert.ReferenceAttnInIdeal.τ).loc Cert.ReferenceAttnInIdeal.main_arg1) = m ((c.tc : Thread Cert.ReferenceAttnInIdeal.nD Cert.ReferenceAttnInIdeal.τ).loc Cert.ReferenceAttnInIdeal.main_arg1)
      ∧ r.2.mem ((c.tc : Thread Cert.ReferenceAttnInIdeal.nD Cert.ReferenceAttnInIdeal.τ).loc Cert.ReferenceAttnInIdeal.main_arg2) = m ((c.tc : Thread Cert.ReferenceAttnInIdeal.nD Cert.ReferenceAttnInIdeal.τ).loc Cert.ReferenceAttnInIdeal.main_arg2)
      ∧ r.2.mem ((c.tc : Thread Cert.ReferenceAttnInIdeal.nD Cert.ReferenceAttnInIdeal.τ).loc Cert.ReferenceAttnInIdeal.main_arg3) = m ((c.tc : Thread Cert.ReferenceAttnInIdeal.nD Cert.ReferenceAttnInIdeal.τ).loc Cert.ReferenceAttnInIdeal.main_arg3)
      ∧ r.2.mem ((c.tc : Thread Cert.ReferenceAttnInIdeal.nD Cert.ReferenceAttnInIdeal.τ).loc Cert.ReferenceAttnInIdeal.main_arg4) = m ((c.tc : Thread Cert.ReferenceAttnInIdeal.nD Cert.ReferenceAttnInIdeal.τ).loc Cert.ReferenceAttnInIdeal.main_arg4)
      ∧ r.2.mem ((c.tc : Thread Cert.ReferenceAttnInIdeal.nD Cert.ReferenceAttnInIdeal.τ).loc Cert.ReferenceAttnInIdeal.main_arg5) = m ((c.tc : Thread Cert.ReferenceAttnInIdeal.nD Cert.ReferenceAttnInIdeal.τ).loc Cert.ReferenceAttnInIdeal.main_arg5)
      ∧ r.2.mem ((c.tc : Thread Cert.ReferenceAttnInIdeal.nD Cert.ReferenceAttnInIdeal.τ).loc Cert.ReferenceAttnInIdeal.main_arg6) = m ((c.tc : Thread Cert.ReferenceAttnInIdeal.nD Cert.ReferenceAttnInIdeal.τ).loc Cert.ReferenceAttnInIdeal.main_arg6))
      ∧ r.2.sem = fun _ => 0)

def quiescent_KernelRecInFirst [hKernelRecInFirst : Cert.KernelRecInFirst.Facts] : Prop :=
  ∀ (m : (ℓ : Loc Cert.KernelRecInFirst.nD Cert.KernelRecInFirst.τ Cert.KernelRecInFirst.sig) → Buf (Elt Bits) ℓ) (g : Dev Cert.KernelRecInFirst.nD → PrngReg), Pre_KernelRecInFirst m →
    θ_run (Cert.KernelRecInFirst.defs (F := Bits)) (onTc (τ := Cert.KernelRecInFirst.τ) (Cert.KernelRecInFirst.main (F := Bits))) ⟨m, fun _ => 0, g⟩ (fun r => (∀ c : Dev Cert.KernelRecInFirst.nD,
      r.2.mem ((c.tc : Thread Cert.KernelRecInFirst.nD Cert.KernelRecInFirst.τ).loc Cert.KernelRecInFirst.main_arg0) = m ((c.tc : Thread Cert.KernelRecInFirst.nD Cert.KernelRecInFirst.τ).loc Cert.KernelRecInFirst.main_arg0)
      ∧ r.2.mem ((c.tc : Thread Cert.KernelRecInFirst.nD Cert.KernelRecInFirst.τ).loc Cert.KernelRecInFirst.main_arg1) = m ((c.tc : Thread Cert.KernelRecInFirst.nD Cert.KernelRecInFirst.τ).loc Cert.KernelRecInFirst.main_arg1)
      ∧ r.2.mem ((c.tc : Thread Cert.KernelRecInFirst.nD Cert.KernelRecInFirst.τ).loc Cert.KernelRecInFirst.main_arg2) = m ((c.tc : Thread Cert.KernelRecInFirst.nD Cert.KernelRecInFirst.τ).loc Cert.KernelRecInFirst.main_arg2)
      ∧ r.2.mem ((c.tc : Thread Cert.KernelRecInFirst.nD Cert.KernelRecInFirst.τ).loc Cert.KernelRecInFirst.main_arg3) = m ((c.tc : Thread Cert.KernelRecInFirst.nD Cert.KernelRecInFirst.τ).loc Cert.KernelRecInFirst.main_arg3)
      ∧ r.2.mem ((c.tc : Thread Cert.KernelRecInFirst.nD Cert.KernelRecInFirst.τ).loc Cert.KernelRecInFirst.main_arg4) = m ((c.tc : Thread Cert.KernelRecInFirst.nD Cert.KernelRecInFirst.τ).loc Cert.KernelRecInFirst.main_arg4))
      ∧ r.2.sem = fun _ => 0)

def quiescent_KernelRecInFirstIdeal [hKernelRecInFirstIdeal : Cert.KernelRecInFirstIdeal.Facts] : Prop :=
  ∀ (m : (ℓ : Loc Cert.KernelRecInFirstIdeal.nD Cert.KernelRecInFirstIdeal.τ Cert.KernelRecInFirstIdeal.sig) → Buf (Elt Ideal) ℓ) (g : Dev Cert.KernelRecInFirstIdeal.nD → PrngReg), Pre_KernelRecInFirstIdeal m →
    θ_run (Cert.KernelRecInFirstIdeal.defs (F := Ideal)) (onTc (τ := Cert.KernelRecInFirstIdeal.τ) (Cert.KernelRecInFirstIdeal.main (F := Ideal))) ⟨m, fun _ => 0, g⟩ (fun r => (∀ c : Dev Cert.KernelRecInFirstIdeal.nD,
      r.2.mem ((c.tc : Thread Cert.KernelRecInFirstIdeal.nD Cert.KernelRecInFirstIdeal.τ).loc Cert.KernelRecInFirstIdeal.main_arg0) = m ((c.tc : Thread Cert.KernelRecInFirstIdeal.nD Cert.KernelRecInFirstIdeal.τ).loc Cert.KernelRecInFirstIdeal.main_arg0)
      ∧ r.2.mem ((c.tc : Thread Cert.KernelRecInFirstIdeal.nD Cert.KernelRecInFirstIdeal.τ).loc Cert.KernelRecInFirstIdeal.main_arg1) = m ((c.tc : Thread Cert.KernelRecInFirstIdeal.nD Cert.KernelRecInFirstIdeal.τ).loc Cert.KernelRecInFirstIdeal.main_arg1)
      ∧ r.2.mem ((c.tc : Thread Cert.KernelRecInFirstIdeal.nD Cert.KernelRecInFirstIdeal.τ).loc Cert.KernelRecInFirstIdeal.main_arg2) = m ((c.tc : Thread Cert.KernelRecInFirstIdeal.nD Cert.KernelRecInFirstIdeal.τ).loc Cert.KernelRecInFirstIdeal.main_arg2)
      ∧ r.2.mem ((c.tc : Thread Cert.KernelRecInFirstIdeal.nD Cert.KernelRecInFirstIdeal.τ).loc Cert.KernelRecInFirstIdeal.main_arg3) = m ((c.tc : Thread Cert.KernelRecInFirstIdeal.nD Cert.KernelRecInFirstIdeal.τ).loc Cert.KernelRecInFirstIdeal.main_arg3)
      ∧ r.2.mem ((c.tc : Thread Cert.KernelRecInFirstIdeal.nD Cert.KernelRecInFirstIdeal.τ).loc Cert.KernelRecInFirstIdeal.main_arg4) = m ((c.tc : Thread Cert.KernelRecInFirstIdeal.nD Cert.KernelRecInFirstIdeal.τ).loc Cert.KernelRecInFirstIdeal.main_arg4))
      ∧ r.2.sem = fun _ => 0)

def quiescent_ReferenceRecInFirstIdeal [hReferenceRecInFirstIdeal : Cert.ReferenceRecInFirstIdeal.Facts] : Prop :=
  ∀ (m : (ℓ : Loc Cert.ReferenceRecInFirstIdeal.nD Cert.ReferenceRecInFirstIdeal.τ Cert.ReferenceRecInFirstIdeal.sig) → Buf (Elt Ideal) ℓ) (g : Dev Cert.ReferenceRecInFirstIdeal.nD → PrngReg), Pre_ReferenceRecInFirstIdeal m →
    θ_run (Cert.ReferenceRecInFirstIdeal.defs (F := Ideal)) (onTc (τ := Cert.ReferenceRecInFirstIdeal.τ) (Cert.ReferenceRecInFirstIdeal.main (F := Ideal))) ⟨m, fun _ => 0, g⟩ (fun r => (∀ c : Dev Cert.ReferenceRecInFirstIdeal.nD,
      r.2.mem ((c.tc : Thread Cert.ReferenceRecInFirstIdeal.nD Cert.ReferenceRecInFirstIdeal.τ).loc Cert.ReferenceRecInFirstIdeal.main_arg0) = m ((c.tc : Thread Cert.ReferenceRecInFirstIdeal.nD Cert.ReferenceRecInFirstIdeal.τ).loc Cert.ReferenceRecInFirstIdeal.main_arg0)
      ∧ r.2.mem ((c.tc : Thread Cert.ReferenceRecInFirstIdeal.nD Cert.ReferenceRecInFirstIdeal.τ).loc Cert.ReferenceRecInFirstIdeal.main_arg1) = m ((c.tc : Thread Cert.ReferenceRecInFirstIdeal.nD Cert.ReferenceRecInFirstIdeal.τ).loc Cert.ReferenceRecInFirstIdeal.main_arg1)
      ∧ r.2.mem ((c.tc : Thread Cert.ReferenceRecInFirstIdeal.nD Cert.ReferenceRecInFirstIdeal.τ).loc Cert.ReferenceRecInFirstIdeal.main_arg2) = m ((c.tc : Thread Cert.ReferenceRecInFirstIdeal.nD Cert.ReferenceRecInFirstIdeal.τ).loc Cert.ReferenceRecInFirstIdeal.main_arg2)
      ∧ r.2.mem ((c.tc : Thread Cert.ReferenceRecInFirstIdeal.nD Cert.ReferenceRecInFirstIdeal.τ).loc Cert.ReferenceRecInFirstIdeal.main_arg3) = m ((c.tc : Thread Cert.ReferenceRecInFirstIdeal.nD Cert.ReferenceRecInFirstIdeal.τ).loc Cert.ReferenceRecInFirstIdeal.main_arg3)
      ∧ r.2.mem ((c.tc : Thread Cert.ReferenceRecInFirstIdeal.nD Cert.ReferenceRecInFirstIdeal.τ).loc Cert.ReferenceRecInFirstIdeal.main_arg4) = m ((c.tc : Thread Cert.ReferenceRecInFirstIdeal.nD Cert.ReferenceRecInFirstIdeal.τ).loc Cert.ReferenceRecInFirstIdeal.main_arg4))
      ∧ r.2.sem = fun _ => 0)

def quiescent_KernelAttnMeta [hKernelAttnMeta : Cert.KernelAttnMeta.Facts] : Prop :=
  ∀ (m : (ℓ : Loc Cert.KernelAttnMeta.nD Cert.KernelAttnMeta.τ Cert.KernelAttnMeta.sig) → Buf (Elt Bits) ℓ) (g : Dev Cert.KernelAttnMeta.nD → PrngReg), Pre_KernelAttnMeta m →
    θ_run (Cert.KernelAttnMeta.defs (F := Bits)) (onTc (τ := Cert.KernelAttnMeta.τ) (Cert.KernelAttnMeta.main (F := Bits))) ⟨m, fun _ => 0, g⟩ (fun r => (∀ c : Dev Cert.KernelAttnMeta.nD,
      r.2.mem ((c.tc : Thread Cert.KernelAttnMeta.nD Cert.KernelAttnMeta.τ).loc Cert.KernelAttnMeta.main_arg0) = m ((c.tc : Thread Cert.KernelAttnMeta.nD Cert.KernelAttnMeta.τ).loc Cert.KernelAttnMeta.main_arg0)
      ∧ r.2.mem ((c.tc : Thread Cert.KernelAttnMeta.nD Cert.KernelAttnMeta.τ).loc Cert.KernelAttnMeta.main_arg1) = m ((c.tc : Thread Cert.KernelAttnMeta.nD Cert.KernelAttnMeta.τ).loc Cert.KernelAttnMeta.main_arg1)
      ∧ r.2.mem ((c.tc : Thread Cert.KernelAttnMeta.nD Cert.KernelAttnMeta.τ).loc Cert.KernelAttnMeta.main_arg2) = m ((c.tc : Thread Cert.KernelAttnMeta.nD Cert.KernelAttnMeta.τ).loc Cert.KernelAttnMeta.main_arg2)
      ∧ r.2.mem ((c.tc : Thread Cert.KernelAttnMeta.nD Cert.KernelAttnMeta.τ).loc Cert.KernelAttnMeta.main_arg3) = m ((c.tc : Thread Cert.KernelAttnMeta.nD Cert.KernelAttnMeta.τ).loc Cert.KernelAttnMeta.main_arg3)
      ∧ r.2.mem ((c.tc : Thread Cert.KernelAttnMeta.nD Cert.KernelAttnMeta.τ).loc Cert.KernelAttnMeta.main_arg4) = m ((c.tc : Thread Cert.KernelAttnMeta.nD Cert.KernelAttnMeta.τ).loc Cert.KernelAttnMeta.main_arg4)
      ∧ r.2.mem ((c.tc : Thread Cert.KernelAttnMeta.nD Cert.KernelAttnMeta.τ).loc Cert.KernelAttnMeta.main_arg5) = m ((c.tc : Thread Cert.KernelAttnMeta.nD Cert.KernelAttnMeta.τ).loc Cert.KernelAttnMeta.main_arg5))
      ∧ r.2.sem = fun _ => 0)

def quiescent_KernelAttnMetaIdeal [hKernelAttnMetaIdeal : Cert.KernelAttnMetaIdeal.Facts] : Prop :=
  ∀ (m : (ℓ : Loc Cert.KernelAttnMetaIdeal.nD Cert.KernelAttnMetaIdeal.τ Cert.KernelAttnMetaIdeal.sig) → Buf (Elt Ideal) ℓ) (g : Dev Cert.KernelAttnMetaIdeal.nD → PrngReg), Pre_KernelAttnMetaIdeal m →
    θ_run (Cert.KernelAttnMetaIdeal.defs (F := Ideal)) (onTc (τ := Cert.KernelAttnMetaIdeal.τ) (Cert.KernelAttnMetaIdeal.main (F := Ideal))) ⟨m, fun _ => 0, g⟩ (fun r => (∀ c : Dev Cert.KernelAttnMetaIdeal.nD,
      r.2.mem ((c.tc : Thread Cert.KernelAttnMetaIdeal.nD Cert.KernelAttnMetaIdeal.τ).loc Cert.KernelAttnMetaIdeal.main_arg0) = m ((c.tc : Thread Cert.KernelAttnMetaIdeal.nD Cert.KernelAttnMetaIdeal.τ).loc Cert.KernelAttnMetaIdeal.main_arg0)
      ∧ r.2.mem ((c.tc : Thread Cert.KernelAttnMetaIdeal.nD Cert.KernelAttnMetaIdeal.τ).loc Cert.KernelAttnMetaIdeal.main_arg1) = m ((c.tc : Thread Cert.KernelAttnMetaIdeal.nD Cert.KernelAttnMetaIdeal.τ).loc Cert.KernelAttnMetaIdeal.main_arg1)
      ∧ r.2.mem ((c.tc : Thread Cert.KernelAttnMetaIdeal.nD Cert.KernelAttnMetaIdeal.τ).loc Cert.KernelAttnMetaIdeal.main_arg2) = m ((c.tc : Thread Cert.KernelAttnMetaIdeal.nD Cert.KernelAttnMetaIdeal.τ).loc Cert.KernelAttnMetaIdeal.main_arg2)
      ∧ r.2.mem ((c.tc : Thread Cert.KernelAttnMetaIdeal.nD Cert.KernelAttnMetaIdeal.τ).loc Cert.KernelAttnMetaIdeal.main_arg3) = m ((c.tc : Thread Cert.KernelAttnMetaIdeal.nD Cert.KernelAttnMetaIdeal.τ).loc Cert.KernelAttnMetaIdeal.main_arg3)
      ∧ r.2.mem ((c.tc : Thread Cert.KernelAttnMetaIdeal.nD Cert.KernelAttnMetaIdeal.τ).loc Cert.KernelAttnMetaIdeal.main_arg4) = m ((c.tc : Thread Cert.KernelAttnMetaIdeal.nD Cert.KernelAttnMetaIdeal.τ).loc Cert.KernelAttnMetaIdeal.main_arg4)
      ∧ r.2.mem ((c.tc : Thread Cert.KernelAttnMetaIdeal.nD Cert.KernelAttnMetaIdeal.τ).loc Cert.KernelAttnMetaIdeal.main_arg5) = m ((c.tc : Thread Cert.KernelAttnMetaIdeal.nD Cert.KernelAttnMetaIdeal.τ).loc Cert.KernelAttnMetaIdeal.main_arg5))
      ∧ r.2.sem = fun _ => 0)

def quiescent_KernelAttnMetaIdeal_pre_finite_meta_scores [hKernelAttnMetaIdeal : Cert.KernelAttnMetaIdeal.Facts] [hPre_finite_meta_scores : Cert.Pre_finite_meta_scores.Facts] : Prop :=
  ∀ (m : (ℓ : Loc Cert.KernelAttnMetaIdeal.nD Cert.KernelAttnMetaIdeal.τ Cert.KernelAttnMetaIdeal.sig) → Buf (Elt Ideal) ℓ) (g : Dev Cert.KernelAttnMetaIdeal.nD → PrngReg), Pre_KernelAttnMetaIdeal_finite_meta_scores m →
    θ_run (Cert.KernelAttnMetaIdeal.defs (F := Ideal)) (onTc (τ := Cert.KernelAttnMetaIdeal.τ) (Cert.KernelAttnMetaIdeal.main (F := Ideal))) ⟨m, fun _ => 0, g⟩ (fun r => (∀ c : Dev Cert.KernelAttnMetaIdeal.nD,
      r.2.mem ((c.tc : Thread Cert.KernelAttnMetaIdeal.nD Cert.KernelAttnMetaIdeal.τ).loc Cert.KernelAttnMetaIdeal.main_arg0) = m ((c.tc : Thread Cert.KernelAttnMetaIdeal.nD Cert.KernelAttnMetaIdeal.τ).loc Cert.KernelAttnMetaIdeal.main_arg0)
      ∧ r.2.mem ((c.tc : Thread Cert.KernelAttnMetaIdeal.nD Cert.KernelAttnMetaIdeal.τ).loc Cert.KernelAttnMetaIdeal.main_arg1) = m ((c.tc : Thread Cert.KernelAttnMetaIdeal.nD Cert.KernelAttnMetaIdeal.τ).loc Cert.KernelAttnMetaIdeal.main_arg1)
      ∧ r.2.mem ((c.tc : Thread Cert.KernelAttnMetaIdeal.nD Cert.KernelAttnMetaIdeal.τ).loc Cert.KernelAttnMetaIdeal.main_arg2) = m ((c.tc : Thread Cert.KernelAttnMetaIdeal.nD Cert.KernelAttnMetaIdeal.τ).loc Cert.KernelAttnMetaIdeal.main_arg2)
      ∧ r.2.mem ((c.tc : Thread Cert.KernelAttnMetaIdeal.nD Cert.KernelAttnMetaIdeal.τ).loc Cert.KernelAttnMetaIdeal.main_arg3) = m ((c.tc : Thread Cert.KernelAttnMetaIdeal.nD Cert.KernelAttnMetaIdeal.τ).loc Cert.KernelAttnMetaIdeal.main_arg3)
      ∧ r.2.mem ((c.tc : Thread Cert.KernelAttnMetaIdeal.nD Cert.KernelAttnMetaIdeal.τ).loc Cert.KernelAttnMetaIdeal.main_arg4) = m ((c.tc : Thread Cert.KernelAttnMetaIdeal.nD Cert.KernelAttnMetaIdeal.τ).loc Cert.KernelAttnMetaIdeal.main_arg4)
      ∧ r.2.mem ((c.tc : Thread Cert.KernelAttnMetaIdeal.nD Cert.KernelAttnMetaIdeal.τ).loc Cert.KernelAttnMetaIdeal.main_arg5) = m ((c.tc : Thread Cert.KernelAttnMetaIdeal.nD Cert.KernelAttnMetaIdeal.τ).loc Cert.KernelAttnMetaIdeal.main_arg5))
      ∧ r.2.sem = fun _ => 0)

def quiescent_ReferenceAttnMetaIdeal [hReferenceAttnMetaIdeal : Cert.ReferenceAttnMetaIdeal.Facts] : Prop :=
  ∀ (m : (ℓ : Loc Cert.ReferenceAttnMetaIdeal.nD Cert.ReferenceAttnMetaIdeal.τ Cert.ReferenceAttnMetaIdeal.sig) → Buf (Elt Ideal) ℓ) (g : Dev Cert.ReferenceAttnMetaIdeal.nD → PrngReg), Pre_ReferenceAttnMetaIdeal m →
    θ_run (Cert.ReferenceAttnMetaIdeal.defs (F := Ideal)) (onTc (τ := Cert.ReferenceAttnMetaIdeal.τ) (Cert.ReferenceAttnMetaIdeal.main (F := Ideal))) ⟨m, fun _ => 0, g⟩ (fun r => (∀ c : Dev Cert.ReferenceAttnMetaIdeal.nD,
      r.2.mem ((c.tc : Thread Cert.ReferenceAttnMetaIdeal.nD Cert.ReferenceAttnMetaIdeal.τ).loc Cert.ReferenceAttnMetaIdeal.main_arg0) = m ((c.tc : Thread Cert.ReferenceAttnMetaIdeal.nD Cert.ReferenceAttnMetaIdeal.τ).loc Cert.ReferenceAttnMetaIdeal.main_arg0)
      ∧ r.2.mem ((c.tc : Thread Cert.ReferenceAttnMetaIdeal.nD Cert.ReferenceAttnMetaIdeal.τ).loc Cert.ReferenceAttnMetaIdeal.main_arg1) = m ((c.tc : Thread Cert.ReferenceAttnMetaIdeal.nD Cert.ReferenceAttnMetaIdeal.τ).loc Cert.ReferenceAttnMetaIdeal.main_arg1)
      ∧ r.2.mem ((c.tc : Thread Cert.ReferenceAttnMetaIdeal.nD Cert.ReferenceAttnMetaIdeal.τ).loc Cert.ReferenceAttnMetaIdeal.main_arg2) = m ((c.tc : Thread Cert.ReferenceAttnMetaIdeal.nD Cert.ReferenceAttnMetaIdeal.τ).loc Cert.ReferenceAttnMetaIdeal.main_arg2)
      ∧ r.2.mem ((c.tc : Thread Cert.ReferenceAttnMetaIdeal.nD Cert.ReferenceAttnMetaIdeal.τ).loc Cert.ReferenceAttnMetaIdeal.main_arg3) = m ((c.tc : Thread Cert.ReferenceAttnMetaIdeal.nD Cert.ReferenceAttnMetaIdeal.τ).loc Cert.ReferenceAttnMetaIdeal.main_arg3)
      ∧ r.2.mem ((c.tc : Thread Cert.ReferenceAttnMetaIdeal.nD Cert.ReferenceAttnMetaIdeal.τ).loc Cert.ReferenceAttnMetaIdeal.main_arg4) = m ((c.tc : Thread Cert.ReferenceAttnMetaIdeal.nD Cert.ReferenceAttnMetaIdeal.τ).loc Cert.ReferenceAttnMetaIdeal.main_arg4)
      ∧ r.2.mem ((c.tc : Thread Cert.ReferenceAttnMetaIdeal.nD Cert.ReferenceAttnMetaIdeal.τ).loc Cert.ReferenceAttnMetaIdeal.main_arg5) = m ((c.tc : Thread Cert.ReferenceAttnMetaIdeal.nD Cert.ReferenceAttnMetaIdeal.τ).loc Cert.ReferenceAttnMetaIdeal.main_arg5))
      ∧ r.2.sem = fun _ => 0)

def quiescent_ReferenceAttnMetaIdeal_pre_finite_meta_scores [hReferenceAttnMetaIdeal : Cert.ReferenceAttnMetaIdeal.Facts] [hPre_finite_meta_scores : Cert.Pre_finite_meta_scores.Facts] : Prop :=
  ∀ (m : (ℓ : Loc Cert.ReferenceAttnMetaIdeal.nD Cert.ReferenceAttnMetaIdeal.τ Cert.ReferenceAttnMetaIdeal.sig) → Buf (Elt Ideal) ℓ) (g : Dev Cert.ReferenceAttnMetaIdeal.nD → PrngReg), Pre_ReferenceAttnMetaIdeal_finite_meta_scores m →
    θ_run (Cert.ReferenceAttnMetaIdeal.defs (F := Ideal)) (onTc (τ := Cert.ReferenceAttnMetaIdeal.τ) (Cert.ReferenceAttnMetaIdeal.main (F := Ideal))) ⟨m, fun _ => 0, g⟩ (fun r => (∀ c : Dev Cert.ReferenceAttnMetaIdeal.nD,
      r.2.mem ((c.tc : Thread Cert.ReferenceAttnMetaIdeal.nD Cert.ReferenceAttnMetaIdeal.τ).loc Cert.ReferenceAttnMetaIdeal.main_arg0) = m ((c.tc : Thread Cert.ReferenceAttnMetaIdeal.nD Cert.ReferenceAttnMetaIdeal.τ).loc Cert.ReferenceAttnMetaIdeal.main_arg0)
      ∧ r.2.mem ((c.tc : Thread Cert.ReferenceAttnMetaIdeal.nD Cert.ReferenceAttnMetaIdeal.τ).loc Cert.ReferenceAttnMetaIdeal.main_arg1) = m ((c.tc : Thread Cert.ReferenceAttnMetaIdeal.nD Cert.ReferenceAttnMetaIdeal.τ).loc Cert.ReferenceAttnMetaIdeal.main_arg1)
      ∧ r.2.mem ((c.tc : Thread Cert.ReferenceAttnMetaIdeal.nD Cert.ReferenceAttnMetaIdeal.τ).loc Cert.ReferenceAttnMetaIdeal.main_arg2) = m ((c.tc : Thread Cert.ReferenceAttnMetaIdeal.nD Cert.ReferenceAttnMetaIdeal.τ).loc Cert.ReferenceAttnMetaIdeal.main_arg2)
      ∧ r.2.mem ((c.tc : Thread Cert.ReferenceAttnMetaIdeal.nD Cert.ReferenceAttnMetaIdeal.τ).loc Cert.ReferenceAttnMetaIdeal.main_arg3) = m ((c.tc : Thread Cert.ReferenceAttnMetaIdeal.nD Cert.ReferenceAttnMetaIdeal.τ).loc Cert.ReferenceAttnMetaIdeal.main_arg3)
      ∧ r.2.mem ((c.tc : Thread Cert.ReferenceAttnMetaIdeal.nD Cert.ReferenceAttnMetaIdeal.τ).loc Cert.ReferenceAttnMetaIdeal.main_arg4) = m ((c.tc : Thread Cert.ReferenceAttnMetaIdeal.nD Cert.ReferenceAttnMetaIdeal.τ).loc Cert.ReferenceAttnMetaIdeal.main_arg4)
      ∧ r.2.mem ((c.tc : Thread Cert.ReferenceAttnMetaIdeal.nD Cert.ReferenceAttnMetaIdeal.τ).loc Cert.ReferenceAttnMetaIdeal.main_arg5) = m ((c.tc : Thread Cert.ReferenceAttnMetaIdeal.nD Cert.ReferenceAttnMetaIdeal.τ).loc Cert.ReferenceAttnMetaIdeal.main_arg5))
      ∧ r.2.sem = fun _ => 0)

def quiescent_KernelRecInMeta [hKernelRecInMeta : Cert.KernelRecInMeta.Facts] : Prop :=
  ∀ (m : (ℓ : Loc Cert.KernelRecInMeta.nD Cert.KernelRecInMeta.τ Cert.KernelRecInMeta.sig) → Buf (Elt Bits) ℓ) (g : Dev Cert.KernelRecInMeta.nD → PrngReg), Pre_KernelRecInMeta m →
    θ_run (Cert.KernelRecInMeta.defs (F := Bits)) (onTc (τ := Cert.KernelRecInMeta.τ) (Cert.KernelRecInMeta.main (F := Bits))) ⟨m, fun _ => 0, g⟩ (fun r => (∀ c : Dev Cert.KernelRecInMeta.nD,
      r.2.mem ((c.tc : Thread Cert.KernelRecInMeta.nD Cert.KernelRecInMeta.τ).loc Cert.KernelRecInMeta.main_arg0) = m ((c.tc : Thread Cert.KernelRecInMeta.nD Cert.KernelRecInMeta.τ).loc Cert.KernelRecInMeta.main_arg0)
      ∧ r.2.mem ((c.tc : Thread Cert.KernelRecInMeta.nD Cert.KernelRecInMeta.τ).loc Cert.KernelRecInMeta.main_arg1) = m ((c.tc : Thread Cert.KernelRecInMeta.nD Cert.KernelRecInMeta.τ).loc Cert.KernelRecInMeta.main_arg1)
      ∧ r.2.mem ((c.tc : Thread Cert.KernelRecInMeta.nD Cert.KernelRecInMeta.τ).loc Cert.KernelRecInMeta.main_arg2) = m ((c.tc : Thread Cert.KernelRecInMeta.nD Cert.KernelRecInMeta.τ).loc Cert.KernelRecInMeta.main_arg2)
      ∧ r.2.mem ((c.tc : Thread Cert.KernelRecInMeta.nD Cert.KernelRecInMeta.τ).loc Cert.KernelRecInMeta.main_arg3) = m ((c.tc : Thread Cert.KernelRecInMeta.nD Cert.KernelRecInMeta.τ).loc Cert.KernelRecInMeta.main_arg3)
      ∧ r.2.mem ((c.tc : Thread Cert.KernelRecInMeta.nD Cert.KernelRecInMeta.τ).loc Cert.KernelRecInMeta.main_arg4) = m ((c.tc : Thread Cert.KernelRecInMeta.nD Cert.KernelRecInMeta.τ).loc Cert.KernelRecInMeta.main_arg4)
      ∧ r.2.mem ((c.tc : Thread Cert.KernelRecInMeta.nD Cert.KernelRecInMeta.τ).loc Cert.KernelRecInMeta.main_arg5) = m ((c.tc : Thread Cert.KernelRecInMeta.nD Cert.KernelRecInMeta.τ).loc Cert.KernelRecInMeta.main_arg5)
      ∧ r.2.mem ((c.tc : Thread Cert.KernelRecInMeta.nD Cert.KernelRecInMeta.τ).loc Cert.KernelRecInMeta.main_arg6) = m ((c.tc : Thread Cert.KernelRecInMeta.nD Cert.KernelRecInMeta.τ).loc Cert.KernelRecInMeta.main_arg6)
      ∧ r.2.mem ((c.tc : Thread Cert.KernelRecInMeta.nD Cert.KernelRecInMeta.τ).loc Cert.KernelRecInMeta.main_arg7) = m ((c.tc : Thread Cert.KernelRecInMeta.nD Cert.KernelRecInMeta.τ).loc Cert.KernelRecInMeta.main_arg7)
      ∧ r.2.mem ((c.tc : Thread Cert.KernelRecInMeta.nD Cert.KernelRecInMeta.τ).loc Cert.KernelRecInMeta.main_arg8) = m ((c.tc : Thread Cert.KernelRecInMeta.nD Cert.KernelRecInMeta.τ).loc Cert.KernelRecInMeta.main_arg8))
      ∧ r.2.sem = fun _ => 0)

def quiescent_KernelRecInMetaIdeal [hKernelRecInMetaIdeal : Cert.KernelRecInMetaIdeal.Facts] : Prop :=
  ∀ (m : (ℓ : Loc Cert.KernelRecInMetaIdeal.nD Cert.KernelRecInMetaIdeal.τ Cert.KernelRecInMetaIdeal.sig) → Buf (Elt Ideal) ℓ) (g : Dev Cert.KernelRecInMetaIdeal.nD → PrngReg), Pre_KernelRecInMetaIdeal m →
    θ_run (Cert.KernelRecInMetaIdeal.defs (F := Ideal)) (onTc (τ := Cert.KernelRecInMetaIdeal.τ) (Cert.KernelRecInMetaIdeal.main (F := Ideal))) ⟨m, fun _ => 0, g⟩ (fun r => (∀ c : Dev Cert.KernelRecInMetaIdeal.nD,
      r.2.mem ((c.tc : Thread Cert.KernelRecInMetaIdeal.nD Cert.KernelRecInMetaIdeal.τ).loc Cert.KernelRecInMetaIdeal.main_arg0) = m ((c.tc : Thread Cert.KernelRecInMetaIdeal.nD Cert.KernelRecInMetaIdeal.τ).loc Cert.KernelRecInMetaIdeal.main_arg0)
      ∧ r.2.mem ((c.tc : Thread Cert.KernelRecInMetaIdeal.nD Cert.KernelRecInMetaIdeal.τ).loc Cert.KernelRecInMetaIdeal.main_arg1) = m ((c.tc : Thread Cert.KernelRecInMetaIdeal.nD Cert.KernelRecInMetaIdeal.τ).loc Cert.KernelRecInMetaIdeal.main_arg1)
      ∧ r.2.mem ((c.tc : Thread Cert.KernelRecInMetaIdeal.nD Cert.KernelRecInMetaIdeal.τ).loc Cert.KernelRecInMetaIdeal.main_arg2) = m ((c.tc : Thread Cert.KernelRecInMetaIdeal.nD Cert.KernelRecInMetaIdeal.τ).loc Cert.KernelRecInMetaIdeal.main_arg2)
      ∧ r.2.mem ((c.tc : Thread Cert.KernelRecInMetaIdeal.nD Cert.KernelRecInMetaIdeal.τ).loc Cert.KernelRecInMetaIdeal.main_arg3) = m ((c.tc : Thread Cert.KernelRecInMetaIdeal.nD Cert.KernelRecInMetaIdeal.τ).loc Cert.KernelRecInMetaIdeal.main_arg3)
      ∧ r.2.mem ((c.tc : Thread Cert.KernelRecInMetaIdeal.nD Cert.KernelRecInMetaIdeal.τ).loc Cert.KernelRecInMetaIdeal.main_arg4) = m ((c.tc : Thread Cert.KernelRecInMetaIdeal.nD Cert.KernelRecInMetaIdeal.τ).loc Cert.KernelRecInMetaIdeal.main_arg4)
      ∧ r.2.mem ((c.tc : Thread Cert.KernelRecInMetaIdeal.nD Cert.KernelRecInMetaIdeal.τ).loc Cert.KernelRecInMetaIdeal.main_arg5) = m ((c.tc : Thread Cert.KernelRecInMetaIdeal.nD Cert.KernelRecInMetaIdeal.τ).loc Cert.KernelRecInMetaIdeal.main_arg5)
      ∧ r.2.mem ((c.tc : Thread Cert.KernelRecInMetaIdeal.nD Cert.KernelRecInMetaIdeal.τ).loc Cert.KernelRecInMetaIdeal.main_arg6) = m ((c.tc : Thread Cert.KernelRecInMetaIdeal.nD Cert.KernelRecInMetaIdeal.τ).loc Cert.KernelRecInMetaIdeal.main_arg6)
      ∧ r.2.mem ((c.tc : Thread Cert.KernelRecInMetaIdeal.nD Cert.KernelRecInMetaIdeal.τ).loc Cert.KernelRecInMetaIdeal.main_arg7) = m ((c.tc : Thread Cert.KernelRecInMetaIdeal.nD Cert.KernelRecInMetaIdeal.τ).loc Cert.KernelRecInMetaIdeal.main_arg7)
      ∧ r.2.mem ((c.tc : Thread Cert.KernelRecInMetaIdeal.nD Cert.KernelRecInMetaIdeal.τ).loc Cert.KernelRecInMetaIdeal.main_arg8) = m ((c.tc : Thread Cert.KernelRecInMetaIdeal.nD Cert.KernelRecInMetaIdeal.τ).loc Cert.KernelRecInMetaIdeal.main_arg8))
      ∧ r.2.sem = fun _ => 0)

def quiescent_ReferenceRecInMetaIdeal [hReferenceRecInMetaIdeal : Cert.ReferenceRecInMetaIdeal.Facts] : Prop :=
  ∀ (m : (ℓ : Loc Cert.ReferenceRecInMetaIdeal.nD Cert.ReferenceRecInMetaIdeal.τ Cert.ReferenceRecInMetaIdeal.sig) → Buf (Elt Ideal) ℓ) (g : Dev Cert.ReferenceRecInMetaIdeal.nD → PrngReg), Pre_ReferenceRecInMetaIdeal m →
    θ_run (Cert.ReferenceRecInMetaIdeal.defs (F := Ideal)) (onTc (τ := Cert.ReferenceRecInMetaIdeal.τ) (Cert.ReferenceRecInMetaIdeal.main (F := Ideal))) ⟨m, fun _ => 0, g⟩ (fun r => (∀ c : Dev Cert.ReferenceRecInMetaIdeal.nD,
      r.2.mem ((c.tc : Thread Cert.ReferenceRecInMetaIdeal.nD Cert.ReferenceRecInMetaIdeal.τ).loc Cert.ReferenceRecInMetaIdeal.main_arg0) = m ((c.tc : Thread Cert.ReferenceRecInMetaIdeal.nD Cert.ReferenceRecInMetaIdeal.τ).loc Cert.ReferenceRecInMetaIdeal.main_arg0)
      ∧ r.2.mem ((c.tc : Thread Cert.ReferenceRecInMetaIdeal.nD Cert.ReferenceRecInMetaIdeal.τ).loc Cert.ReferenceRecInMetaIdeal.main_arg1) = m ((c.tc : Thread Cert.ReferenceRecInMetaIdeal.nD Cert.ReferenceRecInMetaIdeal.τ).loc Cert.ReferenceRecInMetaIdeal.main_arg1)
      ∧ r.2.mem ((c.tc : Thread Cert.ReferenceRecInMetaIdeal.nD Cert.ReferenceRecInMetaIdeal.τ).loc Cert.ReferenceRecInMetaIdeal.main_arg2) = m ((c.tc : Thread Cert.ReferenceRecInMetaIdeal.nD Cert.ReferenceRecInMetaIdeal.τ).loc Cert.ReferenceRecInMetaIdeal.main_arg2)
      ∧ r.2.mem ((c.tc : Thread Cert.ReferenceRecInMetaIdeal.nD Cert.ReferenceRecInMetaIdeal.τ).loc Cert.ReferenceRecInMetaIdeal.main_arg3) = m ((c.tc : Thread Cert.ReferenceRecInMetaIdeal.nD Cert.ReferenceRecInMetaIdeal.τ).loc Cert.ReferenceRecInMetaIdeal.main_arg3)
      ∧ r.2.mem ((c.tc : Thread Cert.ReferenceRecInMetaIdeal.nD Cert.ReferenceRecInMetaIdeal.τ).loc Cert.ReferenceRecInMetaIdeal.main_arg4) = m ((c.tc : Thread Cert.ReferenceRecInMetaIdeal.nD Cert.ReferenceRecInMetaIdeal.τ).loc Cert.ReferenceRecInMetaIdeal.main_arg4)
      ∧ r.2.mem ((c.tc : Thread Cert.ReferenceRecInMetaIdeal.nD Cert.ReferenceRecInMetaIdeal.τ).loc Cert.ReferenceRecInMetaIdeal.main_arg5) = m ((c.tc : Thread Cert.ReferenceRecInMetaIdeal.nD Cert.ReferenceRecInMetaIdeal.τ).loc Cert.ReferenceRecInMetaIdeal.main_arg5)
      ∧ r.2.mem ((c.tc : Thread Cert.ReferenceRecInMetaIdeal.nD Cert.ReferenceRecInMetaIdeal.τ).loc Cert.ReferenceRecInMetaIdeal.main_arg6) = m ((c.tc : Thread Cert.ReferenceRecInMetaIdeal.nD Cert.ReferenceRecInMetaIdeal.τ).loc Cert.ReferenceRecInMetaIdeal.main_arg6)
      ∧ r.2.mem ((c.tc : Thread Cert.ReferenceRecInMetaIdeal.nD Cert.ReferenceRecInMetaIdeal.τ).loc Cert.ReferenceRecInMetaIdeal.main_arg7) = m ((c.tc : Thread Cert.ReferenceRecInMetaIdeal.nD Cert.ReferenceRecInMetaIdeal.τ).loc Cert.ReferenceRecInMetaIdeal.main_arg7)
      ∧ r.2.mem ((c.tc : Thread Cert.ReferenceRecInMetaIdeal.nD Cert.ReferenceRecInMetaIdeal.τ).loc Cert.ReferenceRecInMetaIdeal.main_arg8) = m ((c.tc : Thread Cert.ReferenceRecInMetaIdeal.nD Cert.ReferenceRecInMetaIdeal.τ).loc Cert.ReferenceRecInMetaIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)) →
    ∃ (v0 : (c : Dev Cert.KernelPostIdeal.nD) → Buf (Elt Ideal) ((c.tc : Thread Cert.KernelPostIdeal.nD Cert.KernelPostIdeal.τ).loc Cert.KernelPostIdeal.main_v4)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v4) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v20) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5))

def preserves_KernelPostRec_KernelPostRecIdeal : Prop :=
  True

def algebraic_KernelPostRecIdeal_ReferencePostRecIdeal [hKernelPostRecIdeal : Cert.KernelPostRecIdeal.Facts] [hReferencePostRecIdeal : Cert.ReferencePostRecIdeal.Facts] : Prop :=
  ∀ (m : (ℓ : Loc Cert.KernelPostRecIdeal.nD Cert.KernelPostRecIdeal.τ Cert.KernelPostRecIdeal.sig) → Buf (Elt Ideal) ℓ) (g : Dev Cert.KernelPostRecIdeal.nD → PrngReg)
    (m' : (ℓ : Loc Cert.ReferencePostRecIdeal.nD Cert.ReferencePostRecIdeal.τ Cert.ReferencePostRecIdeal.sig) → Buf (Elt Ideal) ℓ) (g' : Dev Cert.ReferencePostRecIdeal.nD → PrngReg), Pre_KernelPostRecIdeal m →
    (∀ c : Dev Cert.KernelPostRecIdeal.nD,
      m' ((c.tc : Thread Cert.ReferencePostRecIdeal.nD Cert.ReferencePostRecIdeal.τ).loc Cert.ReferencePostRecIdeal.main_arg0) = m ((c.tc : Thread Cert.KernelPostRecIdeal.nD Cert.KernelPostRecIdeal.τ).loc Cert.KernelPostRecIdeal.main_arg0)
      ∧ m' ((c.tc : Thread Cert.ReferencePostRecIdeal.nD Cert.ReferencePostRecIdeal.τ).loc Cert.ReferencePostRecIdeal.main_arg1) = m ((c.tc : Thread Cert.KernelPostRecIdeal.nD Cert.KernelPostRecIdeal.τ).loc Cert.KernelPostRecIdeal.main_arg1)
      ∧ m' ((c.tc : Thread Cert.ReferencePostRecIdeal.nD Cert.ReferencePostRecIdeal.τ).loc Cert.ReferencePostRecIdeal.main_arg2) = m ((c.tc : Thread Cert.KernelPostRecIdeal.nD Cert.KernelPostRecIdeal.τ).loc Cert.KernelPostRecIdeal.main_arg2)
      ∧ m' ((c.tc : Thread Cert.ReferencePostRecIdeal.nD Cert.ReferencePostRecIdeal.τ).loc Cert.ReferencePostRecIdeal.main_arg3) = m ((c.tc : Thread Cert.KernelPostRecIdeal.nD Cert.KernelPostRecIdeal.τ).loc Cert.KernelPostRecIdeal.main_arg3)
      ∧ m' ((c.tc : Thread Cert.ReferencePostRecIdeal.nD Cert.ReferencePostRecIdeal.τ).loc Cert.ReferencePostRecIdeal.main_arg4) = m ((c.tc : Thread Cert.KernelPostRecIdeal.nD Cert.KernelPostRecIdeal.τ).loc Cert.KernelPostRecIdeal.main_arg4)
      ∧ m' ((c.tc : Thread Cert.ReferencePostRecIdeal.nD Cert.ReferencePostRecIdeal.τ).loc Cert.ReferencePostRecIdeal.main_arg5) = m ((c.tc : Thread Cert.KernelPostRecIdeal.nD Cert.KernelPostRecIdeal.τ).loc Cert.KernelPostRecIdeal.main_arg5)
      ∧ m' ((c.tc : Thread Cert.ReferencePostRecIdeal.nD Cert.ReferencePostRecIdeal.τ).loc Cert.ReferencePostRecIdeal.main_arg6) = m ((c.tc : Thread Cert.KernelPostRecIdeal.nD Cert.KernelPostRecIdeal.τ).loc Cert.KernelPostRecIdeal.main_arg6)
      ∧ m' ((c.tc : Thread Cert.ReferencePostRecIdeal.nD Cert.ReferencePostRecIdeal.τ).loc Cert.ReferencePostRecIdeal.main_arg7) = m ((c.tc : Thread Cert.KernelPostRecIdeal.nD Cert.KernelPostRecIdeal.τ).loc Cert.KernelPostRecIdeal.main_arg7)
      ∧ m' ((c.tc : Thread Cert.ReferencePostRecIdeal.nD Cert.ReferencePostRecIdeal.τ).loc Cert.ReferencePostRecIdeal.main_arg8) = m ((c.tc : Thread Cert.KernelPostRecIdeal.nD Cert.KernelPostRecIdeal.τ).loc Cert.KernelPostRecIdeal.main_arg8)) →
    ∃ (v0 : (c : Dev Cert.KernelPostRecIdeal.nD) → Buf (Elt Ideal) ((c.tc : Thread Cert.KernelPostRecIdeal.nD Cert.KernelPostRecIdeal.τ).loc Cert.KernelPostRecIdeal.main_v5)),
      θ_run (Cert.KernelPostRecIdeal.defs (F := Ideal)) (onTc (τ := Cert.KernelPostRecIdeal.τ) (Cert.KernelPostRecIdeal.main (F := Ideal))) ⟨m, fun _ => 0, g⟩ (fun r => ∀ c : Dev Cert.KernelPostRecIdeal.nD,
          r.2.mem ((c.tc : Thread Cert.KernelPostRecIdeal.nD Cert.KernelPostRecIdeal.τ).loc Cert.KernelPostRecIdeal.main_v5) = v0 c
          ∧ r.2.mem ((c.tc : Thread Cert.KernelPostRecIdeal.nD Cert.KernelPostRecIdeal.τ).loc Cert.KernelPostRecIdeal.main_arg0) = m ((c.tc : Thread Cert.KernelPostRecIdeal.nD Cert.KernelPostRecIdeal.τ).loc Cert.KernelPostRecIdeal.main_arg0)
          ∧ r.2.mem ((c.tc : Thread Cert.KernelPostRecIdeal.nD Cert.KernelPostRecIdeal.τ).loc Cert.KernelPostRecIdeal.main_arg1) = m ((c.tc : Thread Cert.KernelPostRecIdeal.nD Cert.KernelPostRecIdeal.τ).loc Cert.KernelPostRecIdeal.main_arg1)
          ∧ r.2.mem ((c.tc : Thread Cert.KernelPostRecIdeal.nD Cert.KernelPostRecIdeal.τ).loc Cert.KernelPostRecIdeal.main_arg2) = m ((c.tc : Thread Cert.KernelPostRecIdeal.nD Cert.KernelPostRecIdeal.τ).loc Cert.KernelPostRecIdeal.main_arg2)
          ∧ r.2.mem ((c.tc : Thread Cert.KernelPostRecIdeal.nD Cert.KernelPostRecIdeal.τ).loc Cert.KernelPostRecIdeal.main_arg3) = m ((c.tc : Thread Cert.KernelPostRecIdeal.nD Cert.KernelPostRecIdeal.τ).loc Cert.KernelPostRecIdeal.main_arg3)
          ∧ r.2.mem ((c.tc : Thread Cert.KernelPostRecIdeal.nD Cert.KernelPostRecIdeal.τ).loc Cert.KernelPostRecIdeal.main_arg4) = m ((c.tc : Thread Cert.KernelPostRecIdeal.nD Cert.KernelPostRecIdeal.τ).loc Cert.KernelPostRecIdeal.main_arg4)
          ∧ r.2.mem ((c.tc : Thread Cert.KernelPostRecIdeal.nD Cert.KernelPostRecIdeal.τ).loc Cert.KernelPostRecIdeal.main_arg5) = m ((c.tc : Thread Cert.KernelPostRecIdeal.nD Cert.KernelPostRecIdeal.τ).loc Cert.KernelPostRecIdeal.main_arg5)
          ∧ r.2.mem ((c.tc : Thread Cert.KernelPostRecIdeal.nD Cert.KernelPostRecIdeal.τ).loc Cert.KernelPostRecIdeal.main_arg6) = m ((c.tc : Thread Cert.KernelPostRecIdeal.nD Cert.KernelPostRecIdeal.τ).loc Cert.KernelPostRecIdeal.main_arg6)
          ∧ r.2.mem ((c.tc : Thread Cert.KernelPostRecIdeal.nD Cert.KernelPostRecIdeal.τ).loc Cert.KernelPostRecIdeal.main_arg7) = m ((c.tc : Thread Cert.KernelPostRecIdeal.nD Cert.KernelPostRecIdeal.τ).loc Cert.KernelPostRecIdeal.main_arg7)
          ∧ r.2.mem ((c.tc : Thread Cert.KernelPostRecIdeal.nD Cert.KernelPostRecIdeal.τ).loc Cert.KernelPostRecIdeal.main_arg8) = m ((c.tc : Thread Cert.KernelPostRecIdeal.nD Cert.KernelPostRecIdeal.τ).loc Cert.KernelPostRecIdeal.main_arg8))
      ∧ θ_run (Cert.ReferencePostRecIdeal.defs (F := Ideal)) (onTc (τ := Cert.ReferencePostRecIdeal.τ) (Cert.ReferencePostRecIdeal.main (F := Ideal))) ⟨m', fun _ => 0, g'⟩ (fun r => ∀ c : Dev Cert.ReferencePostRecIdeal.nD,
          r.2.mem ((c.tc : Thread Cert.ReferencePostRecIdeal.nD Cert.ReferencePostRecIdeal.τ).loc Cert.ReferencePostRecIdeal.main_v40) = v0 c
          ∧ r.2.mem ((c.tc : Thread Cert.ReferencePostRecIdeal.nD Cert.ReferencePostRecIdeal.τ).loc Cert.ReferencePostRecIdeal.main_arg0) = m' ((c.tc : Thread Cert.ReferencePostRecIdeal.nD Cert.ReferencePostRecIdeal.τ).loc Cert.ReferencePostRecIdeal.main_arg0)
          ∧ r.2.mem ((c.tc : Thread Cert.ReferencePostRecIdeal.nD Cert.ReferencePostRecIdeal.τ).loc Cert.ReferencePostRecIdeal.main_arg1) = m' ((c.tc : Thread Cert.ReferencePostRecIdeal.nD Cert.ReferencePostRecIdeal.τ).loc Cert.ReferencePostRecIdeal.main_arg1)
          ∧ r.2.mem ((c.tc : Thread Cert.ReferencePostRecIdeal.nD Cert.ReferencePostRecIdeal.τ).loc Cert.ReferencePostRecIdeal.main_arg2) = m' ((c.tc : Thread Cert.ReferencePostRecIdeal.nD Cert.ReferencePostRecIdeal.τ).loc Cert.ReferencePostRecIdeal.main_arg2)
          ∧ r.2.mem ((c.tc : Thread Cert.ReferencePostRecIdeal.nD Cert.ReferencePostRecIdeal.τ).loc Cert.ReferencePostRecIdeal.main_arg3) = m' ((c.tc : Thread Cert.ReferencePostRecIdeal.nD Cert.ReferencePostRecIdeal.τ).loc Cert.ReferencePostRecIdeal.main_arg3)
          ∧ r.2.mem ((c.tc : Thread Cert.ReferencePostRecIdeal.nD Cert.ReferencePostRecIdeal.τ).loc Cert.ReferencePostRecIdeal.main_arg4) = m' ((c.tc : Thread Cert.ReferencePostRecIdeal.nD Cert.ReferencePostRecIdeal.τ).loc Cert.ReferencePostRecIdeal.main_arg4)
          ∧ r.2.mem ((c.tc : Thread Cert.ReferencePostRecIdeal.nD Cert.ReferencePostRecIdeal.τ).loc Cert.ReferencePostRecIdeal.main_arg5) = m' ((c.tc : Thread Cert.ReferencePostRecIdeal.nD Cert.ReferencePostRecIdeal.τ).loc Cert.ReferencePostRecIdeal.main_arg5)
          ∧ r.2.mem ((c.tc : Thread Cert.ReferencePostRecIdeal.nD Cert.ReferencePostRecIdeal.τ).loc Cert.ReferencePostRecIdeal.main_arg6) = m' ((c.tc : Thread Cert.ReferencePostRecIdeal.nD Cert.ReferencePostRecIdeal.τ).loc Cert.ReferencePostRecIdeal.main_arg6)
          ∧ r.2.mem ((c.tc : Thread Cert.ReferencePostRecIdeal.nD Cert.ReferencePostRecIdeal.τ).loc Cert.ReferencePostRecIdeal.main_arg7) = m' ((c.tc : Thread Cert.ReferencePostRecIdeal.nD Cert.ReferencePostRecIdeal.τ).loc Cert.ReferencePostRecIdeal.main_arg7)
          ∧ r.2.mem ((c.tc : Thread Cert.ReferencePostRecIdeal.nD Cert.ReferencePostRecIdeal.τ).loc Cert.ReferencePostRecIdeal.main_arg8) = m' ((c.tc : Thread Cert.ReferencePostRecIdeal.nD Cert.ReferencePostRecIdeal.τ).loc Cert.ReferencePostRecIdeal.main_arg8))

def preserves_KernelRecIn_KernelRecInIdeal : Prop :=
  True

def algebraic_KernelRecInIdeal_ReferenceRecInIdeal_on_real_rows [hKernelRecInIdeal : Cert.KernelRecInIdeal.Facts] [hReferenceRecInIdeal : Cert.ReferenceRecInIdeal.Facts] [hOn_real_rows : Cert.On_real_rows.Facts] : Prop :=
  ∀ (m : (ℓ : Loc Cert.KernelRecInIdeal.nD Cert.KernelRecInIdeal.τ Cert.KernelRecInIdeal.sig) → Buf (Elt Ideal) ℓ) (g : Dev Cert.KernelRecInIdeal.nD → PrngReg)
    (m' : (ℓ : Loc Cert.ReferenceRecInIdeal.nD Cert.ReferenceRecInIdeal.τ Cert.ReferenceRecInIdeal.sig) → Buf (Elt Ideal) ℓ) (g' : Dev Cert.ReferenceRecInIdeal.nD → PrngReg), Pre_KernelRecInIdeal m →
    (∀ c : Dev Cert.KernelRecInIdeal.nD,
      m' ((c.tc : Thread Cert.ReferenceRecInIdeal.nD Cert.ReferenceRecInIdeal.τ).loc Cert.ReferenceRecInIdeal.main_arg0) = m ((c.tc : Thread Cert.KernelRecInIdeal.nD Cert.KernelRecInIdeal.τ).loc Cert.KernelRecInIdeal.main_arg0)
      ∧ m' ((c.tc : Thread Cert.ReferenceRecInIdeal.nD Cert.ReferenceRecInIdeal.τ).loc Cert.ReferenceRecInIdeal.main_arg1) = m ((c.tc : Thread Cert.KernelRecInIdeal.nD Cert.KernelRecInIdeal.τ).loc Cert.KernelRecInIdeal.main_arg1)
      ∧ m' ((c.tc : Thread Cert.ReferenceRecInIdeal.nD Cert.ReferenceRecInIdeal.τ).loc Cert.ReferenceRecInIdeal.main_arg2) = m ((c.tc : Thread Cert.KernelRecInIdeal.nD Cert.KernelRecInIdeal.τ).loc Cert.KernelRecInIdeal.main_arg2)
      ∧ m' ((c.tc : Thread Cert.ReferenceRecInIdeal.nD Cert.ReferenceRecInIdeal.τ).loc Cert.ReferenceRecInIdeal.main_arg3) = m ((c.tc : Thread Cert.KernelRecInIdeal.nD Cert.KernelRecInIdeal.τ).loc Cert.KernelRecInIdeal.main_arg3)
      ∧ m' ((c.tc : Thread Cert.ReferenceRecInIdeal.nD Cert.ReferenceRecInIdeal.τ).loc Cert.ReferenceRecInIdeal.main_arg4) = m ((c.tc : Thread Cert.KernelRecInIdeal.nD Cert.KernelRecInIdeal.τ).loc Cert.KernelRecInIdeal.main_arg4)) →
    ∃ (v0 : (c : Dev Cert.KernelRecInIdeal.nD) → Buf (Elt Ideal) ((c.tc : Thread Cert.KernelRecInIdeal.nD Cert.KernelRecInIdeal.τ).loc Cert.KernelRecInIdeal.main_v2_0)) (v1 : (c : Dev Cert.KernelRecInIdeal.nD) → Buf (Elt Ideal) ((c.tc : Thread Cert.KernelRecInIdeal.nD Cert.KernelRecInIdeal.τ).loc Cert.KernelRecInIdeal.main_v2_1)) (v2 : (c : Dev Cert.KernelRecInIdeal.nD) → Buf (Elt Ideal) ((c.tc : Thread Cert.KernelRecInIdeal.nD Cert.KernelRecInIdeal.τ).loc Cert.KernelRecInIdeal.main_v2_2)) (v3 : (c : Dev Cert.KernelRecInIdeal.nD) → Buf (Elt Ideal) ((c.tc : Thread Cert.KernelRecInIdeal.nD Cert.KernelRecInIdeal.τ).loc Cert.KernelRecInIdeal.main_v2_3)) (v4 : (c : Dev Cert.KernelRecInIdeal.nD) → Buf (Elt Ideal) ((c.tc : Thread Cert.KernelRecInIdeal.nD Cert.KernelRecInIdeal.τ).loc Cert.KernelRecInIdeal.main_v2_4)),
      θ_run (Cert.KernelRecInIdeal.defs (F := Ideal)) (onTc (τ := Cert.KernelRecInIdeal.τ) (Cert.KernelRecInIdeal.main (F := Ideal))) ⟨m, fun _ => 0, g⟩ (fun r => ∀ c : Dev Cert.KernelRecInIdeal.nD,
          (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).1 i = 1#1 → r.2.mem ((c.tc : Thread Cert.KernelRecInIdeal.nD Cert.KernelRecInIdeal.τ).loc Cert.KernelRecInIdeal.main_v2_0) i = v0 c i)
          ∧ (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.1 i = 1#1 → r.2.mem ((c.tc : Thread Cert.KernelRecInIdeal.nD Cert.KernelRecInIdeal.τ).loc Cert.KernelRecInIdeal.main_v2_1) i = v1 c i)
          ∧ (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.2.1 i = 1#1 → r.2.mem ((c.tc : Thread Cert.KernelRecInIdeal.nD Cert.KernelRecInIdeal.τ).loc Cert.KernelRecInIdeal.main_v2_2) i = v2 c i)
          ∧ (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.2.2.1 i = 1#1 → r.2.mem ((c.tc : Thread Cert.KernelRecInIdeal.nD Cert.KernelRecInIdeal.τ).loc Cert.KernelRecInIdeal.main_v2_3) i = v3 c i)
          ∧ (∀ i : (⟨3, ![8, 8192, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.2.2.2 i = 1#1 → r.2.mem ((c.tc : Thread Cert.KernelRecInIdeal.nD Cert.KernelRecInIdeal.τ).loc Cert.KernelRecInIdeal.main_v2_4) i = v4 c i)
          ∧ r.2.mem ((c.tc : Thread Cert.KernelRecInIdeal.nD Cert.KernelRecInIdeal.τ).loc Cert.KernelRecInIdeal.main_arg0) = m ((c.tc : Thread Cert.KernelRecInIdeal.nD Cert.KernelRecInIdeal.τ).loc Cert.KernelRecInIdeal.main_arg0)
          ∧ r.2.mem ((c.tc : Thread Cert.KernelRecInIdeal.nD Cert.KernelRecInIdeal.τ).loc Cert.KernelRecInIdeal.main_arg1) = m ((c.tc : Thread Cert.KernelRecInIdeal.nD Cert.KernelRecInIdeal.τ).loc Cert.KernelRecInIdeal.main_arg1)
          ∧ r.2.mem ((c.tc : Thread Cert.KernelRecInIdeal.nD Cert.KernelRecInIdeal.τ).loc Cert.KernelRecInIdeal.main_arg2) = m ((c.tc : Thread Cert.KernelRecInIdeal.nD Cert.KernelRecInIdeal.τ).loc Cert.KernelRecInIdeal.main_arg2)
          ∧ r.2.mem ((c.tc : Thread Cert.KernelRecInIdeal.nD Cert.KernelRecInIdeal.τ).loc Cert.KernelRecInIdeal.main_arg3) = m ((c.tc : Thread Cert.KernelRecInIdeal.nD Cert.KernelRecInIdeal.τ).loc Cert.KernelRecInIdeal.main_arg3)
          ∧ r.2.mem ((c.tc : Thread Cert.KernelRecInIdeal.nD Cert.KernelRecInIdeal.τ).loc Cert.KernelRecInIdeal.main_arg4) = m ((c.tc : Thread Cert.KernelRecInIdeal.nD Cert.KernelRecInIdeal.τ).loc Cert.KernelRecInIdeal.main_arg4))
      ∧ θ_run (Cert.ReferenceRecInIdeal.defs (F := Ideal)) (onTc (τ := Cert.ReferenceRecInIdeal.τ) (Cert.ReferenceRecInIdeal.main (F := Ideal))) ⟨m', fun _ => 0, g'⟩ (fun r => ∀ c : Dev Cert.ReferenceRecInIdeal.nD,
          (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).1 i = 1#1 → r.2.mem ((c.tc : Thread Cert.ReferenceRecInIdeal.nD Cert.ReferenceRecInIdeal.τ).loc Cert.ReferenceRecInIdeal.main_v88) i = v0 c i)
          ∧ (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.1 i = 1#1 → r.2.mem ((c.tc : Thread Cert.ReferenceRecInIdeal.nD Cert.ReferenceRecInIdeal.τ).loc Cert.ReferenceRecInIdeal.main_v89) i = v1 c i)
          ∧ (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.2.1 i = 1#1 → r.2.mem ((c.tc : Thread Cert.ReferenceRecInIdeal.nD Cert.ReferenceRecInIdeal.τ).loc Cert.ReferenceRecInIdeal.main_v54) i = v2 c i)
          ∧ (∀ i : (⟨3, ![8, 8256, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.2.2.1 i = 1#1 → r.2.mem ((c.tc : Thread Cert.ReferenceRecInIdeal.nD Cert.ReferenceRecInIdeal.τ).loc Cert.ReferenceRecInIdeal.main_v87) i = v3 c i)
          ∧ (∀ i : (⟨3, ![8, 8192, 1024]⟩ : Shape).Idx, (Cert.On_real_rows.fn (F := Ideal) (m ((c.tc : Thread Cert.KernelRecInIdeal.nD Cert.KernelRecInIdeal.τ).loc Cert.KernelRecInIdeal.main_arg0)) (m ((c.tc : Thread Cert.KernelRecInIdeal.nD Cert.KernelRecInIdeal.τ).loc Cert.KernelRecInIdeal.main_arg1)) (m ((c.tc : Thread Cert.KernelRecInIdeal.nD Cert.KernelRecInIdeal.τ).loc Cert.KernelRecInIdeal.main_arg2)) (m ((c.tc : Thread Cert.KernelRecInIdeal.nD Cert.KernelRecInIdeal.τ).loc Cert.KernelRecInIdeal.main_arg3)) (m ((c.tc : Thread Cert.KernelRecInIdeal.nD Cert.KernelRecInIdeal.τ).loc Cert.KernelRecInIdeal.main_arg4))).2.2.2.2 i = 1#1 → r.2.mem ((c.tc : Thread Cert.ReferenceRecInIdeal.nD Cert.ReferenceRecInIdeal.τ).loc Cert.ReferenceRecInIdeal.main_v91) i = v4 c i)
          ∧ r.2.mem ((c.tc : Thread Cert.ReferenceRecInIdeal.nD Cert.ReferenceRecInIdeal.τ).loc Cert.ReferenceRecInIdeal.main_arg0) = m' ((c.tc : Thread Cert.ReferenceRecInIdeal.nD Cert.ReferenceRecInIdeal.τ).loc Cert.ReferenceRecInIdeal.main_arg0)
          ∧ r.2.mem ((c.tc : Thread Cert.ReferenceRecInIdeal.nD Cert.ReferenceRecInIdeal.τ).loc Cert.ReferenceRecInIdeal.main_arg1) = m' ((c.tc : Thread Cert.ReferenceRecInIdeal.nD Cert.ReferenceRecInIdeal.τ).loc Cert.ReferenceRecInIdeal.main_arg1)
          ∧ r.2.mem ((c.tc : Thread Cert.ReferenceRecInIdeal.nD Cert.ReferenceRecInIdeal.τ).loc Cert.ReferenceRecInIdeal.main_arg2) = m' ((c.tc : Thread Cert.ReferenceRecInIdeal.nD Cert.ReferenceRecInIdeal.τ).loc Cert.ReferenceRecInIdeal.main_arg2)
          ∧ r.2.mem ((c.tc : Thread Cert.ReferenceRecInIdeal.nD Cert.ReferenceRecInIdeal.τ).loc Cert.ReferenceRecInIdeal.main_arg3) = m' ((c.tc : Thread Cert.ReferenceRecInIdeal.nD Cert.ReferenceRecInIdeal.τ).loc Cert.ReferenceRecInIdeal.main_arg3)
          ∧ r.2.mem ((c.tc : Thread Cert.ReferenceRecInIdeal.nD Cert.ReferenceRecInIdeal.τ).loc Cert.ReferenceRecInIdeal.main_arg4) = m' ((c.tc : Thread Cert.ReferenceRecInIdeal.nD Cert.ReferenceRecInIdeal.τ).loc Cert.ReferenceRecInIdeal.main_arg4))

def preserves_KernelAttnIn_KernelAttnInIdeal : Prop :=
  True

def algebraic_KernelAttnInIdeal_ReferenceAttnInIdeal [hKernelAttnInIdeal : Cert.KernelAttnInIdeal.Facts] [hReferenceAttnInIdeal : Cert.ReferenceAttnInIdeal.Facts] : Prop :=
  ∀ (m : (ℓ : Loc Cert.KernelAttnInIdeal.nD Cert.KernelAttnInIdeal.τ Cert.KernelAttnInIdeal.sig) → Buf (Elt Ideal) ℓ) (g : Dev Cert.KernelAttnInIdeal.nD → PrngReg)
    (m' : (ℓ : Loc Cert.ReferenceAttnInIdeal.nD Cert.ReferenceAttnInIdeal.τ Cert.ReferenceAttnInIdeal.sig) → Buf (Elt Ideal) ℓ) (g' : Dev Cert.ReferenceAttnInIdeal.nD → PrngReg), Pre_KernelAttnInIdeal m →
    (∀ c : Dev Cert.KernelAttnInIdeal.nD,
      m' ((c.tc : Thread Cert.ReferenceAttnInIdeal.nD Cert.ReferenceAttnInIdeal.τ).loc Cert.ReferenceAttnInIdeal.main_arg0) = m ((c.tc : Thread Cert.KernelAttnInIdeal.nD Cert.KernelAttnInIdeal.τ).loc Cert.KernelAttnInIdeal.main_arg0)
      ∧ m' ((c.tc : Thread Cert.ReferenceAttnInIdeal.nD Cert.ReferenceAttnInIdeal.τ).loc Cert.ReferenceAttnInIdeal.main_arg1) = m ((c.tc : Thread Cert.KernelAttnInIdeal.nD Cert.KernelAttnInIdeal.τ).loc Cert.KernelAttnInIdeal.main_arg1)
      ∧ m' ((c.tc : Thread Cert.ReferenceAttnInIdeal.nD Cert.ReferenceAttnInIdeal.τ).loc Cert.ReferenceAttnInIdeal.main_arg2) = m ((c.tc : Thread Cert.KernelAttnInIdeal.nD Cert.KernelAttnInIdeal.τ).loc Cert.KernelAttnInIdeal.main_arg2)
      ∧ m' ((c.tc : Thread Cert.ReferenceAttnInIdeal.nD Cert.ReferenceAttnInIdeal.τ).loc Cert.ReferenceAttnInIdeal.main_arg3) = m ((c.tc : Thread Cert.KernelAttnInIdeal.nD Cert.KernelAttnInIdeal.τ).loc Cert.KernelAttnInIdeal.main_arg3)
      ∧ m' ((c.tc : Thread Cert.ReferenceAttnInIdeal.nD Cert.ReferenceAttnInIdeal.τ).loc Cert.ReferenceAttnInIdeal.main_arg4) = m ((c.tc : Thread Cert.KernelAttnInIdeal.nD Cert.KernelAttnInIdeal.τ).loc Cert.KernelAttnInIdeal.main_arg4)
      ∧ m' ((c.tc : Thread Cert.ReferenceAttnInIdeal.nD Cert.ReferenceAttnInIdeal.τ).loc Cert.ReferenceAttnInIdeal.main_arg5) = m ((c.tc : Thread Cert.KernelAttnInIdeal.nD Cert.KernelAttnInIdeal.τ).loc Cert.KernelAttnInIdeal.main_arg5)
      ∧ m' ((c.tc : Thread Cert.ReferenceAttnInIdeal.nD Cert.ReferenceAttnInIdeal.τ).loc Cert.ReferenceAttnInIdeal.main_arg6) = m ((c.tc : Thread Cert.KernelAttnInIdeal.nD Cert.KernelAttnInIdeal.τ).loc Cert.KernelAttnInIdeal.main_arg6)) →
    ∃ (v0 : (c : Dev Cert.KernelAttnInIdeal.nD) → Buf (Elt Ideal) ((c.tc : Thread Cert.KernelAttnInIdeal.nD Cert.KernelAttnInIdeal.τ).loc Cert.KernelAttnInIdeal.main_v7_0)) (v1 : (c : Dev Cert.KernelAttnInIdeal.nD) → Buf (Elt Ideal) ((c.tc : Thread Cert.KernelAttnInIdeal.nD Cert.KernelAttnInIdeal.τ).loc Cert.KernelAttnInIdeal.main_v7_1)) (v2 : (c : Dev Cert.KernelAttnInIdeal.nD) → Buf (Elt Ideal) ((c.tc : Thread Cert.KernelAttnInIdeal.nD Cert.KernelAttnInIdeal.τ).loc Cert.KernelAttnInIdeal.main_v7_2)),
      θ_run (Cert.KernelAttnInIdeal.defs (F := Ideal)) (onTc (τ := Cert.KernelAttnInIdeal.τ) (Cert.KernelAttnInIdeal.main (F := Ideal))) ⟨m, fun _ => 0, g⟩ (fun r => ∀ c : Dev Cert.KernelAttnInIdeal.nD,
          r.2.mem ((c.tc : Thread Cert.KernelAttnInIdeal.nD Cert.KernelAttnInIdeal.τ).loc Cert.KernelAttnInIdeal.main_v7_0) = v0 c
          ∧ r.2.mem ((c.tc : Thread Cert.KernelAttnInIdeal.nD Cert.KernelAttnInIdeal.τ).loc Cert.KernelAttnInIdeal.main_v7_1) = v1 c
          ∧ r.2.mem ((c.tc : Thread Cert.KernelAttnInIdeal.nD Cert.KernelAttnInIdeal.τ).loc Cert.KernelAttnInIdeal.main_v7_2) = v2 c
          ∧ r.2.mem ((c.tc : Thread Cert.KernelAttnInIdeal.nD Cert.KernelAttnInIdeal.τ).loc Cert.KernelAttnInIdeal.main_arg0) = m ((c.tc : Thread Cert.KernelAttnInIdeal.nD Cert.KernelAttnInIdeal.τ).loc Cert.KernelAttnInIdeal.main_arg0)
          ∧ r.2.mem ((c.tc : Thread Cert.KernelAttnInIdeal.nD Cert.KernelAttnInIdeal.τ).loc Cert.KernelAttnInIdeal.main_arg1) = m ((c.tc : Thread Cert.KernelAttnInIdeal.nD Cert.KernelAttnInIdeal.τ).loc Cert.KernelAttnInIdeal.main_arg1)
          ∧ r.2.mem ((c.tc : Thread Cert.KernelAttnInIdeal.nD Cert.KernelAttnInIdeal.τ).loc Cert.KernelAttnInIdeal.main_arg2) = m ((c.tc : Thread Cert.KernelAttnInIdeal.nD Cert.KernelAttnInIdeal.τ).loc Cert.KernelAttnInIdeal.main_arg2)
          ∧ r.2.mem ((c.tc : Thread Cert.KernelAttnInIdeal.nD Cert.KernelAttnInIdeal.τ).loc Cert.KernelAttnInIdeal.main_arg3) = m ((c.tc : Thread Cert.KernelAttnInIdeal.nD Cert.KernelAttnInIdeal.τ).loc Cert.KernelAttnInIdeal.main_arg3)
          ∧ r.2.mem ((c.tc : Thread Cert.KernelAttnInIdeal.nD Cert.KernelAttnInIdeal.τ).loc Cert.KernelAttnInIdeal.main_arg4) = m ((c.tc : Thread Cert.KernelAttnInIdeal.nD Cert.KernelAttnInIdeal.τ).loc Cert.KernelAttnInIdeal.main_arg4)
          ∧ r.2.mem ((c.tc : Thread Cert.KernelAttnInIdeal.nD Cert.KernelAttnInIdeal.τ).loc Cert.KernelAttnInIdeal.main_arg5) = m ((c.tc : Thread Cert.KernelAttnInIdeal.nD Cert.KernelAttnInIdeal.τ).loc Cert.KernelAttnInIdeal.main_arg5)
          ∧ r.2.mem ((c.tc : Thread Cert.KernelAttnInIdeal.nD Cert.KernelAttnInIdeal.τ).loc Cert.KernelAttnInIdeal.main_arg6) = m ((c.tc : Thread Cert.KernelAttnInIdeal.nD Cert.KernelAttnInIdeal.τ).loc Cert.KernelAttnInIdeal.main_arg6))
      ∧ θ_run (Cert.ReferenceAttnInIdeal.defs (F := Ideal)) (onTc (τ := Cert.ReferenceAttnInIdeal.τ) (Cert.ReferenceAttnInIdeal.main (F := Ideal))) ⟨m', fun _ => 0, g'⟩ (fun r => ∀ c : Dev Cert.ReferenceAttnInIdeal.nD,
          r.2.mem ((c.tc : Thread Cert.ReferenceAttnInIdeal.nD Cert.ReferenceAttnInIdeal.τ).loc Cert.ReferenceAttnInIdeal.main_v78) = v0 c
          ∧ r.2.mem ((c.tc : Thread Cert.ReferenceAttnInIdeal.nD Cert.ReferenceAttnInIdeal.τ).loc Cert.ReferenceAttnInIdeal.main_v80) = v1 c
          ∧ r.2.mem ((c.tc : Thread Cert.ReferenceAttnInIdeal.nD Cert.ReferenceAttnInIdeal.τ).loc Cert.ReferenceAttnInIdeal.main_v81) = v2 c
          ∧ r.2.mem ((c.tc : Thread Cert.ReferenceAttnInIdeal.nD Cert.ReferenceAttnInIdeal.τ).loc Cert.ReferenceAttnInIdeal.main_arg0) = m' ((c.tc : Thread Cert.ReferenceAttnInIdeal.nD Cert.ReferenceAttnInIdeal.τ).loc Cert.ReferenceAttnInIdeal.main_arg0)
          ∧ r.2.mem ((c.tc : Thread Cert.ReferenceAttnInIdeal.nD Cert.ReferenceAttnInIdeal.τ).loc Cert.ReferenceAttnInIdeal.main_arg1) = m' ((c.tc : Thread Cert.ReferenceAttnInIdeal.nD Cert.ReferenceAttnInIdeal.τ).loc Cert.ReferenceAttnInIdeal.main_arg1)
          ∧ r.2.mem ((c.tc : Thread Cert.ReferenceAttnInIdeal.nD Cert.ReferenceAttnInIdeal.τ).loc Cert.ReferenceAttnInIdeal.main_arg2) = m' ((c.tc : Thread Cert.ReferenceAttnInIdeal.nD Cert.ReferenceAttnInIdeal.τ).loc Cert.ReferenceAttnInIdeal.main_arg2)
          ∧ r.2.mem ((c.tc : Thread Cert.ReferenceAttnInIdeal.nD Cert.ReferenceAttnInIdeal.τ).loc Cert.ReferenceAttnInIdeal.main_arg3) = m' ((c.tc : Thread Cert.ReferenceAttnInIdeal.nD Cert.ReferenceAttnInIdeal.τ).loc Cert.ReferenceAttnInIdeal.main_arg3)
          ∧ r.2.mem ((c.tc : Thread Cert.ReferenceAttnInIdeal.nD Cert.ReferenceAttnInIdeal.τ).loc Cert.ReferenceAttnInIdeal.main_arg4) = m' ((c.tc : Thread Cert.ReferenceAttnInIdeal.nD Cert.ReferenceAttnInIdeal.τ).loc Cert.ReferenceAttnInIdeal.main_arg4)
          ∧ r.2.mem ((c.tc : Thread Cert.ReferenceAttnInIdeal.nD Cert.ReferenceAttnInIdeal.τ).loc Cert.ReferenceAttnInIdeal.main_arg5) = m' ((c.tc : Thread Cert.ReferenceAttnInIdeal.nD Cert.ReferenceAttnInIdeal.τ).loc Cert.ReferenceAttnInIdeal.main_arg5)
          ∧ r.2.mem ((c.tc : Thread Cert.ReferenceAttnInIdeal.nD Cert.ReferenceAttnInIdeal.τ).loc Cert.ReferenceAttnInIdeal.main_arg6) = m' ((c.tc : Thread Cert.ReferenceAttnInIdeal.nD Cert.ReferenceAttnInIdeal.τ).loc Cert.ReferenceAttnInIdeal.main_arg6))

def preserves_KernelRecInFirst_KernelRecInFirstIdeal : Prop :=
  True

def algebraic_KernelRecInFirstIdeal_ReferenceRecInFirstIdeal_on_real_rows [hKernelRecInFirstIdeal : Cert.KernelRecInFirstIdeal.Facts] [hReferenceRecInFirstIdeal : Cert.ReferenceRecInFirstIdeal.Facts] [hOn_real_rows : Cert.On_real_rows.Facts] : Prop :=
  ∀ (m : (ℓ : Loc Cert.KernelRecInFirstIdeal.nD Cert.KernelRecInFirstIdeal.τ Cert.KernelRecInFirstIdeal.sig) → Buf (Elt Ideal) ℓ) (g : Dev Cert.KernelRecInFirstIdeal.nD → PrngReg)
    (m' : (ℓ : Loc Cert.ReferenceRecInFirstIdeal.nD Cert.ReferenceRecInFirstIdeal.τ Cert.ReferenceRecInFirstIdeal.sig) → Buf (Elt Ideal) ℓ) (g' : Dev Cert.ReferenceRecInFirstIdeal.nD → PrngReg), Pre_KernelRecInFirstIdeal m →
    (∀ c : Dev Cert.KernelRecInFirstIdeal.nD,
      m' ((c.tc : Thread Cert.ReferenceRecInFirstIdeal.nD Cert.ReferenceRecInFirstIdeal.τ).loc Cert.ReferenceRecInFirstIdeal.main_arg0) = m ((c.tc : Thread Cert.KernelRecInFirstIdeal.nD Cert.KernelRecInFirstIdeal.τ).loc Cert.KernelRecInFirstIdeal.main_arg0)
      ∧ m' ((c.tc : Thread Cert.ReferenceRecInFirstIdeal.nD Cert.ReferenceRecInFirstIdeal.τ).loc Cert.ReferenceRecInFirstIdeal.main_arg1) = m ((c.tc : Thread Cert.KernelRecInFirstIdeal.nD Cert.KernelRecInFirstIdeal.τ).loc Cert.KernelRecInFirstIdeal.main_arg1)
      ∧ m' ((c.tc : Thread Cert.ReferenceRecInFirstIdeal.nD Cert.ReferenceRecInFirstIdeal.τ).loc Cert.ReferenceRecInFirstIdeal.main_arg2) = m ((c.tc : Thread Cert.KernelRecInFirstIdeal.nD Cert.KernelRecInFirstIdeal.τ).loc Cert.KernelRecInFirstIdeal.main_arg2)
      ∧ m' ((c.tc : Thread Cert.ReferenceRecInFirstIdeal.nD Cert.ReferenceRecInFirstIdeal.τ).loc Cert.ReferenceRecInFirstIdeal.main_arg3) = m ((c.tc : Thread Cert.KernelRecInFirstIdeal.nD Cert.KernelRecInFirstIdeal.τ).loc Cert.KernelRecInFirstIdeal.main_arg3)
      ∧ m' ((c.tc : Thread Cert.ReferenceRecInFirstIdeal.nD Cert.ReferenceRecInFirstIdeal.τ).loc Cert.ReferenceRecInFirstIdeal.main_arg4) = m ((c.tc : Thread Cert.KernelRecInFirstIdeal.nD Cert.KernelRecInFirstIdeal.τ).loc Cert.KernelRecInFirstIdeal.main_arg4)) →
    ∃ (v0 : (c : Dev Cert.KernelRecInFirstIdeal.nD) → Buf (Elt Ideal) ((c.tc : Thread Cert.KernelRecInFirstIdeal.nD Cert.KernelRecInFirstIdeal.τ).loc Cert.KernelRecInFirstIdeal.main_v2_0)) (v1 : (c : Dev Cert.KernelRecInFirstIdeal.nD) → Buf (Elt Ideal) ((c.tc : Thread Cert.KernelRecInFirstIdeal.nD Cert.KernelRecInFirstIdeal.τ).loc Cert.KernelRecInFirstIdeal.main_v2_1)) (v2 : (c : Dev Cert.KernelRecInFirstIdeal.nD) → Buf (Elt Ideal) ((c.tc : Thread Cert.KernelRecInFirstIdeal.nD Cert.KernelRecInFirstIdeal.τ).loc Cert.KernelRecInFirstIdeal.main_v2_2)) (v3 : (c : Dev Cert.KernelRecInFirstIdeal.nD) → Buf (Elt Ideal) ((c.tc : Thread Cert.KernelRecInFirstIdeal.nD Cert.KernelRecInFirstIdeal.τ).loc Cert.KernelRecInFirstIdeal.main_v2_3)) (v4 : (c : Dev Cert.KernelRecInFirstIdeal.nD) → Buf (Elt Ideal) ((c.tc : Thread Cert.KernelRecInFirstIdeal.nD Cert.KernelRecInFirstIdeal.τ).loc Cert.KernelRecInFirstIdeal.main_v2_4)),
      θ_run (Cert.KernelRecInFirstIdeal.defs (F := Ideal)) (onTc (τ := Cert.KernelRecInFirstIdeal.τ) (Cert.KernelRecInFirstIdeal.main (F := Ideal))) ⟨m, fun _ => 0, g⟩ (fun r => ∀ c : Dev Cert.KernelRecInFirstIdeal.nD,
          (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).1 i = 1#1 → r.2.mem ((c.tc : Thread Cert.KernelRecInFirstIdeal.nD Cert.KernelRecInFirstIdeal.τ).loc Cert.KernelRecInFirstIdeal.main_v2_0) i = v0 c i)
          ∧ (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.1 i = 1#1 → r.2.mem ((c.tc : Thread Cert.KernelRecInFirstIdeal.nD Cert.KernelRecInFirstIdeal.τ).loc Cert.KernelRecInFirstIdeal.main_v2_1) i = v1 c i)
          ∧ (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.2.1 i = 1#1 → r.2.mem ((c.tc : Thread Cert.KernelRecInFirstIdeal.nD Cert.KernelRecInFirstIdeal.τ).loc Cert.KernelRecInFirstIdeal.main_v2_2) i = v2 c i)
          ∧ (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.2.2.1 i = 1#1 → r.2.mem ((c.tc : Thread Cert.KernelRecInFirstIdeal.nD Cert.KernelRecInFirstIdeal.τ).loc Cert.KernelRecInFirstIdeal.main_v2_3) i = v3 c i)
          ∧ (∀ i : (⟨3, ![8, 8192, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.2.2.2 i = 1#1 → r.2.mem ((c.tc : Thread Cert.KernelRecInFirstIdeal.nD Cert.KernelRecInFirstIdeal.τ).loc Cert.KernelRecInFirstIdeal.main_v2_4) i = v4 c i)
          ∧ r.2.mem ((c.tc : Thread Cert.KernelRecInFirstIdeal.nD Cert.KernelRecInFirstIdeal.τ).loc Cert.KernelRecInFirstIdeal.main_arg0) = m ((c.tc : Thread Cert.KernelRecInFirstIdeal.nD Cert.KernelRecInFirstIdeal.τ).loc Cert.KernelRecInFirstIdeal.main_arg0)
          ∧ r.2.mem ((c.tc : Thread Cert.KernelRecInFirstIdeal.nD Cert.KernelRecInFirstIdeal.τ).loc Cert.KernelRecInFirstIdeal.main_arg1) = m ((c.tc : Thread Cert.KernelRecInFirstIdeal.nD Cert.KernelRecInFirstIdeal.τ).loc Cert.KernelRecInFirstIdeal.main_arg1)
          ∧ r.2.mem ((c.tc : Thread Cert.KernelRecInFirstIdeal.nD Cert.KernelRecInFirstIdeal.τ).loc Cert.KernelRecInFirstIdeal.main_arg2) = m ((c.tc : Thread Cert.KernelRecInFirstIdeal.nD Cert.KernelRecInFirstIdeal.τ).loc Cert.KernelRecInFirstIdeal.main_arg2)
          ∧ r.2.mem ((c.tc : Thread Cert.KernelRecInFirstIdeal.nD Cert.KernelRecInFirstIdeal.τ).loc Cert.KernelRecInFirstIdeal.main_arg3) = m ((c.tc : Thread Cert.KernelRecInFirstIdeal.nD Cert.KernelRecInFirstIdeal.τ).loc Cert.KernelRecInFirstIdeal.main_arg3)
          ∧ r.2.mem ((c.tc : Thread Cert.KernelRecInFirstIdeal.nD Cert.KernelRecInFirstIdeal.τ).loc Cert.KernelRecInFirstIdeal.main_arg4) = m ((c.tc : Thread Cert.KernelRecInFirstIdeal.nD Cert.KernelRecInFirstIdeal.τ).loc Cert.KernelRecInFirstIdeal.main_arg4))
      ∧ θ_run (Cert.ReferenceRecInFirstIdeal.defs (F := Ideal)) (onTc (τ := Cert.ReferenceRecInFirstIdeal.τ) (Cert.ReferenceRecInFirstIdeal.main (F := Ideal))) ⟨m', fun _ => 0, g'⟩ (fun r => ∀ c : Dev Cert.ReferenceRecInFirstIdeal.nD,
          (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).1 i = 1#1 → r.2.mem ((c.tc : Thread Cert.ReferenceRecInFirstIdeal.nD Cert.ReferenceRecInFirstIdeal.τ).loc Cert.ReferenceRecInFirstIdeal.main_v88) i = v0 c i)
          ∧ (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.1 i = 1#1 → r.2.mem ((c.tc : Thread Cert.ReferenceRecInFirstIdeal.nD Cert.ReferenceRecInFirstIdeal.τ).loc Cert.ReferenceRecInFirstIdeal.main_v89) i = v1 c i)
          ∧ (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.2.1 i = 1#1 → r.2.mem ((c.tc : Thread Cert.ReferenceRecInFirstIdeal.nD Cert.ReferenceRecInFirstIdeal.τ).loc Cert.ReferenceRecInFirstIdeal.main_v54) i = v2 c i)
          ∧ (∀ i : (⟨3, ![8, 8256, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.2.2.1 i = 1#1 → r.2.mem ((c.tc : Thread Cert.ReferenceRecInFirstIdeal.nD Cert.ReferenceRecInFirstIdeal.τ).loc Cert.ReferenceRecInFirstIdeal.main_v87) i = v3 c i)
          ∧ (∀ i : (⟨3, ![8, 8192, 1024]⟩ : Shape).Idx, (Cert.On_real_rows.fn (F := Ideal) (m ((c.tc : Thread Cert.KernelRecInFirstIdeal.nD Cert.KernelRecInFirstIdeal.τ).loc Cert.KernelRecInFirstIdeal.main_arg0)) (m ((c.tc : Thread Cert.KernelRecInFirstIdeal.nD Cert.KernelRecInFirstIdeal.τ).loc Cert.KernelRecInFirstIdeal.main_arg1)) (m ((c.tc : Thread Cert.KernelRecInFirstIdeal.nD Cert.KernelRecInFirstIdeal.τ).loc Cert.KernelRecInFirstIdeal.main_arg2)) (m ((c.tc : Thread Cert.KernelRecInFirstIdeal.nD Cert.KernelRecInFirstIdeal.τ).loc Cert.KernelRecInFirstIdeal.main_arg3)) (m ((c.tc : Thread Cert.KernelRecInFirstIdeal.nD Cert.KernelRecInFirstIdeal.τ).loc Cert.KernelRecInFirstIdeal.main_arg4))).2.2.2.2 i = 1#1 → r.2.mem ((c.tc : Thread Cert.ReferenceRecInFirstIdeal.nD Cert.ReferenceRecInFirstIdeal.τ).loc Cert.ReferenceRecInFirstIdeal.main_v91) i = v4 c i)
          ∧ r.2.mem ((c.tc : Thread Cert.ReferenceRecInFirstIdeal.nD Cert.ReferenceRecInFirstIdeal.τ).loc Cert.ReferenceRecInFirstIdeal.main_arg0) = m' ((c.tc : Thread Cert.ReferenceRecInFirstIdeal.nD Cert.ReferenceRecInFirstIdeal.τ).loc Cert.ReferenceRecInFirstIdeal.main_arg0)
          ∧ r.2.mem ((c.tc : Thread Cert.ReferenceRecInFirstIdeal.nD Cert.ReferenceRecInFirstIdeal.τ).loc Cert.ReferenceRecInFirstIdeal.main_arg1) = m' ((c.tc : Thread Cert.ReferenceRecInFirstIdeal.nD Cert.ReferenceRecInFirstIdeal.τ).loc Cert.ReferenceRecInFirstIdeal.main_arg1)
          ∧ r.2.mem ((c.tc : Thread Cert.ReferenceRecInFirstIdeal.nD Cert.ReferenceRecInFirstIdeal.τ).loc Cert.ReferenceRecInFirstIdeal.main_arg2) = m' ((c.tc : Thread Cert.ReferenceRecInFirstIdeal.nD Cert.ReferenceRecInFirstIdeal.τ).loc Cert.ReferenceRecInFirstIdeal.main_arg2)
          ∧ r.2.mem ((c.tc : Thread Cert.ReferenceRecInFirstIdeal.nD Cert.ReferenceRecInFirstIdeal.τ).loc Cert.ReferenceRecInFirstIdeal.main_arg3) = m' ((c.tc : Thread Cert.ReferenceRecInFirstIdeal.nD Cert.ReferenceRecInFirstIdeal.τ).loc Cert.ReferenceRecInFirstIdeal.main_arg3)
          ∧ r.2.mem ((c.tc : Thread Cert.ReferenceRecInFirstIdeal.nD Cert.ReferenceRecInFirstIdeal.τ).loc Cert.ReferenceRecInFirstIdeal.main_arg4) = m' ((c.tc : Thread Cert.ReferenceRecInFirstIdeal.nD Cert.ReferenceRecInFirstIdeal.τ).loc Cert.ReferenceRecInFirstIdeal.main_arg4))

def preserves_KernelAttnMeta_KernelAttnMetaIdeal : Prop :=
  True

def algebraic_KernelAttnMetaIdeal_ReferenceAttnMetaIdeal_pre_finite_meta_scores [hKernelAttnMetaIdeal : Cert.KernelAttnMetaIdeal.Facts] [hReferenceAttnMetaIdeal : Cert.ReferenceAttnMetaIdeal.Facts] [hPre_finite_meta_scores : Cert.Pre_finite_meta_scores.Facts] : Prop :=
  ∀ (m : (ℓ : Loc Cert.KernelAttnMetaIdeal.nD Cert.KernelAttnMetaIdeal.τ Cert.KernelAttnMetaIdeal.sig) → Buf (Elt Ideal) ℓ) (g : Dev Cert.KernelAttnMetaIdeal.nD → PrngReg)
    (m' : (ℓ : Loc Cert.ReferenceAttnMetaIdeal.nD Cert.ReferenceAttnMetaIdeal.τ Cert.ReferenceAttnMetaIdeal.sig) → Buf (Elt Ideal) ℓ) (g' : Dev Cert.ReferenceAttnMetaIdeal.nD → PrngReg), Pre_KernelAttnMetaIdeal_finite_meta_scores m →
    (∀ c : Dev Cert.KernelAttnMetaIdeal.nD,
      m' ((c.tc : Thread Cert.ReferenceAttnMetaIdeal.nD Cert.ReferenceAttnMetaIdeal.τ).loc Cert.ReferenceAttnMetaIdeal.main_arg0) = m ((c.tc : Thread Cert.KernelAttnMetaIdeal.nD Cert.KernelAttnMetaIdeal.τ).loc Cert.KernelAttnMetaIdeal.main_arg0)
      ∧ m' ((c.tc : Thread Cert.ReferenceAttnMetaIdeal.nD Cert.ReferenceAttnMetaIdeal.τ).loc Cert.ReferenceAttnMetaIdeal.main_arg1) = m ((c.tc : Thread Cert.KernelAttnMetaIdeal.nD Cert.KernelAttnMetaIdeal.τ).loc Cert.KernelAttnMetaIdeal.main_arg1)
      ∧ m' ((c.tc : Thread Cert.ReferenceAttnMetaIdeal.nD Cert.ReferenceAttnMetaIdeal.τ).loc Cert.ReferenceAttnMetaIdeal.main_arg2) = m ((c.tc : Thread Cert.KernelAttnMetaIdeal.nD Cert.KernelAttnMetaIdeal.τ).loc Cert.KernelAttnMetaIdeal.main_arg2)
      ∧ m' ((c.tc : Thread Cert.ReferenceAttnMetaIdeal.nD Cert.ReferenceAttnMetaIdeal.τ).loc Cert.ReferenceAttnMetaIdeal.main_arg3) = m ((c.tc : Thread Cert.KernelAttnMetaIdeal.nD Cert.KernelAttnMetaIdeal.τ).loc Cert.KernelAttnMetaIdeal.main_arg3)
      ∧ m' ((c.tc : Thread Cert.ReferenceAttnMetaIdeal.nD Cert.ReferenceAttnMetaIdeal.τ).loc Cert.ReferenceAttnMetaIdeal.main_arg4) = m ((c.tc : Thread Cert.KernelAttnMetaIdeal.nD Cert.KernelAttnMetaIdeal.τ).loc Cert.KernelAttnMetaIdeal.main_arg4)
      ∧ m' ((c.tc : Thread Cert.ReferenceAttnMetaIdeal.nD Cert.ReferenceAttnMetaIdeal.τ).loc Cert.ReferenceAttnMetaIdeal.main_arg5) = m ((c.tc : Thread Cert.KernelAttnMetaIdeal.nD Cert.KernelAttnMetaIdeal.τ).loc Cert.KernelAttnMetaIdeal.main_arg5)) →
    ∃ (v0 : (c : Dev Cert.KernelAttnMetaIdeal.nD) → Buf (Elt Ideal) ((c.tc : Thread Cert.KernelAttnMetaIdeal.nD Cert.KernelAttnMetaIdeal.τ).loc Cert.KernelAttnMetaIdeal.main_v0)),
      θ_run (Cert.KernelAttnMetaIdeal.defs (F := Ideal)) (onTc (τ := Cert.KernelAttnMetaIdeal.τ) (Cert.KernelAttnMetaIdeal.main (F := Ideal))) ⟨m, fun _ => 0, g⟩ (fun r => ∀ c : Dev Cert.KernelAttnMetaIdeal.nD,
          r.2.mem ((c.tc : Thread Cert.KernelAttnMetaIdeal.nD Cert.KernelAttnMetaIdeal.τ).loc Cert.KernelAttnMetaIdeal.main_v0) = v0 c
          ∧ r.2.mem ((c.tc : Thread Cert.KernelAttnMetaIdeal.nD Cert.KernelAttnMetaIdeal.τ).loc Cert.KernelAttnMetaIdeal.main_arg0) = m ((c.tc : Thread Cert.KernelAttnMetaIdeal.nD Cert.KernelAttnMetaIdeal.τ).loc Cert.KernelAttnMetaIdeal.main_arg0)
          ∧ r.2.mem ((c.tc : Thread Cert.KernelAttnMetaIdeal.nD Cert.KernelAttnMetaIdeal.τ).loc Cert.KernelAttnMetaIdeal.main_arg1) = m ((c.tc : Thread Cert.KernelAttnMetaIdeal.nD Cert.KernelAttnMetaIdeal.τ).loc Cert.KernelAttnMetaIdeal.main_arg1)
          ∧ r.2.mem ((c.tc : Thread Cert.KernelAttnMetaIdeal.nD Cert.KernelAttnMetaIdeal.τ).loc Cert.KernelAttnMetaIdeal.main_arg2) = m ((c.tc : Thread Cert.KernelAttnMetaIdeal.nD Cert.KernelAttnMetaIdeal.τ).loc Cert.KernelAttnMetaIdeal.main_arg2)
          ∧ r.2.mem ((c.tc : Thread Cert.KernelAttnMetaIdeal.nD Cert.KernelAttnMetaIdeal.τ).loc Cert.KernelAttnMetaIdeal.main_arg3) = m ((c.tc : Thread Cert.KernelAttnMetaIdeal.nD Cert.KernelAttnMetaIdeal.τ).loc Cert.KernelAttnMetaIdeal.main_arg3)
          ∧ r.2.mem ((c.tc : Thread Cert.KernelAttnMetaIdeal.nD Cert.KernelAttnMetaIdeal.τ).loc Cert.KernelAttnMetaIdeal.main_arg4) = m ((c.tc : Thread Cert.KernelAttnMetaIdeal.nD Cert.KernelAttnMetaIdeal.τ).loc Cert.KernelAttnMetaIdeal.main_arg4)
          ∧ r.2.mem ((c.tc : Thread Cert.KernelAttnMetaIdeal.nD Cert.KernelAttnMetaIdeal.τ).loc Cert.KernelAttnMetaIdeal.main_arg5) = m ((c.tc : Thread Cert.KernelAttnMetaIdeal.nD Cert.KernelAttnMetaIdeal.τ).loc Cert.KernelAttnMetaIdeal.main_arg5))
      ∧ θ_run (Cert.ReferenceAttnMetaIdeal.defs (F := Ideal)) (onTc (τ := Cert.ReferenceAttnMetaIdeal.τ) (Cert.ReferenceAttnMetaIdeal.main (F := Ideal))) ⟨m', fun _ => 0, g'⟩ (fun r => ∀ c : Dev Cert.ReferenceAttnMetaIdeal.nD,
          r.2.mem ((c.tc : Thread Cert.ReferenceAttnMetaIdeal.nD Cert.ReferenceAttnMetaIdeal.τ).loc Cert.ReferenceAttnMetaIdeal.main_v50) = v0 c
          ∧ r.2.mem ((c.tc : Thread Cert.ReferenceAttnMetaIdeal.nD Cert.ReferenceAttnMetaIdeal.τ).loc Cert.ReferenceAttnMetaIdeal.main_arg0) = m' ((c.tc : Thread Cert.ReferenceAttnMetaIdeal.nD Cert.ReferenceAttnMetaIdeal.τ).loc Cert.ReferenceAttnMetaIdeal.main_arg0)
          ∧ r.2.mem ((c.tc : Thread Cert.ReferenceAttnMetaIdeal.nD Cert.ReferenceAttnMetaIdeal.τ).loc Cert.ReferenceAttnMetaIdeal.main_arg1) = m' ((c.tc : Thread Cert.ReferenceAttnMetaIdeal.nD Cert.ReferenceAttnMetaIdeal.τ).loc Cert.ReferenceAttnMetaIdeal.main_arg1)
          ∧ r.2.mem ((c.tc : Thread Cert.ReferenceAttnMetaIdeal.nD Cert.ReferenceAttnMetaIdeal.τ).loc Cert.ReferenceAttnMetaIdeal.main_arg2) = m' ((c.tc : Thread Cert.ReferenceAttnMetaIdeal.nD Cert.ReferenceAttnMetaIdeal.τ).loc Cert.ReferenceAttnMetaIdeal.main_arg2)
          ∧ r.2.mem ((c.tc : Thread Cert.ReferenceAttnMetaIdeal.nD Cert.ReferenceAttnMetaIdeal.τ).loc Cert.ReferenceAttnMetaIdeal.main_arg3) = m' ((c.tc : Thread Cert.ReferenceAttnMetaIdeal.nD Cert.ReferenceAttnMetaIdeal.τ).loc Cert.ReferenceAttnMetaIdeal.main_arg3)
          ∧ r.2.mem ((c.tc : Thread Cert.ReferenceAttnMetaIdeal.nD Cert.ReferenceAttnMetaIdeal.τ).loc Cert.ReferenceAttnMetaIdeal.main_arg4) = m' ((c.tc : Thread Cert.ReferenceAttnMetaIdeal.nD Cert.ReferenceAttnMetaIdeal.τ).loc Cert.ReferenceAttnMetaIdeal.main_arg4)
          ∧ r.2.mem ((c.tc : Thread Cert.ReferenceAttnMetaIdeal.nD Cert.ReferenceAttnMetaIdeal.τ).loc Cert.ReferenceAttnMetaIdeal.main_arg5) = m' ((c.tc : Thread Cert.ReferenceAttnMetaIdeal.nD Cert.ReferenceAttnMetaIdeal.τ).loc Cert.ReferenceAttnMetaIdeal.main_arg5))

def preserves_KernelRecInMeta_KernelRecInMetaIdeal : Prop :=
  True

def algebraic_KernelRecInMetaIdeal_ReferenceRecInMetaIdeal [hKernelRecInMetaIdeal : Cert.KernelRecInMetaIdeal.Facts] [hReferenceRecInMetaIdeal : Cert.ReferenceRecInMetaIdeal.Facts] : Prop :=
  ∀ (m : (ℓ : Loc Cert.KernelRecInMetaIdeal.nD Cert.KernelRecInMetaIdeal.τ Cert.KernelRecInMetaIdeal.sig) → Buf (Elt Ideal) ℓ) (g : Dev Cert.KernelRecInMetaIdeal.nD → PrngReg)
    (m' : (ℓ : Loc Cert.ReferenceRecInMetaIdeal.nD Cert.ReferenceRecInMetaIdeal.τ Cert.ReferenceRecInMetaIdeal.sig) → Buf (Elt Ideal) ℓ) (g' : Dev Cert.ReferenceRecInMetaIdeal.nD → PrngReg), Pre_KernelRecInMetaIdeal m →
    (∀ c : Dev Cert.KernelRecInMetaIdeal.nD,
      m' ((c.tc : Thread Cert.ReferenceRecInMetaIdeal.nD Cert.ReferenceRecInMetaIdeal.τ).loc Cert.ReferenceRecInMetaIdeal.main_arg0) = m ((c.tc : Thread Cert.KernelRecInMetaIdeal.nD Cert.KernelRecInMetaIdeal.τ).loc Cert.KernelRecInMetaIdeal.main_arg0)
      ∧ m' ((c.tc : Thread Cert.ReferenceRecInMetaIdeal.nD Cert.ReferenceRecInMetaIdeal.τ).loc Cert.ReferenceRecInMetaIdeal.main_arg1) = m ((c.tc : Thread Cert.KernelRecInMetaIdeal.nD Cert.KernelRecInMetaIdeal.τ).loc Cert.KernelRecInMetaIdeal.main_arg1)
      ∧ m' ((c.tc : Thread Cert.ReferenceRecInMetaIdeal.nD Cert.ReferenceRecInMetaIdeal.τ).loc Cert.ReferenceRecInMetaIdeal.main_arg2) = m ((c.tc : Thread Cert.KernelRecInMetaIdeal.nD Cert.KernelRecInMetaIdeal.τ).loc Cert.KernelRecInMetaIdeal.main_arg2)
      ∧ m' ((c.tc : Thread Cert.ReferenceRecInMetaIdeal.nD Cert.ReferenceRecInMetaIdeal.τ).loc Cert.ReferenceRecInMetaIdeal.main_arg3) = m ((c.tc : Thread Cert.KernelRecInMetaIdeal.nD Cert.KernelRecInMetaIdeal.τ).loc Cert.KernelRecInMetaIdeal.main_arg3)
      ∧ m' ((c.tc : Thread Cert.ReferenceRecInMetaIdeal.nD Cert.ReferenceRecInMetaIdeal.τ).loc Cert.ReferenceRecInMetaIdeal.main_arg4) = m ((c.tc : Thread Cert.KernelRecInMetaIdeal.nD Cert.KernelRecInMetaIdeal.τ).loc Cert.KernelRecInMetaIdeal.main_arg4)
      ∧ m' ((c.tc : Thread Cert.ReferenceRecInMetaIdeal.nD Cert.ReferenceRecInMetaIdeal.τ).loc Cert.ReferenceRecInMetaIdeal.main_arg5) = m ((c.tc : Thread Cert.KernelRecInMetaIdeal.nD Cert.KernelRecInMetaIdeal.τ).loc Cert.KernelRecInMetaIdeal.main_arg5)
      ∧ m' ((c.tc : Thread Cert.ReferenceRecInMetaIdeal.nD Cert.ReferenceRecInMetaIdeal.τ).loc Cert.ReferenceRecInMetaIdeal.main_arg6) = m ((c.tc : Thread Cert.KernelRecInMetaIdeal.nD Cert.KernelRecInMetaIdeal.τ).loc Cert.KernelRecInMetaIdeal.main_arg6)
      ∧ m' ((c.tc : Thread Cert.ReferenceRecInMetaIdeal.nD Cert.ReferenceRecInMetaIdeal.τ).loc Cert.ReferenceRecInMetaIdeal.main_arg7) = m ((c.tc : Thread Cert.KernelRecInMetaIdeal.nD Cert.KernelRecInMetaIdeal.τ).loc Cert.KernelRecInMetaIdeal.main_arg7)
      ∧ m' ((c.tc : Thread Cert.ReferenceRecInMetaIdeal.nD Cert.ReferenceRecInMetaIdeal.τ).loc Cert.ReferenceRecInMetaIdeal.main_arg8) = m ((c.tc : Thread Cert.KernelRecInMetaIdeal.nD Cert.KernelRecInMetaIdeal.τ).loc Cert.KernelRecInMetaIdeal.main_arg8)) →
    ∃ (v0 : (c : Dev Cert.KernelRecInMetaIdeal.nD) → Buf (Elt Ideal) ((c.tc : Thread Cert.KernelRecInMetaIdeal.nD Cert.KernelRecInMetaIdeal.τ).loc Cert.KernelRecInMetaIdeal.main_v2_0)) (v1 : (c : Dev Cert.KernelRecInMetaIdeal.nD) → Buf (Elt Ideal) ((c.tc : Thread Cert.KernelRecInMetaIdeal.nD Cert.KernelRecInMetaIdeal.τ).loc Cert.KernelRecInMetaIdeal.main_v2_1)) (v2 : (c : Dev Cert.KernelRecInMetaIdeal.nD) → Buf (Elt Ideal) ((c.tc : Thread Cert.KernelRecInMetaIdeal.nD Cert.KernelRecInMetaIdeal.τ).loc Cert.KernelRecInMetaIdeal.main_v2_2)) (v3 : (c : Dev Cert.KernelRecInMetaIdeal.nD) → Buf (Elt Ideal) ((c.tc : Thread Cert.KernelRecInMetaIdeal.nD Cert.KernelRecInMetaIdeal.τ).loc Cert.KernelRecInMetaIdeal.main_v2_3)) (v4 : (c : Dev Cert.KernelRecInMetaIdeal.nD) → Buf (Elt Ideal) ((c.tc : Thread Cert.KernelRecInMetaIdeal.nD Cert.KernelRecInMetaIdeal.τ).loc Cert.KernelRecInMetaIdeal.main_v2_4)),
      θ_run (Cert.KernelRecInMetaIdeal.defs (F := Ideal)) (onTc (τ := Cert.KernelRecInMetaIdeal.τ) (Cert.KernelRecInMetaIdeal.main (F := Ideal))) ⟨m, fun _ => 0, g⟩ (fun r => ∀ c : Dev Cert.KernelRecInMetaIdeal.nD,
          r.2.mem ((c.tc : Thread Cert.KernelRecInMetaIdeal.nD Cert.KernelRecInMetaIdeal.τ).loc Cert.KernelRecInMetaIdeal.main_v2_0) = v0 c
          ∧ r.2.mem ((c.tc : Thread Cert.KernelRecInMetaIdeal.nD Cert.KernelRecInMetaIdeal.τ).loc Cert.KernelRecInMetaIdeal.main_v2_1) = v1 c
          ∧ r.2.mem ((c.tc : Thread Cert.KernelRecInMetaIdeal.nD Cert.KernelRecInMetaIdeal.τ).loc Cert.KernelRecInMetaIdeal.main_v2_2) = v2 c
          ∧ r.2.mem ((c.tc : Thread Cert.KernelRecInMetaIdeal.nD Cert.KernelRecInMetaIdeal.τ).loc Cert.KernelRecInMetaIdeal.main_v2_3) = v3 c
          ∧ r.2.mem ((c.tc : Thread Cert.KernelRecInMetaIdeal.nD Cert.KernelRecInMetaIdeal.τ).loc Cert.KernelRecInMetaIdeal.main_v2_4) = v4 c
          ∧ r.2.mem ((c.tc : Thread Cert.KernelRecInMetaIdeal.nD Cert.KernelRecInMetaIdeal.τ).loc Cert.KernelRecInMetaIdeal.main_arg0) = m ((c.tc : Thread Cert.KernelRecInMetaIdeal.nD Cert.KernelRecInMetaIdeal.τ).loc Cert.KernelRecInMetaIdeal.main_arg0)
          ∧ r.2.mem ((c.tc : Thread Cert.KernelRecInMetaIdeal.nD Cert.KernelRecInMetaIdeal.τ).loc Cert.KernelRecInMetaIdeal.main_arg1) = m ((c.tc : Thread Cert.KernelRecInMetaIdeal.nD Cert.KernelRecInMetaIdeal.τ).loc Cert.KernelRecInMetaIdeal.main_arg1)
          ∧ r.2.mem ((c.tc : Thread Cert.KernelRecInMetaIdeal.nD Cert.KernelRecInMetaIdeal.τ).loc Cert.KernelRecInMetaIdeal.main_arg2) = m ((c.tc : Thread Cert.KernelRecInMetaIdeal.nD Cert.KernelRecInMetaIdeal.τ).loc Cert.KernelRecInMetaIdeal.main_arg2)
          ∧ r.2.mem ((c.tc : Thread Cert.KernelRecInMetaIdeal.nD Cert.KernelRecInMetaIdeal.τ).loc Cert.KernelRecInMetaIdeal.main_arg3) = m ((c.tc : Thread Cert.KernelRecInMetaIdeal.nD Cert.KernelRecInMetaIdeal.τ).loc Cert.KernelRecInMetaIdeal.main_arg3)
          ∧ r.2.mem ((c.tc : Thread Cert.KernelRecInMetaIdeal.nD Cert.KernelRecInMetaIdeal.τ).loc Cert.KernelRecInMetaIdeal.main_arg4) = m ((c.tc : Thread Cert.KernelRecInMetaIdeal.nD Cert.KernelRecInMetaIdeal.τ).loc Cert.KernelRecInMetaIdeal.main_arg4)
          ∧ r.2.mem ((c.tc : Thread Cert.KernelRecInMetaIdeal.nD Cert.KernelRecInMetaIdeal.τ).loc Cert.KernelRecInMetaIdeal.main_arg5) = m ((c.tc : Thread Cert.KernelRecInMetaIdeal.nD Cert.KernelRecInMetaIdeal.τ).loc Cert.KernelRecInMetaIdeal.main_arg5)
          ∧ r.2.mem ((c.tc : Thread Cert.KernelRecInMetaIdeal.nD Cert.KernelRecInMetaIdeal.τ).loc Cert.KernelRecInMetaIdeal.main_arg6) = m ((c.tc : Thread Cert.KernelRecInMetaIdeal.nD Cert.KernelRecInMetaIdeal.τ).loc Cert.KernelRecInMetaIdeal.main_arg6)
          ∧ r.2.mem ((c.tc : Thread Cert.KernelRecInMetaIdeal.nD Cert.KernelRecInMetaIdeal.τ).loc Cert.KernelRecInMetaIdeal.main_arg7) = m ((c.tc : Thread Cert.KernelRecInMetaIdeal.nD Cert.KernelRecInMetaIdeal.τ).loc Cert.KernelRecInMetaIdeal.main_arg7)
          ∧ r.2.mem ((c.tc : Thread Cert.KernelRecInMetaIdeal.nD Cert.KernelRecInMetaIdeal.τ).loc Cert.KernelRecInMetaIdeal.main_arg8) = m ((c.tc : Thread Cert.KernelRecInMetaIdeal.nD Cert.KernelRecInMetaIdeal.τ).loc Cert.KernelRecInMetaIdeal.main_arg8))
      ∧ θ_run (Cert.ReferenceRecInMetaIdeal.defs (F := Ideal)) (onTc (τ := Cert.ReferenceRecInMetaIdeal.τ) (Cert.ReferenceRecInMetaIdeal.main (F := Ideal))) ⟨m', fun _ => 0, g'⟩ (fun r => ∀ c : Dev Cert.ReferenceRecInMetaIdeal.nD,
          r.2.mem ((c.tc : Thread Cert.ReferenceRecInMetaIdeal.nD Cert.ReferenceRecInMetaIdeal.τ).loc Cert.ReferenceRecInMetaIdeal.main_v23) = v0 c
          ∧ r.2.mem ((c.tc : Thread Cert.ReferenceRecInMetaIdeal.nD Cert.ReferenceRecInMetaIdeal.τ).loc Cert.ReferenceRecInMetaIdeal.main_v27) = v1 c
          ∧ r.2.mem ((c.tc : Thread Cert.ReferenceRecInMetaIdeal.nD Cert.ReferenceRecInMetaIdeal.τ).loc Cert.ReferenceRecInMetaIdeal.main_v62) = v2 c
          ∧ r.2.mem ((c.tc : Thread Cert.ReferenceRecInMetaIdeal.nD Cert.ReferenceRecInMetaIdeal.τ).loc Cert.ReferenceRecInMetaIdeal.main_v97) = v3 c
          ∧ r.2.mem ((c.tc : Thread Cert.ReferenceRecInMetaIdeal.nD Cert.ReferenceRecInMetaIdeal.τ).loc Cert.ReferenceRecInMetaIdeal.main_v99) = v4 c
          ∧ r.2.mem ((c.tc : Thread Cert.ReferenceRecInMetaIdeal.nD Cert.ReferenceRecInMetaIdeal.τ).loc Cert.ReferenceRecInMetaIdeal.main_arg0) = m' ((c.tc : Thread Cert.ReferenceRecInMetaIdeal.nD Cert.ReferenceRecInMetaIdeal.τ).loc Cert.ReferenceRecInMetaIdeal.main_arg0)
          ∧ r.2.mem ((c.tc : Thread Cert.ReferenceRecInMetaIdeal.nD Cert.ReferenceRecInMetaIdeal.τ).loc Cert.ReferenceRecInMetaIdeal.main_arg1) = m' ((c.tc : Thread Cert.ReferenceRecInMetaIdeal.nD Cert.ReferenceRecInMetaIdeal.τ).loc Cert.ReferenceRecInMetaIdeal.main_arg1)
          ∧ r.2.mem ((c.tc : Thread Cert.ReferenceRecInMetaIdeal.nD Cert.ReferenceRecInMetaIdeal.τ).loc Cert.ReferenceRecInMetaIdeal.main_arg2) = m' ((c.tc : Thread Cert.ReferenceRecInMetaIdeal.nD Cert.ReferenceRecInMetaIdeal.τ).loc Cert.ReferenceRecInMetaIdeal.main_arg2)
          ∧ r.2.mem ((c.tc : Thread Cert.ReferenceRecInMetaIdeal.nD Cert.ReferenceRecInMetaIdeal.τ).loc Cert.ReferenceRecInMetaIdeal.main_arg3) = m' ((c.tc : Thread Cert.ReferenceRecInMetaIdeal.nD Cert.ReferenceRecInMetaIdeal.τ).loc Cert.ReferenceRecInMetaIdeal.main_arg3)
          ∧ r.2.mem ((c.tc : Thread Cert.ReferenceRecInMetaIdeal.nD Cert.ReferenceRecInMetaIdeal.τ).loc Cert.ReferenceRecInMetaIdeal.main_arg4) = m' ((c.tc : Thread Cert.ReferenceRecInMetaIdeal.nD Cert.ReferenceRecInMetaIdeal.τ).loc Cert.ReferenceRecInMetaIdeal.main_arg4)
          ∧ r.2.mem ((c.tc : Thread Cert.ReferenceRecInMetaIdeal.nD Cert.ReferenceRecInMetaIdeal.τ).loc Cert.ReferenceRecInMetaIdeal.main_arg5) = m' ((c.tc : Thread Cert.ReferenceRecInMetaIdeal.nD Cert.ReferenceRecInMetaIdeal.τ).loc Cert.ReferenceRecInMetaIdeal.main_arg5)
          ∧ r.2.mem ((c.tc : Thread Cert.ReferenceRecInMetaIdeal.nD Cert.ReferenceRecInMetaIdeal.τ).loc Cert.ReferenceRecInMetaIdeal.main_arg6) = m' ((c.tc : Thread Cert.ReferenceRecInMetaIdeal.nD Cert.ReferenceRecInMetaIdeal.τ).loc Cert.ReferenceRecInMetaIdeal.main_arg6)
          ∧ r.2.mem ((c.tc : Thread Cert.ReferenceRecInMetaIdeal.nD Cert.ReferenceRecInMetaIdeal.τ).loc Cert.ReferenceRecInMetaIdeal.main_arg7) = m' ((c.tc : Thread Cert.ReferenceRecInMetaIdeal.nD Cert.ReferenceRecInMetaIdeal.τ).loc Cert.ReferenceRecInMetaIdeal.main_arg7)
          ∧ r.2.mem ((c.tc : Thread Cert.ReferenceRecInMetaIdeal.nD Cert.ReferenceRecInMetaIdeal.τ).loc Cert.ReferenceRecInMetaIdeal.main_arg8) = m' ((c.tc : Thread Cert.ReferenceRecInMetaIdeal.nD Cert.ReferenceRecInMetaIdeal.τ).loc Cert.ReferenceRecInMetaIdeal.main_arg8))

def Claim : Prop :=
  ∃ (hKernel : Cert.Kernel.Facts) (hKernelIdeal : Cert.KernelIdeal.Facts) (hReferenceIdeal : Cert.ReferenceIdeal.Facts) (hKernelPost : Cert.KernelPost.Facts) (hKernelPostIdeal : Cert.KernelPostIdeal.Facts) (hReferencePostIdeal : Cert.ReferencePostIdeal.Facts) (hKernelPostRec : Cert.KernelPostRec.Facts) (hKernelPostRecIdeal : Cert.KernelPostRecIdeal.Facts) (hReferencePostRecIdeal : Cert.ReferencePostRecIdeal.Facts) (hKernelRecIn : Cert.KernelRecIn.Facts) (hKernelRecInIdeal : Cert.KernelRecInIdeal.Facts) (hReferenceRecInIdeal : Cert.ReferenceRecInIdeal.Facts) (hKernelAttnIn : Cert.KernelAttnIn.Facts) (hKernelAttnInIdeal : Cert.KernelAttnInIdeal.Facts) (hReferenceAttnInIdeal : Cert.ReferenceAttnInIdeal.Facts) (hKernelRecInFirst : Cert.KernelRecInFirst.Facts) (hKernelRecInFirstIdeal : Cert.KernelRecInFirstIdeal.Facts) (hReferenceRecInFirstIdeal : Cert.ReferenceRecInFirstIdeal.Facts) (hKernelAttnMeta : Cert.KernelAttnMeta.Facts) (hKernelAttnMetaIdeal : Cert.KernelAttnMetaIdeal.Facts) (hReferenceAttnMetaIdeal : Cert.ReferenceAttnMetaIdeal.Facts) (hKernelRecInMeta : Cert.KernelRecInMeta.Facts) (hKernelRecInMetaIdeal : Cert.KernelRecInMetaIdeal.Facts) (hReferenceRecInMetaIdeal : Cert.ReferenceRecInMetaIdeal.Facts) (hPre_finite_scores : Cert.Pre_finite_scores.Facts) (hPre_finite_meta_scores : Cert.Pre_finite_meta_scores.Facts) (hOn_real_rows : Cert.On_real_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPostRec (hKernelPostRec := hKernelPostRec)
    ∧ quiescent_KernelPostRecIdeal (hKernelPostRecIdeal := hKernelPostRecIdeal)
    ∧ quiescent_ReferencePostRecIdeal (hReferencePostRecIdeal := hReferencePostRecIdeal)
    ∧ quiescent_KernelRecIn (hKernelRecIn := hKernelRecIn)
    ∧ quiescent_KernelRecInIdeal (hKernelRecInIdeal := hKernelRecInIdeal)
    ∧ quiescent_ReferenceRecInIdeal (hReferenceRecInIdeal := hReferenceRecInIdeal)
    ∧ quiescent_KernelAttnIn (hKernelAttnIn := hKernelAttnIn)
    ∧ quiescent_KernelAttnInIdeal (hKernelAttnInIdeal := hKernelAttnInIdeal)
    ∧ quiescent_ReferenceAttnInIdeal (hReferenceAttnInIdeal := hReferenceAttnInIdeal)
    ∧ quiescent_KernelRecInFirst (hKernelRecInFirst := hKernelRecInFirst)
    ∧ quiescent_KernelRecInFirstIdeal (hKernelRecInFirstIdeal := hKernelRecInFirstIdeal)
    ∧ quiescent_ReferenceRecInFirstIdeal (hReferenceRecInFirstIdeal := hReferenceRecInFirstIdeal)
    ∧ quiescent_KernelAttnMeta (hKernelAttnMeta := hKernelAttnMeta)
    ∧ quiescent_KernelAttnMetaIdeal (hKernelAttnMetaIdeal := hKernelAttnMetaIdeal)
    ∧ quiescent_KernelAttnMetaIdeal_pre_finite_meta_scores (hKernelAttnMetaIdeal := hKernelAttnMetaIdeal) (hPre_finite_meta_scores := hPre_finite_meta_scores)
    ∧ quiescent_ReferenceAttnMetaIdeal (hReferenceAttnMetaIdeal := hReferenceAttnMetaIdeal)
    ∧ quiescent_ReferenceAttnMetaIdeal_pre_finite_meta_scores (hReferenceAttnMetaIdeal := hReferenceAttnMetaIdeal) (hPre_finite_meta_scores := hPre_finite_meta_scores)
    ∧ quiescent_KernelRecInMeta (hKernelRecInMeta := hKernelRecInMeta)
    ∧ quiescent_KernelRecInMetaIdeal (hKernelRecInMetaIdeal := hKernelRecInMetaIdeal)
    ∧ quiescent_ReferenceRecInMetaIdeal (hReferenceRecInMetaIdeal := hReferenceRecInMetaIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelPost_KernelPostIdeal
    ∧ algebraic_KernelPostIdeal_ReferencePostIdeal (hKernelPostIdeal := hKernelPostIdeal) (hReferencePostIdeal := hReferencePostIdeal)
    ∧ preserves_KernelPostRec_KernelPostRecIdeal
    ∧ algebraic_KernelPostRecIdeal_ReferencePostRecIdeal (hKernelPostRecIdeal := hKernelPostRecIdeal) (hReferencePostRecIdeal := hReferencePostRecIdeal)
    ∧ preserves_KernelRecIn_KernelRecInIdeal
    ∧ algebraic_KernelRecInIdeal_ReferenceRecInIdeal_on_real_rows (hKernelRecInIdeal := hKernelRecInIdeal) (hReferenceRecInIdeal := hReferenceRecInIdeal) (hOn_real_rows := hOn_real_rows)
    ∧ preserves_KernelAttnIn_KernelAttnInIdeal
    ∧ algebraic_KernelAttnInIdeal_ReferenceAttnInIdeal (hKernelAttnInIdeal := hKernelAttnInIdeal) (hReferenceAttnInIdeal := hReferenceAttnInIdeal)
    ∧ preserves_KernelRecInFirst_KernelRecInFirstIdeal
    ∧ algebraic_KernelRecInFirstIdeal_ReferenceRecInFirstIdeal_on_real_rows (hKernelRecInFirstIdeal := hKernelRecInFirstIdeal) (hReferenceRecInFirstIdeal := hReferenceRecInFirstIdeal) (hOn_real_rows := hOn_real_rows)
    ∧ preserves_KernelAttnMeta_KernelAttnMetaIdeal
    ∧ algebraic_KernelAttnMetaIdeal_ReferenceAttnMetaIdeal_pre_finite_meta_scores (hKernelAttnMetaIdeal := hKernelAttnMetaIdeal) (hReferenceAttnMetaIdeal := hReferenceAttnMetaIdeal) (hPre_finite_meta_scores := hPre_finite_meta_scores)
    ∧ preserves_KernelRecInMeta_KernelRecInMetaIdeal
    ∧ algebraic_KernelRecInMetaIdeal_ReferenceRecInMetaIdeal (hKernelRecInMetaIdeal := hKernelRecInMetaIdeal) (hReferenceRecInMetaIdeal := hReferenceRecInMetaIdeal)
-- ==== On_real_rows.lean ====
abbrev S8x8192x1024 : Shape := ⟨3, ![8, 8192, 1024]⟩
abbrev S1024 : Shape := ⟨1, ![1024]⟩
abbrev S1024x5120 : Shape := ⟨2, ![1024, 5120]⟩
abbrev S4x1024 : Shape := ⟨2, ![4, 1024]⟩
abbrev S8256 : Shape := ⟨1, ![8256]⟩
abbrev S1x8256x1 : Shape := ⟨3, ![1, 8256, 1]⟩
abbrev S_ : Shape := ⟨0, ![]⟩
abbrev S8x8256x1024 : Shape := ⟨3, ![8, 8256, 1024]⟩
abbrev S8192 : Shape := ⟨1, ![8192]⟩
abbrev S1x8192x1 : Shape := ⟨3, ![1, 8192, 1]⟩

class Facts : Prop where
  bcast_S8256_S1x8256x1_1 : S8256.BroadcastsInDim S1x8256x1 (![1] : Fin 1 → Fin S1x8256x1.rank)
  bcast_S_S1x8256x1 : S_.BroadcastsInDim S1x8256x1 (![] : Fin 0 → Fin S1x8256x1.rank)
  bcast_S1x8256x1_S8x8256x1024_0_1_2 : S1x8256x1.BroadcastsInDim S8x8256x1024 (![0, 1, 2] : Fin 3 → Fin S8x8256x1024.rank)
  bcast_S8192_S1x8192x1_1 : S8192.BroadcastsInDim S1x8192x1 (![1] : Fin 1 → Fin S1x8192x1.rank)
  bcast_S_S1x8192x1 : S_.BroadcastsInDim S1x8192x1 (![] : Fin 0 → Fin S1x8192x1.rank)
  bcast_S1x8192x1_S8x8192x1024_0_1_2 : S1x8192x1.BroadcastsInDim S8x8192x1024 (![0, 1, 2] : Fin 3 → Fin S8x8192x1024.rank)

variable [Facts]

def fn {F : FTy → Type} [FloatOps F] (main_arg0 : FVec F S8x8192x1024 .f32) (main_arg1 : FVec F S1024 .f32) (main_arg2 : FVec F S1024x5120 .f32) (main_arg3 : FVec F S4x1024 .f32) (main_arg4 : FVec F S4x1024 .f32) : IVec S8x8256x1024 1 × IVec S8x8256x1024 1 × IVec S8x8256x1024 1 × IVec S8x8256x1024 1 × IVec S8x8192x1024 1 :=
  let main_v0 : IVec S8256 32 := iotaInDim S8256 32 0
  let main_v1 : IVec S1x8256x1 32 := broadcastInDim S1x8256x1 ![1] bcast_S8256_S1x8256x1_1 main_v0
  let main_c : IVec S_ 32 := constantI S_ 32 8192#32
  let main_v2 : IVec S1x8256x1 32 := broadcastInDim S1x8256x1 ![] bcast_S_S1x8256x1 main_c
  let main_v3 : IVec S1x8256x1 1 := cmpi .slt main_v1 main_v2
  let main_v4 : IVec S8x8256x1024 1 := broadcastInDim S8x8256x1024 ![0, 1, 2] bcast_S1x8256x1_S8x8256x1024_0_1_2 main_v3
  let main_v5 : IVec S8192 32 := iotaInDim S8192 32 0
  let main_v6 : IVec S1x8192x1 32 := broadcastInDim S1x8192x1 ![1] bcast_S8192_S1x8192x1_1 main_v5
  let main_c_0 : IVec S_ 32 := constantI S_ 32 8192#32
  let main_v7 : IVec S1x8192x1 32 := broadcastInDim S1x8192x1 ![] bcast_S_S1x8192x1 main_c_0
  let main_v8 : IVec S1x8192x1 1 := cmpi .slt main_v6 main_v7
  let main_v9 : IVec S8x8192x1024 1 := broadcastInDim S8x8192x1024 ![0, 1, 2] bcast_S1x8192x1_S8x8192x1024_0_1_2 main_v8
  (main_v4, main_v4, main_v4, main_v4, main_v9)
-- ==== Pre_finite_meta_scores.lean ====
abbrev S8x16x1024 : Shape := ⟨3, ![8, 16, 1024]⟩
abbrev S8x16x256 : Shape := ⟨3, ![8, 16, 256]⟩
abbrev S8x8192x256 : Shape := ⟨3, ![8, 8192, 256]⟩
abbrev S8 : Shape := ⟨1, ![8]⟩
abbrev S_ : Shape := ⟨0, ![]⟩

class Facts : Prop where
  bitsLt_bf16_f32 : FTy.bits .bf16 < FTy.bits .f32
  bcast_S_S8x16x1024 : S_.BroadcastsInDim S8x16x1024 (![] : Fin 0 → Fin S8x16x1024.rank)
  bcast_S_S8x16x256 : S_.BroadcastsInDim S8x16x256 (![] : Fin 0 → Fin S8x16x256.rank)
  bcast_S_S8x8192x256 : S_.BroadcastsInDim S8x8192x256 (![] : Fin 0 → Fin S8x8192x256.rank)
  bcast_S_S8 : S_.BroadcastsInDim S8 (![] : Fin 0 → Fin S8.rank)

variable [Facts]

def fn {F : FTy → Type} [FloatOps F] (main_arg0 : FVec F S8x16x1024 .bf16) (main_arg1 : FVec F S8x16x256 .bf16) (main_arg2 : FVec F S8x16x256 .bf16) (main_arg3 : FVec F S8x8192x256 .bf16) (main_arg4 : FVec F S8x8192x256 .bf16) (main_arg5 : FVec F S8 .f32) : IVec S8x16x1024 1 × IVec S8x16x256 1 × IVec S8x8192x256 1 × IVec S8 1 :=
  let main_v0 : FVec F S8x16x1024 .f32 := (extf .f32 · bitsLt_bf16_f32) main_arg0
  let main_v1 : FVec F S8x16x1024 .f32 := Host.absf main_v0
  let main_cst : FVec F S_ .f32 := constant S_ .f32 0x7F800000#32
  let main_v2 : FVec F S8x16x1024 .f32 := broadcastInDim S8x16x1024 ![] bcast_S_S8x16x1024 main_cst
  let main_v3 : IVec S8x16x1024 1 := cmpf .olt main_v1 main_v2
  let main_v4 : FVec F S8x16x256 .f32 := (extf .f32 · bitsLt_bf16_f32) main_arg1
  let main_v5 : FVec F S8x16x256 .f32 := Host.absf main_v4
  let main_cst_0 : FVec F S_ .f32 := constant S_ .f32 0x7F800000#32
  let main_v6 : FVec F S8x16x256 .f32 := broadcastInDim S8x16x256 ![] bcast_S_S8x16x256 main_cst_0
  let main_v7 : IVec S8x16x256 1 := cmpf .olt main_v5 main_v6
  let main_v8 : FVec F S8x8192x256 .f32 := (extf .f32 · bitsLt_bf16_f32) main_arg3
  let main_v9 : FVec F S8x8192x256 .f32 := Host.absf main_v8
  let main_cst_1 : FVec F S_ .f32 := constant S_ .f32 0x7F800000#32
  let main_v10 : FVec F S8x8192x256 .f32 := broadcastInDim S8x8192x256 ![] bcast_S_S8x8192x256 main_cst_1
  let main_v11 : IVec S8x8192x256 1 := cmpf .olt main_v9 main_v10
  let main_v12 : FVec F S8 .f32 := Host.absf main_arg5
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v3, main_v7, main_v11, main_v14)
-- ==== Pre_finite_scores.lean ====
abbrev S8x8192x1024 : Shape := ⟨3, ![8, 8192, 1024]⟩
abbrev S8x8192x256 : Shape := ⟨3, ![8, 8192, 256]⟩
abbrev S8x16x256 : Shape := ⟨3, ![8, 16, 256]⟩
abbrev S8 : Shape := ⟨1, ![8]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  bcast_S_S8x8192x256 : S_.BroadcastsInDim S8x8192x256 (![] : Fin 0 → Fin S8x8192x256.rank)
  bcast_S_S8x16x256 : S_.BroadcastsInDim S8x16x256 (![] : Fin 0 → Fin S8x16x256.rank)
  bcast_S_S8 : S_.BroadcastsInDim S8 (![] : Fin 0 → Fin S8.rank)

variable [Facts]

def fn {F : FTy → Type} [FloatOps F] (main_arg0 : FVec F S8x8192x1024 .bf16) (main_arg1 : FVec F S8x8192x256 .bf16) (main_arg2 : FVec F S8x8192x256 .bf16) (main_arg3 : FVec F S8x16x256 .bf16) (main_arg4 : FVec F S8x16x256 .bf16) (main_arg5 : FVec F S8 .f32) : IVec S8x8192x1024 1 × IVec S8x8192x256 1 × IVec S8x16x256 1 × IVec S8 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_v4 : FVec F S8x8192x256 .f32 := (extf .f32 · bitsLt_bf16_f32) main_arg1
  let main_v5 : FVec F S8x8192x256 .f32 := Host.absf main_v4
  let main_cst_0 : FVec F S_ .f32 := constant S_ .f32 0x7F800000#32
  let main_v6 : FVec F S8x8192x256 .f32 := broadcastInDim S8x8192x256 ![] bcast_S_S8x8192x256 main_cst_0
  let main_v7 : IVec S8x8192x256 1 := cmpf .olt main_v5 main_v6
  let main_v8 : FVec F S8x16x256 .f32 := (extf .f32 · bitsLt_bf16_f32) main_arg3
  let main_v9 : FVec F S8x16x256 .f32 := Host.absf main_v8
  let main_cst_1 : FVec F S_ .f32 := constant S_ .f32 0x7F800000#32
  let main_v10 : FVec F S8x16x256 .f32 := broadcastInDim S8x16x256 ![] bcast_S_S8x16x256 main_cst_1
  let main_v11 : IVec S8x16x256 1 := cmpf .olt main_v9 main_v10
  let main_v12 : FVec F S8 .f32 := Host.absf main_arg5
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v3, main_v7, main_v11, main_v14)
-- ==== Kernel.lean ====
abbrev S8x8192x1024 : Shape := ⟨3, ![8, 8192, 1024]⟩
abbrev S8x8192x256 : Shape := ⟨3, ![8, 8192, 256]⟩
abbrev S8x16x256 : Shape := ⟨3, ![8, 16, 256]⟩
abbrev S8 : Shape := ⟨1, ![8]⟩
abbrev S1x128x1024 : Shape := ⟨3, ![1, 128, 1024]⟩
abbrev S1x128x256 : Shape := ⟨3, ![1, 128, 256]⟩
abbrev S1x16x256 : Shape := ⟨3, ![1, 16, 256]⟩
abbrev S512x384 : Shape := ⟨2, ![512, 384]⟩
abbrev S1x128x128 : Shape := ⟨3, ![1, 128, 128]⟩
abbrev S128x128 : Shape := ⟨2, ![128, 128]⟩
abbrev S384x128 : Shape := ⟨2, ![384, 128]⟩
abbrev S512x128 : Shape := ⟨2, ![512, 128]⟩
abbrev S1x16x128 : Shape := ⟨3, ![1, 16, 128]⟩
abbrev S16x128 : Shape := ⟨2, ![16, 128]⟩
abbrev S512x16 : Shape := ⟨2, ![512, 16]⟩
abbrev S1 : Shape := ⟨1, ![1]⟩
abbrev S128x1 : Shape := ⟨2, ![128, 1]⟩
abbrev S512x1 : Shape := ⟨2, ![512, 1]⟩
abbrev S512 : Shape := ⟨1, ![512]⟩

abbrev nBuf : Space → Nat
  | .hbm => 7
  | .vmem => 20
  | .smem => 1
  | _ => 0

abbrev bufTy : (tb : Table) → Fin (tcTables nBuf tb) → BufTy
  | .hbm, ⟨0, _⟩ => ⟨S8x8192x1024, .bf16⟩
  | .hbm, ⟨1, _⟩ => ⟨S8x8192x256, .bf16⟩
  | .hbm, ⟨2, _⟩ => ⟨S8x8192x256, .bf16⟩
  | .hbm, ⟨3, _⟩ => ⟨S8x16x256, .bf16⟩
  | .hbm, ⟨4, _⟩ => ⟨S8x16x256, .bf16⟩
  | .hbm, ⟨5, _⟩ => ⟨S8, .f32⟩
  | .hbm, ⟨6, _⟩ => ⟨S8x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x16x256, .bf16⟩
  | .local _ .vmem, ⟨15, _⟩ => ⟨S1x16x256, .bf16⟩
  | .local _ .vmem, ⟨16, _⟩ => ⟨S1x16x256, .bf16⟩
  | .local _ .vmem, ⟨17, _⟩ => ⟨S1x16x256, .bf16⟩
  | .local _ .vmem, ⟨18, _⟩ => ⟨S1x128x1024, .bf16⟩
  | .local _ .vmem, ⟨19, _⟩ => ⟨S1x128x1024, .bf16⟩
  | .local _ .smem, ⟨0, _⟩ => ⟨S8, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x8192x1024 : Shape := ⟨3, ![8, 8192, 1024]⟩
abbrev S8x8192x256 : Shape := ⟨3, ![8, 8192, 256]⟩
abbrev S8x16x256 : Shape := ⟨3, ![8, 16, 256]⟩
abbrev S8 : Shape := ⟨1, ![8]⟩
abbrev S8x8192x2x4x128 : Shape := ⟨5, ![8, 8192, 2, 4, 128]⟩
abbrev S8x8192x2x128 : Shape := ⟨4, ![8, 8192, 2, 128]⟩
abbrev S8x16x2x128 : Shape := ⟨4, ![8, 16, 2, 128]⟩
abbrev S2x4 : Shape := ⟨2, ![2, 4]⟩
abbrev S8x64x128x2x4x128 : Shape := ⟨6, ![8, 64, 128, 2, 4, 128]⟩
abbrev S_ : Shape := ⟨0, ![]⟩
abbrev S8x8448x2x128 : Shape := ⟨4, ![8, 8448, 2, 128]⟩
abbrev S8x66x128x2x128 : Shape := ⟨5, ![8, 66, 128, 2, 128]⟩
abbrev S8x64x128x2x128 : Shape := ⟨5, ![8, 64, 128, 2, 128]⟩
abbrev S8x64x384x2x128 : Shape := ⟨5, ![8, 64, 384, 2, 128]⟩
abbrev S8x64x2x384x128x4 : Shape := ⟨6, ![8, 64, 2, 384, 128, 4]⟩
abbrev S8x64x2x4x128x384 : Shape := ⟨6, ![8, 64, 2, 4, 128, 384]⟩
abbrev S128 : Shape := ⟨1, ![128]⟩
abbrev S1x128x1 : Shape := ⟨3, ![1, 128, 1]⟩
abbrev S384 : Shape := ⟨1, ![384]⟩
abbrev S1x1x384 : Shape := ⟨3, ![1, 1, 384]⟩
abbrev S64 : Shape := ⟨1, ![64]⟩
abbrev S64x1x1 : Shape := ⟨3, ![64, 1, 1]⟩
abbrev S64x1x384 : Shape := ⟨3, ![64, 1, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S8x2x16x64x128x4 : Shape := ⟨6, ![8, 2, 16, 64, 128, 4]⟩
abbrev S8x64x2x4x128x16 : Shape := ⟨6, ![8, 64, 2, 4, 128, 16]⟩
abbrev S1x1x2x4x1x1 : Shape := ⟨6, ![1, 1, 2, 4, 1, 1]⟩
abbrev S8x64x2x4x128x1 : Shape := ⟨6, ![8, 64, 2, 4, 128, 1]⟩
abbrev S8x64x2x4x128x401 : Shape := ⟨6, ![8, 64, 2, 4, 128, 401]⟩
abbrev S8x64x2x4x128 : Shape := ⟨5, ![8, 64, 2, 4, 128]⟩
abbrev S8x64x2x128x4x128 : Shape := ⟨6, ![8, 64, 2, 128, 4, 128]⟩
abbrev S8x2x128x64x4x128 : Shape := ⟨6, ![8, 2, 128, 64, 4, 128]⟩

abbrev nBuf : Space → Nat
  | .hbm => 106
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x256, .bf16⟩
  | .hbm, ⟨2, _⟩ => ⟨S8x8192x256, .bf16⟩
  | .hbm, ⟨3, _⟩ => ⟨S8x16x256, .bf16⟩
  | .hbm, ⟨4, _⟩ => ⟨S8x16x256, .bf16⟩
  | .hbm, ⟨5, _⟩ => ⟨S8, .f32⟩
  | .hbm, ⟨6, _⟩ => ⟨S8x8192x1024, .f32⟩
  | .hbm, ⟨7, _⟩ => ⟨S8x8192x256, .f32⟩
  | .hbm, ⟨8, _⟩ => ⟨S8x8192x256, .f32⟩
  | .hbm, ⟨9, _⟩ => ⟨S8x16x256, .f32⟩
  | .hbm, ⟨10, _⟩ => ⟨S8x16x256, .f32⟩
  | .hbm, ⟨11, _⟩ => ⟨S8x8192x2x4x128, .f32⟩
  | .hbm, ⟨12, _⟩ => ⟨S8x8192x2x128, .f32⟩
  | .hbm, ⟨13, _⟩ => ⟨S8x8192x2x128, .f32⟩
  | .hbm, ⟨14, _⟩ => ⟨S8x16x2x128, .f32⟩
  | .hbm, ⟨15, _⟩ => ⟨S8x16x2x128, .f32⟩
  | .hbm, ⟨16, _⟩ => ⟨S2x4, .f32⟩
  | .hbm, ⟨17, _⟩ => ⟨S8x64x128x2x4x128, .f32⟩
  | .hbm, ⟨18, _⟩ => ⟨S_, .i32⟩
  | .hbm, ⟨19, _⟩ => ⟨S_, .f32⟩
  | .hbm, ⟨20, _⟩ => ⟨S8x8448x2x128, .f32⟩
  | .hbm, ⟨21, _⟩ => ⟨S8x66x128x2x128, .f32⟩
  | .hbm, ⟨22, _⟩ => ⟨S8x64x128x2x128, .f32⟩
  | .hbm, ⟨23, _⟩ => ⟨S8x64x128x2x128, .f32⟩
  | .hbm, ⟨24, _⟩ => ⟨S8x64x128x2x128, .f32⟩
  | .hbm, ⟨25, _⟩ => ⟨S8x64x384x2x128, .f32⟩
  | .hbm, ⟨26, _⟩ => ⟨S_, .i32⟩
  | .hbm, ⟨27, _⟩ => ⟨S_, .f32⟩
  | .hbm, ⟨28, _⟩ => ⟨S8x8448x2x128, .f32⟩
  | .hbm, ⟨29, _⟩ => ⟨S8x66x128x2x128, .f32⟩
  | .hbm, ⟨30, _⟩ => ⟨S8x64x128x2x128, .f32⟩
  | .hbm, ⟨31, _⟩ => ⟨S8x64x128x2x128, .f32⟩
  | .hbm, ⟨32, _⟩ => ⟨S8x64x128x2x128, .f32⟩
  | .hbm, ⟨33, _⟩ => ⟨S8x64x384x2x128, .f32⟩
  | .hbm, ⟨34, _⟩ => ⟨S8x64x2x384x128x4, .f32⟩
  | .hbm, ⟨35, _⟩ => ⟨S8x64x2x4x128x384, .f32⟩
  | .hbm, ⟨36, _⟩ => ⟨S128, .i32⟩
  | .hbm, ⟨37, _⟩ => ⟨S1x128x1, .i32⟩
  | .hbm, ⟨38, _⟩ => ⟨S384, .i32⟩
  | .hbm, ⟨39, _⟩ => ⟨S1x1x384, .i32⟩
  | .hbm, ⟨40, _⟩ => ⟨S64, .i32⟩
  | .hbm, ⟨41, _⟩ => ⟨S64x1x1, .i32⟩
  | .hbm, ⟨42, _⟩ => ⟨S_, .i32⟩
  | .hbm, ⟨43, _⟩ => ⟨S64x1x1, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i32⟩
  | .hbm, ⟨48, _⟩ => ⟨S64x1x384, .i32⟩
  | .hbm, ⟨49, _⟩ => ⟨S64x1x384, .i32⟩
  | .hbm, ⟨50, _⟩ => ⟨S64x1x384, .i32⟩
  | .hbm, ⟨51, _⟩ => ⟨S_, .i32⟩
  | .hbm, ⟨52, _⟩ => ⟨S1x1x384, .i32⟩
  | .hbm, ⟨53, _⟩ => ⟨S1x1x384, .i32⟩
  | .hbm, ⟨54, _⟩ => ⟨S1x128x384, .i32⟩
  | .hbm, ⟨55, _⟩ => ⟨S1x128x384, .i32⟩
  | .hbm, ⟨56, _⟩ => ⟨S1x128x384, .i32⟩
  | .hbm, ⟨57, _⟩ => ⟨S1x128x384, .i32⟩
  | .hbm, ⟨58, _⟩ => ⟨S_, .i32⟩
  | .hbm, ⟨59, _⟩ => ⟨S1x128x384, .i32⟩
  | .hbm, ⟨60, _⟩ => ⟨S1x128x384, .i1⟩
  | .hbm, ⟨61, _⟩ => ⟨S_, .i32⟩
  | .hbm, ⟨62, _⟩ => ⟨S64x1x384, .i32⟩
  | .hbm, ⟨63, _⟩ => ⟨S64x1x384, .i1⟩
  | .hbm, ⟨64, _⟩ => ⟨S64x128x384, .i1⟩
  | .hbm, ⟨65, _⟩ => ⟨S64x128x384, .i1⟩
  | .hbm, ⟨66, _⟩ => ⟨S64x128x384, .i1⟩
  | .hbm, ⟨67, _⟩ => ⟨S_, .i32⟩
  | .hbm, ⟨68, _⟩ => ⟨S64x1x384, .i32⟩
  | .hbm, ⟨69, _⟩ => ⟨S64x1x384, .i1⟩
  | .hbm, ⟨70, _⟩ => ⟨S64x128x384, .i1⟩
  | .hbm, ⟨71, _⟩ => ⟨S64x128x384, .i1⟩
  | .hbm, ⟨72, _⟩ => ⟨S1x64x1x1x128x384, .i1⟩
  | .hbm, ⟨73, _⟩ => ⟨S_, .f32⟩
  | .hbm, ⟨74, _⟩ => ⟨S_, .f32⟩
  | .hbm, ⟨75, _⟩ => ⟨S8x64x2x4x128x384, .i1⟩
  | .hbm, ⟨76, _⟩ => ⟨S8x64x2x4x128x384, .f32⟩
  | .hbm, ⟨77, _⟩ => ⟨S8x64x2x4x128x384, .f32⟩
  | .hbm, ⟨78, _⟩ => ⟨S8x2x16x64x128x4, .f32⟩
  | .hbm, ⟨79, _⟩ => ⟨S8x64x2x4x128x16, .f32⟩
  | .hbm, ⟨80, _⟩ => ⟨S1x1x2x4x1x1, .f32⟩
  | .hbm, ⟨81, _⟩ => ⟨S8x64x2x4x128x1, .f32⟩
  | .hbm, ⟨82, _⟩ => ⟨S8x64x2x4x128x401, .f32⟩
  | .hbm, ⟨83, _⟩ => ⟨S_, .f32⟩
  | .hbm, ⟨84, _⟩ => ⟨S8x64x2x4x128, .f32⟩
  | .hbm, ⟨85, _⟩ => ⟨S_, .f32⟩
  | .hbm, ⟨86, _⟩ => ⟨S8x64x2x4x128, .f32⟩
  | .hbm, ⟨87, _⟩ => ⟨S8x64x2x4x128, .f32⟩
  | .hbm, ⟨88, _⟩ => ⟨S8x64x2x4x128x1, .f32⟩
  | .hbm, ⟨89, _⟩ => ⟨S8x64x2x4x128x401, .f32⟩
  | .hbm, ⟨90, _⟩ => ⟨S8x64x2x4x128x401, .f32⟩
  | .hbm, ⟨91, _⟩ => ⟨S8x64x2x4x128x401, .f32⟩
  | .hbm, ⟨92, _⟩ => ⟨S_, .f32⟩
  | .hbm, ⟨93, _⟩ => ⟨S8x64x2x4x128, .f32⟩
  | .hbm, ⟨94, _⟩ => ⟨S8x64x2x4x128x1, .f32⟩
  | .hbm, ⟨95, _⟩ => ⟨S8x64x2x4x128x401, .f32⟩
  | .hbm, ⟨96, _⟩ => ⟨S8x64x2x4x128x401, .f32⟩
  | .hbm, ⟨97, _⟩ => ⟨S8x64x2x4x128x384, .f32⟩
  | .hbm, ⟨98, _⟩ => ⟨S8x64x2x4x128x16, .f32⟩
  | .hbm, ⟨99, _⟩ => ⟨S8x64x2x128x4x128, .f32⟩
  | .hbm, ⟨100, _⟩ => ⟨S8x64x128x2x4x128, .f32⟩
  | .hbm, ⟨101, _⟩ => ⟨S8x2x128x64x4x128, .f32⟩
  | .hbm, ⟨102, _⟩ => ⟨S8x64x128x2x4x128, .f32⟩
  | .hbm, ⟨103, _⟩ => ⟨S8x64x128x2x4x128, .f32⟩
  | .hbm, ⟨104, _⟩ => ⟨S8x8192x1024, .f32⟩
  | .hbm, ⟨105, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_1 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== KernelPost.lean ====
abbrev S8x8192x1024 : Shape := ⟨3, ![8, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1024x1024, .bf16⟩
  | .hbm, ⟨10, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x512x1024, .f32⟩
  | .local _ .vmem, ⟨9, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferencePostIdeal.lean ====
abbrev S8x8192x1024 : Shape := ⟨3, ![8, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x8192x1024, .f32⟩
  | .hbm, ⟨7, _⟩ => ⟨S8x8192x1024, .f32⟩
  | .hbm, ⟨8, _⟩ => ⟨S8x8192x1024, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S8x8192x4096, .f32⟩
  | .hbm, ⟨26, _⟩ => ⟨S_, .f32⟩
  | .hbm, ⟨27, _⟩ => ⟨S8x8192x4096, .f32⟩
  | .hbm, ⟨28, _⟩ => ⟨S8x8192x4096, .f32⟩
  | .hbm, ⟨29, _⟩ => ⟨S8x8192x4096, .f32⟩
  | .hbm, ⟨30, _⟩ => ⟨S8x8192x1024, .f32⟩
  | .hbm, ⟨31, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== KernelPostRec.lean ====
abbrev S8x8192x1024 : Shape := ⟨3, ![8, 8192, 1024]⟩
abbrev S8x8256x1024 : Shape := ⟨3, ![8, 8256, 1024]⟩
abbrev S1024x1024 : Shape := ⟨2, ![1024, 1024]⟩
abbrev S128 : Shape := ⟨1, ![128]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x128 : Shape := ⟨2, ![1, 128]⟩
abbrev S1x512x1024 : Shape := ⟨3, ![1, 512, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8256x1024, .bf16⟩
  | .hbm, ⟨2, _⟩ => ⟨S8x8256x1024, .bf16⟩
  | .hbm, ⟨3, _⟩ => ⟨S8x8192x1024, .bf16⟩
  | .hbm, ⟨4, _⟩ => ⟨S1024x1024, .f32⟩
  | .hbm, ⟨5, _⟩ => ⟨S128, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1024x1024, .bf16⟩
  | .hbm, ⟨13, _⟩ => ⟨S1x128, .f32⟩
  | .hbm, ⟨14, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x512x1024, .f32⟩
  | .local _ .vmem, ⟨14, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferencePostRecIdeal.lean ====
abbrev S8x8192x1024 : Shape := ⟨3, ![8, 8192, 1024]⟩
abbrev S8x8256x1024 : Shape := ⟨3, ![8, 8256, 1024]⟩
abbrev S1024x1024 : Shape := ⟨2, ![1024, 1024]⟩
abbrev S128 : Shape := ⟨1, ![128]⟩
abbrev S1024 : Shape := ⟨1, ![1024]⟩
abbrev S1024x4096 : Shape := ⟨2, ![1024, 4096]⟩
abbrev S4096x1024 : Shape := ⟨2, ![4096, 1024]⟩
abbrev S8x8192x8x128 : Shape := ⟨4, ![8, 8192, 8, 128]⟩
abbrev S_ : Shape := ⟨0, ![]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8256x1024, .bf16⟩
  | .hbm, ⟨2, _⟩ => ⟨S8x8256x1024, .bf16⟩
  | .hbm, ⟨3, _⟩ => ⟨S8x8192x1024, .bf16⟩
  | .hbm, ⟨4, _⟩ => ⟨S1024x1024, .f32⟩
  | .hbm, ⟨5, _⟩ => ⟨S128, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S8x8256x1024, .f32⟩
  | .hbm, ⟨10, _⟩ => ⟨S8x8256x1024, .f32⟩
  | .hbm, ⟨11, _⟩ => ⟨S8x8256x1024, .f32⟩
  | .hbm, ⟨12, _⟩ => ⟨S8x8192x1024, .f32⟩
  | .hbm, ⟨13, _⟩ => ⟨S8x8192x8x128, .f32⟩
  | .hbm, ⟨14, _⟩ => ⟨S8x8192x8x128, .f32⟩
  | .hbm, ⟨15, _⟩ => ⟨S_, .f32⟩
  | .hbm, ⟨16, _⟩ => ⟨S8x8192x8, .f32⟩
  | .hbm, ⟨17, _⟩ => ⟨S8x8192x8x1, .f32⟩
  | .hbm, ⟨18, _⟩ => ⟨S_, .f32⟩
  | .hbm, ⟨19, _⟩ => ⟨S8x8192x8x1, .f32⟩
  | .hbm, ⟨20, _⟩ => ⟨S8x8192x8x1, .f32⟩
  | .hbm, ⟨21, _⟩ => ⟨S_, .f32⟩
  | .hbm, ⟨22, _⟩ => ⟨S8x8192x8x1, .f32⟩
  | .hbm, ⟨23, _⟩ => ⟨S8x8192x8x1, .f32⟩
  | .hbm, ⟨24, _⟩ => ⟨S8x8192x8x1, .f32⟩
  | .hbm, ⟨25, _⟩ => ⟨S8x8192x8x128, .f32⟩
  | .hbm, ⟨26, _⟩ => ⟨S8x8192x8x128, .f32⟩
  | .hbm, ⟨27, _⟩ => ⟨S1x1x1x128, .f32⟩
  | .hbm, ⟨28, _⟩ => ⟨S8x8192x8x128, .f32⟩
  | .hbm, ⟨29, _⟩ => ⟨S8x8192x8x128, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S_, .f32⟩
  | .hbm, ⟨40, _⟩ => ⟨S8x8192x1, .f32⟩
  | .hbm, ⟨41, _⟩ => ⟨S8x8192x1, .f32⟩
  | .hbm, ⟨42, _⟩ => ⟨S_, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S8x8192x1024, .f32⟩
  | .hbm, ⟨47, _⟩ => ⟨S8x8192x1024, .f32⟩
  | .hbm, ⟨48, _⟩ => ⟨S1x1x1024, .f32⟩
  | .hbm, ⟨49, _⟩ => ⟨S8x8192x1024, .f32⟩
  | .hbm, ⟨50, _⟩ => ⟨S8x8192x1024, .f32⟩
  | .hbm, ⟨51, _⟩ => ⟨S8x8192x4096, .f32⟩
  | .hbm, ⟨52, _⟩ => ⟨S_, .f32⟩
  | .hbm, ⟨53, _⟩ => ⟨S8x8192x4096, .f32⟩
  | .hbm, ⟨54, _⟩ => ⟨S8x8192x4096, .f32⟩
  | .hbm, ⟨55, _⟩ => ⟨S8x8192x4096, .f32⟩
  | .hbm, ⟨56, _⟩ => ⟨S8x8192x1024, .f32⟩
  | .hbm, ⟨57, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_cst : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== KernelRecIn.lean ====
abbrev S8x8192x1024 : Shape := ⟨3, ![8, 8192, 1024]⟩
abbrev S1024 : Shape := ⟨1, ![1024]⟩
abbrev S1024x5120 : Shape := ⟨2, ![1024, 5120]⟩
abbrev S4x1024 : Shape := ⟨2, ![4, 1024]⟩
abbrev S1x1024 : Shape := ⟨2, ![1, 1024]⟩
abbrev S8x8256x1024 : Shape := ⟨3, ![8, 8256, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S3x1024 : Shape := ⟨2, ![3, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5120, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1024x5120, .bf16⟩
  | .hbm, ⟨7, _⟩ => ⟨S8x8256x1024, .bf16⟩
  | .hbm, ⟨8, _⟩ => ⟨S8x8256x1024, .bf16⟩
  | .hbm, ⟨9, _⟩ => ⟨S8x8256x1024, .f32⟩
  | .hbm, ⟨10, _⟩ => ⟨S8x8256x1024, .f32⟩
  | .hbm, ⟨11, _⟩ => ⟨S8x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5120, .bf16⟩
  | .local _ .vmem, ⟨4, _⟩ => ⟨S4x1024, .f32⟩
  | .local _ .vmem, ⟨5, _⟩ => ⟨S4x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceRecInIdeal.lean ====
abbrev S8x8192x1024 : Shape := ⟨3, ![8, 8192, 1024]⟩
abbrev S1024 : Shape := ⟨1, ![1024]⟩
abbrev S1024x5120 : Shape := ⟨2, ![1024, 5120]⟩
abbrev S4x1024 : Shape := ⟨2, ![4, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5120 : Shape := ⟨3, ![8, 8192, 5120]⟩
abbrev S8x8256x1024 : Shape := ⟨3, ![8, 8256, 1024]⟩
abbrev S1x1024 : Shape := ⟨2, ![1, 1024]⟩

abbrev nBuf : Space → Nat
  | .hbm => 140
  | .vmem => 0
  | .smem => 0
  | _ => 0

abbrev hbmTy0_0 (i : Nat) : BufTy := match i % 128 with
  | 0 => ⟨S8x8192x1024, .f32⟩
  | 1 => ⟨S1024, .f32⟩
  | 2 => ⟨S1024x5120, .f32⟩
  | 3 => ⟨S4x1024, .f32⟩
  | 4 => ⟨S4x1024, .f32⟩
  | 5 => ⟨S8x8192x1024, .f32⟩
  | 6 => ⟨S_, .f32⟩
  | 7 => ⟨S8x8192, .f32⟩
  | 8 => ⟨S8x8192x1, .f32⟩
  | 9 => ⟨S_, .f32⟩
  | 10 => ⟨S8x8192x1, .f32⟩
  | 11 => ⟨S8x8192x1, .f32⟩
  | 12 => ⟨S_, .f32⟩
  | 13 => ⟨S8x8192x1, .f32⟩
  | 14 => ⟨S8x8192x1, .f32⟩
  | 15 => ⟨S8x8192x1, .f32⟩
  | 16 => ⟨S8x8192x1024, .f32⟩
  | 17 => ⟨S8x8192x1024, .f32⟩
  | 18 => ⟨S1x1x1024, .f32⟩
  | 19 => ⟨S8x8192x1024, .f32⟩
  | 20 => ⟨S8x8192x1024, .f32⟩
  | 21 => ⟨S8x8192x5120, .f32⟩
  | 22 => ⟨S8x8192x1024, .f32⟩
  | 23 => ⟨S8x8192x1024, .f32⟩
  | 24 => ⟨S8x8192x1024, .f32⟩
  | 25 => ⟨S8x8192x1024, .f32⟩
  | 26 => ⟨S8x8192x1024, .f32⟩
  | 27 => ⟨S8x8192x1024, .f32⟩
  | 28 => ⟨S8x8192x1024, .f32⟩
  | 29 => ⟨S_, .f32⟩
  | 30 => ⟨S8x8192x1024, .f32⟩
  | 31 => ⟨S8x8192x1024, .f32⟩
  | 32 => ⟨S_, .f32⟩
  | 33 => ⟨S8x8192x1024, .f32⟩
  | 34 => ⟨S8x8192x1024, .f32⟩
  | 35 => ⟨S8x8192x1024, .f32⟩
  | 36 => ⟨S_, .i32⟩
  | 37 => ⟨S_, .f32⟩
  | 38 => ⟨S8x8256x1024, .f32⟩
  | 39 => ⟨S_, .i32⟩
  | 40 => ⟨S_, .f32⟩
  | 41 => ⟨S8x8256x1024, .f32⟩
  | 42 => ⟨S_, .f32⟩
  | 43 => ⟨S1024, .f32⟩
  | 44 => ⟨S_, .f32⟩
  | 45 => ⟨S1024, .f32⟩
  | 46 => ⟨S1024, .f32⟩
  | 47 => ⟨S1x1024, .f32⟩
  | 48 => ⟨S4x1024, .f32⟩
  | 49 => ⟨S4x1024, .f32⟩
  | 50 => ⟨S4x1024, .f32⟩
  | 51 => ⟨S_, .f32⟩
  | 52 => ⟨S1024, .f32⟩
  | 53 => ⟨S1x1024, .f32⟩
  | 54 => ⟨S4x1024, .f32⟩
  | 55 => ⟨S4x1024, .f32⟩
  | 56 => ⟨S_, .f32⟩
  | 57 => ⟨S_, .f32⟩
  | 58 => ⟨S4x1024, .f32⟩
  | 59 => ⟨S1x1024, .f32⟩
  | 60 => ⟨S1024, .f32⟩
  | 61 => ⟨S1x1024, .f32⟩
  | 62 => ⟨S1024, .f32⟩
  | 63 => ⟨S1024, .f32⟩
  | 64 => ⟨S_, .f32⟩
  | 65 => ⟨S1024, .f32⟩
  | 66 => ⟨S1024, .f32⟩
  | 67 => ⟨S8x8192x1024, .f32⟩
  | 68 => ⟨S8x8192x1024, .f32⟩
  | 69 => ⟨S_, .f32⟩
  | 70 => ⟨S8x8192x1024, .f32⟩
  | 71 => ⟨S8x8192x1024, .f32⟩
  | 72 => ⟨S_, .f32⟩
  | 73 => ⟨S8x8192x1024, .f32⟩
  | 74 => ⟨S8x8192x1024, .f32⟩
  | 75 => ⟨S1x1x1024, .f32⟩
  | 76 => ⟨S8x8192x1024, .f32⟩
  | 77 => ⟨S8x8192x1024, .f32⟩
  | 78 => ⟨S1x1x1024, .f32⟩
  | 79 => ⟨S8x8192x1024, .f32⟩
  | 80 => ⟨S8x8192x1024, .f32⟩
  | 81 => ⟨S8x8192x1024, .f32⟩
  | 82 => ⟨S_, .i32⟩
  | 83 => ⟨S_, .f32⟩
  | 84 => ⟨S8x8256x1024, .f32⟩
  | 85 => ⟨S_, .f32⟩
  | 86 => ⟨S1024, .f32⟩
  | 87 => ⟨S_, .f32⟩
  | 88 => ⟨S1024, .f32⟩
  | 89 => ⟨S1024, .f32⟩
  | 90 => ⟨S1x1024, .f32⟩
  | 91 => ⟨S4x1024, .f32⟩
  | 92 => ⟨S4x1024, .f32⟩
  | 93 => ⟨S4x1024, .f32⟩
  | 94 => ⟨S_, .f32⟩
  | 95 => ⟨S1024, .f32⟩
  | 96 => ⟨S1x1024, .f32⟩
  | 97 => ⟨S4x1024, .f32⟩
  | 98 => ⟨S4x1024, .f32⟩
  | 99 => ⟨S_, .f32⟩
  | 100 => ⟨S_, .f32⟩
  | 101 => ⟨S4x1024, .f32⟩
  | 102 => ⟨S1x1024, .f32⟩
  | 103 => ⟨S1024, .f32⟩
  | 104 => ⟨S1x1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S8x8192x1024, .f32⟩
  | 111 => ⟨S8x8192x1024, .f32⟩
  | 112 => ⟨S_, .f32⟩
  | 113 => ⟨S8x8192x1024, .f32⟩
  | 114 => ⟨S8x8192x1024, .f32⟩
  | 115 => ⟨S_, .f32⟩
  | 116 => ⟨S8x8192x1024, .f32⟩
  | 117 => ⟨S8x8192x1024, .f32⟩
  | 118 => ⟨S1x1x1024, .f32⟩
  | 119 => ⟨S8x8192x1024, .f32⟩
  | 120 => ⟨S8x8192x1024, .f32⟩
  | 121 => ⟨S1x1x1024, .f32⟩
  | 122 => ⟨S8x8192x1024, .f32⟩
  | 123 => ⟨S8x8192x1024, .f32⟩
  | 124 => ⟨S8x8192x1024, .f32⟩
  | 125 => ⟨S_, .i32⟩
  | 126 => ⟨S_, .f32⟩
  | 127 => ⟨S8x8256x1024, .f32⟩
  | _ => ⟨S8x8192x1024, .f32⟩

abbrev hbmTy0_1 (i : Nat) : BufTy := match i % 128 with
  | 0 => ⟨S8x8256x1024, .bf16⟩
  | 1 => ⟨S8x8256x1024, .bf16⟩
  | 2 => ⟨S8x8192x1024, .f32⟩
  | 3 => ⟨S8x8192x1024, .f32⟩
  | 4 => ⟨S_, .f32⟩
  | 5 => ⟨S8x8192x1024, .f32⟩
  | 6 => ⟨S8x8192x1024, .f32⟩
  | 7 => ⟨S_, .f32⟩
  | 8 => ⟨S8x8192x1024, .f32⟩
  | 9 => ⟨S8x8192x1024, .f32⟩
  | 10 => ⟨S8x8192x1024, .f32⟩
  | 11 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_c : Ref sig .tc := ⟨.hbm, 36, rfl⟩
abbrev main_call1_v0 : Ref sig .tc := ⟨.hbm, 37, rfl⟩
abbrev main_v20 : Ref sig .tc := ⟨.hbm, 38, rfl⟩
abbrev main_c_2 : Ref sig .tc := ⟨.hbm, 39, rfl⟩
abbrev main_call2_v0 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call3_call0_cst : Ref sig .tc := ⟨.hbm, 56, rfl⟩
abbrev main_call3_call0_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_call4_v0 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call5_call0_cst : Ref sig .tc := ⟨.hbm, 99, rfl⟩
abbrev main_call5_call0_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_call6_v0 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call7_v0 : Ref sig .tc := ⟨.hbm, 130, rfl⟩
abbrev main_call7_v1 : Ref sig .tc := ⟨.hbm, 131, rfl⟩
abbrev main_call7_cst : Ref sig .tc := ⟨.hbm, 132, rfl⟩
abbrev main_call7_v2 : Ref sig .tc := ⟨.hbm, 133, rfl⟩
abbrev main_call7_v3 : Ref sig .tc := ⟨.hbm, 134, rfl⟩
abbrev main_call7_cst_0 : Ref sig .tc := ⟨.hbm, 135, rfl⟩
abbrev main_call7_v4 : Ref sig .tc := ⟨.hbm, 136, rfl⟩
abbrev main_call7_v5 : Ref sig .tc := ⟨.hbm, 137, rfl⟩
abbrev main_v90 : Ref sig .tc := ⟨.hbm, 138, rfl⟩
abbrev main_v91 : Ref sig .tc := ⟨.hbm, 139, rfl⟩

abbrev nD : Nat := 1
abbrev τ : Topo := Topo.v7x

variable {F : FTy → Type} [FloatOps F]
-- ==== KernelAttnIn.lean ====
abbrev S8x8192x1024 : Shape := ⟨3, ![8, 8192, 1024]⟩
abbrev S1024 : Shape := ⟨1, ![1024]⟩
abbrev S1024x1536 : Shape := ⟨2, ![1024, 1536]⟩
abbrev S128 : Shape := ⟨1, ![128]⟩
abbrev S8192x64 : Shape := ⟨2, ![8192, 64]⟩
abbrev S8192x128 : Shape := ⟨2, ![8192, 128]⟩
abbrev S1x1024 : Shape := ⟨2, ![1, 1024]⟩
abbrev S1x128 : Shape := ⟨2, ![1, 128]⟩
abbrev S8x8192x256 : Shape := ⟨3, ![8, 8192, 256]⟩
abbrev S1x512x1024 : Shape := ⟨3, ![1, 512, 1024]⟩
abbrev S512x128 : Shape := ⟨2, ![512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S1x512x128 : Shape := ⟨3, ![1, 512, 128]⟩
abbrev S512x256 : Shape := ⟨2, ![512, 256]⟩

abbrev nBuf : Space → Nat
  | .hbm => 17
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S8192x64, .f32⟩
  | .hbm, ⟨6, _⟩ => ⟨S8192x64, .f32⟩
  | .hbm, ⟨7, _⟩ => ⟨S8192x128, .f32⟩
  | .hbm, ⟨8, _⟩ => ⟨S8192x64, .f32⟩
  | .hbm, ⟨9, _⟩ => ⟨S8192x128, .f32⟩
  | .hbm, ⟨10, _⟩ => ⟨S1x1024, .f32⟩
  | .hbm, ⟨11, _⟩ => ⟨S1024x1536, .bf16⟩
  | .hbm, ⟨12, _⟩ => ⟨S1x128, .f32⟩
  | .hbm, ⟨13, _⟩ => ⟨S1x128, .f32⟩
  | .hbm, ⟨14, _⟩ => ⟨S8x8192x1024, .bf16⟩
  | .hbm, ⟨15, _⟩ => ⟨S8x8192x256, .bf16⟩
  | .hbm, ⟨16, _⟩ => ⟨S8x8192x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAttnInIdeal.lean ====
abbrev S8x8192x1024 : Shape := ⟨3, ![8, 8192, 1024]⟩
abbrev S1024 : Shape := ⟨1, ![1024]⟩
abbrev S1024x1536 : Shape := ⟨2, ![1024, 1536]⟩
abbrev S128 : Shape := ⟨1, ![128]⟩
abbrev S8192x64 : Shape := ⟨2, ![8192, 64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1536 : Shape := ⟨3, ![8, 8192, 1536]⟩
abbrev S8x8192x256 : Shape := ⟨3, ![8, 8192, 256]⟩
abbrev S8x8192x8x128 : Shape := ⟨4, ![8, 8192, 8, 128]⟩
abbrev S8x8192x2x128 : Shape := ⟨4, ![8, 8192, 2, 128]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x8192x8x64 : Shape := ⟨4, ![8, 8192, 8, 64]⟩
abbrev S1x8192x1x64 : Shape := ⟨4, ![1, 8192, 1, 64]⟩
abbrev S8x8192x2 : Shape := ⟨3, ![8, 8192, 2]⟩
abbrev S8x8192x2x1 : Shape := ⟨4, ![8, 8192, 2, 1]⟩
abbrev S8x8192x2x64 : Shape := ⟨4, ![8, 8192, 2, 64]⟩

abbrev nBuf : Space → Nat
  | .hbm => 99
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S128, .f32⟩
  | .hbm, ⟨4, _⟩ => ⟨S128, .f32⟩
  | .hbm, ⟨5, _⟩ => ⟨S8192x64, .f32⟩
  | .hbm, ⟨6, _⟩ => ⟨S8192x64, .f32⟩
  | .hbm, ⟨7, _⟩ => ⟨S8x8192x1024, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x1024, .f32⟩
  | .hbm, ⟨19, _⟩ => ⟨S8x8192x1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S8x8192x1536, .f32⟩
  | .hbm, ⟨24, _⟩ => ⟨S8x8192x1024, .f32⟩
  | .hbm, ⟨25, _⟩ => ⟨S8x8192x256, .f32⟩
  | .hbm, ⟨26, _⟩ => ⟨S8x8192x256, .f32⟩
  | .hbm, ⟨27, _⟩ => ⟨S8x8192x8x128, .f32⟩
  | .hbm, ⟨28, _⟩ => ⟨S8x8192x2x128, .f32⟩
  | .hbm, ⟨29, _⟩ => ⟨S8x8192x8x128, .f32⟩
  | .hbm, ⟨30, _⟩ => ⟨S_, .f32⟩
  | .hbm, ⟨31, _⟩ => ⟨S8x8192x8, .f32⟩
  | .hbm, ⟨32, _⟩ => ⟨S8x8192x8x1, .f32⟩
  | .hbm, ⟨33, _⟩ => ⟨S_, .f32⟩
  | .hbm, ⟨34, _⟩ => ⟨S8x8192x8x1, .f32⟩
  | .hbm, ⟨35, _⟩ => ⟨S8x8192x8x1, .f32⟩
  | .hbm, ⟨36, _⟩ => ⟨S_, .f32⟩
  | .hbm, ⟨37, _⟩ => ⟨S8x8192x8x1, .f32⟩
  | .hbm, ⟨38, _⟩ => ⟨S8x8192x8x1, .f32⟩
  | .hbm, ⟨39, _⟩ => ⟨S8x8192x8x1, .f32⟩
  | .hbm, ⟨40, _⟩ => ⟨S8x8192x8x128, .f32⟩
  | .hbm, ⟨41, _⟩ => ⟨S8x8192x8x128, .f32⟩
  | .hbm, ⟨42, _⟩ => ⟨S1x1x1x128, .f32⟩
  | .hbm, ⟨43, _⟩ => ⟨S8x8192x8x128, .f32⟩
  | .hbm, ⟨44, _⟩ => ⟨S8x8192x8x128, .f32⟩
  | .hbm, ⟨45, _⟩ => ⟨S8x8192x8x64, .f32⟩
  | .hbm, ⟨46, _⟩ => ⟨S8x8192x8x64, .f32⟩
  | .hbm, ⟨47, _⟩ => ⟨S1x8192x1x64, .f32⟩
  | .hbm, ⟨48, _⟩ => ⟨S1x8192x1x64, .f32⟩
  | .hbm, ⟨49, _⟩ => ⟨S8x8192x8x64, .f32⟩
  | .hbm, ⟨50, _⟩ => ⟨S8x8192x8x64, .f32⟩
  | .hbm, ⟨51, _⟩ => ⟨S8x8192x8x64, .f32⟩
  | .hbm, ⟨52, _⟩ => ⟨S8x8192x8x64, .f32⟩
  | .hbm, ⟨53, _⟩ => ⟨S8x8192x8x64, .f32⟩
  | .hbm, ⟨54, _⟩ => ⟨S8x8192x8x64, .f32⟩
  | .hbm, ⟨55, _⟩ => ⟨S8x8192x8x64, .f32⟩
  | .hbm, ⟨56, _⟩ => ⟨S8x8192x8x64, .f32⟩
  | .hbm, ⟨57, _⟩ => ⟨S8x8192x8x64, .f32⟩
  | .hbm, ⟨58, _⟩ => ⟨S8x8192x8x64, .f32⟩
  | .hbm, ⟨59, _⟩ => ⟨S8x8192x8x128, .f32⟩
  | .hbm, ⟨60, _⟩ => ⟨S_, .f32⟩
  | .hbm, ⟨61, _⟩ => ⟨S8x8192x8x128, .f32⟩
  | .hbm, ⟨62, _⟩ => ⟨S8x8192x8x128, .f32⟩
  | .hbm, ⟨63, _⟩ => ⟨S8x8192x2x128, .f32⟩
  | .hbm, ⟨64, _⟩ => ⟨S_, .f32⟩
  | .hbm, ⟨65, _⟩ => ⟨S8x8192x2, .f32⟩
  | .hbm, ⟨66, _⟩ => ⟨S8x8192x2x1, .f32⟩
  | .hbm, ⟨67, _⟩ => ⟨S_, .f32⟩
  | .hbm, ⟨68, _⟩ => ⟨S8x8192x2x1, .f32⟩
  | .hbm, ⟨69, _⟩ => ⟨S8x8192x2x1, .f32⟩
  | .hbm, ⟨70, _⟩ => ⟨S_, .f32⟩
  | .hbm, ⟨71, _⟩ => ⟨S8x8192x2x1, .f32⟩
  | .hbm, ⟨72, _⟩ => ⟨S8x8192x2x1, .f32⟩
  | .hbm, ⟨73, _⟩ => ⟨S8x8192x2x1, .f32⟩
  | .hbm, ⟨74, _⟩ => ⟨S8x8192x2x128, .f32⟩
  | .hbm, ⟨75, _⟩ => ⟨S8x8192x2x128, .f32⟩
  | .hbm, ⟨76, _⟩ => ⟨S1x1x1x128, .f32⟩
  | .hbm, ⟨77, _⟩ => ⟨S8x8192x2x128, .f32⟩
  | .hbm, ⟨78, _⟩ => ⟨S8x8192x2x128, .f32⟩
  | .hbm, ⟨79, _⟩ => ⟨S8x8192x2x64, .f32⟩
  | .hbm, ⟨80, _⟩ => ⟨S8x8192x2x64, .f32⟩
  | .hbm, ⟨81, _⟩ => ⟨S1x8192x1x64, .f32⟩
  | .hbm, ⟨82, _⟩ => ⟨S1x8192x1x64, .f32⟩
  | .hbm, ⟨83, _⟩ => ⟨S8x8192x2x64, .f32⟩
  | .hbm, ⟨84, _⟩ => ⟨S8x8192x2x64, .f32⟩
  | .hbm, ⟨85, _⟩ => ⟨S8x8192x2x64, .f32⟩
  | .hbm, ⟨86, _⟩ => ⟨S8x8192x2x64, .f32⟩
  | .hbm, ⟨87, _⟩ => ⟨S8x8192x2x64, .f32⟩
  | .hbm, ⟨88, _⟩ => ⟨S8x8192x2x64, .f32⟩
  | .hbm, ⟨89, _⟩ => ⟨S8x8192x2x64, .f32⟩
  | .hbm, ⟨90, _⟩ => ⟨S8x8192x2x64, .f32⟩
  | .hbm, ⟨91, _⟩ => ⟨S8x8192x2x64, .f32⟩
  | .hbm, ⟨92, _⟩ => ⟨S8x8192x2x64, .f32⟩
  | .hbm, ⟨93, _⟩ => ⟨S8x8192x2x128, .f32⟩
  | .hbm, ⟨94, _⟩ => ⟨S8x8192x1024, .f32⟩
  | .hbm, ⟨95, _⟩ => ⟨S8x8192x1024, .bf16⟩
  | .hbm, ⟨96, _⟩ => ⟨S8x8192x256, .f32⟩
  | .hbm, ⟨97, _⟩ => ⟨S8x8192x256, .bf16⟩
  | .hbm, ⟨98, _⟩ => ⟨S8x8192x256, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩

abbrev nD : Nat := 1
abbrev τ : Topo := Topo.v7x

variable {F : FTy → Type} [FloatOps F]
-- ==== KernelRecInFirst.lean ====
abbrev S8x8192x1024 : Shape := ⟨3, ![8, 8192, 1024]⟩
abbrev S1024 : Shape := ⟨1, ![1024]⟩
abbrev S1024x5120 : Shape := ⟨2, ![1024, 5120]⟩
abbrev S4x1024 : Shape := ⟨2, ![4, 1024]⟩
abbrev S1x1024 : Shape := ⟨2, ![1, 1024]⟩
abbrev S8x8256x1024 : Shape := ⟨3, ![8, 8256, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5120, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1024x5120, .bf16⟩
  | .hbm, ⟨7, _⟩ => ⟨S8x8256x1024, .bf16⟩
  | .hbm, ⟨8, _⟩ => ⟨S8x8256x1024, .bf16⟩
  | .hbm, ⟨9, _⟩ => ⟨S8x8256x1024, .f32⟩
  | .hbm, ⟨10, _⟩ => ⟨S8x8256x1024, .f32⟩
  | .hbm, ⟨11, _⟩ => ⟨S8x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5120, .bf16⟩
  | .local _ .vmem, ⟨4, _⟩ => ⟨S4x1024, .f32⟩
  | .local _ .vmem, ⟨5, _⟩ => ⟨S4x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceRecInFirstIdeal.lean ====
abbrev S8x8192x1024 : Shape := ⟨3, ![8, 8192, 1024]⟩
abbrev S1024 : Shape := ⟨1, ![1024]⟩
abbrev S1024x5120 : Shape := ⟨2, ![1024, 5120]⟩
abbrev S4x1024 : Shape := ⟨2, ![4, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5120 : Shape := ⟨3, ![8, 8192, 5120]⟩
abbrev S8x8256x1024 : Shape := ⟨3, ![8, 8256, 1024]⟩
abbrev S1x1024 : Shape := ⟨2, ![1, 1024]⟩

abbrev nBuf : Space → Nat
  | .hbm => 140
  | .vmem => 0
  | .smem => 0
  | _ => 0

abbrev hbmTy0_0 (i : Nat) : BufTy := match i % 128 with
  | 0 => ⟨S8x8192x1024, .f32⟩
  | 1 => ⟨S1024, .f32⟩
  | 2 => ⟨S1024x5120, .f32⟩
  | 3 => ⟨S4x1024, .f32⟩
  | 4 => ⟨S4x1024, .f32⟩
  | 5 => ⟨S8x8192x1024, .f32⟩
  | 6 => ⟨S_, .f32⟩
  | 7 => ⟨S8x8192, .f32⟩
  | 8 => ⟨S8x8192x1, .f32⟩
  | 9 => ⟨S_, .f32⟩
  | 10 => ⟨S8x8192x1, .f32⟩
  | 11 => ⟨S8x8192x1, .f32⟩
  | 12 => ⟨S_, .f32⟩
  | 13 => ⟨S8x8192x1, .f32⟩
  | 14 => ⟨S8x8192x1, .f32⟩
  | 15 => ⟨S8x8192x1, .f32⟩
  | 16 => ⟨S8x8192x1024, .f32⟩
  | 17 => ⟨S8x8192x1024, .f32⟩
  | 18 => ⟨S1x1x1024, .f32⟩
  | 19 => ⟨S8x8192x1024, .f32⟩
  | 20 => ⟨S8x8192x1024, .f32⟩
  | 21 => ⟨S8x8192x5120, .f32⟩
  | 22 => ⟨S8x8192x1024, .f32⟩
  | 23 => ⟨S8x8192x1024, .f32⟩
  | 24 => ⟨S8x8192x1024, .f32⟩
  | 25 => ⟨S8x8192x1024, .f32⟩
  | 26 => ⟨S8x8192x1024, .f32⟩
  | 27 => ⟨S8x8192x1024, .f32⟩
  | 28 => ⟨S8x8192x1024, .f32⟩
  | 29 => ⟨S_, .f32⟩
  | 30 => ⟨S8x8192x1024, .f32⟩
  | 31 => ⟨S8x8192x1024, .f32⟩
  | 32 => ⟨S_, .f32⟩
  | 33 => ⟨S8x8192x1024, .f32⟩
  | 34 => ⟨S8x8192x1024, .f32⟩
  | 35 => ⟨S8x8192x1024, .f32⟩
  | 36 => ⟨S_, .i32⟩
  | 37 => ⟨S_, .f32⟩
  | 38 => ⟨S8x8256x1024, .f32⟩
  | 39 => ⟨S_, .i32⟩
  | 40 => ⟨S_, .f32⟩
  | 41 => ⟨S8x8256x1024, .f32⟩
  | 42 => ⟨S_, .f32⟩
  | 43 => ⟨S1024, .f32⟩
  | 44 => ⟨S_, .f32⟩
  | 45 => ⟨S1024, .f32⟩
  | 46 => ⟨S1024, .f32⟩
  | 47 => ⟨S1x1024, .f32⟩
  | 48 => ⟨S4x1024, .f32⟩
  | 49 => ⟨S4x1024, .f32⟩
  | 50 => ⟨S4x1024, .f32⟩
  | 51 => ⟨S_, .f32⟩
  | 52 => ⟨S1024, .f32⟩
  | 53 => ⟨S1x1024, .f32⟩
  | 54 => ⟨S4x1024, .f32⟩
  | 55 => ⟨S4x1024, .f32⟩
  | 56 => ⟨S_, .f32⟩
  | 57 => ⟨S_, .f32⟩
  | 58 => ⟨S4x1024, .f32⟩
  | 59 => ⟨S1x1024, .f32⟩
  | 60 => ⟨S1024, .f32⟩
  | 61 => ⟨S1x1024, .f32⟩
  | 62 => ⟨S1024, .f32⟩
  | 63 => ⟨S1024, .f32⟩
  | 64 => ⟨S_, .f32⟩
  | 65 => ⟨S1024, .f32⟩
  | 66 => ⟨S1024, .f32⟩
  | 67 => ⟨S8x8192x1024, .f32⟩
  | 68 => ⟨S8x8192x1024, .f32⟩
  | 69 => ⟨S_, .f32⟩
  | 70 => ⟨S8x8192x1024, .f32⟩
  | 71 => ⟨S8x8192x1024, .f32⟩
  | 72 => ⟨S_, .f32⟩
  | 73 => ⟨S8x8192x1024, .f32⟩
  | 74 => ⟨S8x8192x1024, .f32⟩
  | 75 => ⟨S1x1x1024, .f32⟩
  | 76 => ⟨S8x8192x1024, .f32⟩
  | 77 => ⟨S8x8192x1024, .f32⟩
  | 78 => ⟨S1x1x1024, .f32⟩
  | 79 => ⟨S8x8192x1024, .f32⟩
  | 80 => ⟨S8x8192x1024, .f32⟩
  | 81 => ⟨S8x8192x1024, .f32⟩
  | 82 => ⟨S_, .i32⟩
  | 83 => ⟨S_, .f32⟩
  | 84 => ⟨S8x8256x1024, .f32⟩
  | 85 => ⟨S_, .f32⟩
  | 86 => ⟨S1024, .f32⟩
  | 87 => ⟨S_, .f32⟩
  | 88 => ⟨S1024, .f32⟩
  | 89 => ⟨S1024, .f32⟩
  | 90 => ⟨S1x1024, .f32⟩
  | 91 => ⟨S4x1024, .f32⟩
  | 92 => ⟨S4x1024, .f32⟩
  | 93 => ⟨S4x1024, .f32⟩
  | 94 => ⟨S_, .f32⟩
  | 95 => ⟨S1024, .f32⟩
  | 96 => ⟨S1x1024, .f32⟩
  | 97 => ⟨S4x1024, .f32⟩
  | 98 => ⟨S4x1024, .f32⟩
  | 99 => ⟨S_, .f32⟩
  | 100 => ⟨S_, .f32⟩
  | 101 => ⟨S4x1024, .f32⟩
  | 102 => ⟨S1x1024, .f32⟩
  | 103 => ⟨S1024, .f32⟩
  | 104 => ⟨S1x1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S8x8192x1024, .f32⟩
  | 111 => ⟨S8x8192x1024, .f32⟩
  | 112 => ⟨S_, .f32⟩
  | 113 => ⟨S8x8192x1024, .f32⟩
  | 114 => ⟨S8x8192x1024, .f32⟩
  | 115 => ⟨S_, .f32⟩
  | 116 => ⟨S8x8192x1024, .f32⟩
  | 117 => ⟨S8x8192x1024, .f32⟩
  | 118 => ⟨S1x1x1024, .f32⟩
  | 119 => ⟨S8x8192x1024, .f32⟩
  | 120 => ⟨S8x8192x1024, .f32⟩
  | 121 => ⟨S1x1x1024, .f32⟩
  | 122 => ⟨S8x8192x1024, .f32⟩
  | 123 => ⟨S8x8192x1024, .f32⟩
  | 124 => ⟨S8x8192x1024, .f32⟩
  | 125 => ⟨S_, .i32⟩
  | 126 => ⟨S_, .f32⟩
  | 127 => ⟨S8x8256x1024, .f32⟩
  | _ => ⟨S8x8192x1024, .f32⟩

abbrev hbmTy0_1 (i : Nat) : BufTy := match i % 128 with
  | 0 => ⟨S8x8256x1024, .bf16⟩
  | 1 => ⟨S8x8256x1024, .bf16⟩
  | 2 => ⟨S8x8192x1024, .f32⟩
  | 3 => ⟨S8x8192x1024, .f32⟩
  | 4 => ⟨S_, .f32⟩
  | 5 => ⟨S8x8192x1024, .f32⟩
  | 6 => ⟨S8x8192x1024, .f32⟩
  | 7 => ⟨S_, .f32⟩
  | 8 => ⟨S8x8192x1024, .f32⟩
  | 9 => ⟨S8x8192x1024, .f32⟩
  | 10 => ⟨S8x8192x1024, .f32⟩
  | 11 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_c : Ref sig .tc := ⟨.hbm, 36, rfl⟩
abbrev main_call1_v0 : Ref sig .tc := ⟨.hbm, 37, rfl⟩
abbrev main_v20 : Ref sig .tc := ⟨.hbm, 38, rfl⟩
abbrev main_c_2 : Ref sig .tc := ⟨.hbm, 39, rfl⟩
abbrev main_call2_v0 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call3_call0_cst : Ref sig .tc := ⟨.hbm, 56, rfl⟩
abbrev main_call3_call0_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_call4_v0 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call5_call0_cst : Ref sig .tc := ⟨.hbm, 99, rfl⟩
abbrev main_call5_call0_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_call6_v0 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call7_v0 : Ref sig .tc := ⟨.hbm, 130, rfl⟩
abbrev main_call7_v1 : Ref sig .tc := ⟨.hbm, 131, rfl⟩
abbrev main_call7_cst : Ref sig .tc := ⟨.hbm, 132, rfl⟩
abbrev main_call7_v2 : Ref sig .tc := ⟨.hbm, 133, rfl⟩
abbrev main_call7_v3 : Ref sig .tc := ⟨.hbm, 134, rfl⟩
abbrev main_call7_cst_0 : Ref sig .tc := ⟨.hbm, 135, rfl⟩
abbrev main_call7_v4 : Ref sig .tc := ⟨.hbm, 136, rfl⟩
abbrev main_call7_v5 : Ref sig .tc := ⟨.hbm, 137, rfl⟩
abbrev main_v90 : Ref sig .tc := ⟨.hbm, 138, rfl⟩
abbrev main_v91 : Ref sig .tc := ⟨.hbm, 139, rfl⟩

abbrev nD : Nat := 1
abbrev τ : Topo := Topo.v7x

variable {F : FTy → Type} [FloatOps F]
-- ==== KernelAttnMeta.lean ====
abbrev S8x16x1024 : Shape := ⟨3, ![8, 16, 1024]⟩
abbrev S8x16x256 : Shape := ⟨3, ![8, 16, 256]⟩
abbrev S8x8192x256 : Shape := ⟨3, ![8, 8192, 256]⟩
abbrev S8 : Shape := ⟨1, ![8]⟩
abbrev S1x16x1024 : Shape := ⟨3, ![1, 16, 1024]⟩
abbrev S1x16x256 : Shape := ⟨3, ![1, 16, 256]⟩
abbrev S1x128x256 : Shape := ⟨3, ![1, 128, 256]⟩
abbrev S64x128 : Shape := ⟨2, ![64, 128]⟩
abbrev S1x16x128 : Shape := ⟨3, ![1, 16, 128]⟩
abbrev S16x128 : Shape := ⟨2, ![16, 128]⟩
abbrev S64x16 : Shape := ⟨2, ![64, 16]⟩
abbrev S1x128x128 : Shape := ⟨3, ![1, 128, 128]⟩
abbrev S128x128 : Shape := ⟨2, ![128, 128]⟩
abbrev S1 : Shape := ⟨1, ![1]⟩
abbrev S16x1 : Shape := ⟨2, ![16, 1]⟩
abbrev S64x1 : Shape := ⟨2, ![64, 1]⟩
abbrev S64 : Shape := ⟨1, ![64]⟩

abbrev nBuf : Space → Nat
  | .hbm => 7
  | .vmem => 12
  | .smem => 1
  | _ => 0

abbrev bufTy : (tb : Table) → Fin (tcTables nBuf tb) → BufTy
  | .hbm, ⟨0, _⟩ => ⟨S8x16x1024, .bf16⟩
  | .hbm, ⟨1, _⟩ => ⟨S8x16x256, .bf16⟩
  | .hbm, ⟨2, _⟩ => ⟨S8x16x256, .bf16⟩
  | .hbm, ⟨3, _⟩ => ⟨S8x8192x256, .bf16⟩
  | .hbm, ⟨4, _⟩ => ⟨S8x8192x256, .bf16⟩
  | .hbm, ⟨5, _⟩ => ⟨S8, .f32⟩
  | .hbm, ⟨6, _⟩ => ⟨S8x16x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x16x256, .bf16⟩
  | .local _ .vmem, ⟨3, _⟩ => ⟨S1x16x256, .bf16⟩
  | .local _ .vmem, ⟨4, _⟩ => ⟨S1x16x256, .bf16⟩
  | .local _ .vmem, ⟨5, _⟩ => ⟨S1x16x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x16x1024, .bf16⟩
  | .local _ .vmem, ⟨11, _⟩ => ⟨S1x16x1024, .bf16⟩
  | .local _ .smem, ⟨0, _⟩ => ⟨S8, .f32⟩
  | _, _ => ⟨S8x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAttnMetaIdeal.lean ====
abbrev S8x16x1024 : Shape := ⟨3, ![8, 16, 1024]⟩
abbrev S8x16x256 : Shape := ⟨3, ![8, 16, 256]⟩
abbrev S8x8192x256 : Shape := ⟨3, ![8, 8192, 256]⟩
abbrev S8 : Shape := ⟨1, ![8]⟩
abbrev S8x16x2x4x128 : Shape := ⟨5, ![8, 16, 2, 4, 128]⟩
abbrev S8x16x2x128 : Shape := ⟨4, ![8, 16, 2, 128]⟩
abbrev S8x8192x2x128 : Shape := ⟨4, ![8, 8192, 2, 128]⟩
abbrev S2x4 : Shape := ⟨2, ![2, 4]⟩
abbrev S8x128x2x128 : Shape := ⟨4, ![8, 128, 2, 128]⟩
abbrev S8x144x2x128 : Shape := ⟨4, ![8, 144, 2, 128]⟩
abbrev S16 : Shape := ⟨1, ![16]⟩
abbrev S16x1 : Shape := ⟨2, ![16, 1]⟩
abbrev S144 : Shape := ⟨1, ![144]⟩
abbrev S1x144 : Shape := ⟨2, ![1, 144]⟩
abbrev S_ : Shape := ⟨0, ![]⟩
abbrev S16x144 : Shape := ⟨2, ![16, 144]⟩
abbrev S8x2x144x16x4 : Shape := ⟨5, ![8, 2, 144, 16, 4]⟩
abbrev S8x2x4x16x144 : Shape := ⟨5, ![8, 2, 4, 16, 144]⟩
abbrev S1x1x1x16x144 : Shape := ⟨5, ![1, 1, 1, 16, 144]⟩
abbrev S1x2x4x1x1 : Shape := ⟨5, ![1, 2, 4, 1, 1]⟩
abbrev S8x2x4x16x1 : Shape := ⟨5, ![8, 2, 4, 16, 1]⟩
abbrev S8x2x4x16x145 : Shape := ⟨5, ![8, 2, 4, 16, 145]⟩
abbrev S8x2x4x16 : Shape := ⟨4, ![8, 2, 4, 16]⟩
abbrev S8x2x128x4x16 : Shape := ⟨5, ![8, 2, 128, 4, 16]⟩

abbrev nBuf : Space → Nat
  | .hbm => 66
  | .vmem => 0
  | .smem => 0
  | _ => 0

abbrev bufTy : (tb : Table) → Fin (tcTables nBuf tb) → BufTy
  | .hbm, ⟨0, _⟩ => ⟨S8x16x1024, .bf16⟩
  | .hbm, ⟨1, _⟩ => ⟨S8x16x256, .bf16⟩
  | .hbm, ⟨2, _⟩ => ⟨S8x16x256, .bf16⟩
  | .hbm, ⟨3, _⟩ => ⟨S8x8192x256, .bf16⟩
  | .hbm, ⟨4, _⟩ => ⟨S8x8192x256, .bf16⟩
  | .hbm, ⟨5, _⟩ => ⟨S8, .f32⟩
  | .hbm, ⟨6, _⟩ => ⟨S8x16x1024, .f32⟩
  | .hbm, ⟨7, _⟩ => ⟨S8x16x256, .f32⟩
  | .hbm, ⟨8, _⟩ => ⟨S8x16x256, .f32⟩
  | .hbm, ⟨9, _⟩ => ⟨S8x8192x256, .f32⟩
  | .hbm, ⟨10, _⟩ => ⟨S8x8192x256, .f32⟩
  | .hbm, ⟨11, _⟩ => ⟨S8x16x2x4x128, .f32⟩
  | .hbm, ⟨12, _⟩ => ⟨S8x16x2x128, .f32⟩
  | .hbm, ⟨13, _⟩ => ⟨S8x16x2x128, .f32⟩
  | .hbm, ⟨14, _⟩ => ⟨S8x8192x2x128, .f32⟩
  | .hbm, ⟨15, _⟩ => ⟨S8x8192x2x128, .f32⟩
  | .hbm, ⟨16, _⟩ => ⟨S2x4, .f32⟩
  | .hbm, ⟨17, _⟩ => ⟨S8x128x2x128, .f32⟩
  | .hbm, ⟨18, _⟩ => ⟨S8x144x2x128, .f32⟩
  | .hbm, ⟨19, _⟩ => ⟨S8x128x2x128, .f32⟩
  | .hbm, ⟨20, _⟩ => ⟨S8x144x2x128, .f32⟩
  | .hbm, ⟨21, _⟩ => ⟨S16, .i32⟩
  | .hbm, ⟨22, _⟩ => ⟨S16x1, .i32⟩
  | .hbm, ⟨23, _⟩ => ⟨S144, .i32⟩
  | .hbm, ⟨24, _⟩ => ⟨S1x144, .i32⟩
  | .hbm, ⟨25, _⟩ => ⟨S_, .i32⟩
  | .hbm, ⟨26, _⟩ => ⟨S1x144, .i32⟩
  | .hbm, ⟨27, _⟩ => ⟨S1x144, .i1⟩
  | .hbm, ⟨28, _⟩ => ⟨S16x144, .i32⟩
  | .hbm, ⟨29, _⟩ => ⟨S16x144, .i32⟩
  | .hbm, ⟨30, _⟩ => ⟨S16x144, .i32⟩
  | .hbm, ⟨31, _⟩ => ⟨S_, .i32⟩
  | .hbm, ⟨32, _⟩ => ⟨S16x144, .i32⟩
  | .hbm, ⟨33, _⟩ => ⟨S16x144, .i1⟩
  | .hbm, ⟨34, _⟩ => ⟨S16x144, .i1⟩
  | .hbm, ⟨35, _⟩ => ⟨S16x144, .i1⟩
  | .hbm, ⟨36, _⟩ => ⟨S8x2x144x16x4, .f32⟩
  | .hbm, ⟨37, _⟩ => ⟨S8x2x4x16x144, .f32⟩
  | .hbm, ⟨38, _⟩ => ⟨S1x1x1x16x144, .i1⟩
  | .hbm, ⟨39, _⟩ => ⟨S_, .f32⟩
  | .hbm, ⟨40, _⟩ => ⟨S_, .f32⟩
  | .hbm, ⟨41, _⟩ => ⟨S8x2x4x16x144, .i1⟩
  | .hbm, ⟨42, _⟩ => ⟨S8x2x4x16x144, .f32⟩
  | .hbm, ⟨43, _⟩ => ⟨S8x2x4x16x144, .f32⟩
  | .hbm, ⟨44, _⟩ => ⟨S1x2x4x1x1, .f32⟩
  | .hbm, ⟨45, _⟩ => ⟨S8x2x4x16x1, .f32⟩
  | .hbm, ⟨46, _⟩ => ⟨S8x2x4x16x145, .f32⟩
  | .hbm, ⟨47, _⟩ => ⟨S_, .f32⟩
  | .hbm, ⟨48, _⟩ => ⟨S8x2x4x16, .f32⟩
  | .hbm, ⟨49, _⟩ => ⟨S_, .f32⟩
  | .hbm, ⟨50, _⟩ => ⟨S8x2x4x16, .f32⟩
  | .hbm, ⟨51, _⟩ => ⟨S8x2x4x16, .f32⟩
  | .hbm, ⟨52, _⟩ => ⟨S8x2x4x16x1, .f32⟩
  | .hbm, ⟨53, _⟩ => ⟨S8x2x4x16x145, .f32⟩
  | .hbm, ⟨54, _⟩ => ⟨S8x2x4x16x145, .f32⟩
  | .hbm, ⟨55, _⟩ => ⟨S8x2x4x16x145, .f32⟩
  | .hbm, ⟨56, _⟩ => ⟨S_, .f32⟩
  | .hbm, ⟨57, _⟩ => ⟨S8x2x4x16, .f32⟩
  | .hbm, ⟨58, _⟩ => ⟨S8x2x4x16x1, .f32⟩
  | .hbm, ⟨59, _⟩ => ⟨S8x2x4x16x145, .f32⟩
  | .hbm, ⟨60, _⟩ => ⟨S8x2x4x16x145, .f32⟩
  | .hbm, ⟨61, _⟩ => ⟨S8x2x4x16x144, .f32⟩
  | .hbm, ⟨62, _⟩ => ⟨S8x2x128x4x16, .f32⟩
  | .hbm, ⟨63, _⟩ => ⟨S8x16x2x4x128, .f32⟩
  | .hbm, ⟨64, _⟩ => ⟨S8x16x1024, .f32⟩
  | .hbm, ⟨65, _⟩ => ⟨S8x16x1024, .bf16⟩
  | _, _ => ⟨S8x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== KernelRecInMeta.lean ====
abbrev S8x16x1024 : Shape := ⟨3, ![8, 16, 1024]⟩
abbrev S1024 : Shape := ⟨1, ![1024]⟩
abbrev S1024x5120 : Shape := ⟨2, ![1024, 5120]⟩
abbrev S4x1024 : Shape := ⟨2, ![4, 1024]⟩
abbrev S8x8256x1024 : Shape := ⟨3, ![8, 8256, 1024]⟩
abbrev S1x1024 : Shape := ⟨2, ![1, 1024]⟩
abbrev S8x64x1024 : Shape := ⟨3, ![8, 64, 1024]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩
abbrev S3x1024 : Shape := ⟨2, ![3, 1024]⟩
abbrev S8x48x1024 : Shape := ⟨3, ![8, 48, 1024]⟩

abbrev nBuf : Space → Nat
  | .hbm => 16
  | .vmem => 10
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x5120, .f32⟩
  | .hbm, ⟨3, _⟩ => ⟨S4x1024, .f32⟩
  | .hbm, ⟨4, _⟩ => ⟨S4x1024, .f32⟩
  | .hbm, ⟨5, _⟩ => ⟨S8x8256x1024, .bf16⟩
  | .hbm, ⟨6, _⟩ => ⟨S8x8256x1024, .bf16⟩
  | .hbm, ⟨7, _⟩ => ⟨S8x8256x1024, .f32⟩
  | .hbm, ⟨8, _⟩ => ⟨S8x8256x1024, .f32⟩
  | .hbm, ⟨9, _⟩ => ⟨S1x1024, .f32⟩
  | .hbm, ⟨10, _⟩ => ⟨S1024x5120, .bf16⟩
  | .hbm, ⟨11, _⟩ => ⟨S8x8256x1024, .bf16⟩
  | .hbm, ⟨12, _⟩ => ⟨S8x8256x1024, .bf16⟩
  | .hbm, ⟨13, _⟩ => ⟨S8x8256x1024, .f32⟩
  | .hbm, ⟨14, _⟩ => ⟨S8x8256x1024, .f32⟩
  | .hbm, ⟨15, _⟩ => ⟨S8x16x1024, .bf16⟩
  | .local _ .vmem, ⟨0, _⟩ => ⟨S8x16x1024, .f32⟩
  | .local _ .vmem, ⟨1, _⟩ => ⟨S1x1024, .f32⟩
  | .local _ .vmem, ⟨2, _⟩ => ⟨S1024x5120, .bf16⟩
  | .local _ .vmem, ⟨3, _⟩ => ⟨S4x1024, .f32⟩
  | .local _ .vmem, ⟨4, _⟩ => ⟨S4x1024, .f32⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .f32⟩
  | .local _ .vmem, ⟨8, _⟩ => ⟨S8x64x1024, .f32⟩
  | .local _ .vmem, ⟨9, _⟩ => ⟨S8x16x1024, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c128_i32 : BitVec 32 := 128#32
  let c0_i32_0 : BitVec 32 := 0#32
  let c0_i32_1 : BitVec 32 := 0#32
  ![c0_i32.toNat, c128_i32.toNat, c0_i32_0.toNat]

def cc0_transform_10 (i : grid0.Coords) : Fin 3 → Nat :=
  let arg0 : BitVec 32 := BitVec.ofNat 32 (i 0).val
  let c0_i32 : BitVec 32 := 0#32
  let c128_i32 : BitVec 32 := 128#32
  let c0_i32_0 : BitVec 32 := 0#32
  let c0_i32_1 : BitVec 32 := 0#32
  ![c0_i32.toNat, c128_i32.toNat, c0_i32_0.toNat]

def cc0_transform_11 (i : grid0.Coords) : Fin 3 → Nat :=
  let arg0 : BitVec 32 := BitVec.ofNat 32 (i 0).val
  let c0_i32 : BitVec 32 := 0#32
  let c128_i32 : BitVec 32 := 128#32
  let c0_i32_0 : BitVec 32 := 0#32
  let c0_i32_1 : BitVec 32 := 0#32
  ![c0_i32.toNat, c128_i32.toNat, c0_i32_0.toNat]

def cc0_transform_12 (i : grid0.Coords) : Fin 3 → Nat :=
  let arg0 : BitVec 32 := BitVec.ofNat 32 (i 0).val
  let c0_i32 : BitVec 32 := 0#32
  let c128_i32 : BitVec 32 := 128#32
  let c0_i32_0 : BitVec 32 := 0#32
  let c0_i32_1 : BitVec 32 := 0#32
  ![c0_i32.toNat, c128_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceRecInMetaIdeal.lean ====
abbrev S8x16x1024 : Shape := ⟨3, ![8, 16, 1024]⟩
abbrev S1024 : Shape := ⟨1, ![1024]⟩
abbrev S1024x5120 : Shape := ⟨2, ![1024, 5120]⟩
abbrev S4x1024 : Shape := ⟨2, ![4, 1024]⟩
abbrev S8x8256x1024 : Shape := ⟨3, ![8, 8256, 1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x5120 : Shape := ⟨3, ![8, 16, 5120]⟩
abbrev S8x8192x1024 : Shape := ⟨3, ![8, 8192, 1024]⟩
abbrev S8x64x1024 : Shape := ⟨3, ![8, 64, 1024]⟩
abbrev S1x1024 : Shape := ⟨2, ![1, 1024]⟩

abbrev nBuf : Space → Nat
  | .hbm => 152
  | .vmem => 0
  | .smem => 0
  | _ => 0

abbrev hbmTy0_0 (i : Nat) : BufTy := match i % 128 with
  | 0 => ⟨S8x16x1024, .f32⟩
  | 1 => ⟨S1024, .f32⟩
  | 2 => ⟨S1024x5120, .f32⟩
  | 3 => ⟨S4x1024, .f32⟩
  | 4 => ⟨S4x1024, .f32⟩
  | 5 => ⟨S8x8256x1024, .bf16⟩
  | 6 => ⟨S8x8256x1024, .bf16⟩
  | 7 => ⟨S8x8256x1024, .f32⟩
  | 8 => ⟨S8x8256x1024, .f32⟩
  | 9 => ⟨S8x16x1024, .f32⟩
  | 10 => ⟨S_, .f32⟩
  | 11 => ⟨S8x16, .f32⟩
  | 12 => ⟨S8x16x1, .f32⟩
  | 13 => ⟨S_, .f32⟩
  | 14 => ⟨S8x16x1, .f32⟩
  | 15 => ⟨S8x16x1, .f32⟩
  | 16 => ⟨S_, .f32⟩
  | 17 => ⟨S8x16x1, .f32⟩
  | 18 => ⟨S8x16x1, .f32⟩
  | 19 => ⟨S8x16x1, .f32⟩
  | 20 => ⟨S8x16x1024, .f32⟩
  | 21 => ⟨S8x16x1024, .f32⟩
  | 22 => ⟨S1x1x1024, .f32⟩
  | 23 => ⟨S8x16x1024, .f32⟩
  | 24 => ⟨S8x16x1024, .f32⟩
  | 25 => ⟨S8x16x5120, .f32⟩
  | 26 => ⟨S8x16x1024, .f32⟩
  | 27 => ⟨S8x16x1024, .f32⟩
  | 28 => ⟨S8x16x1024, .f32⟩
  | 29 => ⟨S8x16x1024, .f32⟩
  | 30 => ⟨S8x16x1024, .f32⟩
  | 31 => ⟨S8x16x1024, .f32⟩
  | 32 => ⟨S8x16x1024, .f32⟩
  | 33 => ⟨S_, .f32⟩
  | 34 => ⟨S8x16x1024, .f32⟩
  | 35 => ⟨S8x16x1024, .f32⟩
  | 36 => ⟨S_, .f32⟩
  | 37 => ⟨S8x16x1024, .f32⟩
  | 38 => ⟨S8x16x1024, .f32⟩
  | 39 => ⟨S8x16x1024, .f32⟩
  | 40 => ⟨S8x8192x1024, .bf16⟩
  | 41 => ⟨S_, .i32⟩
  | 42 => ⟨S_, .f32⟩
  | 43 => ⟨S8x64x1024, .f32⟩
  | 44 => ⟨S8x64x1024, .bf16⟩
  | 45 => ⟨S8x8256x1024, .bf16⟩
  | 46 => ⟨S8x8192x1024, .bf16⟩
  | 47 => ⟨S_, .i32⟩
  | 48 => ⟨S_, .f32⟩
  | 49 => ⟨S8x64x1024, .f32⟩
  | 50 => ⟨S8x64x1024, .bf16⟩
  | 51 => ⟨S8x8256x1024, .bf16⟩
  | 52 => ⟨S_, .f32⟩
  | 53 => ⟨S1024, .f32⟩
  | 54 => ⟨S_, .f32⟩
  | 55 => ⟨S1024, .f32⟩
  | 56 => ⟨S1024, .f32⟩
  | 57 => ⟨S1x1024, .f32⟩
  | 58 => ⟨S4x1024, .f32⟩
  | 59 => ⟨S4x1024, .f32⟩
  | 60 => ⟨S4x1024, .f32⟩
  | 61 => ⟨S_, .f32⟩
  | 62 => ⟨S1024, .f32⟩
  | 63 => ⟨S1x1024, .f32⟩
  | 64 => ⟨S4x1024, .f32⟩
  | 65 => ⟨S4x1024, .f32⟩
  | 66 => ⟨S_, .f32⟩
  | 67 => ⟨S_, .f32⟩
  | 68 => ⟨S4x1024, .f32⟩
  | 69 => ⟨S1x1024, .f32⟩
  | 70 => ⟨S1024, .f32⟩
  | 71 => ⟨S1x1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S8x16x1024, .f32⟩
  | 78 => ⟨S8x16x1024, .f32⟩
  | 79 => ⟨S_, .f32⟩
  | 80 => ⟨S8x16x1024, .f32⟩
  | 81 => ⟨S8x16x1024, .f32⟩
  | 82 => ⟨S_, .f32⟩
  | 83 => ⟨S8x16x1024, .f32⟩
  | 84 => ⟨S8x16x1024, .f32⟩
  | 85 => ⟨S1x1x1024, .f32⟩
  | 86 => ⟨S8x16x1024, .f32⟩
  | 87 => ⟨S8x16x1024, .f32⟩
  | 88 => ⟨S1x1x1024, .f32⟩
  | 89 => ⟨S8x16x1024, .f32⟩
  | 90 => ⟨S8x16x1024, .f32⟩
  | 91 => ⟨S8x16x1024, .f32⟩
  | 92 => ⟨S8x8192x1024, .f32⟩
  | 93 => ⟨S_, .i32⟩
  | 94 => ⟨S_, .f32⟩
  | 95 => ⟨S8x64x1024, .f32⟩
  | 96 => ⟨S8x8256x1024, .f32⟩
  | 97 => ⟨S_, .f32⟩
  | 98 => ⟨S1024, .f32⟩
  | 99 => ⟨S_, .f32⟩
  | 100 => ⟨S1024, .f32⟩
  | 101 => ⟨S1024, .f32⟩
  | 102 => ⟨S1x1024, .f32⟩
  | 103 => ⟨S4x1024, .f32⟩
  | 104 => ⟨S4x1024, .f32⟩
  | 105 => ⟨S4x1024, .f32⟩
  | 106 => ⟨S_, .f32⟩
  | 107 => ⟨S1024, .f32⟩
  | 108 => ⟨S1x1024, .f32⟩
  | 109 => ⟨S4x1024, .f32⟩
  | 110 => ⟨S4x1024, .f32⟩
  | 111 => ⟨S_, .f32⟩
  | 112 => ⟨S_, .f32⟩
  | 113 => ⟨S4x1024, .f32⟩
  | 114 => ⟨S1x1024, .f32⟩
  | 115 => ⟨S1024, .f32⟩
  | 116 => ⟨S1x1024, .f32⟩
  | 117 => ⟨S1024, .f32⟩
  | 118 => ⟨S1024, .f32⟩
  | 119 => ⟨S_, .f32⟩
  | 120 => ⟨S1024, .f32⟩
  | 121 => ⟨S1024, .f32⟩
  | 122 => ⟨S8x16x1024, .f32⟩
  | 123 => ⟨S8x16x1024, .f32⟩
  | 124 => ⟨S_, .f32⟩
  | 125 => ⟨S8x16x1024, .f32⟩
  | 126 => ⟨S8x16x1024, .f32⟩
  | 127 => ⟨S_, .f32⟩
  | _ => ⟨S8x16x1024, .f32⟩

abbrev hbmTy0_1 (i : Nat) : BufTy := match i % 128 with
  | 0 => ⟨S8x16x1024, .f32⟩
  | 1 => ⟨S8x16x1024, .f32⟩
  | 2 => ⟨S1x1x1024, .f32⟩
  | 3 => ⟨S8x16x1024, .f32⟩
  | 4 => ⟨S8x16x1024, .f32⟩
  | 5 => ⟨S1x1x1024, .f32⟩
  | 6 => ⟨S8x16x1024, .f32⟩
  | 7 => ⟨S8x16x1024, .f32⟩
  | 8 => ⟨S8x16x1024, .f32⟩
  | 9 => ⟨S8x8192x1024, .f32⟩
  | 10 => ⟨S_, .i32⟩
  | 11 => ⟨S_, .f32⟩
  | 12 => ⟨S8x64x1024, .f32⟩
  | 13 => ⟨S8x8256x1024, .f32⟩
  | 14 => ⟨S8x16x1024, .f32⟩
  | 15 => ⟨S8x16x1024, .f32⟩
  | 16 => ⟨S_, .f32⟩
  | 17 => ⟨S8x16x1024, .f32⟩
  | 18 => ⟨S8x16x1024, .f32⟩
  | 19 => ⟨S_, .f32⟩
  | 20 => ⟨S8x16x1024, .f32⟩
  | 21 => ⟨S8x16x1024, .f32⟩
  | 22 => ⟨S8x16x1024, .f32⟩
  | 23 => ⟨S8x16x1024, .bf16⟩
  | _ => ⟨S8x16x1024, .f32⟩

abbrev hbmTy (i : Nat) : BufTy := match i / 128 with
  | 0 => hbmTy0_0 i
  | 1 => hbmTy0_1 i
  | _ => ⟨S8x16x1024, .f32⟩

abbrev bufTy : (tb : Table) → Fin (tcTables nBuf tb) → BufTy
  | .hbm, ⟨i, _⟩ => hbmTy i
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_call1_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call3_call0_cst : Ref sig .tc := ⟨.hbm, 66, rfl⟩
abbrev main_call3_call0_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_9 : Ref sig .tc := ⟨.hbm, 93, rfl⟩
abbrev main_call4_v0 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call5_call0_cst : Ref sig .tc := ⟨.hbm, 111, rfl⟩
abbrev main_call5_call0_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_16 : Ref sig .tc := ⟨.hbm, 138, rfl⟩
abbrev main_call6_v0 : Ref sig .tc := ⟨.hbm, 139, rfl⟩
abbrev main_v96 : Ref sig .tc := ⟨.hbm, 140, rfl⟩
abbrev main_v97 : Ref sig .tc := ⟨.hbm, 141, rfl⟩
abbrev main_call7_v0 : Ref sig .tc := ⟨.hbm, 142, rfl⟩
abbrev main_call7_v1 : Ref sig .tc := ⟨.hbm, 143, rfl⟩
abbrev main_call7_cst : Ref sig .tc := ⟨.hbm, 144, rfl⟩
abbrev main_call7_v2 : Ref sig .tc := ⟨.hbm, 145, rfl⟩
abbrev main_call7_v3 : Ref sig .tc := ⟨.hbm, 146, rfl⟩
abbrev main_call7_cst_0 : Ref sig .tc := ⟨.hbm, 147, rfl⟩
abbrev main_call7_v4 : Ref sig .tc := ⟨.hbm, 148, rfl⟩
abbrev main_call7_v5 : Ref sig .tc := ⟨.hbm, 149, rfl⟩
abbrev main_v98 : Ref sig .tc := ⟨.hbm, 150, rfl⟩
abbrev main_v99 : Ref sig .tc := ⟨.hbm, 151, rfl⟩

abbrev nD : Nat := 1
abbrev τ : Topo := Topo.v7x

variable {F : FTy → Type} [FloatOps F]
-- ==== Proof.Softmax.lean ====
/-
  One row of softmax attention over the extended reals, in the two forms that the kernel and the
  reference use: the kernel sums `exp (s - M) * v` over the keys and divides once at the end, the
  reference divides every `exp (s - M)` first and sums afterwards. The keys come in two groups, the
  band's and the meta tokens', and one more score, the sink's, has no value.
-/
module

public import Idealize.ShloMosaic.PureOps.Ideal

@[expose] public section

noncomputable section

namespace Cert.Proof.Softmax

open Idealize.ShloMosaic

variable {n k : ℕ}

/-- The greatest of the sink's, the band's and the meta tokens' scores. -/
def rowMax (sb : Fin n → EReal) (sm : Fin k → EReal) (sk : EReal) : EReal :=
  max (max sk (Finset.univ.fold max ⊥ sb)) (Finset.univ.fold max ⊥ sm)

/-- The softmax denominator: the exponentials of all scores less the greatest, summed. -/
def den (sb : Fin n → EReal) (sm : Fin k → EReal) (sk : EReal) : EReal :=
  Ideal.exp (sk - rowMax sb sm sk) + ∑ i, Ideal.exp (sb i - rowMax sb sm sk)
    + ∑ i, Ideal.exp (sm i - rowMax sb sm sk)

/-- One element of the attention row's result, divided once at the end: the kernel's form. -/
def attend (sb : Fin n → EReal) (sm : Fin k → EReal) (sk : EReal) (v : Fin n → EReal) (vm : Fin k → EReal) : EReal :=
  Ideal.div (∑ i, Ideal.exp (sb i - rowMax sb sm sk) * v i + ∑ i, Ideal.exp (sm i - rowMax sb sm sk) * vm i)
    (den sb sm sk)

/-- The greatest score is that of all scores laid in one list `x`: the band's, the meta tokens', the sink's. -/
theorem rowMax_eq (sb : Fin n → EReal) (sm : Fin k → EReal) (sk : EReal) (x : Fin (n + k + 1) → EReal)
    (hb : ∀ i : Fin n, x ((i.castAdd k).castAdd 1) = sb i) (hm : ∀ i : Fin k, x ((i.natAdd n).castAdd 1) = sm i)
    (hs : x (Fin.natAdd (n + k) 0) = sk) : Finset.univ.fold max ⊥ x = rowMax sb sm sk := by
  apply le_antisymm
  · refine Finset.fold_max_le _ |>.2 ⟨bot_le, fun i _ => ?_⟩
    refine Fin.addCases (fun j => ?_) (fun j => ?_) i
    · refine Fin.addCases (fun l => ?_) (fun l => ?_) j
      · rw [hb]
        exact le_max_of_le_left (le_max_of_le_right ((Finset.le_fold_max _).2 (.inr ⟨l, Finset.mem_univ _, le_rfl⟩)))
      · rw [hm]
        exact le_max_of_le_right ((Finset.le_fold_max _).2 (.inr ⟨l, Finset.mem_univ _, le_rfl⟩))
    · obtain rfl : j = 0 := Subsingleton.elim _ _
      rw [hs]
      exact le_max_of_le_left (le_max_left _ _)
  · refine max_le (max_le ?_ ?_) ?_
    · exact (Finset.le_fold_max _).2 (.inr ⟨_, Finset.mem_univ _, hs.ge⟩)
    · exact (Finset.fold_max_le _).2 ⟨bot_le, fun i _ => (Finset.le_fold_max _).2 (.inr ⟨_, Finset.mem_univ _, (hb i).ge⟩)⟩
    · exact (Finset.fold_max_le _).2 ⟨bot_le, fun i _ => (Finset.le_fold_max _).2 (.inr ⟨_, Finset.mem_univ _, (hm i).ge⟩)⟩

/-- The denominator is the sum of the exponentials over that list. -/
theorem den_eq (sb : Fin n → EReal) (sm : Fin k → EReal) (sk : EReal) (x : Fin (n + k + 1) → EReal)
    (hb : ∀ i : Fin n, x ((i.castAdd k).castAdd 1) = sb i) (hm : ∀ i : Fin k, x ((i.natAdd n).castAdd 1) = sm i)
    (hs : x (Fin.natAdd (n + k) 0) = sk) : ∑ i, Ideal.exp (x i - rowMax sb sm sk) = den sb sm sk := by
  rw [Fin.sum_univ_add, Fin.sum_univ_add]
  simp only [hb, hm, Fin.sum_univ_one, hs, den]
  rw [add_comm, ← add_assoc]

/-- The exponential of a score that is not `+∞`, less a finite bound, is a real number that is not negative. -/
theorem exp_sub_real (x : EReal) (hx : x ≠ ⊤) (r : ℝ) : ∃ e : ℝ, 0 ≤ e ∧ Ideal.exp (x - r) = e := by
  induction x with
  | bot => exact ⟨0, le_rfl, by rw [EReal.bot_sub]; rfl⟩
  | coe a => exact ⟨Real.exp (a - r), (Real.exp_pos _).le, by rw [← EReal.coe_sub]; rfl⟩
  | top => exact absurd rfl hx

/-- With every score below `+∞` and the sink's finite, the greatest score is finite. -/
theorem rowMax_real (sb : Fin n → EReal) (sm : Fin k → EReal) (sk : EReal) (hb : ∀ i, sb i ≠ ⊤) (hm : ∀ i, sm i ≠ ⊤)
    (hs : sk ≠ ⊤) (hs' : sk ≠ ⊥) : ∃ r : ℝ, rowMax sb sm sk = r := by
  have h1 : rowMax sb sm sk ≠ ⊤ := by
    refine (max_lt (max_lt hs.lt_top ?_) ?_).ne
    · exact (Finset.fold_max_lt _).2 ⟨bot_lt_top, fun i _ => (hb i).lt_top⟩
    · exact (Finset.fold_max_lt _).2 ⟨bot_lt_top, fun i _ => (hm i).lt_top⟩
  have h2 : rowMax sb sm sk ≠ ⊥ := by
    refine (lt_of_lt_of_le hs'.bot_lt ?_).ne'
    exact le_max_of_le_left (le_max_left _ _)
  exact ⟨_, (EReal.coe_toReal h1 h2).symm⟩

/-- A finite sum of real numbers is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers that are not negative is one. -/
theorem sum_real {ι : Type*} (s : Finset ι) (f : ι → EReal) (hf : ∀ i, ∃ e : ℝ, 0 ≤ e ∧ f i = e) :
    ∃ e : ℝ, 0 ≤ e ∧ ∑ i ∈ s, f i = e := by
  choose g hg hfg using hf
  refine ⟨∑ i ∈ s, g i, Finset.sum_nonneg fun i _ => hg i, ?_⟩
  rw [coe_sum]
  exact Finset.sum_congr rfl fun i _ => hfg i

/-- With every score below `+∞` and the sink's finite, the denominator is a positive real number. -/
theorem den_real (sb : Fin n → EReal) (sm : Fin k → EReal) (sk : EReal) (hb : ∀ i, sb i ≠ ⊤) (hm : ∀ i, sm i ≠ ⊤)
    (hs : sk ≠ ⊤) (hs' : sk ≠ ⊥) : ∃ d : ℝ, 0 < d ∧ den sb sm sk = d := by
  obtain ⟨r, hr⟩ := rowMax_real sb sm sk hb hm hs hs'
  obtain ⟨a, ha, hae⟩ := sum_real Finset.univ _ fun i => exp_sub_real (sb i) (hb i) r
  obtain ⟨b, hb', hbe⟩ := sum_real Finset.univ _ fun i => exp_sub_real (sm i) (hm i) r
  lift sk to ℝ using ⟨hs, hs'⟩
  refine ⟨Real.exp (sk - r) + a + b, by positivity, ?_⟩
  rw [den, hr, hae, hbe, EReal.coe_add, EReal.coe_add, ← EReal.coe_sub]
  rfl

/-- Division by a positive real number passes into a finite sum of products. -/
theorem sum_div_mul {ι : Type*} (s : Finset ι) (e v : ι → EReal) (d : ℝ) (hd : 0 < d) :
    ∑ i ∈ s, Ideal.div (e i) d * v i = (∑ i ∈ s, e i * v i) * ((1 / d : ℝ) : EReal) := by
  have hc : (0 : EReal) ≤ ((1 / d : ℝ) : EReal) := by exact_mod_cast (by positivity : (0 : ℝ) ≤ 1 / d)
  classical
  induction s using Finset.induction_on with
  | empty => simp
  | insert a s ha ih =>
    rw [Finset.sum_insert ha, Finset.sum_insert ha, ih, Ideal.div_coe hd.ne',
      EReal.right_distrib_of_nonneg_of_ne_top hc (EReal.coe_ne_top _)]
    congr 1
    rw [mul_assoc, mul_comm _ (v a), ← mul_assoc]

/-- THE TWO FORMS AGREE: dividing every exponential by the denominator before the sums gives what dividing once at the
    end gives, where every score is below `+∞` and the sink's is finite. The reference's values `v'` may differ from the
    kernel's `v` where the score is `-∞`. -/
theorem attend_eq (sb : Fin n → EReal) (sm : Fin k → EReal) (sk : EReal) (v v' : Fin n → EReal) (vm : Fin k → EReal)
    (hb : ∀ i, sb i ≠ ⊤) (hm : ∀ i, sm i ≠ ⊤) (hs : sk ≠ ⊤) (hs' : sk ≠ ⊥) (hv : ∀ i, sb i = ⊥ ∨ v i = v' i) :
    ∑ i, Ideal.div (Ideal.exp (sb i - rowMax sb sm sk)) (den sb sm sk) * v' i
      + ∑ i, Ideal.div (Ideal.exp (sm i - rowMax sb sm sk)) (den sb sm sk) * vm i = attend sb sm sk v vm := by
  obtain ⟨d, hd, hde⟩ := den_real sb sm sk hb hm hs hs'
  have hc : (0 : EReal) ≤ ((1 / d : ℝ) : EReal) := by exact_mod_cast (by positivity : (0 : ℝ) ≤ 1 / d)
  have hvv : ∀ i, Ideal.exp (sb i - rowMax sb sm sk) * v i = Ideal.exp (sb i - rowMax sb sm sk) * v' i := by
    intro i
    rcases hv i with h | h
    · rw [h, EReal.bot_sub, Ideal.exp_bot, zero_mul, zero_mul]
    · rw [h]
  rw [attend, hde, sum_div_mul _ _ _ d hd, sum_div_mul _ _ _ d hd, Ideal.div_coe hd.ne',
    EReal.right_distrib_of_nonneg_of_ne_top hc (EReal.coe_ne_top _)]
  simp only [hvv]

/-- A finite sum of products of finite numbers is not `+∞`. -/
theorem sum_mul_ne_top {ι : Type*} (s : Finset ι) (a b : ι → EReal) (ha : ∀ i, a i ≠ ⊤ ∧ a i ≠ ⊥)
    (hb : ∀ i, b i ≠ ⊤ ∧ b i ≠ ⊥) : ∑ i ∈ s, a i * b i ≠ ⊤ := by
  lift a to ι → ℝ using ha
  lift b to ι → ℝ using hb
  simp only [← EReal.coe_mul]
  have h : ∑ i ∈ s, ((a i * b i : ℝ) : EReal) = ((∑ i ∈ s, a i * b i : ℝ) : EReal) := (coe_sum _ _).symm
  rw [h]
  exact EReal.coe_ne_top _

end Cert.Proof.Softmax
-- ==== Proof.AttnPay.lean ====
/-
  The attention kernel's values read at an index: the band mask, the scores, and the attended row of one head.
-/
module

public import proofs.«01_k».proof.Proof.Softmax
public import proofs.«01_k».proof.Proof.Gen.KernelIdeal.Skeleton
public import Idealize.ShloMosaic.Lib.Pointwise
public import Idealize.ShloMosaic.Lib.WordCmp

@[expose] public section

set_option maxRecDepth 16384

noncomputable section

namespace Cert.Proof.AttnPay

open Idealize.ShloMosaic Idealize.ShloMosaic.WordCmp Cert.KernelIdeal Cert.KernelIdeal.Gen Cert.Proof.Softmax

/-! ## The band mask -/

/-- Query row `a` of query block `n` sees key `c` of the three blocks laid side by side, the block before, its own and
    the block after: keys at most 128 rows away, no block before the first and none after the last of 64. -/
def Sees (n a c : ℕ) : Prop :=
  (c < 128 ∧ a ≤ c ∧ 0 < n) ∨ (128 ≤ c ∧ c < 256) ∨ (256 ≤ c ∧ c ≤ a + 256 ∧ n < 63)

instance (n a c : ℕ) : Decidable (Sees n a c) := by unfold Sees; infer_instance

theorem andi_eq_one : ∀ x y : BitVec 1, IntOp.andi x y = 1#1 ↔ x = 1#1 ∧ y = 1#1 := by decide
theorem ori_eq_one : ∀ x y : BitVec 1, IntOp.ori x y = 1#1 ↔ x = 1#1 ∨ y = 1#1 := by decide

/-- The kernel's row word: the stacked row's number modulo 128. -/
theorem row_word : ∀ r : Fin 512,
    Scalar.select
      (IntOp.andi
        (IntOp.xori
          (IntOp.cmpi CmpIPredicate.slt
            (IntOp.remsi ArithUnit.vector (BitVec.ofNat 32 ↑r)
              (Scalar.select (Scalar.cmpi CmpIPredicate.eq 128#32 0#32) 1#32 128#32)) 0#32)
          (Scalar.cmpi CmpIPredicate.slt
            (Scalar.select (Scalar.cmpi CmpIPredicate.eq 128#32 0#32) 1#32 128#32) 0#32))
        (IntOp.cmpi CmpIPredicate.ne
          (IntOp.remsi ArithUnit.vector (BitVec.ofNat 32 ↑r)
            (Scalar.select (Scalar.cmpi CmpIPredicate.eq 128#32 0#32) 1#32 128#32)) 0#32))
      (IntOp.addi
        (IntOp.remsi ArithUnit.vector (BitVec.ofNat 32 ↑r)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 ↑r)
        (Scalar.select (Scalar.cmpi CmpIPredicate.eq 128#32 0#32) 1#32 128#32))
    = BitVec.ofNat 32 (r.val % 128) := by decide +kernel

/-- The key word less 256, for a key of the third block. -/
theorem key_word : ∀ c : Fin 384, 256 ≤ c.val → IntOp.subi (BitVec.ofNat 32 ↑c) 256#32 = BitVec.ofNat 32 (c.val - 256) := by
  decide +kernel

/-- The mask's bit is set exactly where the query sees the key. -/
theorem mask_at (i : grid0.Coords) (r : Fin 512) (c : Fin 384) :
    k0_pay1 i (ix2 r c) = 1#1 ↔ Sees (i 1).val (r.val % 128) c.val := by
  have hn : (i 1).val < 64 := (i 1).isLt
  have hc : c.val < 384 := c.isLt
  have ha : r.val % 128 < 128 := Nat.mod_lt _ (by norm_num)
  pointwise [k0_pay1]
  rw [row_word r]
  unfold Scalar.cmpi
  simp only [andi_eq_one, ori_eq_one]
  rw [cmpi_slt_ofNat_eq_one_iff (by omega) (by norm_num), cmpi_sge_ofNat_eq_one_iff (by omega) (by omega),
    cmpi_sgt_ofNat_eq_one_iff (by omega) (by norm_num), cmpi_sge_ofNat_eq_one_iff (by omega) (by norm_num),
    cmpi_slt_ofNat_eq_one_iff (by omega) (by norm_num), cmpi_sge_ofNat_eq_one_iff (by omega) (by norm_num),
    cmpi_slt_ofNat_eq_one_iff (by omega) (by norm_num)]
  unfold Sees
  by_cases h : 256 ≤ c.val
  · rw [key_word c h, cmpi_sle_ofNat_eq_one_iff (by omega) (by omega)]
    omega
  · omega

/-! ## The attended row -/

/-- The sink of a stacked row: the four heads' sinks, 128 rows each. -/
def four {α : Type} (s0 s1 s2 s3 : α) (r : ℕ) : α :=
  if r < 128 then s0 else if r - 128 < 128 then s1 else if r - 128 - 128 < 128 then s2 else s3

theorem neg_inf : Ideal.ofBits FTy.f32 4286578688#32 = ⊥ := by
  simp [Ideal.ofBits, Ideal.ieee]

/-- The first pair of heads' attended rows. -/
theorem pay6_at (vals : FVec Ideal S384x128 .bf16) (q4 : FVec Ideal S512x128 .bf16) (sc : FVec Ideal S512x384 .f32)
    (km : FVec Ideal S16x128 .bf16) (s0 s1 s2 s3 : Ideal .f32) (vm : FVec Ideal S1x16x128 .bf16) (r : Fin 512) (d : Fin 128) :
    k0_pay6 vals q4 sc km (constant S512x16 .f32 0x00000000#32) s0 s1 s2 s3 vm (ix2 r d)
      = attend (fun c : Fin 384 => sc (ix2 r c)) (fun j : Fin 16 => ∑ e : Fin 128, q4 (ix2 r e) * km (ix2 j e))
          (four s0 s1 s2 s3 r.val) (fun c => vals (ix2 c d)) (fun j => vm (ix3 0 j d)) := by
  pointwise [k0_pay6, attend, den, rowMax, four]
  simp only [neg_inf, dite_eq_ite]

/-- The second group's attended rows, from its scores, the greatest score and the sink less it. -/
theorem pay20_at (vals : FVec Ideal S384x128 .bf16) (sc : FVec Ideal S512x384 .f32) (sm : FVec Ideal S512x16 .f32)
    (vm : FVec Ideal S16x128 .bf16) (mx sk : FVec Ideal S512x1 .f32) (r : Fin 512) (d : Fin 128) (s : EReal)
    (hm : mx (ix2 r 0) = rowMax (fun c : Fin 384 => sc (ix2 r c)) (fun j : Fin 16 => sm (ix2 r j)) s)
    (hs : sk (ix2 r 0) = s - rowMax (fun c : Fin 384 => sc (ix2 r c)) (fun j : Fin 16 => sm (ix2 r j)) s) :
    k0_pay20 vals sc sm vm mx sk (ix2 r d)
      = attend (fun c : Fin 384 => sc (ix2 r c)) (fun j : Fin 16 => sm (ix2 r j)) s
          (fun c => vals (ix2 c d)) (fun j => vm (ix2 j d)) := by
  pointwise [k0_pay20, attend, den]
  rw [hm, hs]

/-- Three blocks of keys (or of values) laid side by side, at key `c` and lane `e`. -/
def cat3 (k0 k1 k2 : FVec Ideal S1x128x128 .bf16) (c : Fin 384) (e : Fin 128) : EReal :=
  if h : c.val < 128 then k0 (ix3 0 ⟨c.val, h⟩ e)
  else if h : c.val - 128 < 128 then k1 (ix3 0 ⟨c.val - 128, h⟩ e)
  else k2 (ix3 0 ⟨c.val - 128 - 128, by have := c.isLt; omega⟩ e)

/-- One head's attended row `a` at lane `d`: the scores against the three blocks' keys it sees and against the meta
    tokens, with the head's sink. -/
def headRow (n : ℕ) (q k0 k1 k2 v0 v1 v2 : FVec Ideal S1x128x128 .bf16) (km vm : FVec Ideal S1x16x128 .bf16) (s : EReal)
    (a d : Fin 128) : EReal :=
  attend (fun c : Fin 384 => if Sees n a.val c.val then ∑ e : Fin 128, q (ix3 0 a e) * cat3 k0 k1 k2 c e else ⊥)
    (fun j : Fin 16 => ∑ e : Fin 128, q (ix3 0 a e) * km (ix3 0 j e)) s
    (fun c => cat3 v0 v1 v2 c d) (fun j => vm (ix3 0 j d))

/-- The four heads' queries stacked, read at a row: row modulo 128 of the head the row belongs to. -/
theorem stacked (x y z w : FVec Ideal S1x128x128 .bf16) (r : Fin 512) (e : Fin 128) :
    (if h : r.val < 128 then x (ix3 0 ⟨r.val, h⟩ e)
      else if h : r.val - 128 < 128 then y (ix3 0 ⟨r.val - 128, h⟩ e)
      else if h : r.val - 128 - 128 < 128 then z (ix3 0 ⟨r.val - 128 - 128, h⟩ e)
      else w (ix3 0 ⟨r.val - 128 - 128 - 128, by have := r.isLt; omega⟩ e))
      = four x y z w r.val (ix3 0 ⟨r.val % 128, Nat.mod_lt _ (by norm_num)⟩ e) := by
  have hr := r.isLt
  unfold four
  split
  · exact congrArg (fun i => x (ix3 0 i e)) (Fin.ext (by simp only []; omega))
  split
  · exact congrArg (fun i => y (ix3 0 i e)) (Fin.ext (by simp only []; omega))
  split
  · exact congrArg (fun i => z (ix3 0 i e)) (Fin.ext (by simp only []; omega))
  · exact congrArg (fun i => w (ix3 0 i e)) (Fin.ext (by simp only []; omega))

/-- The stacked queries at a row. -/
theorem pay3_at (x y z w : FVec Ideal S1x128x128 .bf16) (r : Fin 512) (e : Fin 128) :
    k0_pay3 x y z w (ix2 r e) = four x y z w r.val (ix3 0 ⟨r.val % 128, Nat.mod_lt _ (by norm_num)⟩ e) := by
  rw [← stacked]
  pointwise [k0_pay3]

/-- The second group's stacked queries at a row. -/
theorem pay13_at (x y z w : FVec Ideal S1x128x128 .bf16) (r : Fin 512) (e : Fin 128) :
    k0_pay13 x y z w (ix2 r e) = four x y z w r.val (ix3 0 ⟨r.val % 128, Nat.mod_lt _ (by norm_num)⟩ e) := by
  rw [← stacked]
  pointwise [k0_pay13]

/-- The three blocks' values (or keys) laid side by side. -/
theorem pay2_at (a b c : FVec Ideal S1x128x128 .bf16) (k : Fin 384) (d : Fin 128) :
    k0_pay2 (F := Ideal) a b c (ix2 k d) = cat3 a b c k d := by
  pointwise [k0_pay2, cat3]

theorem pay12_at (a b c : FVec Ideal S1x128x128 .bf16) (k : Fin 384) (d : Fin 128) :
    k0_pay12 (F := Ideal) a b c (ix2 k d) = cat3 a b c k d := by
  pointwise [k0_pay12, cat3]

theorem pay11_at (a b c : FVec Ideal S1x128x128 .bf16) (k : Fin 384) (d : Fin 128) :
    k0_pay11 (F := Ideal) a b c (ix2 k d) = cat3 a b c k d := by
  pointwise [k0_pay11, cat3]

/-- One row's masked scores. -/
theorem pay4_at (i : grid0.Coords) (a b c x y z w : FVec Ideal S1x128x128 .bf16) (r : Fin 512) (k : Fin 384) :
    k0_pay4 (F := Ideal) (k0_pay1 i) a b c x y z w (ix2 r k)
      = if Sees (i 1).val (r.val % 128) k.val then
          ∑ e : Fin 128, four x y z w r.val (ix3 0 ⟨r.val % 128, Nat.mod_lt _ (by norm_num)⟩ e) * cat3 a b c k e
        else ⊥ := by
  simp only [← stacked, ← mask_at]
  pointwise [k0_pay4, k0_pay3, cat3, Scalar.select]
  simp only [neg_inf]
  rfl

/-- One row's masked scores, the second group. -/
theorem pay14_at (i : grid0.Coords) (a b c x y z w : FVec Ideal S1x128x128 .bf16) (r : Fin 512) (k : Fin 384) :
    k0_pay14 (F := Ideal) (k0_pay1 i) (k0_pay11 a b c) x y z w (ix2 r k)
      = if Sees (i 1).val (r.val % 128) k.val then
          ∑ e : Fin 128, four x y z w r.val (ix3 0 ⟨r.val % 128, Nat.mod_lt _ (by norm_num)⟩ e) * cat3 a b c k e
        else ⊥ := by
  simp only [← stacked, ← mask_at]
  pointwise [k0_pay14, k0_pay13, k0_pay11, cat3, Scalar.select]
  simp only [neg_inf]
  rfl

/-- The attended rows of the first group. -/
theorem group0_at (i : grid0.Coords) (q0 q1 q2 q3 k0 k1 k2 v0 v1 v2 : FVec Ideal S1x128x128 .bf16)
    (km vm : FVec Ideal S1x16x128 .bf16) (s0 s1 s2 s3 : Ideal .f32) (r : Fin 512) (d : Fin 128) :
    k0_pay6 (F := Ideal) (k0_pay2 v0 v1 v2) (k0_pay3 q0 q1 q2 q3) (k0_pay4 (k0_pay1 i) k0 k1 k2 q0 q1 q2 q3) (k0_pay5 km)
        (constant S512x16 .f32 0x00000000#32) s0 s1 s2 s3 vm (ix2 r d)
      = headRow (i 1).val (four q0 q1 q2 q3 r.val) k0 k1 k2 v0 v1 v2 km vm (four s0 s1 s2 s3 r.val)
          ⟨r.val % 128, Nat.mod_lt _ (by norm_num)⟩ d := by
  rw [pay6_at]
  have h5 : ∀ (j : Fin 16) (e : Fin 128), k0_pay5 (F := Ideal) km (ix2 j e) = km (ix3 0 j e) := by
    intro j e
    pointwise [k0_pay5]
  simp only [pay4_at, pay3_at, pay2_at, h5]
  rfl

/-- The attended rows of the second group. -/
theorem group1_at (i : grid0.Coords) (q0 q1 q2 q3 k0 k1 k2 v0 v1 v2 : FVec Ideal S1x128x128 .bf16)
    (km vm : FVec Ideal S1x16x128 .bf16) (s0 s1 s2 s3 : Ideal .f32) (r : Fin 512) (d : Fin 128) :
    k0_pay20 (F := Ideal) (k0_pay12 v0 v1 v2) (k0_pay14 (k0_pay1 i) (k0_pay11 k0 k1 k2) q0 q1 q2 q3)
        (k0_pay15 q0 q1 q2 q3 km) (k0_pay17 vm)
        (k0_pay18 (k0_pay1 i) (k0_pay11 k0 k1 k2) q0 q1 q2 q3 km s0 s1 s2 s3)
        (k0_pay19 (k0_pay1 i) (k0_pay11 k0 k1 k2) q0 q1 q2 q3 km s0 s1 s2 s3) (ix2 r d)
      = headRow (i 1).val (four q0 q1 q2 q3 r.val) k0 k1 k2 v0 v1 v2 km vm (four s0 s1 s2 s3 r.val)
          ⟨r.val % 128, Nat.mod_lt _ (by norm_num)⟩ d := by
  have h16 : k0_pay16 (F := Ideal) s0 s1 s2 s3 (ix2 r 0) = four s0 s1 s2 s3 r.val := by
    pointwise [k0_pay16, four]
    simp only [dite_eq_ite]
  have h18 : k0_pay18 (F := Ideal) (k0_pay1 i) (k0_pay11 k0 k1 k2) q0 q1 q2 q3 km s0 s1 s2 s3 (ix2 r 0)
      = rowMax (fun c : Fin 384 => k0_pay14 (F := Ideal) (k0_pay1 i) (k0_pay11 k0 k1 k2) q0 q1 q2 q3 (ix2 r c))
          (fun j : Fin 16 => k0_pay15 (F := Ideal) q0 q1 q2 q3 km (ix2 r j)) (four s0 s1 s2 s3 r.val) := by
    rw [← h16]
    pointwise [k0_pay18, rowMax]
    simp only [neg_inf]
  have h19 : k0_pay19 (F := Ideal) (k0_pay1 i) (k0_pay11 k0 k1 k2) q0 q1 q2 q3 km s0 s1 s2 s3 (ix2 r 0)
      = four s0 s1 s2 s3 r.val
        - rowMax (fun c : Fin 384 => k0_pay14 (F := Ideal) (k0_pay1 i) (k0_pay11 k0 k1 k2) q0 q1 q2 q3 (ix2 r c))
          (fun j : Fin 16 => k0_pay15 (F := Ideal) q0 q1 q2 q3 km (ix2 r j)) (four s0 s1 s2 s3 r.val) := by
    rw [← h18, ← h16]
    pointwise [k0_pay19]
  have h15 : ∀ j : Fin 16, k0_pay15 (F := Ideal) q0 q1 q2 q3 km (ix2 r j)
      = ∑ e : Fin 128, four q0 q1 q2 q3 r.val (ix3 0 ⟨r.val % 128, Nat.mod_lt _ (by norm_num)⟩ e) * km (ix3 0 j e) := by
    intro j
    simp only [← pay13_at]
    pointwise [k0_pay15]
  have h17 : ∀ j : Fin 16, k0_pay17 (F := Ideal) vm (ix2 j d) = vm (ix3 0 j d) := by
    intro j
    pointwise [k0_pay17]
  rw [pay20_at _ _ _ _ _ _ _ _ _ h18 h19]
  simp only [pay14_at, pay12_at, h15, h17]
  rfl

/-! ## The stored rows -/

/-- Row `a` of the stack's part `g`. -/
def srow (g : Fin 4) (a : Fin 128) : Fin 512 := ⟨128 * g.val + a.val, by have := g.isLt; have := a.isLt; omega⟩

theorem four_srow {α : Type} (s : Fin 4 → α) (g : Fin 4) (a : Fin 128) :
    four (s 0) (s 1) (s 2) (s 3) (srow g a).val = s g := by
  have ha := a.isLt
  unfold four srow
  match g with
  | 0 => rw [if_pos (by simp only [Fin.val_zero]; omega)]
  | 1 => rw [if_neg (by simp only [Fin.val_one]; omega), if_pos (by simp only [Fin.val_one]; omega)]
  | 2 => rw [if_neg (by simp only [Fin.val_two]; omega), if_neg (by simp only [Fin.val_two]; omega), if_pos (by simp only [Fin.val_two]; omega)]
  | 3 => rw [if_neg (by simp only []; omega), if_neg (by simp only []; omega), if_neg (by simp only []; omega)]

theorem srow_mod (g : Fin 4) (a : Fin 128) (h) : (⟨(srow g a).val % 128, h⟩ : Fin 128) = a := by
  have ha := a.isLt
  exact Fin.ext (by simp only [srow]; omega)

/-- The first group, the stack's part `g`: head `g`'s attended row. -/
theorem group0_row (i : grid0.Coords) (q : Fin 4 → FVec Ideal S1x128x128 .bf16) (k0 k1 k2 v0 v1 v2 : FVec Ideal S1x128x128 .bf16)
    (km vm : FVec Ideal S1x16x128 .bf16) (s : Fin 4 → Ideal .f32) (g : Fin 4) (a d : Fin 128) :
    k0_pay6 (F := Ideal) (k0_pay2 v0 v1 v2) (k0_pay3 (q 0) (q 1) (q 2) (q 3))
        (k0_pay4 (k0_pay1 i) k0 k1 k2 (q 0) (q 1) (q 2) (q 3)) (k0_pay5 km)
        (constant S512x16 .f32 0x00000000#32) (s 0) (s 1) (s 2) (s 3) vm (ix2 (srow g a) d)
      = headRow (i 1).val (q g) k0 k1 k2 v0 v1 v2 km vm (s g) a d := by
  rw [group0_at, four_srow q, four_srow s, srow_mod]

/-- The second group likewise. -/
theorem group1_row (i : grid0.Coords) (q : Fin 4 → FVec Ideal S1x128x128 .bf16) (k0 k1 k2 v0 v1 v2 : FVec Ideal S1x128x128 .bf16)
    (km vm : FVec Ideal S1x16x128 .bf16) (s : Fin 4 → Ideal .f32) (g : Fin 4) (a d : Fin 128) :
    k0_pay20 (F := Ideal) (k0_pay12 v0 v1 v2) (k0_pay14 (k0_pay1 i) (k0_pay11 k0 k1 k2) (q 0) (q 1) (q 2) (q 3))
        (k0_pay15 (q 0) (q 1) (q 2) (q 3) km) (k0_pay17 vm)
        (k0_pay18 (k0_pay1 i) (k0_pay11 k0 k1 k2) (q 0) (q 1) (q 2) (q 3) km (s 0) (s 1) (s 2) (s 3))
        (k0_pay19 (k0_pay1 i) (k0_pay11 k0 k1 k2) (q 0) (q 1) (q 2) (q 3) km (s 0) (s 1) (s 2) (s 3)) (ix2 (srow g a) d)
      = headRow (i 1).val (q g) k0 k1 k2 v0 v1 v2 km vm (s g) a d := by
  rw [group1_at, four_srow q, four_srow s, srow_mod]

/-- What the first group's stores write: the stack's parts. -/
theorem pay7_at (vals : FVec Ideal S384x128 .bf16) (q4 : FVec Ideal S512x128 .bf16) (sc : FVec Ideal S512x384 .f32)
    (km : FVec Ideal S16x128 .bf16) (z : FVec Ideal S512x16 .f32) (s0 s1 s2 s3 : Ideal .f32) (vm : FVec Ideal S1x16x128 .bf16) (a d : Fin 128) :
    k0_pay7 vals q4 sc km z s0 s1 s2 s3 vm (ix3 0 a d) = k0_pay6 vals q4 sc km z s0 s1 s2 s3 vm (ix2 (srow 0 a) d) := by
  pointwise [k0_pay7, srow]

theorem pay8_at (v : FVec Ideal S512x128 .f32) (a d : Fin 128) : k0_pay8 v (ix3 0 a d) = v (ix2 (srow 1 a) d) := by
  pointwise [k0_pay8, srow]

theorem pay9_at (v : FVec Ideal S512x128 .f32) (a d : Fin 128) : k0_pay9 v (ix3 0 a d) = v (ix2 (srow 2 a) d) := by
  pointwise [k0_pay9, srow]

theorem pay10_at (v : FVec Ideal S512x128 .f32) (a d : Fin 128) : k0_pay10 v (ix3 0 a d) = v (ix2 (srow 3 a) d) := by
  pointwise [k0_pay10, srow]

/-- What the second group's stores write. -/
theorem pay21_at (vals : FVec Ideal S384x128 .bf16) (sc : FVec Ideal S512x384 .f32) (sm : FVec Ideal S512x16 .f32)
    (vm : FVec Ideal S16x128 .bf16) (mx sk : FVec Ideal S512x1 .f32) (a d : Fin 128) :
    k0_pay21 vals sc sm vm mx sk (ix3 0 a d) = k0_pay20 vals sc sm vm mx sk (ix2 (srow 0 a) d) := by
  pointwise [k0_pay21, srow]

theorem pay22_at (vals : FVec Ideal S384x128 .bf16) (sc : FVec Ideal S512x384 .f32) (sm : FVec Ideal S512x16 .f32)
    (vm : FVec Ideal S16x128 .bf16) (mx sk : FVec Ideal S512x1 .f32) (a d : Fin 128) :
    k0_pay22 vals sc sm vm mx sk (ix3 0 a d) = k0_pay20 vals sc sm vm mx sk (ix2 (srow 1 a) d) := by
  pointwise [k0_pay22, srow]

theorem pay23_at (vals : FVec Ideal S384x128 .bf16) (sc : FVec Ideal S512x384 .f32) (sm : FVec Ideal S512x16 .f32)
    (vm : FVec Ideal S16x128 .bf16) (mx sk : FVec Ideal S512x1 .f32) (a d : Fin 128) :
    k0_pay23 vals sc sm vm mx sk (ix3 0 a d) = k0_pay20 vals sc sm vm mx sk (ix2 (srow 2 a) d) := by
  pointwise [k0_pay23, srow]

theorem pay24_at (vals : FVec Ideal S384x128 .bf16) (sc : FVec Ideal S512x384 .f32) (sm : FVec Ideal S512x16 .f32)
    (vm : FVec Ideal S16x128 .bf16) (mx sk : FVec Ideal S512x1 .f32) (a d : Fin 128) :
    k0_pay24 vals sc sm vm mx sk (ix3 0 a d) = k0_pay20 vals sc sm vm mx sk (ix2 (srow 3 a) d) := by
  pointwise [k0_pay24, srow]

end Cert.Proof.AttnPay
-- ==== Proof.AttnBlock.lean ====
/-
  What one grid point of the attention kernel writes: a block of 128 query rows, head by head.
-/
module

public import proofs.«01_k».proof.Proof.AttnPay
public import proofs.«01_k».proof.Proof.Gen.KernelIdeal.Value
public import Idealize.ShloMosaic.Lib.Tactic
public import Idealize.ShloMosaic.Lib.Pipeline.Value
public import Idealize.ShloMosaic.Lib.Pipeline.ValueKit

@[expose] public section

set_option maxRecDepth 16384

noncomputable section

namespace Cert.Proof.AttnBlock

open Idealize.ShloMosaic Idealize.ShloMosaic.TcCoe Idealize.SL.Sem Cert.KernelIdeal Cert.KernelIdeal.Gen
open Idealize.ShloMosaic.Pipeline (Dat)
open Cert.Proof.Softmax Cert.Proof.AttnPay

variable (m : (ℓ : Loc nD τ sig) → Buf (Elt Ideal) ℓ)

/-- Column `e` of query head `h`, of 8 heads. -/
def qcol (h : Fin 8) (e : Fin 128) : Fin 1024 := ⟨128 * h.val + e.val, by have := h.isLt; have := e.isLt; omega⟩

/-- Column `e` of the key head that query head `h` reads, of 2 heads. -/
def kcol (h : Fin 8) (e : Fin 128) : Fin 256 := ⟨128 * (h.val / 4) + e.val, by have := h.isLt; have := e.isLt; omega⟩

/-- Three blocks of keys (or of values) laid side by side, at key `c` and column `e`. -/
def catB (k0 k1 k2 : FVec Ideal S1x128x256 .bf16) (c : Fin 384) (e : Fin 256) : EReal :=
  if h : c.val < 128 then k0 (ix3 0 ⟨c.val, h⟩ e)
  else if h : c.val - 128 < 128 then k1 (ix3 0 ⟨c.val - 128, h⟩ e)
  else k2 (ix3 0 ⟨c.val - 128 - 128, by have := c.isLt; omega⟩ e)

/-- Head `h` of the block of query block number `n`, at row `a` and lane `d`. -/
def headB (n : ℕ) (sk : FVec Ideal S8 .f32) (q : FVec Ideal S1x128x1024 .bf16) (k0 k1 k2 v0 v1 v2 : FVec Ideal S1x128x256 .bf16)
    (km vm : FVec Ideal S1x16x256 .bf16) (h : Fin 8) (a d : Fin 128) : EReal :=
  attend
    (fun c : Fin 384 =>
      if Sees n a.val c.val then ∑ e : Fin 128, q (ix3 0 a (qcol h e)) * catB k0 k1 k2 c (kcol h e) else ⊥)
    (fun j : Fin 16 => ∑ e : Fin 128, q (ix3 0 a (qcol h e)) * km (ix3 0 j (kcol h e))) (sk (ix1 h))
    (fun c => catB v0 v1 v2 c (kcol h d)) (fun j => vm (ix3 0 j (kcol h d)))

/-- The block: every row and column, the column's head first. -/
def blockB (n : ℕ) (sk : FVec Ideal S8 .f32) (q : FVec Ideal S1x128x1024 .bf16) (k0 k1 k2 v0 v1 v2 : FVec Ideal S1x128x256 .bf16)
    (km vm : FVec Ideal S1x16x256 .bf16) : FVec Ideal S1x128x1024 .bf16 := fun y =>
  headB n sk q k0 k1 k2 v0 v1 v2 km vm ⟨(y 2).val / 128, by have : (y 2).val < 1024 := (y 2).isLt; omega⟩ (y 1)
    ⟨(y 2).val % 128, Nat.mod_lt _ (by norm_num)⟩

theorem blockB_at (n : ℕ) (sk : FVec Ideal S8 .f32) (q : FVec Ideal S1x128x1024 .bf16) (k0 k1 k2 v0 v1 v2 : FVec Ideal S1x128x256 .bf16)
    (km vm : FVec Ideal S1x16x256 .bf16) (y : S1x128x1024.Idx) (h : Fin 8) (a d : Fin 128) (h1 : (y 1).val = a.val)
    (h2 : (y 2).val = 128 * h.val + d.val) :
    blockB n sk q k0 k1 k2 v0 v1 v2 km vm y = headB n sk q k0 k1 k2 v0 v1 v2 km vm h a d := by
  have hd := d.isLt
  unfold blockB
  have e1 : (⟨(y 2).val / 128, by have : (y 2).val < 1024 := (y 2).isLt; omega⟩ : Fin 8) = h := Fin.ext (by simp only []; omega)
  have e2 : (⟨(y 2).val % 128, Nat.mod_lt _ (by norm_num)⟩ : Fin 128) = d := Fin.ext (by simp only []; omega)
  have e3 : (y 1 : Fin 128) = a := Fin.ext h1
  rw [e1, e2]
  exact congrArg (fun a => headB n sk q k0 k1 k2 v0 v1 v2 km vm h a d) e3

/-- The queries of one head as the kernel loads them: 128 columns from column `o` on. -/
def ldq (q : FVec Ideal S1x128x1024 .bf16) (o : ℕ)
    (inb : ∀ a, (![0, 0, o] : Fin 3 → ℕ) a + (![1, 128, 128] : Fin 3 → ℕ) a ≤ S1x128x1024.size a) : FVec Ideal S1x128x128 .bf16 :=
  View.ld (Val := Elt Ideal) (S := S1x128x1024) (e' := .bf16) q (Rect.unit ![0, 0, o] ![1, 128, 128] inb)

/-- The keys (or values) of one head of a block. -/
def ldk (k : FVec Ideal S1x128x256 .bf16) (o : ℕ)
    (inb : ∀ a, (![0, 0, o] : Fin 3 → ℕ) a + (![1, 128, 128] : Fin 3 → ℕ) a ≤ S1x128x256.size a) : FVec Ideal S1x128x128 .bf16 :=
  View.ld (Val := Elt Ideal) (S := S1x128x256) (e' := .bf16) k (Rect.unit ![0, 0, o] ![1, 128, 128] inb)

/-- The meta tokens' keys (or values) of one head. -/
def ldm (k : FVec Ideal S1x16x256 .bf16) (o : ℕ)
    (inb : ∀ a, (![0, 0, o] : Fin 3 → ℕ) a + (![1, 16, 128] : Fin 3 → ℕ) a ≤ S1x16x256.size a) : FVec Ideal S1x16x128 .bf16 :=
  View.ld (Val := Elt Ideal) (S := S1x16x256) (e' := .bf16) k (Rect.unit ![0, 0, o] ![1, 16, 128] inb)

theorem ldq_at (q : FVec Ideal S1x128x1024 .bf16) (h : Fin 8) (inb) (a e : Fin 128) :
    ldq q (128 * h.val) inb (ix3 0 a e) = q (ix3 0 a (qcol h e)) := by
  unfold qcol ldq
  pointwise

theorem ldk_at (k : FVec Ideal S1x128x256 .bf16) (h : Fin 8) (inb) (a e : Fin 128) :
    ldk k (128 * (h.val / 4)) inb (ix3 0 a e) = k (ix3 0 a (kcol h e)) := by
  unfold kcol ldk
  pointwise

theorem ldm_at (k : FVec Ideal S1x16x256 .bf16) (h : Fin 8) (inb) (a : Fin 16) (e : Fin 128) :
    ldm k (128 * (h.val / 4)) inb (ix3 0 a e) = k (ix3 0 a (kcol h e)) := by
  unfold kcol ldm
  pointwise

/-- The sink of one head as the kernel loads it. -/
def lds (sk : FVec Ideal S8 .f32) (o : ℕ) (inb : ∀ a, (![o] : Fin 1 → ℕ) a + (![1] : Fin 1 → ℕ) a ≤ S8.size a) : EReal :=
  View.ld (Val := Elt Ideal) (S := S8) (e' := .f32) sk (Rect.unit ![o] ![1] inb) (Shape.Idx.first (show 0 < S1.numel from numel1_S1.symm ▸ Nat.one_pos))

theorem lds_at (sk : FVec Ideal S8 .f32) (h : Fin 8) (inb) : lds sk h.val inb = sk (ix1 h) := by
  unfold lds
  pointwise

theorem cat3_ld (k0 k1 k2 : FVec Ideal S1x128x256 .bf16) (h : Fin 8) (inb) (c : Fin 384) (e : Fin 128) :
    cat3 (ldk k0 (128 * (h.val / 4)) inb) (ldk k1 (128 * (h.val / 4)) inb) (ldk k2 (128 * (h.val / 4)) inb) c e
      = catB k0 k1 k2 c (kcol h e) := by
  unfold cat3 catB
  simp only [ldk_at]

/-- One head's attended row, from the parts of the blocks that the kernel loads for it. -/
theorem headRow_ld (n : ℕ) (sk : FVec Ideal S8 .f32) (q : FVec Ideal S1x128x1024 .bf16)
    (k0 k1 k2 v0 v1 v2 : FVec Ideal S1x128x256 .bf16) (km vm : FVec Ideal S1x16x256 .bf16) (h : Fin 8) (a d : Fin 128)
    (oq ok : ℕ) (hq : oq = 128 * h.val) (hk : ok = 128 * (h.val / 4)) (iq ik im is) :
    headRow n (ldq q oq iq) (ldk k0 ok ik) (ldk k1 ok ik) (ldk k2 ok ik) (ldk v0 ok ik) (ldk v1 ok ik) (ldk v2 ok ik)
        (ldm km ok im) (ldm vm ok im) (lds sk h.val is) a d
      = headB n sk q k0 k1 k2 v0 v1 v2 km vm h a d := by
  subst hq hk
  unfold headRow headB
  simp only [ldq_at, cat3_ld, ldm_at, lds_at]

/-- The first group of four heads, from the parts of the blocks the kernel loads for it. -/
theorem group0_ld (i : grid0.Coords) (sk : FVec Ideal S8 .f32) (q : FVec Ideal S1x128x1024 .bf16)
    (k0 k1 k2 v0 v1 v2 : FVec Ideal S1x128x256 .bf16) (km vm : FVec Ideal S1x16x256 .bf16) (g : Fin 4) (a d : Fin 128) :
    k0_pay6 (F := Ideal) (k0_pay2 (ldk v0 0 inb_S1x128x256_S1x128x128_0_0_0) (ldk v1 0 inb_S1x128x256_S1x128x128_0_0_0) (ldk v2 0 inb_S1x128x256_S1x128x128_0_0_0))
        (k0_pay3 (ldq q 0 inb_S1x128x1024_S1x128x128_0_0_0) (ldq q 128 inb_S1x128x1024_S1x128x128_0_0_128) (ldq q 256 inb_S1x128x1024_S1x128x128_0_0_256) (ldq q 384 inb_S1x128x1024_S1x128x128_0_0_384))
        (k0_pay4 (k0_pay1 i) (ldk k0 0 inb_S1x128x256_S1x128x128_0_0_0) (ldk k1 0 inb_S1x128x256_S1x128x128_0_0_0) (ldk k2 0 inb_S1x128x256_S1x128x128_0_0_0)
          (ldq q 0 inb_S1x128x1024_S1x128x128_0_0_0) (ldq q 128 inb_S1x128x1024_S1x128x128_0_0_128) (ldq q 256 inb_S1x128x1024_S1x128x128_0_0_256) (ldq q 384 inb_S1x128x1024_S1x128x128_0_0_384))
        (k0_pay5 (ldm km 0 inb_S1x16x256_S1x16x128_0_0_0)) (constant S512x16 .f32 0x00000000#32)
        (lds sk 0 inb_S8_S1_0) (lds sk 1 inb_S8_S1_1) (lds sk 2 inb_S8_S1_2) (lds sk 3 inb_S8_S1_3)
        (ldm vm 0 inb_S1x16x256_S1x16x128_0_0_0) (ix2 (srow g a) d)
      = headB (i 1).val sk q k0 k1 k2 v0 v1 v2 km vm ⟨0 + g.val, by have := g.isLt; omega⟩ a d := by
  refine (group0_row i ![ldq q 0 inb_S1x128x1024_S1x128x128_0_0_0, ldq q 128 inb_S1x128x1024_S1x128x128_0_0_128, ldq q 256 inb_S1x128x1024_S1x128x128_0_0_256, ldq q 384 inb_S1x128x1024_S1x128x128_0_0_384] _ _ _ _ _ _ _ _
    ![lds sk 0 inb_S8_S1_0, lds sk 1 inb_S8_S1_1, lds sk 2 inb_S8_S1_2, lds sk 3 inb_S8_S1_3] g a d).trans ?_
  match g with
  | 0 => exact headRow_ld (i 1).val sk q k0 k1 k2 v0 v1 v2 km vm 0 a d 0 0 rfl rfl _ _ _ _
  | 1 => exact headRow_ld (i 1).val sk q k0 k1 k2 v0 v1 v2 km vm 1 a d 128 0 rfl rfl _ _ _ _
  | 2 => exact headRow_ld (i 1).val sk q k0 k1 k2 v0 v1 v2 km vm 2 a d 256 0 rfl rfl _ _ _ _
  | 3 => exact headRow_ld (i 1).val sk q k0 k1 k2 v0 v1 v2 km vm 3 a d 384 0 rfl rfl _ _ _ _

/-- The second group of four heads, from the parts of the blocks the kernel loads for it. -/
theorem group1_ld (i : grid0.Coords) (sk : FVec Ideal S8 .f32) (q : FVec Ideal S1x128x1024 .bf16)
    (k0 k1 k2 v0 v1 v2 : FVec Ideal S1x128x256 .bf16) (km vm : FVec Ideal S1x16x256 .bf16) (g : Fin 4) (a d : Fin 128) :
    k0_pay20 (F := Ideal) (k0_pay12 (ldk v0 128 inb_S1x128x256_S1x128x128_0_0_128) (ldk v1 128 inb_S1x128x256_S1x128x128_0_0_128) (ldk v2 128 inb_S1x128x256_S1x128x128_0_0_128))
        (k0_pay14 (k0_pay1 i) (k0_pay11 (ldk k0 128 inb_S1x128x256_S1x128x128_0_0_128) (ldk k1 128 inb_S1x128x256_S1x128x128_0_0_128) (ldk k2 128 inb_S1x128x256_S1x128x128_0_0_128))
          (ldq q 512 inb_S1x128x1024_S1x128x128_0_0_512) (ldq q 640 inb_S1x128x1024_S1x128x128_0_0_640) (ldq q 768 inb_S1x128x1024_S1x128x128_0_0_768) (ldq q 896 inb_S1x128x1024_S1x128x128_0_0_896))
        (k0_pay15 (ldq q 512 inb_S1x128x1024_S1x128x128_0_0_512) (ldq q 640 inb_S1x128x1024_S1x128x128_0_0_640) (ldq q 768 inb_S1x128x1024_S1x128x128_0_0_768) (ldq q 896 inb_S1x128x1024_S1x128x128_0_0_896)
          (ldm km 128 inb_S1x16x256_S1x16x128_0_0_128))
        (k0_pay17 (ldm vm 128 inb_S1x16x256_S1x16x128_0_0_128))
        (k0_pay18 (k0_pay1 i) (k0_pay11 (ldk k0 128 inb_S1x128x256_S1x128x128_0_0_128) (ldk k1 128 inb_S1x128x256_S1x128x128_0_0_128) (ldk k2 128 inb_S1x128x256_S1x128x128_0_0_128))
          (ldq q 512 inb_S1x128x1024_S1x128x128_0_0_512) (ldq q 640 inb_S1x128x1024_S1x128x128_0_0_640) (ldq q 768 inb_S1x128x1024_S1x128x128_0_0_768) (ldq q 896 inb_S1x128x1024_S1x128x128_0_0_896)
          (ldm km 128 inb_S1x16x256_S1x16x128_0_0_128)
          (lds sk 4 inb_S8_S1_4) (lds sk 5 inb_S8_S1_5) (lds sk 6 inb_S8_S1_6) (lds sk 7 inb_S8_S1_7))
        (k0_pay19 (k0_pay1 i) (k0_pay11 (ldk k0 128 inb_S1x128x256_S1x128x128_0_0_128) (ldk k1 128 inb_S1x128x256_S1x128x128_0_0_128) (ldk k2 128 inb_S1x128x256_S1x128x128_0_0_128))
          (ldq q 512 inb_S1x128x1024_S1x128x128_0_0_512) (ldq q 640 inb_S1x128x1024_S1x128x128_0_0_640) (ldq q 768 inb_S1x128x1024_S1x128x128_0_0_768) (ldq q 896 inb_S1x128x1024_S1x128x128_0_0_896)
          (ldm km 128 inb_S1x16x256_S1x16x128_0_0_128)
          (lds sk 4 inb_S8_S1_4) (lds sk 5 inb_S8_S1_5) (lds sk 6 inb_S8_S1_6) (lds sk 7 inb_S8_S1_7)) (ix2 (srow g a) d)
      = headB (i 1).val sk q k0 k1 k2 v0 v1 v2 km vm ⟨4 + g.val, by have := g.isLt; omega⟩ a d := by
  refine (group1_row i ![ldq q 512 inb_S1x128x1024_S1x128x128_0_0_512, ldq q 640 inb_S1x128x1024_S1x128x128_0_0_640, ldq q 768 inb_S1x128x1024_S1x128x128_0_0_768, ldq q 896 inb_S1x128x1024_S1x128x128_0_0_896] _ _ _ _ _ _ _ _
    ![lds sk 4 inb_S8_S1_4, lds sk 5 inb_S8_S1_5, lds sk 6 inb_S8_S1_6, lds sk 7 inb_S8_S1_7] g a d).trans ?_
  match g with
  | 0 => exact headRow_ld (i 1).val sk q k0 k1 k2 v0 v1 v2 km vm 4 a d 512 128 rfl rfl _ _ _ _
  | 1 => exact headRow_ld (i 1).val sk q k0 k1 k2 v0 v1 v2 km vm 5 a d 640 128 rfl rfl _ _ _ _
  | 2 => exact headRow_ld (i 1).val sk q k0 k1 k2 v0 v1 v2 km vm 6 a d 768 128 rfl rfl _ _ _ _
  | 3 => exact headRow_ld (i 1).val sk q k0 k1 k2 v0 v1 v2 km vm 7 a d 896 128 rfl rfl _ _ _ _

/-- Each of the 8 stores writes one head of the block. -/
theorem store_eq (n : ℕ) (sk : FVec Ideal S8 .f32) (q : FVec Ideal S1x128x1024 .bf16)
    (k0 k1 k2 v0 v1 v2 : FVec Ideal S1x128x256 .bf16) (km vm : FVec Ideal S1x16x256 .bf16) (h : Fin 8) (oq : ℕ)
    (hq : oq = 128 * h.val) (inb) (W : FVec Ideal S1x128x128 .bf16)
    (hW : ∀ a d : Fin 128, W (ix3 0 a d) = headB n sk q k0 k1 k2 v0 v1 v2 km vm h a d)
    (x : (Rect.unit (s := S1x128x1024) ![0, 0, oq] ![1, 128, 128] inb).shape.Idx) :
    W x = blockB n sk q k0 k1 k2 v0 v1 v2 km vm ((Rect.unit (s := S1x128x1024) ![0, 0, oq] ![1, 128, 128] inb).emb x) := by
  have hx : x = ix3 (0 : Fin 1) (x 1 : Fin 128) (x 2 : Fin 128) := by
    funext i
    match i with
    | ⟨0, _⟩ => exact Subsingleton.elim (α := Fin 1) _ _
    | ⟨1, _⟩ => rfl
    | ⟨2, _⟩ => rfl
  refine (congrArg W hx).trans ((hW _ _).trans (blockB_at n sk q k0 k1 k2 v0 v1 v2 km vm _ h (x 1) (x 2) ?_ ?_).symm)
  · rw [Rect.emb_apply]
    show 0 + 1 * (x 1).val = (x 1).val
    omega
  · rw [Rect.emb_apply]
    show oq + 1 * (x 2).val = 128 * h.val + (x 2).val
    omega

theorem outs_eq (c : Dev nD) (t : Fin cfg0.N) :
    outsAt0 m c t = blockB (grid0.coords t 1).val (iblk m c 0 t) (iblk m c 1 t) (iblk m c 2 t) (iblk m c 3 t) (iblk m c 4 t)
      (iblk m c 5 t) (iblk m c 6 t) (iblk m c 7 t) (iblk m c 8 t) (iblk m c 9 t) := by
  unfold outsAt0 out0_A_10
  rw [View.read_writes_eq_canon _ _ _ (cover0_A_10 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  funext y
  refine View.canon_apply_of_pieces _ _ ?_ y (View.cover_of_tiled_head _ _ _ rfl y)
  simp only [List.forall_mem_cons]
  refine ⟨store_eq _ _ _ _ _ _ _ _ _ _ _ 7 _ rfl _ _ ?_, store_eq _ _ _ _ _ _ _ _ _ _ _ 6 _ rfl _ _ ?_,
    store_eq _ _ _ _ _ _ _ _ _ _ _ 5 _ rfl _ _ ?_, store_eq _ _ _ _ _ _ _ _ _ _ _ 4 _ rfl _ _ ?_,
    store_eq _ _ _ _ _ _ _ _ _ _ _ 3 _ rfl _ _ ?_, store_eq _ _ _ _ _ _ _ _ _ _ _ 2 _ rfl _ _ ?_,
    store_eq _ _ _ _ _ _ _ _ _ _ _ 1 _ rfl _ _ ?_, store_eq _ _ _ _ _ _ _ _ _ _ _ 0 _ rfl _ _ ?_, by simp⟩
  all_goals intro a d
  · exact (pay24_at _ _ _ _ _ _ a d).trans (group1_ld _ _ _ _ _ _ _ _ _ _ _ 3 a d)
  · exact (pay23_at _ _ _ _ _ _ a d).trans (group1_ld _ _ _ _ _ _ _ _ _ _ _ 2 a d)
  · exact (pay22_at _ _ _ _ _ _ a d).trans (group1_ld _ _ _ _ _ _ _ _ _ _ _ 1 a d)
  · exact (pay21_at _ _ _ _ _ _ a d).trans (group1_ld _ _ _ _ _ _ _ _ _ _ _ 0 a d)
  · exact (pay10_at _ a d).trans (group0_ld _ _ _ _ _ _ _ _ _ _ _ 3 a d)
  · exact (pay9_at _ a d).trans (group0_ld _ _ _ _ _ _ _ _ _ _ _ 2 a d)
  · exact (pay8_at _ a d).trans (group0_ld _ _ _ _ _ _ _ _ _ _ _ 1 a d)
  · exact (pay7_at _ _ _ _ _ _ _ _ _ _ a d).trans (group0_ld _ _ _ _ _ _ _ _ _ _ _ 0 a d)

end Cert.Proof.AttnBlock
-- ==== Proof.AttnValue.lean ====
/-
  What the attention kernel's result array holds: at every batch, row and column the attended value of the column's head.
-/
module

public import proofs.«01_k».proof.Proof.AttnBlock

@[expose] public section

set_option maxRecDepth 16384

noncomputable section

namespace Cert.Proof.AttnValue

open Idealize.ShloMosaic Idealize.ShloMosaic.TcCoe Idealize.SL.Sem Cert.KernelIdeal Cert.KernelIdeal.Gen
open Idealize.ShloMosaic.Pipeline (Dat)
open Cert.Proof.Softmax Cert.Proof.AttnPay Cert.Proof.AttnBlock

variable (m : (ℓ : Loc nD τ sig) → Buf (Elt Ideal) ℓ) (ρ : Dev nD → PrngReg)

/-! ## The function -/

/-- The row of the sequence that key `c` of the three blocks about query block `n` is: the blocks before the first and
    after the last are the first and the last themselves. -/
def krow (n : Fin 64) (c : Fin 384) : Fin 8192 :=
  if c.val < 128 then ⟨128 * (n.val - 1) + c.val % 128, by have := n.isLt; omega⟩
  else if c.val - 128 < 128 then ⟨128 * n.val + (c.val - 128) % 128, by have := n.isLt; omega⟩
  else ⟨128 * min (n.val + 1) 63 + (c.val - 256) % 128, by have := n.isLt; omega⟩

/-- Row `a` of query block `n`. -/
def qrow (n : Fin 64) (a : Fin 128) : Fin 8192 := ⟨128 * n.val + a.val, by have := n.isLt; have := a.isLt; omega⟩

/-- The attended value of batch `b`, row `a` of block `n`, head `h` and lane `d`. -/
def att (Q : FVec Ideal S8x8192x1024 .bf16) (K V : FVec Ideal S8x8192x256 .bf16) (KM VM : FVec Ideal S8x16x256 .bf16)
    (SK : FVec Ideal S8 .f32) (b : Fin 8) (n : Fin 64) (a : Fin 128) (h : Fin 8) (d : Fin 128) : EReal :=
  attend
    (fun c : Fin 384 =>
      if Sees n.val a.val c.val then ∑ e : Fin 128, Q (ix3 b (qrow n a) (qcol h e)) * K (ix3 b (krow n c) (kcol h e)) else ⊥)
    (fun j : Fin 16 => ∑ e : Fin 128, Q (ix3 b (qrow n a) (qcol h e)) * KM (ix3 b j (kcol h e))) (SK (ix1 h))
    (fun c => V (ix3 b (krow n c) (kcol h d))) (fun j => VM (ix3 b j (kcol h d)))

/-- The whole result. -/
def attG (Q : FVec Ideal S8x8192x1024 .bf16) (K V : FVec Ideal S8x8192x256 .bf16) (KM VM : FVec Ideal S8x16x256 .bf16)
    (SK : FVec Ideal S8 .f32) : FVec Ideal S8x8192x1024 .bf16 := fun i =>
  att Q K V KM VM SK (i 0) ⟨(i 1).val / 128, by have : (i 1).val < 8192 := (i 1).isLt; omega⟩
    ⟨(i 1).val % 128, Nat.mod_lt _ (by norm_num)⟩ ⟨(i 2).val / 128, by have : (i 2).val < 1024 := (i 2).isLt; omega⟩
    ⟨(i 2).val % 128, Nat.mod_lt _ (by norm_num)⟩

theorem attG_at (Q : FVec Ideal S8x8192x1024 .bf16) (K V : FVec Ideal S8x8192x256 .bf16) (KM VM : FVec Ideal S8x16x256 .bf16)
    (SK : FVec Ideal S8 .f32) (i : S8x8192x1024.Idx) (b : Fin 8) (n : Fin 64) (a : Fin 128) (h : Fin 8) (d : Fin 128)
    (h0 : (i 0).val = b.val) (h1 : (i 1).val = 128 * n.val + a.val) (h2 : (i 2).val = 128 * h.val + d.val) :
    attG Q K V KM VM SK i = att Q K V KM VM SK b n a h d := by
  have ha := a.isLt
  have hd := d.isLt
  have e0 : (i 0 : Fin 8) = b := Fin.ext h0
  have e1 : (⟨(i 1).val / 128, by have : (i 1).val < 8192 := (i 1).isLt; omega⟩ : Fin 64) = n := Fin.ext (by simp only []; omega)
  have e2 : (⟨(i 1).val % 128, Nat.mod_lt _ (by norm_num)⟩ : Fin 128) = a := Fin.ext (by simp only []; omega)
  have e3 : (⟨(i 2).val / 128, by have : (i 2).val < 1024 := (i 2).isLt; omega⟩ : Fin 8) = h := Fin.ext (by simp only []; omega)
  have e4 : (⟨(i 2).val % 128, Nat.mod_lt _ (by norm_num)⟩ : Fin 128) = d := Fin.ext (by simp only []; omega)
  unfold attG
  rw [e1, e2, e3, e4]
  exact congrArg (fun b => att Q K V KM VM SK b n a h d) e0

/-! ## The blocks the points stage -/

/-- The batch and the query block of a point. -/
def pb (t : Fin cfg0.N) : Fin 8 := grid0.coords t 0
def pn (t : Fin cfg0.N) : Fin 64 := grid0.coords t 1

theorem idx1 : ∀ t : Fin grid0.N, win0_1.index t 0 = (grid0.coords t 0).val ∧ win0_1.index t 1 = (grid0.coords t 1).val
    ∧ win0_1.index t 2 = 0 := by decide +kernel
theorem idx2 : ∀ t : Fin grid0.N, win0_2.index t 0 = (grid0.coords t 0).val ∧ win0_2.index t 1 = (grid0.coords t 1).val - 1
    ∧ win0_2.index t 2 = 0 := by decide +kernel
theorem idx3 : ∀ t : Fin grid0.N, win0_3.index t 0 = (grid0.coords t 0).val ∧ win0_3.index t 1 = (grid0.coords t 1).val
    ∧ win0_3.index t 2 = 0 := by decide +kernel
theorem idx4 : ∀ t : Fin grid0.N, win0_4.index t 0 = (grid0.coords t 0).val
    ∧ win0_4.index t 1 = min ((grid0.coords t 1).val + 1) 63 ∧ win0_4.index t 2 = 0 := by decide +kernel
theorem idx5 : ∀ t : Fin grid0.N, win0_5.index t 0 = (grid0.coords t 0).val ∧ win0_5.index t 1 = (grid0.coords t 1).val - 1
    ∧ win0_5.index t 2 = 0 := by decide +kernel
theorem idx6 : ∀ t : Fin grid0.N, win0_6.index t 0 = (grid0.coords t 0).val ∧ win0_6.index t 1 = (grid0.coords t 1).val
    ∧ win0_6.index t 2 = 0 := by decide +kernel
theorem idx7 : ∀ t : Fin grid0.N, win0_7.index t 0 = (grid0.coords t 0).val
    ∧ win0_7.index t 1 = min ((grid0.coords t 1).val + 1) 63 ∧ win0_7.index t 2 = 0 := by decide +kernel
theorem idx8 : ∀ t : Fin grid0.N, win0_8.index t 0 = (grid0.coords t 0).val ∧ win0_8.index t 1 = 0
    ∧ win0_8.index t 2 = 0 := by decide +kernel
theorem idx9 : ∀ t : Fin grid0.N, win0_9.index t 0 = (grid0.coords t 0).val ∧ win0_9.index t 1 = 0
    ∧ win0_9.index t 2 = 0 := by decide +kernel
theorem idx10 : ∀ t : Fin grid0.N, win0_10.index t 0 = (grid0.coords t 0).val ∧ win0_10.index t 1 = (grid0.coords t 1).val
    ∧ win0_10.index t 2 = 0 ∧ win0_10.xsize (grid0.coords t) 0 = 1 ∧ win0_10.xsize (grid0.coords t) 1 = 128
    ∧ win0_10.xsize (grid0.coords t) 2 = 1024 := by decide +kernel
theorem idx0 : ∀ t : Fin grid0.N, win0_0.index t 0 = 0 := by decide +kernel

/-- An index of three axes from its coordinates. -/
theorem eq_ix3 {x y z : ℕ} (i : (⟨3, ![x, y, z]⟩ : Shape).Idx) (b : Fin x) (r : Fin y) (e : Fin z) (h0 : (i 0).val = b.val)
    (h1 : (i 1).val = r.val) (h2 : (i 2).val = e.val) : i = ix3 b r e := by
  funext k
  match k with
  | ⟨0, _⟩ => exact Fin.ext h0
  | ⟨1, _⟩ => exact Fin.ext h1
  | ⟨2, _⟩ => exact Fin.ext h2

theorem blk0 (c : Dev nD) (t : Fin cfg0.N) (h : Fin 8) :
    iblk m c 0 t (ix1 h) = m ((c : Thread nD τ).loc main_arg5) (ix1 h) := by
  have h0 := idx0 t
  show m ((c : Thread nD τ).loc main_arg5) ((win0_0.rect t).emb (ix1 h)) = _
  refine congrArg _ (funext fun i => ?_)
  match i with
  | ⟨0, _⟩ => exact Fin.ext (by show win0_0.index t 0 * 8 + 1 * h.val = h.val; omega)

/-- The point's queries. -/
theorem blk1 (c : Dev nD) (t : Fin cfg0.N) (a : Fin 128) (e : Fin 1024) :
    iblk m c 1 t (ix3 0 a e) = m ((c : Thread nD τ).loc main_arg0) (ix3 (pb t) (qrow (pn t) a) e) := by
  have h := idx1 t
  exact congrArg (m ((c : Thread nD τ).loc main_arg0)) (eq_ix3 ((win0_1.rect t).emb (ix3 0 a e)) _ _ _
    (by show win0_1.index t 0 * 1 + 1 * 0 = (grid0.coords t 0).val; omega)
    (by show win0_1.index t 1 * 128 + 1 * a.val = 128 * (grid0.coords t 1).val + a.val; omega)
    (by show win0_1.index t 2 * 1024 + 1 * e.val = e.val; omega))

/-- The keys of the three blocks. -/
theorem blk2 (c : Dev nD) (t : Fin cfg0.N) (a : Fin 128) (e : Fin 256) (r : Fin 8192) (hr : r.val = 128 * ((pn t).val - 1) + a.val) :
    iblk m c 2 t (ix3 0 a e) = m ((c : Thread nD τ).loc main_arg1) (ix3 (pb t) r e) := by
  have h := idx2 t
  exact congrArg (m ((c : Thread nD τ).loc main_arg1)) (eq_ix3 ((win0_2.rect t).emb (ix3 0 a e)) _ _ _
    (by show win0_2.index t 0 * 1 + 1 * 0 = (grid0.coords t 0).val; omega)
    (by
      rw [hr]
      show win0_2.index t 1 * 128 + 1 * a.val = 128 * ((grid0.coords t 1).val - 1) + a.val
      rw [h.2.1]; omega)
    (by show win0_2.index t 2 * 256 + 1 * e.val = e.val; omega))

theorem blk3 (c : Dev nD) (t : Fin cfg0.N) (a : Fin 128) (e : Fin 256) (r : Fin 8192) (hr : r.val = 128 * (pn t).val + a.val) :
    iblk m c 3 t (ix3 0 a e) = m ((c : Thread nD τ).loc main_arg1) (ix3 (pb t) r e) := by
  have h := idx3 t
  exact congrArg (m ((c : Thread nD τ).loc main_arg1)) (eq_ix3 ((win0_3.rect t).emb (ix3 0 a e)) _ _ _
    (by show win0_3.index t 0 * 1 + 1 * 0 = (grid0.coords t 0).val; omega)
    (by
      rw [hr]
      show win0_3.index t 1 * 128 + 1 * a.val = 128 * (grid0.coords t 1).val + a.val
      rw [h.2.1]; omega)
    (by show win0_3.index t 2 * 256 + 1 * e.val = e.val; omega))

theorem blk4 (c : Dev nD) (t : Fin cfg0.N) (a : Fin 128) (e : Fin 256) (r : Fin 8192) (hr : r.val = 128 * min ((pn t).val + 1) 63 + a.val) :
    iblk m c 4 t (ix3 0 a e) = m ((c : Thread nD τ).loc main_arg1) (ix3 (pb t) r e) := by
  have h := idx4 t
  exact congrArg (m ((c : Thread nD τ).loc main_arg1)) (eq_ix3 ((win0_4.rect t).emb (ix3 0 a e)) _ _ _
    (by show win0_4.index t 0 * 1 + 1 * 0 = (grid0.coords t 0).val; omega)
    (by
      rw [hr]
      show win0_4.index t 1 * 128 + 1 * a.val = 128 * min ((grid0.coords t 1).val + 1) 63 + a.val
      rw [h.2.1]; omega)
    (by show win0_4.index t 2 * 256 + 1 * e.val = e.val; omega))

/-- The values of the three blocks. -/
theorem blk5 (c : Dev nD) (t : Fin cfg0.N) (a : Fin 128) (e : Fin 256) (r : Fin 8192) (hr : r.val = 128 * ((pn t).val - 1) + a.val) :
    iblk m c 5 t (ix3 0 a e) = m ((c : Thread nD τ).loc main_arg2) (ix3 (pb t) r e) := by
  have h := idx5 t
  exact congrArg (m ((c : Thread nD τ).loc main_arg2)) (eq_ix3 ((win0_5.rect t).emb (ix3 0 a e)) _ _ _
    (by show win0_5.index t 0 * 1 + 1 * 0 = (grid0.coords t 0).val; omega)
    (by
      rw [hr]
      show win0_5.index t 1 * 128 + 1 * a.val = 128 * ((grid0.coords t 1).val - 1) + a.val
      rw [h.2.1]; omega)
    (by show win0_5.index t 2 * 256 + 1 * e.val = e.val; omega))

theorem blk6 (c : Dev nD) (t : Fin cfg0.N) (a : Fin 128) (e : Fin 256) (r : Fin 8192) (hr : r.val = 128 * (pn t).val + a.val) :
    iblk m c 6 t (ix3 0 a e) = m ((c : Thread nD τ).loc main_arg2) (ix3 (pb t) r e) := by
  have h := idx6 t
  exact congrArg (m ((c : Thread nD τ).loc main_arg2)) (eq_ix3 ((win0_6.rect t).emb (ix3 0 a e)) _ _ _
    (by show win0_6.index t 0 * 1 + 1 * 0 = (grid0.coords t 0).val; omega)
    (by
      rw [hr]
      show win0_6.index t 1 * 128 + 1 * a.val = 128 * (grid0.coords t 1).val + a.val
      rw [h.2.1]; omega)
    (by show win0_6.index t 2 * 256 + 1 * e.val = e.val; omega))

theorem blk7 (c : Dev nD) (t : Fin cfg0.N) (a : Fin 128) (e : Fin 256) (r : Fin 8192) (hr : r.val = 128 * min ((pn t).val + 1) 63 + a.val) :
    iblk m c 7 t (ix3 0 a e) = m ((c : Thread nD τ).loc main_arg2) (ix3 (pb t) r e) := by
  have h := idx7 t
  exact congrArg (m ((c : Thread nD τ).loc main_arg2)) (eq_ix3 ((win0_7.rect t).emb (ix3 0 a e)) _ _ _
    (by show win0_7.index t 0 * 1 + 1 * 0 = (grid0.coords t 0).val; omega)
    (by
      rw [hr]
      show win0_7.index t 1 * 128 + 1 * a.val = 128 * min ((grid0.coords t 1).val + 1) 63 + a.val
      rw [h.2.1]; omega)
    (by show win0_7.index t 2 * 256 + 1 * e.val = e.val; omega))

/-- The meta tokens' keys and values. -/
theorem blk8 (c : Dev nD) (t : Fin cfg0.N) (a : Fin 16) (e : Fin 256) :
    iblk m c 8 t (ix3 0 a e) = m ((c : Thread nD τ).loc main_arg3) (ix3 (pb t) a e) := by
  have h := idx8 t
  exact congrArg (m ((c : Thread nD τ).loc main_arg3)) (eq_ix3 ((win0_8.rect t).emb (ix3 0 a e)) _ _ _
    (by show win0_8.index t 0 * 1 + 1 * 0 = (grid0.coords t 0).val; omega)
    (by show win0_8.index t 1 * 16 + 1 * a.val = a.val; omega)
    (by show win0_8.index t 2 * 256 + 1 * e.val = e.val; omega))

theorem blk9 (c : Dev nD) (t : Fin cfg0.N) (a : Fin 16) (e : Fin 256) :
    iblk m c 9 t (ix3 0 a e) = m ((c : Thread nD τ).loc main_arg4) (ix3 (pb t) a e) := by
  have h := idx9 t
  exact congrArg (m ((c : Thread nD τ).loc main_arg4)) (eq_ix3 ((win0_9.rect t).emb (ix3 0 a e)) _ _ _
    (by show win0_9.index t 0 * 1 + 1 * 0 = (grid0.coords t 0).val; omega)
    (by show win0_9.index t 1 * 16 + 1 * a.val = a.val; omega)
    (by show win0_9.index t 2 * 256 + 1 * e.val = e.val; omega))

theorem catK (c : Dev nD) (t : Fin cfg0.N) (k : Fin 384) (e : Fin 256) :
    catB (iblk m c 2 t) (iblk m c 3 t) (iblk m c 4 t) k e
      = m ((c : Thread nD τ).loc main_arg1) (ix3 (pb t) (krow (pn t) k) e) := by
  have hk := k.isLt
  unfold catB krow
  split
  · exact blk2 m c t _ e _ (by simp only []; omega)
  split
  · exact blk3 m c t _ e _ (by simp only []; omega)
  · exact blk4 m c t _ e _ (by simp only []; omega)

theorem catV (c : Dev nD) (t : Fin cfg0.N) (k : Fin 384) (e : Fin 256) :
    catB (iblk m c 5 t) (iblk m c 6 t) (iblk m c 7 t) k e
      = m ((c : Thread nD τ).loc main_arg2) (ix3 (pb t) (krow (pn t) k) e) := by
  have hk := k.isLt
  unfold catB krow
  split
  · exact blk5 m c t _ e _ (by simp only []; omega)
  split
  · exact blk6 m c t _ e _ (by simp only []; omega)
  · exact blk7 m c t _ e _ (by simp only []; omega)

/-! ## The array -/

/-- The result array of device `c`: the attention of its arguments. -/
abbrev result (c : Dev nD) : Buf (Elt Ideal) ((c : Thread nD τ).loc main_v0) :=
  attG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem block_eq (c : Dev nD) (t : Fin cfg0.N) (h : Fin 8) (a d : Fin 128) :
    headB (grid0.coords t 1).val (iblk m c 0 t) (iblk m c 1 t) (iblk m c 2 t) (iblk m c 3 t) (iblk m c 4 t)
      (iblk m c 5 t) (iblk m c 6 t) (iblk m c 7 t) (iblk m c 8 t) (iblk m c 9 t) h a d
      = att (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (pb t) (pn t) a h d := by
  unfold headB att
  simp only [catK, catV, blk0, blk1, blk8, blk9]
  rfl

/-- What a point writes back is its block of the result. -/
theorem flushed_eq (c : Dev nD) (t : Fin cfg0.N) :
    (dats m 0 c).flushed 10 t = ((cfg0.win 10).blk t).view.read (Elt Ideal) (result m c) := by
  rw [Value.flushed10, outs_eq]
  funext y
  have hi := idx10 t
  have h1 : (y 1).val < 128 := (y 1).isLt
  have h2 : (y 2).val < 1024 := (y 2).isLt
  have h0 : (y 0).val < 1 := (y 0).isLt
  refine (blockB_at _ _ _ _ _ _ _ _ _ _ _ _ ⟨(y 2).val / 128, by omega⟩ ⟨(y 1).val, h1⟩ ⟨(y 2).val % 128, by omega⟩ rfl
    (by show (y 2).val = 128 * ((y 2).val / 128) + (y 2).val % 128; omega)).trans ((block_eq m c t _ _ _).trans ?_)
  refine (attG_at _ _ _ _ _ _ ((win0_10.rect t).emb y) _ _ _ _ _ ?_ ?_ ?_).symm
  · show win0_10.index t 0 * 1 + 1 * (y 0).val = (grid0.coords t 0).val
    omega
  · show win0_10.index t 1 * 128 + 1 * (y 1).val = 128 * (grid0.coords t 1).val + (y 1).val
    omega
  · show win0_10.index t 2 * 1024 + 1 * (y 2).val = 128 * ((y 2).val / 128) + (y 2).val % 128
    omega

/-- An index is in a point's block when its batch and its row's block are the point's. -/
theorem mem_blk (t : Fin cfg0.N) (i : S8x8192x1024.Idx) (h0 : (i 0).val = (grid0.coords t 0).val)
    (h1 : (i 1).val / 128 = (grid0.coords t 1).val) : i ∈ ((cfg0.win 10).blk t).view.set := by
  show i ∈ ((View.whole main_v0).slice (win0_10.rect t)).set
  rw [View.set_slice_whole, Rect.mem_set_unit]
  have hi := idx10 t
  have h2 : (i 2 : Nat) < 1024 := (i 2).isLt
  intro a
  match a with
  | ⟨0, _⟩ =>
    show win0_10.index t 0 * 1 ≤ (i 0 : Nat) ∧ (i 0 : Nat) < win0_10.index t 0 * 1 + win0_10.xsize (grid0.coords t) 0
    omega
  | ⟨1, _⟩ =>
    show win0_10.index t 1 * 128 ≤ (i 1 : Nat) ∧ (i 1 : Nat) < win0_10.index t 1 * 128 + win0_10.xsize (grid0.coords t) 1
    omega
  | ⟨2, _⟩ =>
    show win0_10.index t 2 * 1024 ≤ (i 2 : Nat) ∧ (i 2 : Nat) < win0_10.index t 2 * 1024 + win0_10.xsize (grid0.coords t) 2
    omega

theorem coords_of : ∀ (b : Fin 8) (n : Fin 64), ∃ t : Fin grid0.N,
    (grid0.coords t 0).val = b.val ∧ (grid0.coords t 1).val = n.val := by
  intro b n
  have h : ∀ t : Fin grid0.N, (grid0.coords t 0).val = t.val / 64 ∧ (grid0.coords t 1).val = t.val % 64 := by decide +kernel
  have hb := b.isLt
  have hn := n.isLt
  refine ⟨⟨64 * b.val + n.val, by show 64 * b.val + n.val < 512; omega⟩, ?_, ?_⟩
  · rw [(h _).1]; show (64 * b.val + n.val) / 64 = b.val; omega
  · rw [(h _).2]; show (64 * b.val + n.val) % 64 = n.val; omega

/-- The points' blocks cover the array. -/
theorem cover (i : S8x8192x1024.Idx) : ∃ t : Fin cfg0.N, (cfg0.win 10).flush t = true ∧ i ∈ ((cfg0.win 10).blk t).view.set := by
  have h0 : (i 0 : Nat) < 8 := (i 0).isLt
  have h1 : (i 1 : Nat) < 8192 := (i 1).isLt
  obtain ⟨t, ht0, ht1⟩ := coords_of ⟨(i 0).val, h0⟩ ⟨(i 1).val / 128, by omega⟩
  exact ⟨t, flush0_10 t, mem_blk t i ht0.symm ht1.symm⟩

/-- The result array after the run. -/
theorem final (c : Dev nD) : (dats m 0 c).arrAt 10 cfg0.N = result m c :=
  (dats m 0 c).arrAt_eq_of_cover 10 (result m c) (fun t _ => flushed_eq m c t) cover

/-- The run: the result array holds the attention, the arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Proof.AttnValue
-- ==== Proof.AttnScore.lean ====
/-
  The reference's scores at an index: the queries and keys regrouped, the three neighbouring key blocks side by side,
  the visibility mask, and the list of all scores of one row (the band's, the meta tokens', the sink's).
-/
module

public import proofs.«01_k».proof.Proof.AttnValue
public import proofs.«01_k».proof.Proof.Gen.ReferenceIdeal.Read

@[expose] public section

set_option maxRecDepth 16384

noncomputable section

namespace Cert.Proof.AttnScore

open Idealize.ShloMosaic Idealize.ShloMosaic.WordCmp Cert.ReferenceIdeal Cert.ReferenceIdeal.Gen Cert.ReferenceIdeal.Read
open Cert.Proof.Softmax Cert.Proof.AttnPay Cert.Proof.AttnBlock Cert.Proof.AttnValue

variable (Q : FVec Ideal S8x8192x1024 .bf16) (K V : FVec Ideal S8x8192x256 .bf16) (KM VM : FVec Ideal S8x16x256 .bf16)
    (SK : FVec Ideal S8 .f32)

/-- Query head `g` of the group that shares key head `k`. -/
def hd (k : Fin 2) (g : Fin 4) : Fin 8 := ⟨4 * k.val + g.val, by have := k.isLt; have := g.isLt; omega⟩

/-- The regrouped queries. -/
theorem v11_at (b : Fin 8) (n : Fin 64) (a : Fin 128) (k : Fin 2) (g : Fin 4) (e : Fin 128) :
    val_main_v11 (F := Ideal) Q (ix6 b n a k g e) = Q (ix3 b (qrow n a) (qcol (hd k g) e)) := by
  pointwise [val_main_v11, val_main_v5, val_main_v0]
  refine congrArg Q (eq_ix3 _ _ _ _ rfl ?_ ?_)
  · show n.val * 128 + a.val = 128 * n.val + a.val
    omega
  · show k.val * 512 + g.val * 128 + e.val = 128 * (4 * k.val + g.val) + e.val
    omega

/-- A row of the padded keys that is not a padding row. -/
theorem v12_row (b : Fin 8) (r : Fin 8448) (s : Fin 8192) (hs : r.val = 128 + s.val) (k : Fin 2) (g : Fin 4) (e : Fin 128) :
    val_main_v12 (F := Ideal) K (ix4 b r k e) = K (ix3 b s (kcol (hd k g) e)) := by
  have h1 := s.isLt
  have h2 := g.isLt
  pointwise [val_main_v12, val_main_v6, val_main_v1]
  rw [dif_pos (by omega)]
  refine congrArg K (eq_ix3 _ _ _ _ rfl ?_ ?_)
  · show r.val - 128 = s.val
    omega
  · show k.val * 128 + e.val = 128 * ((4 * k.val + g.val) / 4) + e.val
    omega

/-- The same of the padded values. -/
theorem v18_row (b : Fin 8) (r : Fin 8448) (s : Fin 8192) (hs : r.val = 128 + s.val) (k : Fin 2) (g : Fin 4) (e : Fin 128) :
    val_main_v18 (F := Ideal) V (ix4 b r k e) = V (ix3 b s (kcol (hd k g) e)) := by
  have h1 := s.isLt
  have h2 := g.isLt
  pointwise [val_main_v18, val_main_v7, val_main_v2]
  rw [dif_pos (by omega)]
  refine congrArg V (eq_ix3 _ _ _ _ rfl ?_ ?_)
  · show r.val - 128 = s.val
    omega
  · show k.val * 128 + e.val = 128 * ((4 * k.val + g.val) / 4) + e.val
    omega

/-- Three neighbouring blocks of keys, at a key that some row sees. -/
theorem v17_sees (b : Fin 8) (n : Fin 64) (a : Fin 128) (c : Fin 384) (h : Sees n.val a.val c.val) (k : Fin 2) (g : Fin 4)
    (e : Fin 128) : val_main_v17 (F := Ideal) K (ix5 b n c k e) = K (ix3 b (krow n c) (kcol (hd k g) e)) := by
  have hn := n.isLt
  have hc := c.isLt
  have ha := a.isLt
  unfold Sees at h
  pointwise [val_main_v17, val_main_v14, val_main_v15, val_main_v16, val_main_v13]
  unfold krow
  by_cases h1 : c.val < 128
  · rw [dif_pos h1, if_pos h1]
    exact v12_row K b _ _ (by simp only []; omega) k g e
  · rw [dif_neg h1, if_neg h1]
    by_cases h2 : c.val - 128 < 128
    · rw [dif_pos h2, if_pos h2]
      exact v12_row K b _ _ (by simp only []; omega) k g e
    · rw [dif_neg h2, if_neg h2]
      exact v12_row K b _ _ (by simp only []; omega) k g e

/-- The same of the values. -/
theorem v23_sees (b : Fin 8) (n : Fin 64) (a : Fin 128) (c : Fin 384) (h : Sees n.val a.val c.val) (k : Fin 2) (g : Fin 4)
    (e : Fin 128) : val_main_v23 (F := Ideal) V (ix5 b n c k e) = V (ix3 b (krow n c) (kcol (hd k g) e)) := by
  have hn := n.isLt
  have hc := c.isLt
  have ha := a.isLt
  unfold Sees at h
  pointwise [val_main_v23, val_main_v20, val_main_v21, val_main_v22, val_main_v19]
  unfold krow
  by_cases h1 : c.val < 128
  · rw [dif_pos h1, if_pos h1]
    exact v18_row V b _ _ (by simp only []; omega) k g e
  · rw [dif_neg h1, if_neg h1]
    by_cases h2 : c.val - 128 < 128
    · rw [dif_pos h2, if_pos h2]
      exact v18_row V b _ _ (by simp only []; omega) k g e
    · rw [dif_neg h2, if_neg h2]
      exact v18_row V b _ _ (by simp only []; omega) k g e

/-! ## The mask -/

/-- The distance from a row of the block to a key of the three blocks is at most 128. -/
theorem near_word : ∀ (a : Fin 128) (c : Fin 384),
    IntOp.cmpi .sle (IntOp.absi (IntOp.subi (IntOp.subi (BitVec.ofNat 32 c.val) 128#32) (BitVec.ofNat 32 a.val))) 128#32 = 1#1
      ↔ a.val ≤ c.val ∧ c.val ≤ a.val + 256 := by decide +kernel

/-- The key lies at or after the first row. -/
theorem first_word : ∀ (n : Fin 64) (c : Fin 384),
    IntOp.cmpi .sge (IntOp.addi (IntOp.muli (IntOp.subi (BitVec.ofNat 32 n.val) 1#32) 128#32) (BitVec.ofNat 32 c.val)) 0#32 = 1#1
      ↔ 128 ≤ 128 * n.val + c.val := by decide +kernel

/-- The key lies before the last row's end. -/
theorem last_word : ∀ (n : Fin 64) (c : Fin 384),
    IntOp.cmpi .slt (IntOp.addi (IntOp.muli (IntOp.subi (BitVec.ofNat 32 n.val) 1#32) 128#32) (BitVec.ofNat 32 c.val)) 8192#32 = 1#1
      ↔ 128 * n.val + c.val < 8320 := by decide +kernel

/-- The reference's mask is the kernel's. -/
theorem v56_at (n : Fin 64) (a : Fin 128) (c : Fin 384) :
    val_main_v56 (F := Ideal) (ix6 0 n 0 0 a c) = 1#1 ↔ Sees n.val a.val c.val := by
  have hn := n.isLt
  have hc := c.isLt
  have ha := a.isLt
  have e : val_main_v56 (F := Ideal) (ix6 0 n 0 0 a c) = IntOp.andi (IntOp.andi
      (IntOp.cmpi .sle (IntOp.absi (IntOp.subi (IntOp.subi (BitVec.ofNat 32 c.val) 128#32) (BitVec.ofNat 32 a.val))) 128#32)
      (IntOp.cmpi .sge (IntOp.addi (IntOp.muli (IntOp.subi (BitVec.ofNat 32 n.val) 1#32) 128#32) (BitVec.ofNat 32 c.val)) 0#32))
      (IntOp.cmpi .slt (IntOp.addi (IntOp.muli (IntOp.subi (BitVec.ofNat 32 n.val) 1#32) 128#32) (BitVec.ofNat 32 c.val))
        8192#32) := by
    pointwise [val_main_v56, val_main_v55, val_main_v54, val_main_v53, val_main_v52, val_main_v51, val_main_v50, val_main_v49,
      val_main_v48, val_main_v47, val_main_v46, val_main_v45, val_main_v44, val_main_v43, val_main_v42, val_main_v41,
      val_main_v40, val_main_v39, val_main_v38, val_main_v37, val_main_v36, val_main_v35, val_main_v34, val_main_v33,
      val_main_v32, val_main_v31, val_main_v30, val_main_v29, val_main_v28, val_main_v27, val_main_v26, val_main_c_1,
      val_main_c_2, val_main_c_3, val_main_c_4, val_main_c_5, val_main_c_6]
  rw [e, andi_eq_one, andi_eq_one, near_word, first_word, last_word]
  unfold Sees
  omega

/-! ## The scores -/

/-- The band's scores: a key that the row does not see scores `-∞`. -/
theorem v57_at (b : Fin 8) (n : Fin 64) (a : Fin 128) (k : Fin 2) (g : Fin 4) (c : Fin 384) :
    val_main_v57 (F := Ideal) Q K (ix6 b n k g a c) = if Sees n.val a.val c.val then
        ∑ e : Fin 128, Q (ix3 b (qrow n a) (qcol (hd k g) e)) * K (ix3 b (krow n c) (kcol (hd k g) e))
      else ⊥ := by
  pointwise [val_main_v57, val_main_v25, val_main_v24, val_main_call2_v1, val_main_call2_v2, val_main_call2_v0, val_main_cst]
  unfold Scalar.select
  by_cases h : Sees n.val a.val c.val
  · rw [if_pos h]
    refine (if_pos ((v56_at n a c).2 h)).trans ?_
    refine Finset.sum_congr rfl fun e _ => ?_
    rw [mul_comm, v11_at, v17_sees K b n a c h k g]
  · rw [if_neg h]
    exact (if_neg (fun h' => h ((v56_at n a c).1 h'))).trans neg_inf

/-- The list of a row's scores at a key of the band. -/
theorem v62_band (b : Fin 8) (n : Fin 64) (a : Fin 128) (k : Fin 2) (g : Fin 4) (c : Fin 401) (i : Fin 384)
    (h : c.val = i.val) :
    val_main_v62 (F := Ideal) Q K KM SK (ix6 b n k g a c) = if Sees n.val a.val i.val then
        ∑ e : Fin 128, Q (ix3 b (qrow n a) (qcol (hd k g) e)) * K (ix3 b (krow n i) (kcol (hd k g) e))
      else ⊥ := by
  have hi := i.isLt
  rw [← v57_at]
  pointwise [val_main_v62]
  rw [dif_pos (by omega)]
  exact congrArg (fun x => val_main_v57 (F := Ideal) Q K (ix6 b n k g a x)) (Fin.ext h)

/-- The list of a row's scores at a meta token. -/
theorem v62_meta (b : Fin 8) (n : Fin 64) (a : Fin 128) (k : Fin 2) (g : Fin 4) (c : Fin 401) (j : Fin 16)
    (h : c.val = 384 + j.val) :
    val_main_v62 (F := Ideal) Q K KM SK (ix6 b n k g a c)
      = ∑ e : Fin 128, Q (ix3 b (qrow n a) (qcol (hd k g) e)) * KM (ix3 b j (kcol (hd k g) e)) := by
  have hj := j.isLt
  have hg := g.isLt
  pointwise [val_main_v62, val_main_v59, val_main_v58, val_main_v10, val_main_v8, val_main_v3]
  rw [dif_neg (by omega), dif_pos (by omega)]
  refine Finset.sum_congr rfl fun e _ => ?_
  rw [mul_comm, v11_at]
  refine congrArg (_ * ·) (congrArg KM (eq_ix3 _ _ _ _ rfl ?_ ?_))
  · show c.val - 384 = j.val
    omega
  · show k.val * 128 + e.val = 128 * ((4 * k.val + g.val) / 4) + e.val
    omega

/-- The list of a row's scores at its end, the sink. -/
theorem v62_sink (b : Fin 8) (n : Fin 64) (a : Fin 128) (k : Fin 2) (g : Fin 4) (c : Fin 401) (h : c.val = 400) :
    val_main_v62 (F := Ideal) Q K KM SK (ix6 b n k g a c) = SK (ix1 (hd k g)) := by
  pointwise [val_main_v62, val_main_v61, val_main_v60, val_main_v10]
  rw [dif_neg (by omega), dif_neg (by omega)]
  refine congrArg SK (congrArg ix1 (Fin.ext ?_))
  show k.val * 4 + g.val = 4 * k.val + g.val
  omega

end Cert.Proof.AttnScore
-- ==== Proof.AttnOut.lean ====
/-
  The reference's result at an index: its softmax over the list of all scores, the weighted values, and the equation with
  the kernel's attended value when the arguments are finite.
-/
module

public import proofs.«01_k».proof.Proof.AttnScore

@[expose] public section

set_option maxRecDepth 16384

noncomputable section

namespace Cert.Proof.AttnOut

open Idealize.ShloMosaic Cert.ReferenceIdeal Cert.ReferenceIdeal.Gen Cert.ReferenceIdeal.Read
open Cert.Proof.Softmax Cert.Proof.AttnPay Cert.Proof.AttnBlock Cert.Proof.AttnValue Cert.Proof.AttnScore

variable (Q : FVec Ideal S8x8192x1024 .bf16) (K V : FVec Ideal S8x8192x256 .bf16) (KM VM : FVec Ideal S8x16x256 .bf16)
    (SK : FVec Ideal S8 .f32) (b : Fin 8) (n : Fin 64) (a : Fin 128) (k : Fin 2) (g : Fin 4)

/-- The scores of the band of a row of head `h`. -/
def sband (h : Fin 8) (c : Fin 384) : EReal :=
  if Sees n.val a.val c.val then ∑ e : Fin 128, Q (ix3 b (qrow n a) (qcol h e)) * K (ix3 b (krow n c) (kcol h e)) else ⊥

/-- The scores of the meta tokens of a row of head `h`. -/
def smeta (h : Fin 8) (j : Fin 16) : EReal := ∑ e : Fin 128, Q (ix3 b (qrow n a) (qcol h e)) * KM (ix3 b j (kcol h e))

/-- The list of all of a row's scores. -/
abbrev scores (c : Fin (384 + 16 + 1)) : EReal := val_main_v62 (F := Ideal) Q K KM SK (ix6 b n k g a c)

/-- The greatest of a row's scores. -/
abbrev top : EReal := rowMax (sband Q K b n a (hd k g)) (smeta Q KM b n a (hd k g)) (SK (ix1 (hd k g)))

/-- The softmax denominator of a row. -/
abbrev total : EReal := den (sband Q K b n a (hd k g)) (smeta Q KM b n a (hd k g)) (SK (ix1 (hd k g)))

theorem scores_band (i : Fin 384) :
    scores Q K KM SK b n a k g ((i.castAdd 16).castAdd 1) = sband Q K b n a (hd k g) i :=
  v62_band Q K KM SK b n a k g _ i rfl

theorem scores_meta (j : Fin 16) :
    scores Q K KM SK b n a k g ((j.natAdd 384).castAdd 1) = smeta Q KM b n a (hd k g) j :=
  v62_meta Q K KM SK b n a k g _ j rfl

theorem scores_sink : scores Q K KM SK b n a k g (Fin.natAdd (384 + 16) 0) = SK (ix1 (hd k g)) :=
  v62_sink Q K KM SK b n a k g _ rfl

theorem v63_at : val_main_v63 (F := Ideal) Q K KM SK (ix5 b n k g a) = top Q K KM SK b n a k g := by
  refine Eq.trans ?_ (rowMax_eq _ _ _ (scores Q K KM SK b n a k g) (scores_band Q K KM SK b n a k g)
    (scores_meta Q K KM SK b n a k g) (scores_sink Q K KM SK b n a k g))
  unfold val_main_v63 scores
  generalize val_main_v62 (F := Ideal) Q K KM SK = y
  refine (Host.reduce_eq_fold_single (FloatOps.maximumf (F := Ideal) (φ := .f32)) y (val_main_cst_7 (F := Ideal))
    reducesTo_S8x64x2x4x128x401_S8x64x2x4x128_d5 (by decide) h_S_ (ix5 b n k g a)).trans ?_
  have h0 : val_main_cst_7 (F := Ideal) (Shape.Idx.first h_S_) = ⊥ := neg_inf
  rw [h0]
  refine congrArg (fun f => Finset.fold max ⊥ f (Finset.univ : Finset (Fin 401))) (funext fun c => congrArg y ?_)
  exact funext fun j => Fin.ext (by
    match j with | ⟨0, _⟩ => rfl | ⟨1, _⟩ => rfl | ⟨2, _⟩ => rfl | ⟨3, _⟩ => rfl | ⟨4, _⟩ => rfl | ⟨5, _⟩ => rfl)

theorem v67_at (c : Fin 401) : val_main_v67 (F := Ideal) Q K KM SK (ix6 b n k g a c) = top Q K KM SK b n a k g := by
  rw [val_main_v67_apply, val_main_v66_apply]
  have hi : idx_main_v66 (idx_main_v67 (ix6 b n k g a c)) = ix5 b n k g a := funext fun j => by
    match j with | ⟨0, _⟩ => rfl | ⟨1, _⟩ => rfl | ⟨2, _⟩ => rfl | ⟨3, _⟩ => rfl | ⟨4, _⟩ => rfl
  rw [hi, val_main_v65_apply, v63_at, val_main_v64_apply]
  have h0 : val_main_cst_8 (F := Ideal) (idx_main_v64 (ix5 b n k g a)) = ⊥ := neg_inf
  rw [h0]
  exact max_eq_right bot_le

theorem v69_at (c : Fin 401) : val_main_v69 (F := Ideal) Q K KM SK (ix6 b n k g a c)
    = Ideal.exp (scores Q K KM SK b n a k g c - top Q K KM SK b n a k g) := by
  rw [val_main_v69_apply, val_main_v68_apply, v67_at]
  rfl

theorem v70_at : val_main_v70 (F := Ideal) Q K KM SK (ix5 b n k g a) = total Q K KM SK b n a k g := by
  rw [val_main_v70_apply]
  have h0 : val_main_cst_9 (F := Ideal) (Shape.Idx.first h_S_) = 0 := Ideal.ofBits_zero_f32
  rw [h0, zero_add]
  refine Eq.trans (Finset.sum_congr rfl fun c _ => ?_) (den_eq _ _ _ (scores Q K KM SK b n a k g)
    (scores_band Q K KM SK b n a k g) (scores_meta Q K KM SK b n a k g) (scores_sink Q K KM SK b n a k g))
  have hi : idx_main_v70 (ix5 b n k g a) c = ix6 b n k g a c := funext fun j => by
    match j with | ⟨0, _⟩ => rfl | ⟨1, _⟩ => rfl | ⟨2, _⟩ => rfl | ⟨3, _⟩ => rfl | ⟨4, _⟩ => rfl | ⟨5, _⟩ => rfl
  rw [hi]
  exact v69_at Q K KM SK b n a k g c

/-- The softmax weight of a score. -/
theorem v73_at (c : Fin 401) : val_main_v73 (F := Ideal) Q K KM SK (ix6 b n k g a c)
    = Ideal.div (Ideal.exp (scores Q K KM SK b n a k g c - top Q K KM SK b n a k g)) (total Q K KM SK b n a k g) := by
  rw [val_main_v73_apply, v69_at, val_main_v72_apply, val_main_v71_apply]
  have hi : idx_main_v71 (idx_main_v72 (ix6 b n k g a c)) = ix5 b n k g a := funext fun j => by
    match j with | ⟨0, _⟩ => rfl | ⟨1, _⟩ => rfl | ⟨2, _⟩ => rfl | ⟨3, _⟩ => rfl | ⟨4, _⟩ => rfl
  rw [hi, v70_at]
  rfl

/-- The weighted values of the band. -/
theorem v77_at (d : Fin 128) : val_main_v77 (F := Ideal) Q K V KM SK (ix6 b n a k g d)
    = ∑ i : Fin 384, Ideal.div (Ideal.exp (sband Q K b n a (hd k g) i - top Q K KM SK b n a k g)) (total Q K KM SK b n a k g)
        * val_main_v23 (F := Ideal) V (ix5 b n i k d) := by
  rw [val_main_v77_apply, val_main_v76_apply]
  refine Finset.sum_congr rfl fun i _ => ?_
  have hl : lidx_main_v76 (idx_main_v77 (ix6 b n a k g d)) i = ix5 b n i k d := funext fun j => by
    match j with | ⟨0, _⟩ => rfl | ⟨1, _⟩ => rfl | ⟨2, _⟩ => rfl | ⟨3, _⟩ => rfl | ⟨4, _⟩ => rfl
  have hr : idx_main_v74 (ridx_main_v76 (idx_main_v77 (ix6 b n a k g d)) i) = ix6 b n k g a ((i.castAdd 16).castAdd 1) :=
    funext fun j => by
      match j with | ⟨0, _⟩ => rfl | ⟨1, _⟩ => rfl | ⟨2, _⟩ => rfl | ⟨3, _⟩ => rfl | ⟨4, _⟩ => rfl | ⟨5, _⟩ => rfl
  rw [val_main_v74_apply, hl, hr, v73_at, scores_band, mul_comm]

/-- The meta tokens' values, a column's head apart. -/
theorem v9_at (i : Fin 16) (d : Fin 128) :
    val_main_v9 (F := Ideal) VM (ix4 b i k d) = VM (ix3 b i (kcol (hd k g) d)) := by
  have hg := g.isLt
  pointwise [val_main_v9, val_main_v4]
  refine congrArg VM (eq_ix3 _ _ _ _ rfl rfl ?_)
  show k.val * 128 + d.val = 128 * ((4 * k.val + g.val) / 4) + d.val
  omega

/-- The weighted values of the meta tokens. -/
theorem v79_at (d : Fin 128) : val_main_v79 (F := Ideal) Q K KM VM SK (ix6 b n a k g d)
    = ∑ j : Fin 16, Ideal.div (Ideal.exp (smeta Q KM b n a (hd k g) j - top Q K KM SK b n a k g)) (total Q K KM SK b n a k g)
        * VM (ix3 b j (kcol (hd k g) d)) := by
  rw [val_main_v79_apply, val_main_v78_apply]
  refine Finset.sum_congr rfl fun i _ => ?_
  have hl : lidx_main_v78 (idx_main_v79 (ix6 b n a k g d)) i = ix4 b i k d := funext fun j => by
    match j with | ⟨0, _⟩ => rfl | ⟨1, _⟩ => rfl | ⟨2, _⟩ => rfl | ⟨3, _⟩ => rfl
  have hr : idx_main_v75 (ridx_main_v78 (idx_main_v79 (ix6 b n a k g d)) i) = ix6 b n k g a ((i.natAdd 384).castAdd 1) :=
    funext fun j => by
      match j with | ⟨0, _⟩ => rfl | ⟨1, _⟩ => rfl | ⟨2, _⟩ => rfl | ⟨3, _⟩ => rfl | ⟨4, _⟩ => rfl | ⟨5, _⟩ => rfl
  rw [val_main_v75_apply, hl, hr, v73_at, scores_meta, v9_at VM b k g i d, mul_comm]

/-- With finite queries, keys and sinks, the reference's attended value is the kernel's. -/
theorem v80_at (hQ : ∀ i, Q i ≠ ⊤ ∧ Q i ≠ ⊥) (hK : ∀ i, K i ≠ ⊤ ∧ K i ≠ ⊥) (hKM : ∀ i, KM i ≠ ⊤ ∧ KM i ≠ ⊥)
    (hSK : ∀ i, SK i ≠ ⊤ ∧ SK i ≠ ⊥) (d : Fin 128) :
    val_main_v80 (F := Ideal) Q K V KM VM SK (ix6 b n a k g d) = att Q K V KM VM SK b n a (hd k g) d := by
  rw [val_main_v80_apply, v77_at, v79_at]
  refine attend_eq (sband Q K b n a (hd k g)) (smeta Q KM b n a (hd k g)) (SK (ix1 (hd k g)))
    (fun c => V (ix3 b (krow n c) (kcol (hd k g) d))) (fun c => val_main_v23 (F := Ideal) V (ix5 b n c k d))
    (fun j => VM (ix3 b j (kcol (hd k g) d))) (fun i => ?_) (fun j => ?_) (hSK _).1 (hSK _).2 (fun i => ?_)
  · unfold sband
    split_ifs
    · exact sum_mul_ne_top _ _ _ (fun _ => hQ _) (fun _ => hK _)
    · exact bot_ne_top
  · exact sum_mul_ne_top _ _ _ (fun _ => hQ _) (fun _ => hKM _)
  · by_cases h : Sees n.val a.val i.val
    · exact .inr (v23_sees V b n a i h k g d).symm
    · exact .inl (by unfold sband; rw [if_neg h])

/-- The result's columns and rows are the regrouped ones. -/
theorem v81_at (r : Fin 8192) (e : Fin 1024) : val_main_v81 (F := Ideal) Q K V KM VM SK (ix3 b r e)
    = val_main_v80 (F := Ideal) Q K V KM VM SK (ix6 b ⟨r.val / 128, by have := r.isLt; omega⟩ ⟨r.val % 128, Nat.mod_lt _ (by norm_num)⟩
        ⟨e.val / 512, by have := e.isLt; omega⟩ ⟨e.val / 128 % 4, Nat.mod_lt _ (by norm_num)⟩ ⟨e.val % 128, Nat.mod_lt _ (by norm_num)⟩) := by
  pointwise [val_main_v81]

/-- The same at an index of the result. -/
theorem v82_at (hQ : ∀ i, Q i ≠ ⊤ ∧ Q i ≠ ⊥) (hK : ∀ i, K i ≠ ⊤ ∧ K i ≠ ⊥) (hKM : ∀ i, KM i ≠ ⊤ ∧ KM i ≠ ⊥)
    (hSK : ∀ i, SK i ≠ ⊤ ∧ SK i ≠ ⊥) (r : Fin 8192) (e : Fin 1024) :
    val_main_v82 (F := Ideal) Q K V KM VM SK (ix3 b r e) = attG Q K V KM VM SK (ix3 b r e) := by
  have hr := r.isLt
  have he := e.isLt
  have h1 : r.val = 128 * (r.val / 128) + r.val % 128 := by omega
  have h2 : e.val = 128 * (4 * (e.val / 512) + e.val / 128 % 4) + e.val % 128 := by omega
  rw [attG_at Q K V KM VM SK (ix3 b r e) b ⟨r.val / 128, by omega⟩ ⟨r.val % 128, Nat.mod_lt _ (by norm_num)⟩
    (hd ⟨e.val / 512, by omega⟩ ⟨e.val / 128 % 4, Nat.mod_lt _ (by norm_num)⟩) ⟨e.val % 128, Nat.mod_lt _ (by norm_num)⟩ rfl h1 h2,
    ← v80_at Q K V KM VM SK _ _ _ _ _ hQ hK hKM hSK, ← v81_at]
  exact val_main_v82_apply (F := Ideal) Q K V KM VM SK (ix3 b r e)

/-- The same of the whole result. -/
theorem v82_eq (hQ : ∀ i, Q i ≠ ⊤ ∧ Q i ≠ ⊥) (hK : ∀ i, K i ≠ ⊤ ∧ K i ≠ ⊥) (hKM : ∀ i, KM i ≠ ⊤ ∧ KM i ≠ ⊥)
    (hSK : ∀ i, SK i ≠ ⊤ ∧ SK i ≠ ⊥) : val_main_v82 (F := Ideal) Q K V KM VM SK = attG Q K V KM VM SK := by
  funext i
  rw [eq_ix3 (x := 8) (y := 8192) (z := 1024) i (i 0) (i 1) (i 2) rfl rfl rfl]
  exact v82_at Q K V KM VM SK (i 0) hQ hK hKM hSK (i 1) (i 2)

end Cert.Proof.AttnOut
-- ==== Proof.AttnPre.lean ====
/-
  What the attention claim's precondition says: the queries, the keys, the meta tokens' keys and the sinks are finite.
-/
module

public import proofs.«01_k».proof.Proof.AttnOut
public import proofs.«01_k».proof.Proof.Gen.Pre_finite_scores
public import Idealize.ShloMosaic.Lib.Pointwise

@[expose] public section

set_option maxRecDepth 16384

noncomputable section

namespace Cert.Proof.AttnPre

open Idealize.ShloMosaic Cert.Pre_finite_scores Cert.Pre_finite_scores.Gen

variable (Q : FVec Ideal S8x8192x1024 .bf16) (K V : FVec Ideal S8x8192x256 .bf16) (KM VM : FVec Ideal S8x16x256 .bf16)
    (SK : FVec Ideal S8 .f32)

/-- The single-precision literal of plus infinity. -/
theorem pos_inf : Ideal.ofBits FTy.f32 2139095040#32 = ⊤ := by simp [Ideal.ofBits, Ideal.ieee]

/-- An extended real whose absolute value is below plus infinity is finite. -/
theorem finite_of_abs (x : EReal) (h : Ideal.cmp .olt (max x (-x)) (Ideal.ofBits FTy.f32 2139095040#32) = 1#1) :
    x ≠ ⊤ ∧ x ≠ ⊥ := by
  rw [pos_inf] at h
  have h2 : max x (-x) < ⊤ := by
    by_contra hn
    have h3 : BitVec.ofBool (decide (max x (-x) < ⊤)) = 1#1 := h
    simp [hn] at h3
  constructor
  · rintro rfl; simp at h2
  · rintro rfl; simp at h2

theorem fin_q (h : (fn (F := Ideal) Q K V KM VM SK).1 = fun _ => 1#1) (i : S8x8192x1024.Idx) : Q i ≠ ⊤ ∧ Q i ≠ ⊥ :=
  finite_of_abs _ (congrFun h i)

theorem fin_k (h : (fn (F := Ideal) Q K V KM VM SK).2.1 = fun _ => 1#1) (i : S8x8192x256.Idx) : K i ≠ ⊤ ∧ K i ≠ ⊥ :=
  finite_of_abs _ (congrFun h i)

theorem fin_km (h : (fn (F := Ideal) Q K V KM VM SK).2.2.1 = fun _ => 1#1) (i : S8x16x256.Idx) : KM i ≠ ⊤ ∧ KM i ≠ ⊥ :=
  finite_of_abs _ (congrFun h i)

theorem fin_sk (h : (fn (F := Ideal) Q K V KM VM SK).2.2.2 = fun _ => 1#1) (i : S8.Idx) : SK i ≠ ⊤ ∧ SK i ≠ ⊥ :=
  finite_of_abs _ (congrFun h i)

end Cert.Proof.AttnPre
-- ==== Proof.ClaimAttn.lean ====
/-
  The claims about the band attention: the frames, and the equation with the reference under the precondition.
-/
module

public import proofs.«01_k».proof.Defs
public import proofs.«01_k».proof.Proof.AttnPre
public import proofs.«01_k».proof.Proof.Gen.Kernel.Frame

@[expose] public section

set_option maxRecDepth 16384

noncomputable section

namespace Cert.Proof.ClaimAttn

open Idealize.ShloMosaic Idealize.SL.Sem

theorem frame : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_pre : Cert.quiescent_KernelIdeal_pre_finite_scores (hKernelIdeal := Cert.KernelIdeal.Gen.facts)
    (hPre_finite_scores := Cert.Pre_finite_scores.Gen.facts) := fun m ρ _ => Cert.KernelIdeal.Gen.frame m ρ

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_finite_scores (hReferenceIdeal := Cert.ReferenceIdeal.Gen.facts)
    (hPre_finite_scores := Cert.Pre_finite_scores.Gen.facts) := fun m ρ _ => frame_ref m ρ trivial

/-- The kernel and the reference end with equal results where the scores' arguments are finite. -/
theorem value : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m ρ m' ρ' pre hag
  refine ⟨fun c => AttnValue.result m c, AttnValue.run m ρ, (θ_run _ _ _).mono (fun _ h c => ⟨(h c).1.trans ?_, (h c).2⟩)
    (Cert.ReferenceIdeal.Value.run (F := Ideal) m' ρ')⟩
  obtain ⟨h0, h1, h2, h3, h4, h5⟩ := hag c
  obtain ⟨p0, p1, p2, p3⟩ := pre c
  refine (Cert.ReferenceIdeal.Read.val_main_v82_eq m' c).trans ?_
  rw [h0, h1, h2, h3, h4, h5]
  exact AttnOut.v82_eq _ _ _ _ _ _ (AttnPre.fin_q _ _ _ _ _ _ p0) (AttnPre.fin_k _ _ _ _ _ _ p1)
    (AttnPre.fin_km _ _ _ _ _ _ p2) (AttnPre.fin_sk _ _ _ _ _ _ p3)

end Cert.Proof.ClaimAttn
-- ==== Proof.PostFn.lean ====
/-
  The layer's tail as functions of rows: the norm, the squared-ReLU MLP, and the MLP summed in four parts.
-/
module

public import Idealize.ShloMosaic.Lib.Pointwise

@[expose] public section

noncomputable section

namespace Cert.Proof.PostFn

open Idealize.ShloMosaic

/-- The reciprocal root of a row's mean square plus the norm's epsilon, the row having `n` entries (`n` a literal's bits). -/
def scale {D : ℕ} (n : BitVec 32) (h : Fin D → EReal) : EReal :=
  Ideal.rsqrt (Ideal.div (∑ x, h x * h x) (Ideal.ofBits FTy.f32 n) + Ideal.ofBits FTy.f32 897988541#32)

/-- The norm of a row of 1024 entries. -/
def normed (h w : Fin 1024 → EReal) (e : Fin 1024) : EReal := h e * scale 1149239296#32 h * w e

/-- The row after the output projection and the residual. -/
def proj (h o : Fin 1024 → EReal) (W : Fin 1024 → Fin 1024 → EReal) (e : Fin 1024) : EReal := h e + ∑ x, o x * W x e

/-- An up projection's entry, cut off below at zero. -/
def up {U : ℕ} (n : Fin 1024 → EReal) (W : Fin 1024 → Fin U → EReal) (u : Fin U) : EReal := max (∑ x, n x * W x u) 0

/-- The squared entries projected down. -/
def down {U : ℕ} (n : Fin 1024 → EReal) (Wu : Fin 1024 → Fin U → EReal) (Wd : Fin U → Fin 1024 → EReal) (e : Fin 1024) : EReal :=
  ∑ u, up n Wu u * up n Wu u * Wd u e

/-- The tail of a row `h` with mixer output `o`. -/
def tail (h o nw : Fin 1024 → EReal) (Wo : Fin 1024 → Fin 1024 → EReal) (Wu : Fin 1024 → Fin 4096 → EReal)
    (Wd : Fin 4096 → Fin 1024 → EReal) (e : Fin 1024) : EReal :=
  proj h o Wo e + down (normed (proj h o Wo) nw) Wu Wd e

/-- Entry `x` of the `j`-th thousand and twenty-four. -/
def part (j : Fin 4) (x : Fin 1024) : Fin 4096 := ⟨1024 * j.val + x.val, by have := j.isLt; have := x.isLt; omega⟩

/-- A sum over 4096 entries is the sum of its four parts. -/
theorem sum_parts (f : Fin 4096 → EReal) :
    ∑ u, f u = ∑ x, f (part 0 x) + ∑ x, f (part 1 x) + ∑ x, f (part 2 x) + ∑ x, f (part 3 x) := by
  have h := Fin.sum_univ_add (a := 1024 + 1024 + 1024) (b := 1024) f
  rw [Fin.sum_univ_add (a := 1024 + 1024) (b := 1024), Fin.sum_univ_add (a := 1024) (b := 1024)] at h
  refine h.trans ?_
  refine congrArg₂ _ (congrArg₂ _ (congrArg₂ _ ?_ ?_) ?_) ?_ <;>
    exact Finset.sum_congr rfl fun x _ => congrArg f (Fin.ext (by simp [part, Nat.add_comm]))

/-- The tail with the down projection added part by part. -/
theorem tail_parts (h o nw : Fin 1024 → EReal) (Wo : Fin 1024 → Fin 1024 → EReal) (Wu : Fin 1024 → Fin 4096 → EReal)
    (Wd : Fin 4096 → Fin 1024 → EReal) (e : Fin 1024) :
    proj h o Wo e
        + down (normed (proj h o Wo) nw) (fun x u => Wu x (part 0 u)) (fun u e => Wd (part 0 u) e) e
        + down (normed (proj h o Wo) nw) (fun x u => Wu x (part 1 u)) (fun u e => Wd (part 1 u) e) e
        + down (normed (proj h o Wo) nw) (fun x u => Wu x (part 2 u)) (fun u e => Wd (part 2 u) e) e
        + down (normed (proj h o Wo) nw) (fun x u => Wu x (part 3 u)) (fun u e => Wd (part 3 u) e) e
      = tail h o nw Wo Wu Wd e := by
  unfold tail down
  rw [sum_parts, ← add_assoc, ← add_assoc, ← add_assoc]
  rfl

/-- An index of three axes from its coordinates. -/
theorem eq_ix3 {x y z : ℕ} (i : (⟨3, ![x, y, z]⟩ : Shape).Idx) (b : Fin x) (r : Fin y) (e : Fin z) (h0 : (i 0).val = b.val)
    (h1 : (i 1).val = r.val) (h2 : (i 2).val = e.val) : i = ix3 b r e := by
  funext k
  match k with
  | ⟨0, _⟩ => exact Fin.ext h0
  | ⟨1, _⟩ => exact Fin.ext h1
  | ⟨2, _⟩ => exact Fin.ext h2

/-- An index of two axes from its coordinates. -/
theorem eq_ix2 {x y : ℕ} (i : (⟨2, ![x, y]⟩ : Shape).Idx) (r : Fin x) (e : Fin y) (h0 : (i 0).val = r.val)
    (h1 : (i 1).val = e.val) : i = ix2 r e := by
  funext k
  match k with
  | ⟨0, _⟩ => exact Fin.ext h0
  | ⟨1, _⟩ => exact Fin.ext h1

/-- The tail of whole arrays. -/
def tailG (H O : FVec Ideal ⟨3, ![8, 8192, 1024]⟩ .f32) (Wo : FVec Ideal ⟨2, ![1024, 1024]⟩ .f32)
    (nw : FVec Ideal ⟨1, ![1024]⟩ .f32) (Wu : FVec Ideal ⟨2, ![1024, 4096]⟩ .f32)
    (Wd : FVec Ideal ⟨2, ![4096, 1024]⟩ .f32) : FVec Ideal ⟨3, ![8, 8192, 1024]⟩ .f32 := fun i =>
  tail (fun e => H (ix3 (i 0) (i 1) e)) (fun e => O (ix3 (i 0) (i 1) e)) (fun e => nw (ix1 e)) (fun x e => Wo (ix2 x e))
    (fun x u => Wu (ix2 x u)) (fun u e => Wd (ix2 u e)) (i 2)

end Cert.Proof.PostFn
-- ==== Proof.PostBlock.lean ====
/-
  The block the tail's kernel writes at a grid point: every row of it is the tail of the rows of its input blocks.
-/
module

public import proofs.«01_k».proof.Proof.PostFn
public import proofs.«01_k».proof.Proof.Gen.KernelPostIdeal.Value
public import Idealize.ShloMosaic.Lib.Pipeline.ValueKit

@[expose] public section

set_option maxRecDepth 16384

noncomputable section

namespace Cert.Proof.PostBlock

open Idealize.ShloMosaic Idealize.ShloMosaic.TcCoe Idealize.SL.Sem Cert.KernelPostIdeal Cert.KernelPostIdeal.Gen
open Cert.Proof.PostFn

theorem pay2_at (o h : FVec Ideal S1x512x1024 .f32) (W : FVec Ideal S1024x1024 .bf16) (r : Fin 512) (e : Fin 1024) :
    k0_pay2 (F := Ideal) o h W (ix2 r e)
      = proj (fun e => h (ix3 0 r e)) (fun e => o (ix3 0 r e)) (fun x e => W (ix2 x e)) e := by
  unfold proj
  pointwise [k0_pay2]

theorem pay3_at (o h : FVec Ideal S1x512x1024 .f32) (W : FVec Ideal S1024x1024 .bf16) (nw : FVec Ideal S1x1024 .f32)
    (r : Fin 512) (e : Fin 1024) :
    k0_pay3 (F := Ideal) o h W nw (ix2 r e)
      = normed (fun e => k0_pay2 (F := Ideal) o h W (ix2 r e)) (fun e => nw (ix2 0 e)) e := by
  unfold normed scale
  pointwise [k0_pay3]

theorem pay4_at (o h : FVec Ideal S1x512x1024 .f32) (W : FVec Ideal S1024x1024 .bf16) (nw : FVec Ideal S1x1024 .f32)
    (Wu Wd : FVec Ideal S1024x1024 .bf16) (r : Fin 512) (e : Fin 1024) :
    k0_pay4 (F := Ideal) o h W nw Wu Wd (ix2 r e)
      = k0_pay2 (F := Ideal) o h W (ix2 r e)
        + down (fun e => k0_pay3 (F := Ideal) o h W nw (ix2 r e)) (fun x u => Wu (ix2 x u)) (fun u e => Wd (ix2 u e)) e := by
  unfold down up
  pointwise [k0_pay4]

theorem pay1_at (n a : FVec Ideal S512x1024 .f32) (u1 d1 u2 d2 u3 d3 : FVec Ideal S1024x1024 .bf16) (r : Fin 512)
    (e : Fin 1024) :
    k0_pay1 (F := Ideal) n a u1 d1 u2 d2 u3 d3 (ix3 0 r e)
      = a (ix2 r e) + down (fun e => n (ix2 r e)) (fun x u => u1 (ix2 x u)) (fun u e => d1 (ix2 u e)) e
        + down (fun e => n (ix2 r e)) (fun x u => u2 (ix2 x u)) (fun u e => d2 (ix2 u e)) e
        + down (fun e => n (ix2 r e)) (fun x u => u3 (ix2 x u)) (fun u e => d3 (ix2 u e)) e := by
  unfold down up
  pointwise [k0_pay1]

/-- The columns of the up projection a part loads. -/
theorem ld_up (W : FVec Ideal S1024x4096 .bf16) (j : Fin 4) (o : ℕ) (ho : o = 1024 * j.val) (inb) (x u : Fin 1024) :
    View.ld (Val := Elt Ideal) (S := S1024x4096) (e' := .bf16) W (Rect.unit ![0, o] S1024x1024.size inb) (ix2 x u)
      = W (ix2 x (part j u)) :=
  congrArg W (eq_ix2 _ _ _ (by show 0 + 1 * x.val = x.val; omega) (by show o + 1 * u.val = 1024 * j.val + u.val; omega))

/-- The rows of the down projection a part loads. -/
theorem ld_down (W : FVec Ideal S4096x1024 .bf16) (j : Fin 4) (o : ℕ) (ho : o = 1024 * j.val) (inb) (u e : Fin 1024) :
    View.ld (Val := Elt Ideal) (S := S4096x1024) (e' := .bf16) W (Rect.unit ![o, 0] S1024x1024.size inb) (ix2 u e)
      = W (ix2 (part j u) e) :=
  congrArg W (eq_ix2 _ _ _ (by show o + 1 * u.val = 1024 * j.val + u.val; omega) (by show 0 + 1 * e.val = e.val; omega))

/-- The block's entry is the tail of the input blocks' rows. -/
theorem block_at (h : FVec Ideal S1x512x1024 .f32) (o : FVec Ideal S1x512x1024 .bf16) (W : FVec Ideal S1024x1024 .bf16)
    (nw : FVec Ideal S1x1024 .f32) (Wu : FVec Ideal S1024x4096 .bf16) (Wd : FVec Ideal S4096x1024 .bf16)
    (r : Fin 512) (e : Fin 1024) :
    out0_6 (F := Ideal) h o W nw Wu Wd (ix3 0 r e)
      = tail (fun e => h (ix3 0 r e)) (fun e => o (ix3 0 r e)) (fun e => nw (ix2 0 e)) (fun x e => W (ix2 x e))
          (fun x u => Wu (ix2 x u)) (fun u e => Wd (ix2 u e)) e := by
  have hz3 : (![0, 0, 0] : Fin 3 → ℕ) = fun _ => 0 := by funext i; fin_cases i <;> rfl
  have hz2 : (![0, 0] : Fin 2 → ℕ) = fun _ => 0 := by funext i; fin_cases i <;> rfl
  unfold out0_6
  rw [View.canon_unit_zero hz3, View.ld_unit_zero hz3, View.ld_unit_zero hz3, View.ld_unit_zero hz2, View.ld_unit_zero hz2]
  rw [pay1_at, pay4_at]
  simp only [pay3_at, pay2_at]
  rw [← tail_parts]
  have u0 : (fun x u : Fin 1024 => View.ld (Val := Elt Ideal) (e' := .bf16) Wu r0_3 (ix2 x u)) = fun x u => Wu (ix2 x (part 0 u)) :=
    funext fun x => funext fun u => ld_up Wu 0 0 rfl _ x u
  have u1 : (fun x u : Fin 1024 => View.ld (Val := Elt Ideal) (e' := .bf16) Wu r0_5 (ix2 x u)) = fun x u => Wu (ix2 x (part 1 u)) :=
    funext fun x => funext fun u => ld_up Wu 1 1024 rfl _ x u
  have u2 : (fun x u : Fin 1024 => View.ld (Val := Elt Ideal) (e' := .bf16) Wu r0_7 (ix2 x u)) = fun x u => Wu (ix2 x (part 2 u)) :=
    funext fun x => funext fun u => ld_up Wu 2 2048 rfl _ x u
  have u3 : (fun x u : Fin 1024 => View.ld (Val := Elt Ideal) (e' := .bf16) Wu r0_9 (ix2 x u)) = fun x u => Wu (ix2 x (part 3 u)) :=
    funext fun x => funext fun u => ld_up Wu 3 3072 rfl _ x u
  have d0 : (fun u e : Fin 1024 => View.ld (Val := Elt Ideal) (e' := .bf16) Wd r0_4 (ix2 u e)) = fun u e => Wd (ix2 (part 0 u) e) :=
    funext fun u => funext fun e => ld_down Wd 0 0 rfl _ u e
  have d1 : (fun u e : Fin 1024 => View.ld (Val := Elt Ideal) (e' := .bf16) Wd r0_6 (ix2 u e)) = fun u e => Wd (ix2 (part 1 u) e) :=
    funext fun u => funext fun e => ld_down Wd 1 1024 rfl _ u e
  have d2 : (fun u e : Fin 1024 => View.ld (Val := Elt Ideal) (e' := .bf16) Wd r0_8 (ix2 u e)) = fun u e => Wd (ix2 (part 2 u) e) :=
    funext fun u => funext fun e => ld_down Wd 2 2048 rfl _ u e
  have d3 : (fun u e : Fin 1024 => View.ld (Val := Elt Ideal) (e' := .bf16) Wd r0_10 (ix2 u e)) = fun u e => Wd (ix2 (part 3 u) e) :=
    funext fun u => funext fun e => ld_down Wd 3 3072 rfl _ u e
  rw [u0, u1, u2, u3, d0, d1, d2, d3]

variable (m : (ℓ : Loc nD τ sig) → Buf (Elt Ideal) ℓ)

/-- The norm's weights as a row. -/
theorem V_v0 (c : Dev nD) (e : Fin 1024) : V m c main_v0 (ix2 0 e) = m ((c : Thread nD τ).loc main_arg3) (ix1 e) := by
  have h : V m c main_v0 = shapeCast S1x1024 (m ((c : Thread nD τ).loc main_arg3)) shapeCasts_S1024_S1x1024 := by
    simp only [V, hostOps0]; after_results; rfl
  rw [h]
  pointwise []

theorem V_v1 (c : Dev nD) : V m c main_v1 = m ((c : Thread nD τ).loc main_arg4) := by
  simp only [V, hostOps0]; after_results; rfl

theorem V_v2 (c : Dev nD) : V m c main_v2 = m ((c : Thread nD τ).loc main_arg5) := by
  simp only [V, hostOps0]; after_results; rfl

theorem V_v3 (c : Dev nD) : V m c main_v3 = m ((c : Thread nD τ).loc main_arg2) := by
  simp only [V, hostOps0]; after_results; rfl

end Cert.Proof.PostBlock
-- ==== Proof.PostValue.lean ====
/-
  What the tail's kernel leaves in its result array: the tail of its arguments.
-/
module

public import proofs.«01_k».proof.Proof.PostBlock

@[expose] public section

set_option maxRecDepth 16384

noncomputable section

namespace Cert.Proof.PostValue

open Idealize.ShloMosaic Idealize.ShloMosaic.TcCoe Idealize.SL.Sem Cert.KernelPostIdeal Cert.KernelPostIdeal.Gen
open Idealize.ShloMosaic.Pipeline (Dat)
open Cert.Proof.PostFn Cert.Proof.PostBlock

variable (m : (ℓ : Loc nD τ sig) → Buf (Elt Ideal) ℓ) (ρ : Dev nD → PrngReg)

/-- The batch of a point. -/
def pb (t : Fin cfg0.N) : Fin 8 := grid0.coords t 0

/-- Row `r` of a point's tile. -/
def row (t : Fin cfg0.N) (r : Fin 512) : Fin 8192 :=
  ⟨512 * (grid0.coords t 1).val + r.val, by have h : (grid0.coords t 1).val < 16 := (grid0.coords t 1).isLt; have := r.isLt; omega⟩

theorem idx0 : ∀ t : Fin grid0.N, win0_0.index t 0 = (grid0.coords t 0).val ∧ win0_0.index t 1 = (grid0.coords t 1).val
    ∧ win0_0.index t 2 = 0 := by decide +kernel
theorem idx1 : ∀ t : Fin grid0.N, win0_1.index t 0 = (grid0.coords t 0).val ∧ win0_1.index t 1 = (grid0.coords t 1).val
    ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = (grid0.coords t 0).val ∧ win0_6.index t 1 = (grid0.coords t 1).val
    ∧ win0_6.index t 2 = 0 ∧ win0_6.xsize (grid0.coords t) 0 = 1 ∧ win0_6.xsize (grid0.coords t) 1 = 512
    ∧ win0_6.xsize (grid0.coords t) 2 = 1024 := by decide +kernel

theorem blk0 (c : Dev nD) (t : Fin cfg0.N) (r : Fin 512) (e : Fin 1024) :
    iblk m c 0 t (ix3 0 r e) = m ((c : Thread nD τ).loc main_arg0) (ix3 (pb t) (row t r) e) := by
  have h := idx0 t
  refine Eq.trans ?_ (congrFun (V_main_arg0 m c) _)
  exact congrArg (V m c main_arg0) (eq_ix3 ((win0_0.rect t).emb (ix3 0 r e)) _ _ _
    (by show win0_0.index t 0 * 1 + 1 * 0 = (grid0.coords t 0).val; omega)
    (by show win0_0.index t 1 * 512 + 1 * r.val = 512 * (grid0.coords t 1).val + r.val; omega)
    (by show win0_0.index t 2 * 1024 + 1 * e.val = e.val; omega))

theorem blk1 (c : Dev nD) (t : Fin cfg0.N) (r : Fin 512) (e : Fin 1024) :
    iblk m c 1 t (ix3 0 r e) = m ((c : Thread nD τ).loc main_arg1) (ix3 (pb t) (row t r) e) := by
  have h := idx1 t
  refine Eq.trans ?_ (congrFun (V_main_arg1 m c) _)
  exact congrArg (V m c main_arg1) (eq_ix3 ((win0_1.rect t).emb (ix3 0 r e)) _ _ _
    (by show win0_1.index t 0 * 1 + 1 * 0 = (grid0.coords t 0).val; omega)
    (by show win0_1.index t 1 * 512 + 1 * r.val = 512 * (grid0.coords t 1).val + r.val; omega)
    (by show win0_1.index t 2 * 1024 + 1 * e.val = e.val; omega))

theorem blk2 (c : Dev nD) (t : Fin cfg0.N) (x e : Fin 1024) :
    iblk m c 2 t (ix2 x e) = m ((c : Thread nD τ).loc main_arg2) (ix2 x e) := by
  have h := idx2 t
  refine Eq.trans ?_ (congrFun (V_v3 m c) _)
  exact congrArg (V m c main_v3) (eq_ix2 ((win0_2.rect t).emb (ix2 x e)) _ _
    (by show win0_2.index t 0 * 1024 + 1 * x.val = x.val; omega)
    (by show win0_2.index t 1 * 1024 + 1 * e.val = e.val; omega))

theorem blk3 (c : Dev nD) (t : Fin cfg0.N) (e : Fin 1024) :
    iblk m c 3 t (ix2 0 e) = m ((c : Thread nD τ).loc main_arg3) (ix1 e) := by
  have h := idx3 t
  refine Eq.trans ?_ (V_v0 m c e)
  exact congrArg (V m c main_v0) (eq_ix2 ((win0_3.rect t).emb (ix2 0 e)) _ _
    (by show win0_3.index t 0 * 1 + 1 * 0 = 0; omega)
    (by show win0_3.index t 1 * 1024 + 1 * e.val = e.val; omega))

theorem blk4 (c : Dev nD) (t : Fin cfg0.N) (x : Fin 1024) (u : Fin 4096) :
    iblk m c 4 t (ix2 x u) = m ((c : Thread nD τ).loc main_arg4) (ix2 x u) := by
  have h := idx4 t
  refine Eq.trans ?_ (congrFun (V_v1 m c) _)
  exact congrArg (V m c main_v1) (eq_ix2 ((win0_4.rect t).emb (ix2 x u)) _ _
    (by show win0_4.index t 0 * 1024 + 1 * x.val = x.val; omega)
    (by show win0_4.index t 1 * 4096 + 1 * u.val = u.val; omega))

theorem blk5 (c : Dev nD) (t : Fin cfg0.N) (u : Fin 4096) (e : Fin 1024) :
    iblk m c 5 t (ix2 u e) = m ((c : Thread nD τ).loc main_arg5) (ix2 u e) := by
  have h := idx5 t
  refine Eq.trans ?_ (congrFun (V_v2 m c) _)
  exact congrArg (V m c main_v2) (eq_ix2 ((win0_5.rect t).emb (ix2 u e)) _ _
    (by show win0_5.index t 0 * 4096 + 1 * u.val = u.val; omega)
    (by show win0_5.index t 1 * 1024 + 1 * e.val = e.val; omega))

/-- The result array of device `c`: the tail of its arguments. -/
abbrev result (c : Dev nD) : Buf (Elt Ideal) ((c : Thread nD τ).loc main_v4) :=
  tailG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The point's block at an index. -/
theorem block_eq (c : Dev nD) (t : Fin cfg0.N) (r : Fin 512) (e : Fin 1024) :
    out0_6 (F := Ideal) (iblk m c 0 t) (iblk m c 1 t) (iblk m c 2 t) (iblk m c 3 t) (iblk m c 4 t) (iblk m c 5 t) (ix3 0 r e)
      = result m c (ix3 (pb t) (row t r) e) := by
  refine (block_at _ _ _ _ _ _ r e).trans ?_
  simp only [blk0, blk1, blk2, blk3, blk4, blk5]
  rfl

/-- What a point writes back is its block of the result. -/
theorem flushed_eq (c : Dev nD) (t : Fin cfg0.N) :
    (dats m 0 c).flushed 6 t = ((cfg0.win 6).blk t).view.read (Elt Ideal) (result m c) := by
  rw [Value.flushed6]
  funext y
  have hi := idx6 t
  have h1 : (y 1).val < 512 := (y 1).isLt
  have h2 : (y 2).val < 1024 := (y 2).isLt
  have h0 : (y 0).val < 1 := (y 0).isLt
  refine Eq.trans (congrArg (out0_6 (F := Ideal) (iblk m c 0 t) (iblk m c 1 t) (iblk m c 2 t) (iblk m c 3 t) (iblk m c 4 t) (iblk m c 5 t))
    (eq_ix3 (x := 1) (y := 512) (z := 1024) _ 0 ⟨(y 1).val, h1⟩ ⟨(y 2).val, h2⟩ (by show (y 0).val = 0; omega) rfl rfl))
    ((block_eq m c t ⟨(y 1).val, h1⟩ ⟨(y 2).val, h2⟩).trans ?_)
  refine congrArg (result m c) (eq_ix3 ((win0_6.rect t).emb y) _ _ _ ?_ ?_ ?_).symm
  · show win0_6.index t 0 * 1 + 1 * (y 0).val = (grid0.coords t 0).val
    omega
  · show win0_6.index t 1 * 512 + 1 * (y 1).val = 512 * (grid0.coords t 1).val + (y 1).val
    omega
  · show win0_6.index t 2 * 1024 + 1 * (y 2).val = (y 2).val
    omega

/-- An index is in a point's block when its batch and its row's tile are the point's. -/
theorem mem_blk (t : Fin cfg0.N) (i : S8x8192x1024.Idx) (h0 : (i 0).val = (grid0.coords t 0).val)
    (h1 : (i 1).val / 512 = (grid0.coords t 1).val) : i ∈ ((cfg0.win 6).blk t).view.set := by
  show i ∈ ((View.whole main_v4).slice (win0_6.rect t)).set
  rw [View.set_slice_whole, Rect.mem_set_unit]
  have hi := idx6 t
  have h2 : (i 2 : Nat) < 1024 := (i 2).isLt
  intro a
  match a with
  | ⟨0, _⟩ =>
    show win0_6.index t 0 * 1 ≤ (i 0 : Nat) ∧ (i 0 : Nat) < win0_6.index t 0 * 1 + win0_6.xsize (grid0.coords t) 0
    omega
  | ⟨1, _⟩ =>
    show win0_6.index t 1 * 512 ≤ (i 1 : Nat) ∧ (i 1 : Nat) < win0_6.index t 1 * 512 + win0_6.xsize (grid0.coords t) 1
    omega
  | ⟨2, _⟩ =>
    show win0_6.index t 2 * 1024 ≤ (i 2 : Nat) ∧ (i 2 : Nat) < win0_6.index t 2 * 1024 + win0_6.xsize (grid0.coords t) 2
    omega

theorem coords_of : ∀ (b : Fin 8) (n : Fin 16), ∃ t : Fin grid0.N,
    (grid0.coords t 0).val = b.val ∧ (grid0.coords t 1).val = n.val := by decide +kernel

/-- The points' blocks cover the array. -/
theorem cover (i : S8x8192x1024.Idx) : ∃ t : Fin cfg0.N, (cfg0.win 6).flush t = true ∧ i ∈ ((cfg0.win 6).blk t).view.set := by
  have h0 : (i 0 : Nat) < 8 := (i 0).isLt
  have h1 : (i 1 : Nat) < 8192 := (i 1).isLt
  obtain ⟨t, ht0, ht1⟩ := coords_of ⟨(i 0).val, h0⟩ ⟨(i 1).val / 512, by omega⟩
  exact ⟨t, flush0_6 t, mem_blk t i ht0.symm ht1.symm⟩

/-- The result array after the run. -/
theorem final (c : Dev nD) : (dats m 0 c).arrAt 6 cfg0.N = result m c :=
  (dats m 0 c).arrAt_eq_of_cover 6 (result m c) (fun t _ => flushed_eq m c t) cover

/-- The run: the result array holds the tail, the arguments are as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Proof.PostValue
-- ==== Proof.PostRef.lean ====
/-
  The reference's tail at an index is the tail of its arguments' rows.
-/
module

public import proofs.«01_k».proof.Proof.PostFn
public import proofs.«01_k».proof.Proof.Gen.ReferencePostIdeal.Run
public import proofs.«01_k».proof.Proof.Gen.ReferencePostIdeal.Read

@[expose] public section

set_option maxRecDepth 16384

noncomputable section

namespace Cert.Proof.PostRef

open Idealize.ShloMosaic Cert.ReferencePostIdeal Cert.ReferencePostIdeal.Gen Cert.ReferencePostIdeal.Read
open Cert.Proof.PostFn

variable (H : FVec Ideal S8x8192x1024 .f32) (O : FVec Ideal S8x8192x1024 .bf16) (Wo : FVec Ideal S1024x1024 .f32)
  (nw : FVec Ideal S1024 .f32) (Wu : FVec Ideal S1024x4096 .f32) (Wd : FVec Ideal S4096x1024 .f32)
  (b : Fin 8) (r : Fin 8192)

/-- The projected row. -/
abbrev prow (e : Fin 1024) : EReal :=
  proj (fun e => H (ix3 b r e)) (fun e => O (ix3 b r e)) (fun x e => Wo (ix2 x e)) e

theorem v2_at (e : Fin 1024) : val_main_v2 (F := Ideal) H O Wo (ix3 b r e) = prow H O Wo b r e := by
  unfold prow proj
  pointwise [val_main_v2, val_main_v1, val_main_v0]

theorem v15_at (e : Fin 1024) : val_main_v15 (F := Ideal) H O Wo nw (ix3 b r e)
    = normed (fun e => val_main_v2 (F := Ideal) H O Wo (ix3 b r e)) (fun e => nw (ix1 e)) e := by
  unfold normed scale
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]

theorem v20_at (e : Fin 1024) : val_main_v20 (F := Ideal) H O Wo nw Wu Wd (ix3 b r e)
    = val_main_v2 (F := Ideal) H O Wo (ix3 b r e)
      + down (fun e => val_main_v15 (F := Ideal) H O Wo nw (ix3 b r e)) (fun x u => Wu (ix2 x u)) (fun u e => Wd (ix2 u e)) e := by
  unfold down up
  pointwise [val_main_v20, val_main_v19, val_main_v18, val_main_v17, val_main_v16, val_main_call0_v0, val_main_call0_cst]

/-- The result at an index. -/
theorem v20_tail (e : Fin 1024) : val_main_v20 (F := Ideal) H O Wo nw Wu Wd (ix3 b r e)
    = tail (fun e => H (ix3 b r e)) (fun e => O (ix3 b r e)) (fun e => nw (ix1 e)) (fun x e => Wo (ix2 x e))
        (fun x u => Wu (ix2 x u)) (fun u e => Wd (ix2 u e)) e := by
  rw [v20_at]
  simp only [v15_at, v2_at]
  rfl

/-- The whole result. -/
theorem v20_eq : val_main_v20 (F := Ideal) H O Wo nw Wu Wd = tailG H O Wo nw Wu Wd := by
  funext i
  rw [eq_ix3 (x := 8) (y := 8192) (z := 1024) i (i 0) (i 1) (i 2) rfl rfl rfl]
  exact v20_tail H O Wo nw Wu Wd (i 0) (i 1) (i 2)

end Cert.Proof.PostRef
-- ==== Proof.ClaimPost.lean ====
/-
  The claims about the tail of an attention layer: the frames, and the equation with the reference.
-/
module

public import proofs.«01_k».proof.Defs
public import proofs.«01_k».proof.Proof.PostValue
public import proofs.«01_k».proof.Proof.PostRef
public import proofs.«01_k».proof.Proof.Gen.KernelPost.Frame

@[expose] public section

set_option maxRecDepth 16384

noncomputable section

namespace Cert.Proof.ClaimPost

open Idealize.ShloMosaic Idealize.SL.Sem

theorem frame : Cert.quiescent_KernelPost (hKernelPost := Cert.KernelPost.Gen.facts) :=
  fun m ρ _ => Cert.KernelPost.Gen.frame m ρ

theorem frame_ideal : Cert.quiescent_KernelPostIdeal (hKernelPostIdeal := Cert.KernelPostIdeal.Gen.facts) :=
  fun m ρ _ => Cert.KernelPostIdeal.Gen.frame m ρ

theorem frame_ref : Cert.quiescent_ReferencePostIdeal (hReferencePostIdeal := Cert.ReferencePostIdeal.Gen.facts) :=
  fun m ρ _ =>
    (θ_run Cert.ReferencePostIdeal.defs _ _).mono (fun r h => ⟨fun c => (h c).2, sem_eq_zero_of_no_sems (by decide) r.2⟩)
      (Cert.ReferencePostIdeal.Value.run (F := Ideal) m ρ)

/-- The kernel and the reference end with equal results. -/
theorem value : Cert.algebraic_KernelPostIdeal_ReferencePostIdeal (hKernelPostIdeal := Cert.KernelPostIdeal.Gen.facts)
    (hReferencePostIdeal := Cert.ReferencePostIdeal.Gen.facts) := by
  intro m ρ m' ρ' _ hag
  refine ⟨fun c => PostValue.result m c, PostValue.run m ρ, (θ_run _ _ _).mono (fun _ h c => ⟨(h c).1.trans ?_, (h c).2⟩)
    (Cert.ReferencePostIdeal.Value.run (F := Ideal) m' ρ')⟩
  obtain ⟨h0, h1, h2, h3, h4, h5⟩ := hag c
  refine (Cert.ReferencePostIdeal.Read.val_main_v20_eq _ _ _ _ _ _).trans ?_
  rw [h0, h1, h2, h3, h4, h5]
  exact PostRef.v20_eq _ _ _ _ _ _

end Cert.Proof.ClaimPost
-- ==== Proof.RecFn.lean ====
/-
  The mixer output of a recurrent layer as a function of rows: the two directions added, each head's 128 entries normed, the
  gate multiplied in.
-/
module

public import proofs.«01_k».proof.Proof.PostFn

@[expose] public section

noncomputable section

namespace Cert.Proof.RecFn

open Idealize.ShloMosaic Cert.Proof.PostFn

/-- Entry `u` of head `j`. -/
def lane (j : Fin 8) (u : Fin 128) : Fin 1024 := ⟨128 * j.val + u.val, by have := j.isLt; have := u.isLt; omega⟩

/-- The head of an entry. -/
def headOf (e : Fin 1024) : Fin 8 := ⟨e.val / 128, by have := e.isLt; omega⟩

/-- The entry's place in its head. -/
def placeOf (e : Fin 1024) : Fin 128 := ⟨e.val % 128, by omega⟩

theorem lane_of (e : Fin 1024) : lane (headOf e) (placeOf e) = e :=
  Fin.ext (by show 128 * (e.val / 128) + e.val % 128 = e.val; omega)

/-- The norm of a head's 128 entries. -/
def headNorm (x w : Fin 128 → EReal) (u : Fin 128) : EReal := x u * scale 1124073472#32 x * w u

/-- The mixer output before the projection. -/
def mixed (f b g : Fin 1024 → EReal) (w : Fin 128 → EReal) (e : Fin 1024) : EReal :=
  headNorm (fun u => f (lane (headOf e) u) + b (lane (headOf e) u)) w (placeOf e) * g e

/-- A row of a sequence inside the longer padded one. -/
def longRow (r : Fin 8192) : Fin 8256 := ⟨r.val, by have := r.isLt; omega⟩

/-- The recurrent layer's tail of whole arrays. -/
def tailRecG (H : FVec Ideal ⟨3, ![8, 8192, 1024]⟩ .f32) (Of Ob : FVec Ideal ⟨3, ![8, 8256, 1024]⟩ .bf16)
    (G : FVec Ideal ⟨3, ![8, 8192, 1024]⟩ .bf16) (Wo : FVec Ideal ⟨2, ![1024, 1024]⟩ .f32) (gain : FVec Ideal ⟨1, ![128]⟩ .f32)
    (nw : FVec Ideal ⟨1, ![1024]⟩ .f32) (Wu : FVec Ideal ⟨2, ![1024, 4096]⟩ .f32)
    (Wd : FVec Ideal ⟨2, ![4096, 1024]⟩ .f32) : FVec Ideal ⟨3, ![8, 8192, 1024]⟩ .f32 := fun i =>
  tail (fun e => H (ix3 (i 0) (i 1) e))
    (mixed (fun e => Of (ix3 (i 0) (longRow (i 1)) e)) (fun e => Ob (ix3 (i 0) (longRow (i 1)) e)) (fun e => G (ix3 (i 0) (i 1) e))
      (fun u => gain (ix1 u)))
    (fun e => nw (ix1 e)) (fun x e => Wo (ix2 x e)) (fun x u => Wu (ix2 x u)) (fun u e => Wd (ix2 u e)) (i 2)

end Cert.Proof.RecFn
-- ==== Proof.RecBlock.lean ====
/-
  The block the recurrent tail's kernel writes at a grid point: every row of it is the tail of the rows of its input blocks.
-/
module

public import proofs.«01_k».proof.Proof.RecFn
public import proofs.«01_k».proof.Proof.PostBlock
public import proofs.«01_k».proof.Proof.Gen.KernelPostRecIdeal.Value
public import Idealize.ShloMosaic.Lib.Pipeline.ValueKit

@[expose] public section

set_option maxRecDepth 16384

noncomputable section

namespace Cert.Proof.RecBlock

open Idealize.ShloMosaic Idealize.ShloMosaic.TcCoe Idealize.SL.Sem Cert.KernelPostRecIdeal Cert.KernelPostRecIdeal.Gen
open Cert.Proof.PostFn Cert.Proof.RecFn

theorem pay2_at (f b : FVec Ideal S1x512x1024 .bf16) (r : Fin 512) (e : Fin 1024) :
    k0_pay2 (F := Ideal) f b (ix2 r e) = f (ix3 0 r e) + b (ix3 0 r e) := by
  pointwise [k0_pay2]

/-- A head's norm in a block: the head's 128 entries of a row of `x`, the weights a row. -/
abbrev hn (x : FVec Ideal S512x1024 .f32) (w : FVec Ideal S1x128 .f32) (j : Fin 8) (r : Fin 512) (u : Fin 128) : EReal :=
  headNorm (fun u => x (ix2 r (lane j u))) (fun u => w (ix2 0 u)) u

/-- A slice of a head's 128 columns. -/
theorem slice_at (x : FVec Ideal S512x1024 .f32) (j : Fin 8) (o : ℕ) (ho : o = 128 * j.val) (h) (r : Fin 512) (u : Fin 128) :
    extractStridedSlice S512x128 ![0, o] x h (ix2 r u) = x (ix2 r (lane j u)) :=
  extractStridedSlice_apply _ _ _ _ _ fun a => match a with
    | ⟨0, _⟩ => by show r.val = 0 + r.val; omega
    | ⟨1, _⟩ => by show 128 * j.val + u.val = o + u.val; omega

/-- The norm of a head's entries, given as a block. -/
theorem pay7_at (x : FVec Ideal S512x128 .f32) (w : FVec Ideal S1x128 .f32) (r : Fin 512) (u : Fin 128) :
    k0_pay7 (F := Ideal) x w (ix2 r u) = headNorm (fun u => x (ix2 r u)) (fun u => w (ix2 0 u)) u := by
  unfold headNorm scale
  pointwise [k0_pay7]

theorem pay6_eq (w : FVec Ideal S1x128 .f32) : k0_pay6 (F := Ideal) w = w := by
  funext i
  pointwise [k0_pay6]

/-- Every head's norm is the same function of the head's columns. -/
theorem pay3_eq (f b : FVec Ideal S1x512x1024 .bf16) (w : FVec Ideal S1x128 .f32) :
    k0_pay3 (F := Ideal) f b w = k0_pay7 (extractStridedSlice S512x128 ![0, 0] (k0_pay2 f b) slices_S512x1024_o0_0_S512x128) (k0_pay6 w) := rfl
theorem pay4_eq (f b : FVec Ideal S1x512x1024 .bf16) (w : FVec Ideal S1x128 .f32) :
    k0_pay4 (F := Ideal) f b w = k0_pay7 (extractStridedSlice S512x128 ![0, 128] (k0_pay2 f b) slices_S512x1024_o0_128_S512x128) (k0_pay6 w) := rfl
theorem pay8_eq (x : FVec Ideal S512x1024 .f32) (w : FVec Ideal S1x128 .f32) :
    k0_pay8 (F := Ideal) x w = k0_pay7 (extractStridedSlice S512x128 ![0, 384] x slices_S512x1024_o0_384_S512x128) (k0_pay6 w) := rfl
theorem pay9_eq (x : FVec Ideal S512x1024 .f32) (w : FVec Ideal S1x128 .f32) :
    k0_pay9 (F := Ideal) x w = k0_pay7 (extractStridedSlice S512x128 ![0, 512] x slices_S512x1024_o0_512_S512x128) (k0_pay6 w) := rfl

/-- The norm of head `j` cut out of a block. -/
theorem cut_at (x : FVec Ideal S512x1024 .f32) (w : FVec Ideal S1x128 .f32) (j : Fin 8) (o : ℕ) (ho : o = 128 * j.val) (h)
    (r : Fin 512) (u : Fin 128) :
    k0_pay7 (F := Ideal) (extractStridedSlice S512x128 ![0, o] x h) (k0_pay6 w) (ix2 r u) = hn x w j r u := by
  rw [pay7_at, pay6_eq]
  simp only [slice_at x j o ho]

/-- Eight pieces of 128 columns side by side. -/
theorem cat_at (v : Fin 8 → FVec Ideal S512x128 .f32) (h) (j : Fin 8) (r : Fin 512) (u : Fin 128) :
    concatenate S512x1024 1 [⟨S512x128, v 0⟩, ⟨S512x128, v 1⟩, ⟨S512x128, v 2⟩, ⟨S512x128, v 3⟩, ⟨S512x128, v 4⟩,
      ⟨S512x128, v 5⟩, ⟨S512x128, v 6⟩, ⟨S512x128, v 7⟩] h (ix2 r (lane j u)) = v j (ix2 r u) := by
  have key : ∀ (k : ℕ) (hk : k < 8) (x : FVec Ideal S512x128 .f32) (hx : [(⟨S512x128, v 0⟩ : (s : Shape) × (s.Idx → EReal)), ⟨S512x128, v 1⟩, ⟨S512x128, v 2⟩, ⟨S512x128, v 3⟩, ⟨S512x128, v 4⟩,
      ⟨S512x128, v 5⟩, ⟨S512x128, v 6⟩, ⟨S512x128, v 7⟩][k]'hk = ⟨S512x128, x⟩) (hpre) (hj : j.val = k), concatenate S512x1024 1 [⟨S512x128, v 0⟩, ⟨S512x128, v 1⟩, ⟨S512x128, v 2⟩, ⟨S512x128, v 3⟩, ⟨S512x128, v 4⟩,
      ⟨S512x128, v 5⟩, ⟨S512x128, v 6⟩, ⟨S512x128, v 7⟩] h (ix2 r (lane j u)) = x (ix2 r u) := fun k hk x hx hpre hj =>
    concatenate_apply_piece _ _ h _ k hk _ _ hx rfl (128 * k) hpre (ix2 r u)
      (fun b hb => match b with
        | ⟨0, _⟩ => rfl
        | ⟨1, _⟩ => absurd rfl hb)
      (by show 128 * k + u.val = 128 * j.val + u.val; omega)
  match j with
  | 0 => exact key 0 (by omega) _ rfl rfl rfl
  | 1 => exact key 1 (by omega) _ rfl rfl rfl
  | 2 => exact key 2 (by omega) _ rfl rfl rfl
  | 3 => exact key 3 (by omega) _ rfl rfl rfl
  | 4 => exact key 4 (by omega) _ rfl rfl rfl
  | 5 => exact key 5 (by omega) _ rfl rfl rfl
  | 6 => exact key 6 (by omega) _ rfl rfl rfl
  | 7 => exact key 7 (by omega) _ rfl rfl rfl

/-- The heads' norms side by side, the last three given by their columns. -/
theorem pay12_eq (x : FVec Ideal S512x1024 .f32) (v0 v1 v2 v3 v4 v5 : FVec Ideal S512x128 .f32) (w5 w6 w7 : FVec Ideal S1x128 .f32) :
    k0_pay12 (F := Ideal) x v0 v1 v2 v3 v4 v5 w5 w6 w7
      = concatenate S512x1024 1 [⟨S512x128, v0⟩, ⟨S512x128, v1⟩, ⟨S512x128, v2⟩, ⟨S512x128, v3⟩, ⟨S512x128, v4⟩,
          ⟨S512x128, k0_pay7 v5 w5⟩,
          ⟨S512x128, k0_pay7 (extractStridedSlice S512x128 ![0, 768] x slices_S512x1024_o0_768_S512x128) (k0_pay6 w6)⟩,
          ⟨S512x128, k0_pay7 (extractStridedSlice S512x128 ![0, 896] x slices_S512x1024_o0_896_S512x128) (k0_pay6 w7)⟩]
          concatenates_S512x128_S512x128_S512x128_S512x128_S512x128_S512x128_S512x128_S512x128_S512x1024_d1 := by
  unfold k0_pay12 k0_pay7 k0_pay6
  rfl

/-- Eight pieces side by side whose entries are known. -/
theorem cat_of (v0 v1 v2 v3 v4 v5 v6 v7 : FVec Ideal S512x128 .f32) (h) (g : Fin 8 → EReal) (j : Fin 8) (r : Fin 512) (u : Fin 128)
    (h0 : v0 (ix2 r u) = g 0) (h1 : v1 (ix2 r u) = g 1) (h2 : v2 (ix2 r u) = g 2) (h3 : v3 (ix2 r u) = g 3)
    (h4 : v4 (ix2 r u) = g 4) (h5 : v5 (ix2 r u) = g 5) (h6 : v6 (ix2 r u) = g 6) (h7 : v7 (ix2 r u) = g 7) :
    concatenate S512x1024 1 [⟨S512x128, v0⟩, ⟨S512x128, v1⟩, ⟨S512x128, v2⟩, ⟨S512x128, v3⟩, ⟨S512x128, v4⟩,
      ⟨S512x128, v5⟩, ⟨S512x128, v6⟩, ⟨S512x128, v7⟩] h (ix2 r (lane j u)) = g j := by
  refine (cat_at ![v0, v1, v2, v3, v4, v5, v6, v7] h j r u).trans ?_
  match j with
  | 0 => exact h0
  | 1 => exact h1
  | 2 => exact h2
  | 3 => exact h3
  | 4 => exact h4
  | 5 => exact h5
  | 6 => exact h6
  | 7 => exact h7

/-- The heads' norms at an entry. -/
theorem pay12_at (f b : FVec Ideal S1x512x1024 .bf16) (w : FVec Ideal S1x128 .f32) (j : Fin 8) (r : Fin 512) (u : Fin 128) :
    k0_pay12 (F := Ideal) (k0_pay2 f b) (k0_pay3 f b w) (k0_pay4 f b w) (k0_pay7 (k0_pay5 f b) (k0_pay6 w))
        (k0_pay8 (k0_pay2 f b) w) (k0_pay9 (k0_pay2 f b) w) (k0_pay10 (k0_pay2 f b)) (k0_pay11 w) w w (ix2 r (lane j u))
      = hn (k0_pay2 f b) w j r u := by
  rw [pay12_eq, pay3_eq, pay4_eq, pay8_eq, pay9_eq]
  exact cat_of _ _ _ _ _ _ _ _ _ (fun j => hn (k0_pay2 f b) w j r u) j r u (cut_at _ w 0 0 rfl _ r u) (cut_at _ w 1 128 rfl _ r u)
    (cut_at _ w 2 256 rfl slices_S512x1024_o0_256_S512x128 r u) (cut_at _ w 3 384 rfl _ r u) (cut_at _ w 4 512 rfl _ r u) (cut_at _ w 5 640 rfl slices_S512x1024_o0_640_S512x128 r u)
    (cut_at _ w 6 768 rfl _ r u) (cut_at _ w 7 896 rfl _ r u)

theorem pay13_at (v : FVec Ideal S512x1024 .f32) (g : FVec Ideal S1x512x1024 .bf16) (h : FVec Ideal S1x512x1024 .f32)
    (W : FVec Ideal S1024x1024 .bf16) (r : Fin 512) (e : Fin 1024) :
    k0_pay13 (F := Ideal) v g h W (ix2 r e)
      = proj (fun e => h (ix3 0 r e)) (fun e => v (ix2 r e) * g (ix3 0 r e)) (fun x e => W (ix2 x e)) e := by
  unfold proj
  pointwise [k0_pay13]

theorem pay14_at (v : FVec Ideal S512x1024 .f32) (g : FVec Ideal S1x512x1024 .bf16) (h : FVec Ideal S1x512x1024 .f32)
    (W : FVec Ideal S1024x1024 .bf16) (nw : FVec Ideal S1x1024 .f32) (r : Fin 512) (e : Fin 1024) :
    k0_pay14 (F := Ideal) v g h W nw (ix2 r e)
      = normed (fun e => k0_pay13 (F := Ideal) v g h W (ix2 r e)) (fun e => nw (ix2 0 e)) e := by
  unfold normed scale
  pointwise [k0_pay14]

theorem pay15_at (v : FVec Ideal S512x1024 .f32) (g : FVec Ideal S1x512x1024 .bf16) (h : FVec Ideal S1x512x1024 .f32)
    (W : FVec Ideal S1024x1024 .bf16) (nw : FVec Ideal S1x1024 .f32) (Wu Wd : FVec Ideal S1024x1024 .bf16) (r : Fin 512)
    (e : Fin 1024) :
    k0_pay15 (F := Ideal) v g h W nw Wu Wd (ix2 r e)
      = k0_pay13 (F := Ideal) v g h W (ix2 r e)
        + down (fun e => k0_pay14 (F := Ideal) v g h W nw (ix2 r e)) (fun x u => Wu (ix2 x u)) (fun u e => Wd (ix2 u e)) e := by
  unfold down up
  pointwise [k0_pay15]

theorem pay1_at (n : FVec Ideal S512x1024 .bf16) (a p : FVec Ideal S512x1024 .f32) (u1 d1 u2 d2 u3 d3 : FVec Ideal S1024x1024 .bf16)
    (r : Fin 512) (e : Fin 1024) (hp : ∀ u, p (ix2 r u) = ∑ x : Fin 1024, n (ix2 r x) * u1 (ix2 x u)) :
    k0_pay1 (F := Ideal) n a p d1 u2 d2 u3 d3 (ix3 0 r e)
      = a (ix2 r e) + down (fun e => n (ix2 r e)) (fun x u => u1 (ix2 x u)) (fun u e => d1 (ix2 u e)) e
        + down (fun e => n (ix2 r e)) (fun x u => u2 (ix2 x u)) (fun u e => d2 (ix2 u e)) e
        + down (fun e => n (ix2 r e)) (fun x u => u3 (ix2 x u)) (fun u e => d3 (ix2 u e)) e := by
  unfold down up
  simp only [← hp]
  pointwise [k0_pay1]

theorem pay16_at (v : FVec Ideal S512x1024 .f32) (g : FVec Ideal S1x512x1024 .bf16) (h : FVec Ideal S1x512x1024 .f32)
    (W : FVec Ideal S1024x1024 .bf16) (nw : FVec Ideal S1x1024 .f32) (Wu : FVec Ideal S1024x1024 .bf16) (r : Fin 512)
    (u : Fin 1024) :
    k0_pay16 (F := Ideal) v g h W nw Wu (ix2 r u)
      = ∑ x : Fin 1024, k0_pay14 (F := Ideal) v g h W nw (ix2 r x) * Wu (ix2 x u) := by
  pointwise [k0_pay16]

/-- The mixer output of a row of the block, gate multiplied in. -/
theorem mixed_at (f b g : FVec Ideal S1x512x1024 .bf16) (w : FVec Ideal S1x128 .f32) (r : Fin 512) (e : Fin 1024) :
    k0_pay12 (F := Ideal) (k0_pay2 f b) (k0_pay3 f b w) (k0_pay4 f b w) (k0_pay7 (k0_pay5 f b) (k0_pay6 w))
        (k0_pay8 (k0_pay2 f b) w) (k0_pay9 (k0_pay2 f b) w) (k0_pay10 (k0_pay2 f b)) (k0_pay11 w) w w (ix2 r e) * g (ix3 0 r e)
      = mixed (fun e => f (ix3 0 r e)) (fun e => b (ix3 0 r e)) (fun e => g (ix3 0 r e)) (fun u => w (ix2 0 u)) e := by
  have h := pay12_at f b w (headOf e) r (placeOf e)
  rw [lane_of] at h
  rw [h]
  simp only [hn, pay2_at]
  rfl

/-- The kernel's arithmetic before the projection, on the loads of the directions' blocks and the gain. -/
abbrev heads (f b : FVec Ideal S1x512x1024 .bf16) (w : FVec Ideal S1x128 .f32) : FVec Ideal S512x1024 .f32 :=
  k0_pay12 (F := Ideal) (k0_pay2 f b) (k0_pay3 f b w) (k0_pay4 f b w) (k0_pay7 (k0_pay5 f b) (k0_pay6 w))
    (k0_pay8 (k0_pay2 f b) w) (k0_pay9 (k0_pay2 f b) w) (k0_pay10 (k0_pay2 f b)) (k0_pay11 w) w w

/-- The whole of a block of 512 rows, loaded. -/
abbrev ldb (x : FVec Ideal S1x512x1024 .bf16) : FVec Ideal S1x512x1024 .bf16 :=
  View.ld (Val := Elt Ideal) (e' := .bf16) x (Rect.unit ![0, 0, 0] ![1, 512, 1024] inb_S1x512x1024_S1x512x1024_0_0_0)

/-- The whole of the layer input's block, loaded. -/
abbrev ldh (x : FVec Ideal S1x512x1024 .f32) : FVec Ideal S1x512x1024 .f32 :=
  View.ld (Val := Elt Ideal) (e' := .f32) x (Rect.unit ![0, 0, 0] ![1, 512, 1024] inb_S1x512x1024_S1x512x1024_0_0_0)

/-- The whole gain row, loaded. -/
abbrev ldw (x : FVec Ideal S1x128 .f32) : FVec Ideal S1x128 .f32 :=
  View.ld (Val := Elt Ideal) (e' := .f32) x (Rect.unit ![0, 0] ![1, 128] inb_S1x128_S1x128_0_0)

/-- The whole norm's row, loaded. -/
abbrev ldn (x : FVec Ideal S1x1024 .f32) : FVec Ideal S1x1024 .f32 :=
  View.ld (Val := Elt Ideal) (e' := .f32) x (Rect.unit ![0, 0] ![1, 1024] inb_S1x1024_S1x1024_0_0)

/-- The whole output projection, loaded. -/
abbrev ldo (x : FVec Ideal S1024x1024 .bf16) : FVec Ideal S1024x1024 .bf16 :=
  View.ld (Val := Elt Ideal) (e' := .bf16) x (Rect.unit ![0, 0] ![1024, 1024] inb_S1024x1024_S1024x1024_0_0)

/-- The columns of the up projection from `o` on, loaded. -/
abbrev ldu (x : FVec Ideal S1024x4096 .bf16) (o : ℕ) (inb : ∀ a : Fin 2, (![0, o] : Fin 2 → ℕ) a + (![1024, 1024] : Fin 2 → ℕ) a ≤ S1024x4096.size a) : FVec Ideal S1024x1024 .bf16 :=
  View.ld (Val := Elt Ideal) (e' := .bf16) x (Rect.unit (s := S1024x4096) ![0, o] ![1024, 1024] inb)

/-- The rows of the down projection from `o` on, loaded. -/
abbrev ldd (x : FVec Ideal S4096x1024 .bf16) (o : ℕ) (inb : ∀ a : Fin 2, (![o, 0] : Fin 2 → ℕ) a + (![1024, 1024] : Fin 2 → ℕ) a ≤ S4096x1024.size a) : FVec Ideal S1024x1024 .bf16 :=
  View.ld (Val := Elt Ideal) (e' := .bf16) x (Rect.unit (s := S4096x1024) ![o, 0] ![1024, 1024] inb)

/-- The kernel's arithmetic at an entry of the block is the tail of the input blocks' rows. -/
theorem body_at (h : FVec Ideal S1x512x1024 .f32) (f b g : FVec Ideal S1x512x1024 .bf16) (w : FVec Ideal S1x128 .f32)
    (W : FVec Ideal S1024x1024 .bf16) (nw : FVec Ideal S1x1024 .f32) (Wu : FVec Ideal S1024x4096 .bf16)
    (Wd : FVec Ideal S4096x1024 .bf16) (r : Fin 512) (e : Fin 1024) :
    k0_pay1 (F := Ideal)
      (k0_pay14 (heads (ldb f) (ldb b) (ldw w)) (ldb g) (ldh h) (ldo W) (ldn nw))
      (k0_pay15 (heads (ldb f) (ldb b) (ldw w)) (ldb g) (ldh h) (ldo W) (ldn nw) (ldu Wu 0 inb_S1024x4096_S1024x1024_0_0)
        (ldd Wd 0 inb_S4096x1024_S1024x1024_0_0))
      (k0_pay16 (heads (ldb f) (ldb b) (ldw w)) (ldb g) (ldh h) (ldo W) (ldn nw) (ldu Wu 1024 inb_S1024x4096_S1024x1024_0_1024))
      (ldd Wd 1024 inb_S4096x1024_S1024x1024_1024_0) (ldu Wu 2048 inb_S1024x4096_S1024x1024_0_2048)
      (ldd Wd 2048 inb_S4096x1024_S1024x1024_2048_0) (ldu Wu 3072 inb_S1024x4096_S1024x1024_0_3072)
      (ldd Wd 3072 inb_S4096x1024_S1024x1024_3072_0) (ix3 0 r e)
      = tail (fun e => h (ix3 0 r e)) (mixed (fun e => f (ix3 0 r e)) (fun e => b (ix3 0 r e)) (fun e => g (ix3 0 r e))
          (fun u => w (ix2 0 u))) (fun e => nw (ix2 0 e)) (fun x e => W (ix2 x e)) (fun x u => Wu (ix2 x u))
          (fun u e => Wd (ix2 u e)) e := by
  have hz3 : (![0, 0, 0] : Fin 3 → ℕ) = fun _ => 0 := by funext i; fin_cases i <;> rfl
  have hz2 : (![0, 0] : Fin 2 → ℕ) = fun _ => 0 := by funext i; fin_cases i <;> rfl
  rw [show ldb f = f from View.ld_unit_zero hz3 _ _, show ldb b = b from View.ld_unit_zero hz3 _ _,
    show ldb g = g from View.ld_unit_zero hz3 _ _, show ldh h = h from View.ld_unit_zero hz3 _ _,
    show ldw w = w from View.ld_unit_zero hz2 _ _, show ldo W = W from View.ld_unit_zero hz2 _ _,
    show ldn nw = nw from View.ld_unit_zero hz2 _ _]
  rw [pay1_at _ _ _ (ldu Wu 1024 inb_S1024x4096_S1024x1024_0_1024) _ _ _ _ _ r e (fun u => pay16_at _ _ _ _ _ _ r u), pay15_at]
  simp only [pay14_at, pay13_at]
  rw [show (fun e => heads f b w (ix2 r e) * g (ix3 0 r e)) = _ from funext fun e => mixed_at f b g w r e]
  rw [← tail_parts]
  have u (j : Fin 4) (o : ℕ) (ho : o = 1024 * j.val) (inb) :
      (fun x u : Fin 1024 => ldu Wu o inb (ix2 x u)) = fun x u => Wu (ix2 x (part j u)) :=
    funext fun x => funext fun u => PostBlock.ld_up Wu j o ho inb x u
  have d (j : Fin 4) (o : ℕ) (ho : o = 1024 * j.val) (inb) :
      (fun u e : Fin 1024 => ldd Wd o inb (ix2 u e)) = fun u e => Wd (ix2 (part j u) e) :=
    funext fun u => funext fun e => PostBlock.ld_down Wd j o ho inb u e
  rw [u 0 0 rfl, u 1 1024 rfl, u 2 2048 rfl, u 3 3072 rfl, d 0 0 rfl, d 1 1024 rfl, d 2 2048 rfl, d 3 3072 rfl]

variable (m : (ℓ : Loc nD τ sig) → Buf (Elt Ideal) ℓ)

/-- A point's block is the kernel's arithmetic on its input blocks. -/
theorem outs_eq (c : Dev nD) (t : Fin cfg0.N) (r : Fin 512) (e : Fin 1024) :
    outsAt0 m c t (ix3 0 r e) = tail (fun e => iblk m c 0 t (ix3 0 r e))
      (mixed (fun e => X0_1 m c t (ix3 0 r e)) (fun e => X0_2 m c t (ix3 0 r e)) (fun e => iblk m c 3 t (ix3 0 r e)) (fun u => iblk m c 4 t (ix2 0 u)))
      (fun e => iblk m c 6 t (ix2 0 e)) (fun x e => iblk m c 5 t (ix2 x e)) (fun x u => iblk m c 7 t (ix2 x u)) (fun u e => iblk m c 8 t (ix2 u e)) e := by
  have hz3 : (![0, 0, 0] : Fin 3 → ℕ) = fun _ => 0 := by funext i; fin_cases i <;> rfl
  have hz2 : (![0, 0] : Fin 2 → ℕ) = fun _ => 0 := by funext i; fin_cases i <;> rfl
  unfold outsAt0 out0_A_9
  rw [View.read_writes_eq_canon _ _ _ (cover0_A_9 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero hz3]
  exact body_at (iblk m c 0 t) (X0_1 m c t) (X0_2 m c t) (iblk m c 3 t) (iblk m c 4 t) (iblk m c 5 t) (iblk m c 6 t) (iblk m c 7 t)
    (iblk m c 8 t) r e

/-- The gain as a row. -/
theorem V_v4 (c : Dev nD) (u : Fin 128) : V m c main_v4 (ix2 0 u) = m ((c : Thread nD τ).loc main_arg5) (ix1 u) := by
  have h : V m c main_v4 = shapeCast S1x128 (m ((c : Thread nD τ).loc main_arg5)) shapeCasts_S128_S1x128 := by
    simp only [V, hostOps0]; after_results; rfl
  rw [h]
  pointwise []

/-- The norm's weights as a row. -/
theorem V_v0 (c : Dev nD) (e : Fin 1024) : V m c main_v0 (ix2 0 e) = m ((c : Thread nD τ).loc main_arg6) (ix1 e) := by
  have h : V m c main_v0 = shapeCast S1x1024 (m ((c : Thread nD τ).loc main_arg6)) shapeCasts_S1024_S1x1024 := by
    simp only [V, hostOps0]; after_results; rfl
  rw [h]
  pointwise []

theorem V_v1 (c : Dev nD) : V m c main_v1 = m ((c : Thread nD τ).loc main_arg7) := by
  simp only [V, hostOps0]; after_results; rfl

theorem V_v2 (c : Dev nD) : V m c main_v2 = m ((c : Thread nD τ).loc main_arg8) := by
  simp only [V, hostOps0]; after_results; rfl

theorem V_v3 (c : Dev nD) : V m c main_v3 = m ((c : Thread nD τ).loc main_arg4) := by
  simp only [V, hostOps0]; after_results; rfl

end Cert.Proof.RecBlock
-- ==== Proof.RecValue.lean ====
/-
  What the recurrent tail's kernel leaves in its result array: the tail of its arguments.
-/
module

public import proofs.«01_k».proof.Proof.RecBlock

@[expose] public section

set_option maxRecDepth 16384

noncomputable section

namespace Cert.Proof.RecValue

open Idealize.ShloMosaic Idealize.ShloMosaic.TcCoe Idealize.SL.Sem Cert.KernelPostRecIdeal Cert.KernelPostRecIdeal.Gen
open Idealize.ShloMosaic.Pipeline (Dat)
open Cert.Proof.PostFn Cert.Proof.RecFn Cert.Proof.RecBlock

variable (m : (ℓ : Loc nD τ sig) → Buf (Elt Ideal) ℓ) (ρ : Dev nD → PrngReg)

/-- The batch of a point. -/
def pb (t : Fin cfg0.N) : Fin 8 := grid0.coords t 0

/-- Row `r` of a point's tile. -/
def row (t : Fin cfg0.N) (r : Fin 512) : Fin 8192 :=
  ⟨512 * (grid0.coords t 1).val + r.val, by have h : (grid0.coords t 1).val < 16 := (grid0.coords t 1).isLt; have := r.isLt; omega⟩

theorem idx0 : ∀ t : Fin grid0.N, win0_0.index t 0 = (grid0.coords t 0).val ∧ win0_0.index t 1 = (grid0.coords t 1).val
    ∧ win0_0.index t 2 = 0 := by decide +kernel
theorem idx1 : ∀ t : Fin grid0.N, win0_1.index t 0 = (grid0.coords t 0).val ∧ win0_1.index t 1 = (grid0.coords t 1).val
    ∧ win0_1.index t 2 = 0 := by decide +kernel
theorem idx2 : ∀ t : Fin grid0.N, win0_2.index t 0 = (grid0.coords t 0).val ∧ win0_2.index t 1 = (grid0.coords t 1).val
    ∧ win0_2.index t 2 = 0 := by decide +kernel
theorem idx3 : ∀ t : Fin grid0.N, win0_3.index t 0 = (grid0.coords t 0).val ∧ win0_3.index t 1 = (grid0.coords t 1).val
    ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = (grid0.coords t 0).val ∧ win0_9.index t 1 = (grid0.coords t 1).val
    ∧ win0_9.index t 2 = 0 ∧ win0_9.xsize (grid0.coords t) 0 = 1 ∧ win0_9.xsize (grid0.coords t) 1 = 512
    ∧ win0_9.xsize (grid0.coords t) 2 = 1024 := by decide +kernel

theorem blk0 (c : Dev nD) (t : Fin cfg0.N) (r : Fin 512) (e : Fin 1024) :
    iblk m c 0 t (ix3 0 r e) = m ((c : Thread nD τ).loc main_arg0) (ix3 (pb t) (row t r) e) := by
  have h := idx0 t
  refine Eq.trans ?_ (congrFun (V_main_arg0 m c) _)
  exact congrArg (V m c main_arg0) (eq_ix3 ((win0_0.rect t).emb (ix3 0 r e)) _ _ _
    (by show win0_0.index t 0 * 1 + 1 * 0 = (grid0.coords t 0).val; omega)
    (by show win0_0.index t 1 * 512 + 1 * r.val = 512 * (grid0.coords t 1).val + r.val; omega)
    (by show win0_0.index t 2 * 1024 + 1 * e.val = e.val; omega))

theorem blk1 (c : Dev nD) (t : Fin cfg0.N) (r : Fin 512) (e : Fin 1024) :
    X0_1 m c t (ix3 0 r e) = m ((c : Thread nD τ).loc main_arg1) (ix3 (pb t) (longRow (row t r)) e) := by
  have h := idx1 t
  refine Eq.trans ?_ (congrFun (V_main_arg1 m c) _)
  unfold X0_1 Pipeline.Window.fill
  rw [dif_pos (moved0_1 t _)]
  exact congrArg (V m c main_arg1) (eq_ix3 ((win0_1.rect t).emb _) _ _ _
    (by show win0_1.index t 0 * 1 + 1 * 0 = (grid0.coords t 0).val; omega)
    (by show win0_1.index t 1 * 512 + 1 * r.val = 512 * (grid0.coords t 1).val + r.val; omega)
    (by show win0_1.index t 2 * 1024 + 1 * e.val = e.val; omega))

theorem blk2 (c : Dev nD) (t : Fin cfg0.N) (r : Fin 512) (e : Fin 1024) :
    X0_2 m c t (ix3 0 r e) = m ((c : Thread nD τ).loc main_arg2) (ix3 (pb t) (longRow (row t r)) e) := by
  have h := idx2 t
  refine Eq.trans ?_ (congrFun (V_main_arg2 m c) _)
  unfold X0_2 Pipeline.Window.fill
  rw [dif_pos (moved0_2 t _)]
  exact congrArg (V m c main_arg2) (eq_ix3 ((win0_2.rect t).emb _) _ _ _
    (by show win0_2.index t 0 * 1 + 1 * 0 = (grid0.coords t 0).val; omega)
    (by show win0_2.index t 1 * 512 + 1 * r.val = 512 * (grid0.coords t 1).val + r.val; omega)
    (by show win0_2.index t 2 * 1024 + 1 * e.val = e.val; omega))

theorem blk3 (c : Dev nD) (t : Fin cfg0.N) (r : Fin 512) (e : Fin 1024) :
    iblk m c 3 t (ix3 0 r e) = m ((c : Thread nD τ).loc main_arg3) (ix3 (pb t) (row t r) e) := by
  have h := idx3 t
  refine Eq.trans ?_ (congrFun (V_main_arg3 m c) _)
  exact congrArg (V m c main_arg3) (eq_ix3 ((win0_3.rect t).emb (ix3 0 r e)) _ _ _
    (by show win0_3.index t 0 * 1 + 1 * 0 = (grid0.coords t 0).val; omega)
    (by show win0_3.index t 1 * 512 + 1 * r.val = 512 * (grid0.coords t 1).val + r.val; omega)
    (by show win0_3.index t 2 * 1024 + 1 * e.val = e.val; omega))

theorem blk4 (c : Dev nD) (t : Fin cfg0.N) (u : Fin 128) :
    iblk m c 4 t (ix2 0 u) = m ((c : Thread nD τ).loc main_arg5) (ix1 u) := by
  have h := idx4 t
  refine Eq.trans ?_ (V_v4 m c u)
  exact congrArg (V m c main_v4) (eq_ix2 ((win0_4.rect t).emb (ix2 0 u)) _ _
    (by show win0_4.index t 0 * 1 + 1 * 0 = 0; omega)
    (by show win0_4.index t 1 * 128 + 1 * u.val = u.val; omega))

theorem blk5 (c : Dev nD) (t : Fin cfg0.N) (x e : Fin 1024) :
    iblk m c 5 t (ix2 x e) = m ((c : Thread nD τ).loc main_arg4) (ix2 x e) := by
  have h := idx5 t
  refine Eq.trans ?_ (congrFun (V_v3 m c) _)
  exact congrArg (V m c main_v3) (eq_ix2 ((win0_5.rect t).emb (ix2 x e)) _ _
    (by show win0_5.index t 0 * 1024 + 1 * x.val = x.val; omega)
    (by show win0_5.index t 1 * 1024 + 1 * e.val = e.val; omega))

theorem blk6 (c : Dev nD) (t : Fin cfg0.N) (e : Fin 1024) :
    iblk m c 6 t (ix2 0 e) = m ((c : Thread nD τ).loc main_arg6) (ix1 e) := by
  have h := idx6 t
  refine Eq.trans ?_ (V_v0 m c e)
  exact congrArg (V m c main_v0) (eq_ix2 ((win0_6.rect t).emb (ix2 0 e)) _ _
    (by show win0_6.index t 0 * 1 + 1 * 0 = 0; omega)
    (by show win0_6.index t 1 * 1024 + 1 * e.val = e.val; omega))

theorem blk7 (c : Dev nD) (t : Fin cfg0.N) (x : Fin 1024) (u : Fin 4096) :
    iblk m c 7 t (ix2 x u) = m ((c : Thread nD τ).loc main_arg7) (ix2 x u) := by
  have h := idx7 t
  refine Eq.trans ?_ (congrFun (V_v1 m c) _)
  exact congrArg (V m c main_v1) (eq_ix2 ((win0_7.rect t).emb (ix2 x u)) _ _
    (by show win0_7.index t 0 * 1024 + 1 * x.val = x.val; omega)
    (by show win0_7.index t 1 * 4096 + 1 * u.val = u.val; omega))

theorem blk8 (c : Dev nD) (t : Fin cfg0.N) (u : Fin 4096) (e : Fin 1024) :
    iblk m c 8 t (ix2 u e) = m ((c : Thread nD τ).loc main_arg8) (ix2 u e) := by
  have h := idx8 t
  refine Eq.trans ?_ (congrFun (V_v2 m c) _)
  exact congrArg (V m c main_v2) (eq_ix2 ((win0_8.rect t).emb (ix2 u e)) _ _
    (by show win0_8.index t 0 * 4096 + 1 * u.val = u.val; omega)
    (by show win0_8.index t 1 * 1024 + 1 * e.val = e.val; omega))

/-- The result array of device `c`: the tail of its arguments. -/
abbrev result (c : Dev nD) : Buf (Elt Ideal) ((c : Thread nD τ).loc main_v5) :=
  tailRecG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The point's block at an index. -/
theorem block_eq (c : Dev nD) (t : Fin cfg0.N) (r : Fin 512) (e : Fin 1024) :
    outsAt0 m c t (ix3 0 r e) = result m c (ix3 (pb t) (row t r) e) := by
  refine (outs_eq m c t r e).trans ?_
  simp only [blk0, blk1, blk2, blk3, blk4, blk5, blk6, blk7, blk8]
  rfl

/-- What a point writes back is its block of the result. -/
theorem flushed_eq (c : Dev nD) (t : Fin cfg0.N) :
    (dats m 0 c).flushed 9 t = ((cfg0.win 9).blk t).view.read (Elt Ideal) (result m c) := by
  rw [Value.flushed9]
  funext y
  have hi := idx9 t
  have h1 : (y 1).val < 512 := (y 1).isLt
  have h2 : (y 2).val < 1024 := (y 2).isLt
  have h0 : (y 0).val < 1 := (y 0).isLt
  refine Eq.trans (congrArg (outsAt0 m c t)
    (eq_ix3 (x := 1) (y := 512) (z := 1024) _ 0 ⟨(y 1).val, h1⟩ ⟨(y 2).val, h2⟩ (by show (y 0).val = 0; omega) rfl rfl))
    ((block_eq m c t ⟨(y 1).val, h1⟩ ⟨(y 2).val, h2⟩).trans ?_)
  refine congrArg (result m c) (eq_ix3 ((win0_9.rect t).emb y) _ _ _ ?_ ?_ ?_).symm
  · show win0_9.index t 0 * 1 + 1 * (y 0).val = (grid0.coords t 0).val
    omega
  · show win0_9.index t 1 * 512 + 1 * (y 1).val = 512 * (grid0.coords t 1).val + (y 1).val
    omega
  · show win0_9.index t 2 * 1024 + 1 * (y 2).val = (y 2).val
    omega

/-- An index is in a point's block when its batch and its row's tile are the point's. -/
theorem mem_blk (t : Fin cfg0.N) (i : S8x8192x1024.Idx) (h0 : (i 0).val = (grid0.coords t 0).val)
    (h1 : (i 1).val / 512 = (grid0.coords t 1).val) : i ∈ ((cfg0.win 9).blk t).view.set := by
  show i ∈ ((View.whole main_v5).slice (win0_9.rect t)).set
  rw [View.set_slice_whole, Rect.mem_set_unit]
  have hi := idx9 t
  have h2 : (i 2 : Nat) < 1024 := (i 2).isLt
  intro a
  match a with
  | ⟨0, _⟩ =>
    show win0_9.index t 0 * 1 ≤ (i 0 : Nat) ∧ (i 0 : Nat) < win0_9.index t 0 * 1 + win0_9.xsize (grid0.coords t) 0
    omega
  | ⟨1, _⟩ =>
    show win0_9.index t 1 * 512 ≤ (i 1 : Nat) ∧ (i 1 : Nat) < win0_9.index t 1 * 512 + win0_9.xsize (grid0.coords t) 1
    omega
  | ⟨2, _⟩ =>
    show win0_9.index t 2 * 1024 ≤ (i 2 : Nat) ∧ (i 2 : Nat) < win0_9.index t 2 * 1024 + win0_9.xsize (grid0.coords t) 2
    omega

theorem coords_of : ∀ (b : Fin 8) (n : Fin 16), ∃ t : Fin grid0.N,
    (grid0.coords t 0).val = b.val ∧ (grid0.coords t 1).val = n.val := by decide +kernel

/-- The points' blocks cover the array. -/
theorem cover (i : S8x8192x1024.Idx) : ∃ t : Fin cfg0.N, (cfg0.win 9).flush t = true ∧ i ∈ ((cfg0.win 9).blk t).view.set := by
  have h0 : (i 0 : Nat) < 8 := (i 0).isLt
  have h1 : (i 1 : Nat) < 8192 := (i 1).isLt
  obtain ⟨t, ht0, ht1⟩ := coords_of ⟨(i 0).val, h0⟩ ⟨(i 1).val / 512, by omega⟩
  exact ⟨t, flush0_9 t, mem_blk t i ht0.symm ht1.symm⟩

/-- The result array after the run. -/
theorem final (c : Dev nD) : (dats m 0 c).arrAt 9 cfg0.N = result m c :=
  (dats m 0 c).arrAt_eq_of_cover 9 (result m c) (fun t _ => flushed_eq m c t) cover

/-- The run: the result array holds the tail, the arguments are as launched. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.Proof.RecValue
-- ==== Proof.RecRef.lean ====
/-
  The reference's recurrent tail at an index is the tail of its arguments' rows.
-/
module

public import proofs.«01_k».proof.Proof.RecFn
public import proofs.«01_k».proof.Proof.Gen.ReferencePostRecIdeal.Run
public import proofs.«01_k».proof.Proof.Gen.ReferencePostRecIdeal.Read

@[expose] public section

set_option maxRecDepth 16384

noncomputable section

namespace Cert.Proof.RecRef

open Idealize.ShloMosaic Cert.ReferencePostRecIdeal Cert.ReferencePostRecIdeal.Gen Cert.ReferencePostRecIdeal.Read
open Cert.Proof.PostFn Cert.Proof.RecFn

variable (H : FVec Ideal S8x8192x1024 .f32) (Of Ob : FVec Ideal S8x8256x1024 .bf16) (G : FVec Ideal S8x8192x1024 .bf16)
  (Wo : FVec Ideal S1024x1024 .f32) (gain : FVec Ideal S128 .f32)
  (nw : FVec Ideal S1024 .f32) (Wu : FVec Ideal S1024x4096 .f32) (Wd : FVec Ideal S4096x1024 .f32)
  (b : Fin 8) (r : Fin 8192)

/-- The sum of the directions, a head's entries on an axis of their own. -/
theorem v4_at (j : Fin 8) (u : Fin 128) : val_main_v4 (F := Ideal) Of Ob (ix4 b r j u)
    = Of (ix3 b (longRow r) (lane j u)) + Ob (ix3 b (longRow r) (lane j u)) := by
  rw [val_main_v4_apply, val_main_v3_apply]
  have hj := j.isLt
  have hu := u.isLt
  have hr := r.isLt
  have hb := b.isLt
  rw [show idx_main_v3 (idx_main_v4 (ix4 b r j u)) = ix3 b (longRow r) (lane j u) from eq_ix3 _ _ _ _
    (by show (((b.val * 8192 + r.val) * 8 + j.val) * 128 + u.val) / 8388608 = b.val; omega)
    (by show (((b.val * 8192 + r.val) * 8 + j.val) * 128 + u.val) / 1024 % 8192 = r.val; omega)
    (by show (((b.val * 8192 + r.val) * 8 + j.val) * 128 + u.val) % 1024 = 128 * j.val + u.val; omega)]
  rfl

/-- The normed heads. -/
theorem v17_at (j : Fin 8) (u : Fin 128) : val_main_v17 (F := Ideal) Of Ob gain (ix4 b r j u)
    = headNorm (fun u => val_main_v4 (F := Ideal) Of Ob (ix4 b r j u)) (fun u => gain (ix1 u)) u := by
  unfold headNorm scale
  pointwise [val_main_v17, val_main_v16, val_main_v15, val_main_v14, val_main_v13, val_main_v12, val_main_v11, val_main_v10,
    val_main_v9, val_main_v8, val_main_v7, val_main_v6, val_main_v5, val_main_cst, val_main_cst_0, val_main_cst_1]

/-- The gated mixer output. -/
theorem v20_at (e : Fin 1024) : val_main_v20 (F := Ideal) Of Ob G gain (ix3 b r e)
    = mixed (fun e => Of (ix3 b (longRow r) e)) (fun e => Ob (ix3 b (longRow r) e)) (fun e => G (ix3 b r e))
        (fun u => gain (ix1 u)) e := by
  have h : val_main_v18 (F := Ideal) Of Ob gain (ix3 b r e) = val_main_v17 (F := Ideal) Of Ob gain (ix4 b r (headOf e) (placeOf e)) := by
    rw [val_main_v18_apply]
    have he := e.isLt
    have hr := r.isLt
    have hb := b.isLt
    refine congrArg _ (funext fun a => Fin.ext ?_)
    match a with
    | ⟨0, _⟩ => show ((b.val * 8192 + r.val) * 1024 + e.val) / 8388608 = b.val; omega
    | ⟨1, _⟩ => show ((b.val * 8192 + r.val) * 1024 + e.val) / 1024 % 8192 = r.val; omega
    | ⟨2, _⟩ => show ((b.val * 8192 + r.val) * 1024 + e.val) / 128 % 8 = e.val / 128; omega
    | ⟨3, _⟩ => show ((b.val * 8192 + r.val) * 1024 + e.val) % 128 = e.val % 128; omega
  rw [val_main_v20_apply, h, v17_at]
  simp only [v4_at]
  rfl

/-- The projected row. -/
theorem v22_at (e : Fin 1024) : val_main_v22 (F := Ideal) H Of Ob G Wo gain (ix3 b r e)
    = proj (fun e => H (ix3 b r e)) (fun e => val_main_v20 (F := Ideal) Of Ob G gain (ix3 b r e)) (fun x e => Wo (ix2 x e)) e := by
  unfold proj
  pointwise [val_main_v22, val_main_v21]

theorem v35_at (e : Fin 1024) : val_main_v35 (F := Ideal) H Of Ob G Wo gain nw (ix3 b r e)
    = normed (fun e => val_main_v22 (F := Ideal) H Of Ob G Wo gain (ix3 b r e)) (fun e => nw (ix1 e)) e := by
  unfold normed scale
  pointwise [val_main_v35, val_main_v34, val_main_v33, val_main_v32, val_main_v31, val_main_v30, val_main_v29, val_main_v28,
    val_main_v27, val_main_v26, val_main_v25, val_main_v24, val_main_v23, val_main_cst_2, val_main_cst_3, val_main_cst_4]

theorem v40_at (e : Fin 1024) : val_main_v40 (F := Ideal) H Of Ob G Wo gain nw Wu Wd (ix3 b r e)
    = val_main_v22 (F := Ideal) H Of Ob G Wo gain (ix3 b r e)
      + down (fun e => val_main_v35 (F := Ideal) H Of Ob G Wo gain nw (ix3 b r e)) (fun x u => Wu (ix2 x u)) (fun u e => Wd (ix2 u e)) e := by
  unfold down up
  pointwise [val_main_v40, val_main_v39, val_main_v38, val_main_v37, val_main_v36, val_main_call0_v0, val_main_call0_cst]

/-- The result at an index. -/
theorem v40_tail (e : Fin 1024) : val_main_v40 (F := Ideal) H Of Ob G Wo gain nw Wu Wd (ix3 b r e)
    = tailRecG H Of Ob G Wo gain nw Wu Wd (ix3 b r e) := by
  rw [v40_at]
  simp only [v35_at, v22_at, v20_at]
  rfl

/-- The whole result. -/
theorem v40_eq : val_main_v40 (F := Ideal) H Of Ob G Wo gain nw Wu Wd = tailRecG H Of Ob G Wo gain nw Wu Wd := by
  funext i
  rw [eq_ix3 (x := 8) (y := 8192) (z := 1024) i (i 0) (i 1) (i 2) rfl rfl rfl]
  exact v40_tail H Of Ob G Wo gain nw Wu Wd (i 0) (i 1) (i 2)

end Cert.Proof.RecRef
-- ==== Proof.ClaimRec.lean ====
/-
  The claims about the tail of a recurrent layer: the frames, and the equation with the reference.
-/
module

public import proofs.«01_k».proof.Defs
public import proofs.«01_k».proof.Proof.RecValue
public import proofs.«01_k».proof.Proof.RecRef
public import proofs.«01_k».proof.Proof.Gen.KernelPostRec.Frame

@[expose] public section

set_option maxRecDepth 16384

noncomputable section

namespace Cert.Proof.ClaimRec

open Idealize.ShloMosaic Idealize.SL.Sem

theorem frame : Cert.quiescent_KernelPostRec (hKernelPostRec := Cert.KernelPostRec.Gen.facts) :=
  fun m ρ _ => Cert.KernelPostRec.Gen.frame m ρ

theorem frame_ideal : Cert.quiescent_KernelPostRecIdeal (hKernelPostRecIdeal := Cert.KernelPostRecIdeal.Gen.facts) :=
  fun m ρ _ => Cert.KernelPostRecIdeal.Gen.frame m ρ

theorem frame_ref : Cert.quiescent_ReferencePostRecIdeal (hReferencePostRecIdeal := Cert.ReferencePostRecIdeal.Gen.facts) :=
  fun m ρ _ =>
    (θ_run Cert.ReferencePostRecIdeal.defs _ _).mono (fun r h => ⟨fun c => (h c).2, sem_eq_zero_of_no_sems (by decide) r.2⟩)
      (Cert.ReferencePostRecIdeal.Value.run (F := Ideal) m ρ)

/-- The kernel and the reference end with equal results. -/
theorem value : Cert.algebraic_KernelPostRecIdeal_ReferencePostRecIdeal (hKernelPostRecIdeal := Cert.KernelPostRecIdeal.Gen.facts)
    (hReferencePostRecIdeal := Cert.ReferencePostRecIdeal.Gen.facts) := by
  intro m ρ m' ρ' _ hag
  refine ⟨fun c => RecValue.result m c, RecValue.run m ρ, (θ_run _ _ _).mono (fun _ h c => ⟨(h c).1.trans ?_, (h c).2⟩)
    (Cert.ReferencePostRecIdeal.Value.run (F := Ideal) m' ρ')⟩
  obtain ⟨h0, h1, h2, h3, h4, h5, h6, h7, h8⟩ := hag c
  refine (Cert.ReferencePostRecIdeal.Read.val_main_v40_eq m' c).trans ?_
  rw [h0, h1, h2, h3, h4, h5, h6, h7, h8]
  exact RecRef.v40_eq _ _ _ _ _ _ _ _ _

end Cert.Proof.ClaimRec
-- ==== Proof.RecInFn.lean ====
/-
  A recurrent layer's input projections as functions of rows: a normed row times a block of columns, `silu`, and the log of a
  forget gate that stays above a lower bound.
-/
module

public import proofs.«01_k».proof.Proof.RecFn
public import proofs.«01_k».proof.Proof.Softmax
public import Idealize.ShloMosaic.Lib.Pointwise
public import Idealize.ShloMosaic.Lib.Routing.OpsOne

@[expose] public section

noncomputable section

namespace Cert.Proof.RecInFn

open Idealize.ShloMosaic Cert.Proof.PostFn Cert.Proof.RecFn Cert.Proof.Softmax

/-- Column `e` of block `j` of the input projection. -/
def col (j : Fin 5) (e : Fin 1024) : Fin 5120 := ⟨1024 * j.val + e.val, by have := j.isLt; have := e.isLt; omega⟩

/-- A row normed and multiplied by block `j` of the projection. -/
def line (h nw : Fin 1024 → EReal) (W : Fin 1024 → Fin 5120 → EReal) (j : Fin 5) (e : Fin 1024) : EReal :=
  ∑ x, normed h nw x * W x (col j e)

/-- `z` times its logistic. -/
def silu (z : EReal) : EReal := z * Ideal.logistic z

/-- The greatest entry of a column of the bounds' table. -/
def colMax (t : Fin 4 → EReal) : EReal := Finset.univ.fold max ⊥ t

/-- Entry `k` of the column's softmax. -/
def chance (t : Fin 4 → EReal) (k : Fin 4) : EReal :=
  Ideal.div (Ideal.exp (t k - colMax t)) (∑ l, Ideal.exp (t l - colMax t))

/-- The fourth layer's lower bound: the softmax summed over the layers after the first, up to the fourth. -/
def lower (t : Fin 4 → EReal) : EReal := ∑ k : Fin 3, chance t ⟨1 + k.val, by have := k.isLt; omega⟩

/-- The log of the forget gate above that bound. -/
def forget (t : Fin 4 → EReal) (z : EReal) : EReal := Ideal.log (lower t + (1 - lower t) * Ideal.logistic z)

/-- An entry less the column's greatest has a real exponential that is not negative, whatever the entries. -/
theorem exp_real (t : Fin 4 → EReal) (k : Fin 4) : ∃ e : ℝ, 0 ≤ e ∧ Ideal.exp (t k - colMax t) = e := by
  have hk : t k ≤ colMax t := (Finset.le_fold_max _).2 (.inr ⟨k, Finset.mem_univ _, le_rfl⟩)
  generalize colMax t = M at hk
  induction M with
  | bot => exact ⟨0, le_rfl, by rw [le_bot_iff.1 hk, EReal.bot_sub]; rfl⟩
  | coe r => exact exp_sub_real _ (ne_of_lt (lt_of_le_of_lt hk (EReal.coe_lt_top r))) r
  | top => exact ⟨0, le_rfl, by rw [sub_eq_add_neg, EReal.neg_top, EReal.add_bot]; rfl⟩

/-- The softmax's entries are all minus infinity, or all real. -/
theorem chance_cases (t : Fin 4 → EReal) : (∀ k, chance t k = ⊥) ∨ ∃ p : Fin 4 → ℝ, ∀ k, chance t k = p k := by
  choose e he hee using exp_real t
  have hs : ∑ l, Ideal.exp (t l - colMax t) = ((∑ l, e l : ℝ) : EReal) := by
    rw [coe_sum]
    exact Finset.sum_congr rfl fun l _ => hee l
  have hc : ∀ k, chance t k = Ideal.div (e k) ((∑ l, e l : ℝ) : EReal) := fun k => by rw [chance, hs, hee]
  by_cases hd : ∑ l, e l = 0
  · have h0 : ∀ k, e k = 0 := fun k => (Finset.sum_eq_zero_iff_of_nonneg fun l _ => he l).1 hd k (Finset.mem_univ k)
    refine .inl fun k => ?_
    rw [hc, hd, h0]
    simp [Ideal.div]
  · refine .inr ⟨fun k => e k * (∑ l, e l)⁻¹, fun k => ?_⟩
    rw [hc, Ideal.div, if_neg (by exact_mod_cast hd), ← EReal.coe_inv, ← EReal.coe_mul]

/-- The softmax summed up to the fourth layer, less its first entry, is the bound. -/
theorem lower_eq (t : Fin 4 → EReal) : chance t 0 + chance t 1 + chance t 2 + chance t 3 - chance t 0 = lower t := by
  have hl : lower t = chance t 1 + chance t 2 + chance t 3 := by
    unfold lower
    rw [Fin.sum_univ_three]
    rfl
  rw [hl]
  rcases chance_cases t with hb | ⟨p, hr⟩
  · simp [hb]
  · simp only [hr, ← EReal.coe_add, ← EReal.coe_sub]
    congr 1
    ring

/-- The second layer's gate: its lower bound is the softmax's second entry. -/
def forgetFirst (t : Fin 4 → EReal) (z : EReal) : EReal := Ideal.log (chance t 1 + (1 - chance t 1) * Ideal.logistic z)

/-- The softmax summed up to the second layer, less its first entry, is that entry. -/
theorem lowerFirst_eq (t : Fin 4 → EReal) : chance t 0 + chance t 1 - chance t 0 = chance t 1 := by
  rcases chance_cases t with hb | ⟨p, hr⟩
  · simp [hb]
  · simp only [hr, ← EReal.coe_add, ← EReal.coe_sub]
    congr 1
    ring

/-- Adding up four terms one after another. -/
theorem foldl_four {N : ℕ} (G : Fin N → EReal) (g : ℕ → EReal) (hG : ∀ n, G n = g n.val) (hN : N = 4) (v : EReal) :
    (List.finRange N).foldl (fun r n => r + G n) v = v + g 0 + g 1 + g 2 + g 3 := by
  subst hN
  rw [show G = fun n => g n.val from funext hG]
  rfl

/-- A running sum down four rows, at row `k`: the four window positions, those above the array holding the initial value. -/
theorem running_at (x : (⟨2, ![4, 1024]⟩ : Shape).Idx → EReal) (v : EReal)
    (h : (⟨2, ![4, 1024]⟩ : Shape).ReduceWindows (![4, 1] : Fin 2 → ℕ) ![1, 1] ![3, 0] ![0, 0] ⟨2, ![4, 1024]⟩) (k : Fin 4) (e : Fin 1024) :
    Ideal.hostReduceWindowAdd ![4, 1] ![1, 1] ![3, 0] ![0, 0] h x v (ix2 k e)
      = v + (if hn : 3 ≤ k.val + 0 then x (ix2 ⟨k.val + 0 - 3, by have := k.isLt; omega⟩ e) else v)
          + (if hn : 3 ≤ k.val + 1 then x (ix2 ⟨k.val + 1 - 3, by have := k.isLt; omega⟩ e) else v)
          + (if hn : 3 ≤ k.val + 2 then x (ix2 ⟨k.val + 2 - 3, by have := k.isLt; omega⟩ e) else v)
          + (if hn : 3 ≤ k.val + 3 then x (ix2 ⟨k.val + 3 - 3, by have := k.isLt; omega⟩ e) else v) := by
  unfold Ideal.hostReduceWindowAdd Host.reduceWindow
  have hk := k.isLt
  have he := e.isLt
  refine (foldl_four (N := (Routing.shape2 4 1).numel) _ (fun n => if hn : 3 ≤ k.val + n ∧ n < 4 then x (ix2 ⟨k.val + n - 3, by omega⟩ e) else v) (fun n => ?_) (Routing.numel_col 4) v).trans ?_
  · have hw0 : ((Routing.shape2 4 1).rowMajor.symm n 0).val = n.val := by rw [Routing.symm_col]; rfl
    have hw1 : ((Routing.shape2 4 1).rowMajor.symm n 1).val = 0 := by rw [Routing.symm_col]; rfl
    have hn : n.val < 4 := (n.cast (Routing.numel_col _)).isLt
    dsimp only
    split
    · next hin =>
      have h0 := hin 0
      change 3 ≤ k.val * 1 + ((Routing.shape2 4 1).rowMajor.symm n 0).val
        ∧ k.val * 1 + ((Routing.shape2 4 1).rowMajor.symm n 0).val - 3 < 4 at h0
      rw [hw0] at h0
      rw [dif_pos (by omega)]
      refine congrArg x (eq_ix2 _ _ _ ?_ ?_)
      · show k.val * 1 + ((Routing.shape2 4 1).rowMajor.symm n 0).val - 3 = k.val + n.val - 3
        omega
      · show e.val * 1 + ((Routing.shape2 4 1).rowMajor.symm n 1).val - 0 = e.val
        omega
    · next hin =>
      rw [dif_neg fun hle => hin fun a => by
        match a with
        | ⟨0, _⟩ =>
          show 3 ≤ k.val * 1 + ((Routing.shape2 4 1).rowMajor.symm n 0).val
            ∧ k.val * 1 + ((Routing.shape2 4 1).rowMajor.symm n 0).val - 3 < 4
          omega
        | ⟨1, _⟩ =>
          show 0 ≤ e.val * 1 + ((Routing.shape2 4 1).rowMajor.symm n 1).val
            ∧ e.val * 1 + ((Routing.shape2 4 1).rowMajor.symm n 1).val - 0 < 1024
          omega]
  · match k with
    | 0 => rfl
    | 1 => rfl
    | 2 => rfl
    | 3 => rfl

end Cert.Proof.RecInFn
-- ==== Proof.RecInBlock.lean ====
/-
  The blocks the recurrent input projections' kernel writes at a grid point, read at a row and a column: functions of the rows
  of its input blocks.
-/
module

public import proofs.«01_k».proof.Proof.RecInFn
public import proofs.«01_k».proof.Proof.AttnPay
public import proofs.«01_k».proof.Proof.Gen.KernelRecInIdeal.Value
public import Idealize.ShloMosaic.Lib.Pipeline.ValueKit

@[expose] public section

set_option maxRecDepth 16384

noncomputable section

namespace Cert.Proof.RecInBlock

open Idealize.ShloMosaic Idealize.ShloMosaic.TcCoe Idealize.SL.Sem Cert.KernelRecInIdeal Cert.KernelRecInIdeal.Gen
open Cert.Proof.PostFn Cert.Proof.RecFn Cert.Proof.RecInFn

/-- The normed rows. -/
theorem pay6_at (h : FVec Ideal S1x512x1024 .f32) (w : FVec Ideal S1x1024 .f32) (r : Fin 512) (e : Fin 1024) :
    k0_pay6 (F := Ideal) h w (ix2 r e) = normed (fun e => h (ix3 0 r e)) (fun e => w (ix2 0 e)) e := by
  unfold normed scale
  pointwise [k0_pay6]

theorem pay8_at (h : FVec Ideal S1x512x1024 .f32) (w : FVec Ideal S1x1024 .f32) (W : FVec Ideal S1024x1024 .bf16) (r : Fin 512)
    (e : Fin 1024) : k0_pay8 (F := Ideal) h w W (ix2 r e) = ∑ x, k0_pay6 (F := Ideal) h w (ix2 r x) * W (ix2 x e) := by
  pointwise [k0_pay8]

theorem pay9_at (h : FVec Ideal S1x512x1024 .f32) (w : FVec Ideal S1x1024 .f32) (W : FVec Ideal S1024x1024 .bf16) (r : Fin 512)
    (e : Fin 1024) : k0_pay9 (F := Ideal) h w W (ix2 r e) = ∑ x, k0_pay6 (F := Ideal) h w (ix2 r x) * W (ix2 x e) := by
  pointwise [k0_pay9]

theorem pay7_at (h : FVec Ideal S1x512x1024 .f32) (w : FVec Ideal S1x1024 .f32) (W : FVec Ideal S1024x1024 .bf16) (r : Fin 512)
    (e : Fin 1024) : k0_pay7 (F := Ideal) h w W (ix2 r e) = silu (∑ x, k0_pay6 (F := Ideal) h w (ix2 r x) * W (ix2 x e)) := by
  unfold silu
  pointwise [k0_pay7]

theorem pay14_at (n : FVec Ideal S512x1024 .bf16) (W : FVec Ideal S1024x1024 .bf16) (r : Fin 512) (e : Fin 1024) :
    k0_pay14 (F := Ideal) n W (ix2 r e) = silu (∑ x, n (ix2 r x) * W (ix2 x e)) := by
  unfold silu
  pointwise [k0_pay14]

/-- The exponentials of the table's entries less their column's greatest. -/
theorem pay10_at (t : FVec Ideal S4x1024 .f32) (k : Fin 4) (e : Fin 1024) :
    k0_pay10 (F := Ideal) t (ix2 k e) = Ideal.exp (t (ix2 k e) - colMax (fun k => t (ix2 k e))) := by
  unfold colMax
  rw [← AttnPay.neg_inf]
  pointwise [k0_pay10]

/-- Their columns' sums. -/
theorem pay11_at (t : FVec Ideal S4x1024 .f32) (k : Fin 4) (e : Fin 1024) :
    k0_pay11 (F := Ideal) t (ix2 k e) = ∑ l : Fin 4, k0_pay10 (F := Ideal) t (ix2 l e) := by
  pointwise [k0_pay11]

theorem one_bits : Ideal.ofBits FTy.f32 1065353216#32 = 1 := by
  pointwise []

/-- The log of the gate above the bound, from the quotients. -/
theorem pay12_at (z : FVec Ideal S512x1024 .f32) (a d : FVec Ideal S4x1024 .f32) (r : Fin 512) (e : Fin 1024) :
    k0_pay12 (F := Ideal) z a d (ix2 r e)
      = Ideal.log ((∑ k : Fin 3, Ideal.div (a (ix2 ⟨1 + k.val, by have := k.isLt; omega⟩ e)) (d (ix2 ⟨1 + k.val, by have := k.isLt; omega⟩ e)))
        + (1 - ∑ k : Fin 3, Ideal.div (a (ix2 ⟨1 + k.val, by have := k.isLt; omega⟩ e)) (d (ix2 ⟨1 + k.val, by have := k.isLt; omega⟩ e)))
          * Ideal.logistic (z (ix2 r e))) := by
  pointwise [k0_pay12]

/-- The second table's gate is the first's arithmetic on its own table and projection. -/
theorem pay13_eq (n : FVec Ideal S512x1024 .bf16) (W : FVec Ideal S1024x1024 .bf16) (t : FVec Ideal S4x1024 .f32) :
    k0_pay13 (F := Ideal) n W t = k0_pay12 (F := Ideal)
      (matmul dot_S512x1024_S1024x1024_S512x1024_1_0_0_1_n_n none n (shapeCast S1024x1024 W shapeCasts_S1024x1024_S1024x1024)
        (constant S512x1024 .f32 0x00000000#32)) (k0_pay10 t) (k0_pay11 t) := by
  unfold k0_pay13 k0_pay12 k0_pay11 k0_pay10
  rfl

theorem dot_at (n : FVec Ideal S512x1024 .bf16) (W : FVec Ideal S1024x1024 .bf16) (r : Fin 512) (e : Fin 1024) :
    matmul (F := Ideal) dot_S512x1024_S1024x1024_S512x1024_1_0_0_1_n_n none n (shapeCast S1024x1024 W shapeCasts_S1024x1024_S1024x1024)
        (constant S512x1024 .f32 0x00000000#32) (ix2 r e) = ∑ x, n (ix2 r x) * W (ix2 x e) := by
  pointwise []

/-- The gate of a table and a projection's entry. -/
theorem gate_at (z : FVec Ideal S512x1024 .f32) (t : FVec Ideal S4x1024 .f32) (r : Fin 512) (e : Fin 1024) :
    k0_pay12 (F := Ideal) z (k0_pay10 t) (k0_pay11 t) (ix2 r e) = forget (fun k => t (ix2 k e)) (z (ix2 r e)) := by
  rw [pay12_at]
  simp only [pay11_at, pay10_at]
  rfl

theorem pay1_at (x : FVec Ideal S512x1024 .f32) (r : Fin 512) (e : Fin 1024) :
    k0_pay1 (F := Ideal) (k0_pay15 x) (ix3 0 r e) = x (ix2 r e) := by
  pointwise [k0_pay1, k0_pay15]

theorem pay2_at (x : FVec Ideal S512x1024 .f32) (r : Fin 512) (e : Fin 1024) :
    k0_pay2 (F := Ideal) x (ix3 0 r e) = x (ix2 r e) := by
  pointwise [k0_pay2]

theorem pay3_at (x : FVec Ideal S512x1024 .f32) (r : Fin 512) (e : Fin 1024) :
    k0_pay3 (F := Ideal) x (ix3 0 r e) = x (ix2 r e) := by
  pointwise [k0_pay3]

theorem pay4_at (x : FVec Ideal S512x1024 .f32) (r : Fin 512) (e : Fin 1024) :
    k0_pay4 (F := Ideal) x (ix3 0 r e) = x (ix2 r e) := by
  pointwise [k0_pay4]

theorem pay5_at (x : FVec Ideal S512x1024 .f32) (r : Fin 512) (e : Fin 1024) :
    k0_pay5 (F := Ideal) x (ix3 0 r e) = x (ix2 r e) := by
  pointwise [k0_pay5]

/-- The whole of the layer input's block, loaded. -/
abbrev ldh (x : FVec Ideal S1x512x1024 .f32) : FVec Ideal S1x512x1024 .f32 :=
  View.ld (Val := Elt Ideal) (e' := .f32) x (Rect.unit ![0, 0, 0] ![1, 512, 1024] inb_S1x512x1024_S1x512x1024_0_0_0)

/-- The whole norm's row, loaded. -/
abbrev ldn (x : FVec Ideal S1x1024 .f32) : FVec Ideal S1x1024 .f32 :=
  View.ld (Val := Elt Ideal) (e' := .f32) x (Rect.unit ![0, 0] ![1, 1024] inb_S1x1024_S1x1024_0_0)

/-- The whole bounds' table, loaded. -/
abbrev ldt (x : FVec Ideal S4x1024 .f32) : FVec Ideal S4x1024 .f32 :=
  View.ld (Val := Elt Ideal) (e' := .f32) x (Rect.unit ![0, 0] ![4, 1024] inb_S4x1024_S4x1024_0_0)

/-- The columns of the projection from `o` on, loaded. -/
abbrev ldc (x : FVec Ideal S1024x5120 .bf16) (o : ℕ) (inb : ∀ a : Fin 2, (![0, o] : Fin 2 → ℕ) a + (![1024, 1024] : Fin 2 → ℕ) a ≤ S1024x5120.size a) : FVec Ideal S1024x1024 .bf16 :=
  View.ld (Val := Elt Ideal) (e' := .bf16) x (Rect.unit (s := S1024x5120) ![0, o] ![1024, 1024] inb)

theorem ldh_eq (x : FVec Ideal S1x512x1024 .f32) : ldh x = x :=
  View.ld_unit_zero (by funext i; fin_cases i <;> rfl) _ _

theorem ldn_eq (x : FVec Ideal S1x1024 .f32) : ldn x = x :=
  View.ld_unit_zero (by funext i; fin_cases i <;> rfl) _ _

theorem ldt_eq (x : FVec Ideal S4x1024 .f32) : ldt x = x :=
  View.ld_unit_zero (by funext i; fin_cases i <;> rfl) _ _

/-- The columns loaded, at an index. -/
theorem ldc_at (W : FVec Ideal S1024x5120 .bf16) (j : Fin 5) (o : ℕ) (ho : o = 1024 * j.val) (inb) (x u : Fin 1024) :
    ldc W o inb (ix2 x u) = W (ix2 x (col j u)) :=
  congrArg W (eq_ix2 _ _ _ (by show 0 + 1 * x.val = x.val; omega) (by show o + 1 * u.val = 1024 * j.val + u.val; omega))

/-- A block of the projection, from the loads. -/
theorem line_at (h : FVec Ideal S1x512x1024 .f32) (nw : FVec Ideal S1x1024 .f32) (W : FVec Ideal S1024x5120 .bf16) (j : Fin 5)
    (o : ℕ) (ho : o = 1024 * j.val) (inb) (r : Fin 512) (e : Fin 1024) :
    ∑ x, k0_pay6 (F := Ideal) (ldh h) (ldn nw) (ix2 r x) * ldc W o inb (ix2 x e)
      = line (fun e => h (ix3 0 r e)) (fun e => nw (ix2 0 e)) (fun x u => W (ix2 x u)) j e := by
  rw [ldh_eq, ldn_eq]
  exact Finset.sum_congr rfl fun x _ => congrArg₂ _ (pay6_at h nw r x) (ldc_at W j o ho inb x e)

theorem hz3 : (![0, 0, 0] : Fin 3 → ℕ) = fun _ => 0 := by funext i; fin_cases i <;> rfl

/-- The first result's block. -/
theorem out5_at (h : FVec Ideal S1x512x1024 .f32) (nw : FVec Ideal S1x1024 .f32) (W : FVec Ideal S1024x5120 .bf16)
    (f b : FVec Ideal S4x1024 .f32) (r : Fin 512) (e : Fin 1024) :
    out0_5 (F := Ideal) h nw W f b (ix3 0 r e)
      = silu (line (fun e => h (ix3 0 r e)) (fun e => nw (ix2 0 e)) (fun x u => W (ix2 x u)) 0 e) := by
  unfold out0_5
  rw [View.canon_unit_zero hz3]
  rw [pay1_at, pay7_at]
  exact congrArg silu (line_at h nw W 0 0 rfl _ r e)

/-- The second result's block. -/
theorem out6_at (h : FVec Ideal S1x512x1024 .f32) (nw : FVec Ideal S1x1024 .f32) (W : FVec Ideal S1024x5120 .bf16)
    (f b : FVec Ideal S4x1024 .f32) (r : Fin 512) (e : Fin 1024) :
    out0_6 (F := Ideal) h nw W f b (ix3 0 r e)
      = line (fun e => h (ix3 0 r e)) (fun e => nw (ix2 0 e)) (fun x u => W (ix2 x u)) 1 e := by
  unfold out0_6
  rw [View.canon_unit_zero hz3]
  rw [pay2_at, pay8_at]
  exact line_at h nw W 1 1024 rfl _ r e

/-- The third result's block. -/
theorem out7_at (h : FVec Ideal S1x512x1024 .f32) (nw : FVec Ideal S1x1024 .f32) (W : FVec Ideal S1024x5120 .bf16)
    (f b : FVec Ideal S4x1024 .f32) (r : Fin 512) (e : Fin 1024) :
    out0_7 (F := Ideal) h nw W f b (ix3 0 r e)
      = forget (fun k => f (ix2 k e)) (line (fun e => h (ix3 0 r e)) (fun e => nw (ix2 0 e)) (fun x u => W (ix2 x u)) 2 e) := by
  unfold out0_7
  rw [View.canon_unit_zero hz3]
  rw [pay3_at, gate_at, pay9_at]
  exact congrArg₂ forget (congrArg (fun (t : FVec Ideal S4x1024 .f32) k => t (ix2 k e)) (ldt_eq f)) (line_at h nw W 2 2048 rfl _ r e)

/-- The fourth result's block. -/
theorem out8_at (h : FVec Ideal S1x512x1024 .f32) (nw : FVec Ideal S1x1024 .f32) (W : FVec Ideal S1024x5120 .bf16)
    (f b : FVec Ideal S4x1024 .f32) (r : Fin 512) (e : Fin 1024) :
    out0_8 (F := Ideal) h nw W f b (ix3 0 r e)
      = forget (fun k => b (ix2 k e)) (line (fun e => h (ix3 0 r e)) (fun e => nw (ix2 0 e)) (fun x u => W (ix2 x u)) 3 e) := by
  unfold out0_8 k0_pay16
  rw [View.canon_unit_zero hz3]
  rw [pay4_at, pay13_eq, gate_at, dot_at]
  exact congrArg₂ forget (congrArg (fun (t : FVec Ideal S4x1024 .f32) k => t (ix2 k e)) (ldt_eq b)) (line_at h nw W 3 3072 rfl _ r e)

/-- The fifth result's block. -/
theorem out9_at (h : FVec Ideal S1x512x1024 .f32) (nw : FVec Ideal S1x1024 .f32) (W : FVec Ideal S1024x5120 .bf16)
    (f b : FVec Ideal S4x1024 .f32) (r : Fin 512) (e : Fin 1024) :
    out0_9 (F := Ideal) h nw W f b (ix3 0 r e)
      = silu (line (fun e => h (ix3 0 r e)) (fun e => nw (ix2 0 e)) (fun x u => W (ix2 x u)) 4 e) := by
  unfold out0_9 k0_pay16
  rw [View.canon_unit_zero hz3]
  rw [pay5_at, pay14_at]
  exact congrArg silu (line_at h nw W 4 4096 rfl _ r e)

variable (m : (ℓ : Loc nD τ sig) → Buf (Elt Ideal) ℓ)

/-- The norm's weights as a row. -/
theorem V_v0 (c : Dev nD) (e : Fin 1024) : V m c main_v0 (ix2 0 e) = m ((c : Thread nD τ).loc main_arg1) (ix1 e) := by
  have h : V m c main_v0 = shapeCast S1x1024 (m ((c : Thread nD τ).loc main_arg1)) shapeCasts_S1024_S1x1024 := by
    simp only [V, hostOps0]; after_results; rfl
  rw [h]
  pointwise []

/-- The projection's weights, kept. -/
theorem V_v1 (c : Dev nD) : V m c main_v1 = m ((c : Thread nD τ).loc main_arg2) := by
  simp only [V, hostOps0]; after_results; rfl

end Cert.Proof.RecInBlock
-- ==== Proof.RecInValue.lean ====
/-
  What the recurrent input projections' kernel leaves in its five result arrays, at the rows that exist.
-/
module

public import proofs.«01_k».proof.Proof.RecInBlock

@[expose] public section

set_option maxRecDepth 16384

noncomputable section

namespace Cert.Proof.RecInValue

open Idealize.ShloMosaic Idealize.ShloMosaic.TcCoe Idealize.SL.Sem Cert.KernelRecInIdeal Cert.KernelRecInIdeal.Gen
open Idealize.ShloMosaic.Pipeline (Dat)
open Cert.Proof.PostFn Cert.Proof.RecFn Cert.Proof.RecInFn Cert.Proof.RecInBlock

variable (m : (ℓ : Loc nD τ sig) → Buf (Elt Ideal) ℓ) (ρ : Dev nD → PrngReg)

/-- The batch of a point. -/
def pb (t : Fin cfg0.N) : Fin 8 := grid0.coords t 0

/-- Row `r` of a point's tile. -/
def row (t : Fin cfg0.N) (r : Fin 512) : Fin 8192 :=
  ⟨512 * (grid0.coords t 1).val + r.val, by have h : (grid0.coords t 1).val < 16 := (grid0.coords t 1).isLt; have := r.isLt; omega⟩

theorem idx0 : ∀ t : Fin grid0.N, win0_0.index t 0 = (grid0.coords t 0).val ∧ win0_0.index t 1 = (grid0.coords t 1).val
    ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = (grid0.coords t 0).val ∧ win0_5.index t 1 = (grid0.coords t 1).val
    ∧ win0_5.index t 2 = 0 ∧ win0_5.xsize (grid0.coords t) 0 = 1 ∧ win0_5.xsize (grid0.coords t) 1 = 512
    ∧ win0_5.xsize (grid0.coords t) 2 = 1024 := by decide +kernel
theorem idx6 : ∀ t : Fin grid0.N, win0_6.index t 0 = (grid0.coords t 0).val ∧ win0_6.index t 1 = (grid0.coords t 1).val
    ∧ win0_6.index t 2 = 0 ∧ win0_6.xsize (grid0.coords t) 0 = 1 ∧ win0_6.xsize (grid0.coords t) 1 = 512
    ∧ win0_6.xsize (grid0.coords t) 2 = 1024 := by decide +kernel
theorem idx7 : ∀ t : Fin grid0.N, win0_7.index t 0 = (grid0.coords t 0).val ∧ win0_7.index t 1 = (grid0.coords t 1).val
    ∧ win0_7.index t 2 = 0 ∧ win0_7.xsize (grid0.coords t) 0 = 1 ∧ win0_7.xsize (grid0.coords t) 1 = 512
    ∧ win0_7.xsize (grid0.coords t) 2 = 1024 := by decide +kernel
theorem idx8 : ∀ t : Fin grid0.N, win0_8.index t 0 = (grid0.coords t 0).val ∧ win0_8.index t 1 = (grid0.coords t 1).val
    ∧ win0_8.index t 2 = 0 ∧ win0_8.xsize (grid0.coords t) 0 = 1 ∧ win0_8.xsize (grid0.coords t) 1 = 512
    ∧ win0_8.xsize (grid0.coords t) 2 = 1024 := by decide +kernel
theorem idx9 : ∀ t : Fin grid0.N, win0_9.index t 0 = (grid0.coords t 0).val ∧ win0_9.index t 1 = (grid0.coords t 1).val
    ∧ win0_9.index t 2 = 0 ∧ win0_9.xsize (grid0.coords t) 0 = 1 ∧ win0_9.xsize (grid0.coords t) 1 = 512
    ∧ win0_9.xsize (grid0.coords t) 2 = 1024 := by decide +kernel

theorem blk0 (c : Dev nD) (t : Fin cfg0.N) (r : Fin 512) (e : Fin 1024) :
    iblk m c 0 t (ix3 0 r e) = m ((c : Thread nD τ).loc main_arg0) (ix3 (pb t) (row t r) e) := by
  have h := idx0 t
  refine Eq.trans ?_ (congrFun (V_main_arg0 m c) _)
  exact congrArg (V m c main_arg0) (eq_ix3 ((win0_0.rect t).emb (ix3 0 r e)) _ _ _
    (by show win0_0.index t 0 * 1 + 1 * 0 = (grid0.coords t 0).val; omega)
    (by show win0_0.index t 1 * 512 + 1 * r.val = 512 * (grid0.coords t 1).val + r.val; omega)
    (by show win0_0.index t 2 * 1024 + 1 * e.val = e.val; omega))

theorem blk1 (c : Dev nD) (t : Fin cfg0.N) (e : Fin 1024) :
    iblk m c 1 t (ix2 0 e) = m ((c : Thread nD τ).loc main_arg1) (ix1 e) := by
  have h := idx1 t
  refine Eq.trans ?_ (V_v0 m c e)
  exact congrArg (V m c main_v0) (eq_ix2 ((win0_1.rect t).emb (ix2 0 e)) _ _
    (by show win0_1.index t 0 * 1 + 1 * 0 = 0; omega)
    (by show win0_1.index t 1 * 1024 + 1 * e.val = e.val; omega))

theorem blk2 (c : Dev nD) (t : Fin cfg0.N) (x : Fin 1024) (u : Fin 5120) :
    iblk m c 2 t (ix2 x u) = m ((c : Thread nD τ).loc main_arg2) (ix2 x u) := by
  have h := idx2 t
  refine Eq.trans ?_ (congrFun (V_v1 m c) _)
  exact congrArg (V m c main_v1) (eq_ix2 ((win0_2.rect t).emb (ix2 x u)) _ _
    (by show win0_2.index t 0 * 1024 + 1 * x.val = x.val; omega)
    (by show win0_2.index t 1 * 5120 + 1 * u.val = u.val; omega))

theorem blk3 (c : Dev nD) (t : Fin cfg0.N) (k : Fin 4) (e : Fin 1024) :
    iblk m c 3 t (ix2 k e) = m ((c : Thread nD τ).loc main_arg3) (ix2 k e) := by
  have h := idx3 t
  refine Eq.trans ?_ (congrFun (V_main_arg3 m c) _)
  exact congrArg (V m c main_arg3) (eq_ix2 ((win0_3.rect t).emb (ix2 k e)) _ _
    (by show win0_3.index t 0 * 4 + 1 * k.val = k.val; omega)
    (by show win0_3.index t 1 * 1024 + 1 * e.val = e.val; omega))

theorem blk4 (c : Dev nD) (t : Fin cfg0.N) (k : Fin 4) (e : Fin 1024) :
    iblk m c 4 t (ix2 k e) = m ((c : Thread nD τ).loc main_arg4) (ix2 k e) := by
  have h := idx4 t
  refine Eq.trans ?_ (congrFun (V_main_arg4 m c) _)
  exact congrArg (V m c main_arg4) (eq_ix2 ((win0_4.rect t).emb (ix2 k e)) _ _
    (by show win0_4.index t 0 * 4 + 1 * k.val = k.val; omega)
    (by show win0_4.index t 1 * 1024 + 1 * e.val = e.val; omega))

/-- Block `j` of the projection of a row of the arguments. -/
abbrev place (c : Dev nD) (b : Fin 8) (r : Fin 8192) (e : Fin 1024) (j : Fin 5) : EReal :=
  line (fun e => m ((c : Thread nD τ).loc main_arg0) (ix3 b r e)) (fun e => m ((c : Thread nD τ).loc main_arg1) (ix1 e))
    (fun x u => m ((c : Thread nD τ).loc main_arg2) (ix2 x u)) j e

theorem coords_of : ∀ (b : Fin 8) (n : Fin 16), ∃ t : Fin grid0.N,
    (grid0.coords t 0).val = b.val ∧ (grid0.coords t 1).val = n.val := by decide +kernel

/-- Every batch and row is a point's batch and a row of its tile. -/
theorem reach (b : Fin 8) (r : Fin 8192) : ∃ (t : Fin cfg0.N) (s : Fin 512), pb t = b ∧ row t s = r := by
  obtain ⟨t, h0, h1⟩ := coords_of b ⟨r.val / 512, by have := r.isLt; omega⟩
  refine ⟨t, ⟨r.val % 512, Nat.mod_lt _ (by decide)⟩, Fin.ext h0, Fin.ext ?_⟩
  show 512 * (grid0.coords t 1).val + r.val % 512 = r.val
  have h : (grid0.coords t 1).val = r.val / 512 := h1
  omega

/-- An array whose tile at a point is `o` has `o`'s rows there: the first result's window. -/
theorem tile5 (A : S8x8256x1024.Idx → EReal) (o : S1x512x1024.Idx → EReal) (t : Fin cfg0.N)
    (hb : View.read (Elt Ideal) ((cfg0.win 5).blk t).view A = (cfg0.win 5).cut (grid0.coords t) o) (s : Fin 512) (e : Fin 1024) :
    A (ix3 (pb t) (longRow (row t s)) e) = o (ix3 0 s e) := by
  obtain ⟨h0, h1, h2, x0, x1, x2⟩ := idx5 t
  have hs := s.isLt
  have he := e.isLt
  let y : ((cfg0.win 5).xblock (grid0.coords t)).Idx := fun a => match a with
    | ⟨0, _⟩ => ⟨0, by show 0 < win0_5.xsize (grid0.coords t) 0; omega⟩
    | ⟨1, _⟩ => ⟨s.val, by show s.val < win0_5.xsize (grid0.coords t) 1; omega⟩
    | ⟨2, _⟩ => ⟨e.val, by show e.val < win0_5.xsize (grid0.coords t) 2; omega⟩
  refine Eq.trans ?_ ((congrFun hb y).trans (congrArg o (eq_ix3 (x := 1) (y := 512) (z := 1024) _ 0 s e rfl rfl rfl)))
  refine congrArg A (eq_ix3 ((win0_5.rect t).emb y) _ _ _ ?_ ?_ ?_).symm
  · show win0_5.index t 0 * 1 + 1 * 0 = (grid0.coords t 0).val
    omega
  · show win0_5.index t 1 * 512 + 1 * s.val = 512 * (grid0.coords t 1).val + s.val
    omega
  · show win0_5.index t 2 * 1024 + 1 * e.val = e.val
    omega

/-- An array whose tile at a point is `o` has `o`'s rows there: the second result's window. -/
theorem tile6 (A : S8x8256x1024.Idx → EReal) (o : S1x512x1024.Idx → EReal) (t : Fin cfg0.N)
    (hb : View.read (Elt Ideal) ((cfg0.win 6).blk t).view A = (cfg0.win 6).cut (grid0.coords t) o) (s : Fin 512) (e : Fin 1024) :
    A (ix3 (pb t) (longRow (row t s)) e) = o (ix3 0 s e) := by
  obtain ⟨h0, h1, h2, x0, x1, x2⟩ := idx6 t
  have hs := s.isLt
  have he := e.isLt
  let y : ((cfg0.win 6).xblock (grid0.coords t)).Idx := fun a => match a with
    | ⟨0, _⟩ => ⟨0, by show 0 < win0_6.xsize (grid0.coords t) 0; omega⟩
    | ⟨1, _⟩ => ⟨s.val, by show s.val < win0_6.xsize (grid0.coords t) 1; omega⟩
    | ⟨2, _⟩ => ⟨e.val, by show e.val < win0_6.xsize (grid0.coords t) 2; omega⟩
  refine Eq.trans ?_ ((congrFun hb y).trans (congrArg o (eq_ix3 (x := 1) (y := 512) (z := 1024) _ 0 s e rfl rfl rfl)))
  refine congrArg A (eq_ix3 ((win0_6.rect t).emb y) _ _ _ ?_ ?_ ?_).symm
  · show win0_6.index t 0 * 1 + 1 * 0 = (grid0.coords t 0).val
    omega
  · show win0_6.index t 1 * 512 + 1 * s.val = 512 * (grid0.coords t 1).val + s.val
    omega
  · show win0_6.index t 2 * 1024 + 1 * e.val = e.val
    omega

/-- An array whose tile at a point is `o` has `o`'s rows there: the third result's window. -/
theorem tile7 (A : S8x8256x1024.Idx → EReal) (o : S1x512x1024.Idx → EReal) (t : Fin cfg0.N)
    (hb : View.read (Elt Ideal) ((cfg0.win 7).blk t).view A = (cfg0.win 7).cut (grid0.coords t) o) (s : Fin 512) (e : Fin 1024) :
    A (ix3 (pb t) (longRow (row t s)) e) = o (ix3 0 s e) := by
  obtain ⟨h0, h1, h2, x0, x1, x2⟩ := idx7 t
  have hs := s.isLt
  have he := e.isLt
  let y : ((cfg0.win 7).xblock (grid0.coords t)).Idx := fun a => match a with
    | ⟨0, _⟩ => ⟨0, by show 0 < win0_7.xsize (grid0.coords t) 0; omega⟩
    | ⟨1, _⟩ => ⟨s.val, by show s.val < win0_7.xsize (grid0.coords t) 1; omega⟩
    | ⟨2, _⟩ => ⟨e.val, by show e.val < win0_7.xsize (grid0.coords t) 2; omega⟩
  refine Eq.trans ?_ ((congrFun hb y).trans (congrArg o (eq_ix3 (x := 1) (y := 512) (z := 1024) _ 0 s e rfl rfl rfl)))
  refine congrArg A (eq_ix3 ((win0_7.rect t).emb y) _ _ _ ?_ ?_ ?_).symm
  · show win0_7.index t 0 * 1 + 1 * 0 = (grid0.coords t 0).val
    omega
  · show win0_7.index t 1 * 512 + 1 * s.val = 512 * (grid0.coords t 1).val + s.val
    omega
  · show win0_7.index t 2 * 1024 + 1 * e.val = e.val
    omega

/-- An array whose tile at a point is `o` has `o`'s rows there: the fourth result's window. -/
theorem tile8 (A : S8x8256x1024.Idx → EReal) (o : S1x512x1024.Idx → EReal) (t : Fin cfg0.N)
    (hb : View.read (Elt Ideal) ((cfg0.win 8).blk t).view A = (cfg0.win 8).cut (grid0.coords t) o) (s : Fin 512) (e : Fin 1024) :
    A (ix3 (pb t) (longRow (row t s)) e) = o (ix3 0 s e) := by
  obtain ⟨h0, h1, h2, x0, x1, x2⟩ := idx8 t
  have hs := s.isLt
  have he := e.isLt
  let y : ((cfg0.win 8).xblock (grid0.coords t)).Idx := fun a => match a with
    | ⟨0, _⟩ => ⟨0, by show 0 < win0_8.xsize (grid0.coords t) 0; omega⟩
    | ⟨1, _⟩ => ⟨s.val, by show s.val < win0_8.xsize (grid0.coords t) 1; omega⟩
    | ⟨2, _⟩ => ⟨e.val, by show e.val < win0_8.xsize (grid0.coords t) 2; omega⟩
  refine Eq.trans ?_ ((congrFun hb y).trans (congrArg o (eq_ix3 (x := 1) (y := 512) (z := 1024) _ 0 s e rfl rfl rfl)))
  refine congrArg A (eq_ix3 ((win0_8.rect t).emb y) _ _ _ ?_ ?_ ?_).symm
  · show win0_8.index t 0 * 1 + 1 * 0 = (grid0.coords t 0).val
    omega
  · show win0_8.index t 1 * 512 + 1 * s.val = 512 * (grid0.coords t 1).val + s.val
    omega
  · show win0_8.index t 2 * 1024 + 1 * e.val = e.val
    omega

/-- An array whose tile at a point is `o` has `o`'s rows there: the fifth result's window. -/
theorem tile9 (A : S8x8192x1024.Idx → EReal) (o : S1x512x1024.Idx → EReal) (t : Fin cfg0.N)
    (hb : View.read (Elt Ideal) ((cfg0.win 9).blk t).view A = (cfg0.win 9).cut (grid0.coords t) o) (s : Fin 512) (e : Fin 1024) :
    A (ix3 (pb t) (row t s) e) = o (ix3 0 s e) := by
  obtain ⟨h0, h1, h2, x0, x1, x2⟩ := idx9 t
  have hs := s.isLt
  have he := e.isLt
  let y : ((cfg0.win 9).xblock (grid0.coords t)).Idx := fun a => match a with
    | ⟨0, _⟩ => ⟨0, by show 0 < win0_9.xsize (grid0.coords t) 0; omega⟩
    | ⟨1, _⟩ => ⟨s.val, by show s.val < win0_9.xsize (grid0.coords t) 1; omega⟩
    | ⟨2, _⟩ => ⟨e.val, by show e.val < win0_9.xsize (grid0.coords t) 2; omega⟩
  refine Eq.trans ?_ ((congrFun hb y).trans (congrArg o (eq_ix3 (x := 1) (y := 512) (z := 1024) _ 0 s e rfl rfl rfl)))
  refine congrArg A (eq_ix3 ((win0_9.rect t).emb y) _ _ _ ?_ ?_ ?_).symm
  · show win0_9.index t 0 * 1 + 1 * 0 = (grid0.coords t 0).val
    omega
  · show win0_9.index t 1 * 512 + 1 * s.val = 512 * (grid0.coords t 1).val + s.val
    omega
  · show win0_9.index t 2 * 1024 + 1 * e.val = e.val
    omega

/-- The first result array. -/
theorem final5 (c : Dev nD) (b : Fin 8) (r : Fin 8192) (e : Fin 1024) :
    (dats m 0 c).arrAt 5 cfg0.N (ix3 b (longRow r) e) = silu (place m c b r e 0) := by
  obtain ⟨t, s, rfl, rfl⟩ := reach b r
  refine (tile5 _ _ t ((Value.blocks5 m c t (flush0_5 t)).trans (Value.flushed5 m c t)) s e).trans ((out5_at _ _ _ _ _ s e).trans ?_)
  simp only [blk0, blk1, blk2]

/-- The second result array. -/
theorem final6 (c : Dev nD) (b : Fin 8) (r : Fin 8192) (e : Fin 1024) :
    (dats m 0 c).arrAt 6 cfg0.N (ix3 b (longRow r) e) = place m c b r e 1 := by
  obtain ⟨t, s, rfl, rfl⟩ := reach b r
  refine (tile6 _ _ t ((Value.blocks6 m c t (flush0_6 t)).trans (Value.flushed6 m c t)) s e).trans ((out6_at _ _ _ _ _ s e).trans ?_)
  simp only [blk0, blk1, blk2]

/-- The third result array. -/
theorem final7 (c : Dev nD) (b : Fin 8) (r : Fin 8192) (e : Fin 1024) :
    (dats m 0 c).arrAt 7 cfg0.N (ix3 b (longRow r) e) = forget (fun k => m ((c : Thread nD τ).loc main_arg3) (ix2 k e)) (place m c b r e 2) := by
  obtain ⟨t, s, rfl, rfl⟩ := reach b r
  refine (tile7 _ _ t ((Value.blocks7 m c t (flush0_7 t)).trans (Value.flushed7 m c t)) s e).trans ((out7_at _ _ _ _ _ s e).trans ?_)
  simp only [blk0, blk1, blk2, blk3]

/-- The fourth result array. -/
theorem final8 (c : Dev nD) (b : Fin 8) (r : Fin 8192) (e : Fin 1024) :
    (dats m 0 c).arrAt 8 cfg0.N (ix3 b (longRow r) e) = forget (fun k => m ((c : Thread nD τ).loc main_arg4) (ix2 k e)) (place m c b r e 3) := by
  obtain ⟨t, s, rfl, rfl⟩ := reach b r
  refine (tile8 _ _ t ((Value.blocks8 m c t (flush0_8 t)).trans (Value.flushed8 m c t)) s e).trans ((out8_at _ _ _ _ _ s e).trans ?_)
  simp only [blk0, blk1, blk2, blk4]

/-- The fifth result array. -/
theorem final9 (c : Dev nD) (b : Fin 8) (r : Fin 8192) (e : Fin 1024) :
    (dats m 0 c).arrAt 9 cfg0.N (ix3 b r e) = silu (place m c b r e 4) := by
  obtain ⟨t, s, rfl, rfl⟩ := reach b r
  refine (tile9 _ _ t ((Value.blocks9 m c t (flush0_9 t)).trans (Value.flushed9 m c t)) s e).trans ((out9_at _ _ _ _ _ s e).trans ?_)
  simp only [blk0, blk1, blk2]

end Cert.Proof.RecInValue
-- ==== Proof.RecInRef.lean ====
/-
  The reference's recurrent input projections at an index: the same functions of its arguments' rows as the kernel's blocks.
-/
module

public import proofs.«01_k».proof.Proof.RecInFn
public import proofs.«01_k».proof.Proof.AttnPay
public import proofs.«01_k».proof.Proof.Gen.ReferenceRecInIdeal.Run
public import proofs.«01_k».proof.Proof.Gen.ReferenceRecInIdeal.Read
public import Idealize.ShloMosaic.Lib.KernelVsHost

@[expose] public section

set_option maxRecDepth 16384

noncomputable section

namespace Cert.Proof.RecInRef

open Idealize.ShloMosaic Cert.ReferenceRecInIdeal Cert.ReferenceRecInIdeal.Gen Cert.ReferenceRecInIdeal.Read
open Cert.Proof.PostFn Cert.Proof.RecFn Cert.Proof.RecInFn

variable (H : FVec Ideal S8x8192x1024 .f32) (nw : FVec Ideal S1024 .f32) (W : FVec Ideal S1024x5120 .f32)
  (T : FVec Ideal S4x1024 .f32) (b : Fin 8) (r : Fin 8192) (e : Fin 1024)

/-- The normed rows. -/
theorem v12_at : val_main_v12 (F := Ideal) H nw (ix3 b r e) = normed (fun e => H (ix3 b r e)) (fun e => nw (ix1 e)) e := by
  unfold normed scale
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- Block `j` of the projection of a row of the reference's arguments. -/
abbrev place (j : Fin 5) : EReal := line (fun e => H (ix3 b r e)) (fun e => nw (ix1 e)) (fun x u => W (ix2 x u)) j e

theorem v13_at (j : Fin 5) : val_main_v13 (F := Ideal) H nw W (ix3 b r (col j e)) = place H nw W b r e j := by
  rw [val_main_v13_apply]
  refine Finset.sum_congr rfl fun x _ => congrArg₂ _ ?_ (congrArg W (eq_ix2 _ _ _ rfl rfl))
  exact (congrArg _ (eq_ix3 (x := 8) (y := 8192) (z := 1024) _ b r x rfl rfl rfl)).trans (v12_at H nw b r x)

theorem v14_at : val_main_v14 (F := Ideal) H nw W (ix3 b r e) = place H nw W b r e 0 := by
  rw [val_main_v14_apply]
  refine (congrArg _ (eq_ix3 (x := 8) (y := 8192) (z := 5120) _ b r (col 0 e) rfl rfl ?_)).trans (v13_at H nw W b r e 0)
  show e.val = 1024 * 0 + e.val
  omega

theorem v15_at : val_main_v15 (F := Ideal) H nw W (ix3 b r e) = place H nw W b r e 1 := by
  rw [val_main_v15_apply]
  exact (congrArg _ (eq_ix3 (x := 8) (y := 8192) (z := 5120) _ b r (col 1 e) rfl rfl rfl)).trans (v13_at H nw W b r e 1)

theorem v16_at : val_main_v16 (F := Ideal) H nw W (ix3 b r e) = place H nw W b r e 2 := by
  rw [val_main_v16_apply]
  exact (congrArg _ (eq_ix3 (x := 8) (y := 8192) (z := 5120) _ b r (col 2 e) rfl rfl rfl)).trans (v13_at H nw W b r e 2)

theorem v17_at : val_main_v17 (F := Ideal) H nw W (ix3 b r e) = place H nw W b r e 3 := by
  rw [val_main_v17_apply]
  exact (congrArg _ (eq_ix3 (x := 8) (y := 8192) (z := 5120) _ b r (col 3 e) rfl rfl rfl)).trans (v13_at H nw W b r e 3)

theorem v18_at : val_main_v18 (F := Ideal) H nw W (ix3 b r e) = place H nw W b r e 4 := by
  rw [val_main_v18_apply]
  exact (congrArg _ (eq_ix3 (x := 8) (y := 8192) (z := 5120) _ b r (col 4 e) rfl rfl rfl)).trans (v13_at H nw W b r e 4)

theorem v19_at : val_main_v19 (F := Ideal) H nw W (ix3 b r e) = silu (val_main_v14 (F := Ideal) H nw W (ix3 b r e)) := by
  unfold silu Ideal.logistic
  pointwise [val_main_v19, val_main_call0_v0, val_main_call0_v1, val_main_call0_v2, val_main_call0_v3, val_main_call0_v4,
    val_main_call0_v5, val_main_call0_cst, val_main_call0_cst_0]

theorem v91_at : val_main_v91 (F := Ideal) H nw W (ix3 b r e) = silu (place H nw W b r e 4) := by
  rw [← v18_at]
  unfold silu Ideal.logistic
  pointwise [val_main_v91, val_main_v90, val_main_call7_v0, val_main_call7_v1, val_main_call7_v2, val_main_call7_v3, val_main_call7_v4,
    val_main_call7_v5, val_main_call7_cst, val_main_call7_cst_0]

/-- The greatest entries of the table's columns. -/
theorem v22_at : val_main_v22 (F := Ideal) T (ix1 e) = colMax (fun k => T (ix2 k e)) := by
  unfold val_main_v22 colMax
  refine (Host.reduce_eq_fold_single (FloatOps.maximumf (F := Ideal) (φ := .f32)) T (val_main_cst_3 (F := Ideal))
    reducesTo_S4x1024_S1024_d0 (by decide) h_S_ (ix1 e)).trans ?_
  have h0 : val_main_cst_3 (F := Ideal) (Shape.Idx.first h_S_) = ⊥ := AttnPay.neg_inf
  rw [h0]
  refine congrArg (fun f => Finset.fold max ⊥ f (Finset.univ : Finset (Fin 4))) (funext fun c => congrArg T ?_)
  exact funext fun j => Fin.ext (by match j with | ⟨0, _⟩ => rfl | ⟨1, _⟩ => rfl)

theorem v24_at : val_main_v24 (F := Ideal) T (ix1 e) = colMax (fun k => T (ix2 k e)) := by
  rw [val_main_v24_apply, v22_at, val_main_v23_apply]
  have h0 : val_main_cst_4 (F := Ideal) (idx_main_v23 (ix1 e)) = ⊥ := AttnPay.neg_inf
  rw [h0]
  exact max_eq_right bot_le

theorem v28_at (k : Fin 4) : val_main_v28 (F := Ideal) T (ix2 k e) = Ideal.exp (T (ix2 k e) - val_main_v24 (F := Ideal) T (ix1 e)) := by
  pointwise [val_main_v28, val_main_v27, val_main_v26, val_main_v25]

/-- The softmax of the table's columns. -/
theorem v32_at (k : Fin 4) : val_main_v32 (F := Ideal) T (ix2 k e) = chance (fun k => T (ix2 k e)) k := by
  have h : val_main_v32 (F := Ideal) T (ix2 k e)
      = Ideal.div (val_main_v28 (F := Ideal) T (ix2 k e)) (∑ l : Fin 4, val_main_v28 (F := Ideal) T (ix2 l e)) := by
    pointwise [val_main_v32, val_main_v31, val_main_v30, val_main_v29, val_main_cst_5]
  rw [h]
  simp only [v28_at, v24_at]
  rfl

/-- The running sums of the softmax. -/
theorem v33_eq (k : Fin 4) : val_main_v33 (F := Ideal) T (ix2 k e)
    = Ideal.hostReduceWindowAdd ![4, 1] ![1, 1] ![3, 0] ![0, 0] reduceWindows_S4x1024_S4x1024_w4s1p3_0_w1s1p0_0
        (val_main_v32 (F := Ideal) T) 0 (ix2 k e) := by
  have h0 : val_main_call3_call0_v0 (F := Ideal) (Shape.Idx.first h_S_) = 0 := by
    rw [val_main_call3_call0_v0_apply, val_main_call3_call0_cst_apply]
    pointwise []
  unfold val_main_v33 Host.reduceWindowAdd
  rw [h0]
  rfl

theorem v33_last : val_main_v33 (F := Ideal) T (ix2 3 e)
    = chance (fun k => T (ix2 k e)) 0 + chance (fun k => T (ix2 k e)) 1 + chance (fun k => T (ix2 k e)) 2 + chance (fun k => T (ix2 k e)) 3 := by
  rw [v33_eq]
  refine (running_at _ 0 _ 3 e).trans ?_
  rw [dif_pos (by decide), dif_pos (by decide), dif_pos (by decide), dif_pos (by decide), zero_add]
  exact congrArg₂ _ (congrArg₂ _ (congrArg₂ _ (v32_at T e 0) (v32_at T e 1)) (v32_at T e 2)) (v32_at T e 3)

theorem v33_first : val_main_v33 (F := Ideal) T (ix2 0 e) = chance (fun k => T (ix2 k e)) 0 := by
  rw [v33_eq]
  refine (running_at _ 0 _ 0 e).trans ?_
  rw [dif_neg (by decide), dif_neg (by decide), dif_neg (by decide), dif_pos (by decide), add_zero, add_zero, add_zero, zero_add]
  exact v32_at T e 0

/-- The lower bound. -/
theorem v38_at : val_main_v38 (F := Ideal) T (ix1 e) = lower (fun k => T (ix2 k e)) := by
  have h : val_main_v38 (F := Ideal) T (ix1 e) = val_main_v33 (F := Ideal) T (ix2 3 e) - val_main_v33 (F := Ideal) T (ix2 0 e) := by
    pointwise [val_main_v38, val_main_v37, val_main_v36, val_main_v35, val_main_v34]
  rw [h, v33_last, v33_first, lower_eq]

/-- The forward gate. -/
theorem v53_at : val_main_v53 (F := Ideal) H nw W T (ix3 b r e) = forget (fun k => T (ix2 k e)) (place H nw W b r e 2) := by
  have h : val_main_v53 (F := Ideal) H nw W T (ix3 b r e) = Ideal.log (val_main_v38 (F := Ideal) T (ix1 e)
      + (1 - val_main_v38 (F := Ideal) T (ix1 e)) * Ideal.logistic (val_main_v16 (F := Ideal) H nw W (ix3 b r e))) := by
    unfold Ideal.logistic
    pointwise [val_main_v53, val_main_v52, val_main_v51, val_main_v50, val_main_v49, val_main_v48, val_main_v47, val_main_v46,
      val_main_v45, val_main_v44, val_main_v43, val_main_v42, val_main_v41, val_main_v40, val_main_v39, val_main_cst_6,
      val_main_cst_7, val_main_cst_8]
  rw [h, v38_at, v16_at]
  rfl

/-- The second table's bound is computed as the first's. -/
theorem v71_eq : val_main_v71 (F := Ideal) T = val_main_v38 (F := Ideal) T := rfl

/-- The backward gate. -/
theorem v86_at : val_main_v86 (F := Ideal) H nw W T (ix3 b r e) = forget (fun k => T (ix2 k e)) (place H nw W b r e 3) := by
  have h : val_main_v86 (F := Ideal) H nw W T (ix3 b r e) = Ideal.log (val_main_v71 (F := Ideal) T (ix1 e)
      + (1 - val_main_v71 (F := Ideal) T (ix1 e)) * Ideal.logistic (val_main_v17 (F := Ideal) H nw W (ix3 b r e))) := by
    unfold Ideal.logistic
    pointwise [val_main_v86, val_main_v85, val_main_v84, val_main_v83, val_main_v82, val_main_v81, val_main_v80, val_main_v79,
      val_main_v78, val_main_v77, val_main_v76, val_main_v75, val_main_v74, val_main_v73, val_main_v72, val_main_cst_13,
      val_main_cst_14, val_main_cst_15]
  rw [h, v71_eq, v38_at, v17_at]
  rfl

/-- A padded array at one of its first 8192 rows. -/
theorem pad_at (x : FVec Ideal S8x8192x1024 .f32) (v : FVec Ideal S_ .f32) :
    pad S8x8256x1024 ![0, 0, 0] ![0, 64, 0] ![0, 0, 0] x v pads_S8x8192x1024_S8x8256x1024_000_0640_000 h_S_ (ix3 b (longRow r) e)
      = x (ix3 b r e) :=
  pad_apply_of_inside _ _ _ x v _ _ _ _ fun a => by
    match a with
    | ⟨0, _⟩ => show b.val = 0 + b.val * (0 + 1); omega
    | ⟨1, _⟩ => show r.val = 0 + r.val * (0 + 1); omega
    | ⟨2, _⟩ => show e.val = 0 + e.val * (0 + 1); omega

theorem v88_at : val_main_v88 (F := Ideal) H nw W (ix3 b (longRow r) e) = silu (place H nw W b r e 0) :=
  (pad_at b r e (val_main_v19 (F := Ideal) H nw W) _).trans (by rw [v19_at, v14_at])

theorem v89_at : val_main_v89 (F := Ideal) H nw W (ix3 b (longRow r) e) = place H nw W b r e 1 :=
  (pad_at b r e (val_main_v15 (F := Ideal) H nw W) _).trans (v15_at H nw W b r e)

theorem v54_at : val_main_v54 (F := Ideal) H nw W T (ix3 b (longRow r) e) = forget (fun k => T (ix2 k e)) (place H nw W b r e 2) :=
  (pad_at b r e (val_main_v53 (F := Ideal) H nw W T) _).trans (v53_at H nw W T b r e)

theorem v87_at : val_main_v87 (F := Ideal) H nw W T (ix3 b (longRow r) e) = forget (fun k => T (ix2 k e)) (place H nw W b r e 3) :=
  (pad_at b r e (val_main_v86 (F := Ideal) H nw W T) _).trans (v86_at H nw W T b r e)

end Cert.Proof.RecInRef
-- ==== Proof.ClaimRecIn.lean ====
/-
  The claims about a recurrent layer's input projections: the frames, and the equation with the reference on the rows that exist.
-/
module

public import proofs.«01_k».proof.Defs
public import proofs.«01_k».proof.Proof.RecInValue
public import proofs.«01_k».proof.Proof.RecInRef
public import proofs.«01_k».proof.Proof.Gen.KernelRecIn.Frame
public import proofs.«01_k».proof.Proof.Gen.On_real_rows
public import Idealize.ShloMosaic.Lib.WordCmp

@[expose] public section

set_option maxRecDepth 16384

noncomputable section

namespace Cert.Proof.ClaimRecIn

open Idealize.ShloMosaic Idealize.SL.Sem Cert.Proof.PostFn Cert.Proof.RecFn

theorem frame : Cert.quiescent_KernelRecIn (hKernelRecIn := Cert.KernelRecIn.Gen.facts) :=
  fun m ρ _ => Cert.KernelRecIn.Gen.frame m ρ

theorem frame_ideal : Cert.quiescent_KernelRecInIdeal (hKernelRecInIdeal := Cert.KernelRecInIdeal.Gen.facts) :=
  fun m ρ _ => Cert.KernelRecInIdeal.Gen.frame m ρ

theorem frame_ref : Cert.quiescent_ReferenceRecInIdeal (hReferenceRecInIdeal := Cert.ReferenceRecInIdeal.Gen.facts) :=
  fun m ρ _ =>
    (θ_run Cert.ReferenceRecInIdeal.defs _ _).mono (fun r h => ⟨fun c => (h c).2.2.2.2.2, sem_eq_zero_of_no_sems (by decide) r.2⟩)
      (Cert.ReferenceRecInIdeal.Value.run (F := Ideal) m ρ)

/-- A row the padded results' condition selects is one of the first 8192. -/
theorem real_row [hOn : On_real_rows.Facts] (h : FVec Ideal On_real_rows.S8x8192x1024 .f32) (nw : FVec Ideal On_real_rows.S1024 .f32)
    (W : FVec Ideal On_real_rows.S1024x5120 .f32) (f b : FVec Ideal On_real_rows.S4x1024 .f32) (k : Fin 8) (s : Fin 8256) (e : Fin 1024)
    (hi : (Cert.On_real_rows.fn (F := Ideal) h nw W f b).1 (ix3 k s e) = 1#1) : s.val < 8192 := by
  have hs := s.isLt
  have hc : IntOp.cmpi .slt (BitVec.ofNat 32 s.val) (BitVec.ofNat 32 8192) = 1#1 := hi
  exact (WordCmp.cmpi_slt_ofNat_eq_one_iff (by omega) (by norm_num)).1 hc

/-- An equation at the first 8192 rows of a padded array is one wherever the condition selects. -/
theorem on_real [hOn : On_real_rows.Facts] (h : FVec Ideal On_real_rows.S8x8192x1024 .f32) (nw : FVec Ideal On_real_rows.S1024 .f32)
    (W : FVec Ideal On_real_rows.S1024x5120 .f32) (f b : FVec Ideal On_real_rows.S4x1024 .f32) (x y : On_real_rows.S8x8256x1024.Idx → EReal)
    (hxy : ∀ (k : Fin 8) (r : Fin 8192) (e : Fin 1024), x (ix3 k (longRow r) e) = y (ix3 k (longRow r) e)) (i : On_real_rows.S8x8256x1024.Idx)
    (hi : (Cert.On_real_rows.fn (F := Ideal) h nw W f b).1 i = 1#1) : x i = y i := by
  have he := eq_ix3 (x := 8) (y := 8256) (z := 1024) i (i 0) (i 1) (i 2) rfl rfl rfl
  rw [he] at hi
  have hr := real_row h nw W f b (i 0) (i 1) (i 2) hi
  rw [he]
  exact hxy (i 0) ⟨(i 1).val, hr⟩ (i 2)

/-- The kernel and the reference end with equal results on the rows that exist. -/
theorem value : Cert.algebraic_KernelRecInIdeal_ReferenceRecInIdeal_on_real_rows (hKernelRecInIdeal := Cert.KernelRecInIdeal.Gen.facts)
    (hReferenceRecInIdeal := Cert.ReferenceRecInIdeal.Gen.facts) (hOn_real_rows := Cert.On_real_rows.Gen.facts) := by
  intro m ρ m' ρ' _ hag
  let arg (c : Dev Cert.KernelRecInIdeal.nD) (a : Ref Cert.KernelRecInIdeal.sig .tc) :=
    m ((c.tc : Thread Cert.KernelRecInIdeal.nD Cert.KernelRecInIdeal.τ).loc a)
  refine ⟨fun c => Cert.ReferenceRecInIdeal.Read.val_main_v88 (F := Ideal) (arg c Cert.KernelRecInIdeal.main_arg0) (arg c Cert.KernelRecInIdeal.main_arg1) (arg c Cert.KernelRecInIdeal.main_arg2),
    fun c => Cert.ReferenceRecInIdeal.Read.val_main_v89 (F := Ideal) (arg c Cert.KernelRecInIdeal.main_arg0) (arg c Cert.KernelRecInIdeal.main_arg1) (arg c Cert.KernelRecInIdeal.main_arg2),
    fun c => Cert.ReferenceRecInIdeal.Read.val_main_v54 (F := Ideal) (arg c Cert.KernelRecInIdeal.main_arg0) (arg c Cert.KernelRecInIdeal.main_arg1) (arg c Cert.KernelRecInIdeal.main_arg2) (arg c Cert.KernelRecInIdeal.main_arg3),
    fun c => Cert.ReferenceRecInIdeal.Read.val_main_v87 (F := Ideal) (arg c Cert.KernelRecInIdeal.main_arg0) (arg c Cert.KernelRecInIdeal.main_arg1) (arg c Cert.KernelRecInIdeal.main_arg2) (arg c Cert.KernelRecInIdeal.main_arg4),
    fun c => Cert.ReferenceRecInIdeal.Read.val_main_v91 (F := Ideal) (arg c Cert.KernelRecInIdeal.main_arg0) (arg c Cert.KernelRecInIdeal.main_arg1) (arg c Cert.KernelRecInIdeal.main_arg2),
    (θ_run _ _ _).mono (fun r h c => ?_) (Cert.KernelRecInIdeal.Value.run_blocks (F := Ideal) m ρ),
    (θ_run _ _ _).mono (fun r h c => ?_) (Cert.ReferenceRecInIdeal.Value.run (F := Ideal) m' ρ')⟩
  · obtain ⟨k0, k1, k2, k3, k4, ka⟩ := h c
    refine ⟨fun i hi => ?_, fun i hi => ?_, fun i hi => ?_, fun i hi => ?_, fun i _ => ?_, ka⟩
    · rw [k0]
      exact on_real (hOn := Cert.On_real_rows.Gen.facts) (arg c Cert.KernelRecInIdeal.main_arg0) (arg c Cert.KernelRecInIdeal.main_arg1) (arg c Cert.KernelRecInIdeal.main_arg2)
        (arg c Cert.KernelRecInIdeal.main_arg3) (arg c Cert.KernelRecInIdeal.main_arg4) _ _
        (fun k r e => (RecInValue.final5 m c k r e).trans (RecInRef.v88_at _ _ _ k r e).symm) i hi
    · rw [k1]
      exact on_real (hOn := Cert.On_real_rows.Gen.facts) (arg c Cert.KernelRecInIdeal.main_arg0) (arg c Cert.KernelRecInIdeal.main_arg1) (arg c Cert.KernelRecInIdeal.main_arg2)
        (arg c Cert.KernelRecInIdeal.main_arg3) (arg c Cert.KernelRecInIdeal.main_arg4) _ _
        (fun k r e => (RecInValue.final6 m c k r e).trans (RecInRef.v89_at _ _ _ k r e).symm) i hi
    · rw [k2]
      exact on_real (hOn := Cert.On_real_rows.Gen.facts) (arg c Cert.KernelRecInIdeal.main_arg0) (arg c Cert.KernelRecInIdeal.main_arg1) (arg c Cert.KernelRecInIdeal.main_arg2)
        (arg c Cert.KernelRecInIdeal.main_arg3) (arg c Cert.KernelRecInIdeal.main_arg4) _ _
        (fun k r e => (RecInValue.final7 m c k r e).trans (RecInRef.v54_at _ _ _ _ k r e).symm) i hi
    · rw [k3]
      exact on_real (hOn := Cert.On_real_rows.Gen.facts) (arg c Cert.KernelRecInIdeal.main_arg0) (arg c Cert.KernelRecInIdeal.main_arg1) (arg c Cert.KernelRecInIdeal.main_arg2)
        (arg c Cert.KernelRecInIdeal.main_arg3) (arg c Cert.KernelRecInIdeal.main_arg4) _ _
        (fun k r e => (RecInValue.final8 m c k r e).trans (RecInRef.v87_at _ _ _ _ k r e).symm) i hi
    · rw [k4, eq_ix3 (x := 8) (y := 8192) (z := 1024) i (i 0) (i 1) (i 2) rfl rfl rfl]
      exact (RecInValue.final9 m c (i 0) (i 1) (i 2)).trans (RecInRef.v91_at _ _ _ (i 0) (i 1) (i 2)).symm
  · obtain ⟨h0, h1, h2, h3, h4⟩ := hag c
    obtain ⟨k0, k1, k2, k3, k4, ka⟩ := h c
    refine ⟨fun i _ => congrFun (k0.trans ?_) i, fun i _ => congrFun (k1.trans ?_) i, fun i _ => congrFun (k2.trans ?_) i,
      fun i _ => congrFun (k3.trans ?_) i, fun i _ => congrFun (k4.trans ?_) i, ka⟩
    · refine (Cert.ReferenceRecInIdeal.Read.val_main_v88_eq _ _ _).trans ?_
      rw [h0, h1, h2]
    · refine (Cert.ReferenceRecInIdeal.Read.val_main_v89_eq _ _ _).trans ?_
      rw [h0, h1, h2]
    · refine (Cert.ReferenceRecInIdeal.Read.val_main_v54_eq m' c).trans ?_
      rw [h0, h1, h2, h3]
    · refine (Cert.ReferenceRecInIdeal.Read.val_main_v87_eq m' c).trans ?_
      rw [h0, h1, h2, h4]
    · refine (Cert.ReferenceRecInIdeal.Read.val_main_v91_eq _ _ _).trans ?_
      rw [h0, h1, h2]

end Cert.Proof.ClaimRecIn
-- ==== Proof.AttnInFn.lean ====
/-
  An attention layer's input projections as functions of rows: the normed row projected, the query's and key's heads normed and
  rotated.
-/
module

public import proofs.«01_k».proof.Proof.RecFn

@[expose] public section

noncomputable section

namespace Cert.Proof.AttnInFn

open Idealize.ShloMosaic Cert.Proof.PostFn Cert.Proof.RecFn

/-- Entry `u` of head `j` of the projection: eight query heads, then two key heads. -/
def lane10 (j : Fin 10) (u : Fin 128) : Fin 1536 := ⟨128 * j.val + u.val, by have := j.isLt; have := u.isLt; omega⟩

/-- The entry half a head over. -/
def over (u : Fin 128) : Fin 128 := ⟨(u.val + 64) % 128, Nat.mod_lt _ (by decide)⟩

/-- The entry's place in its half. -/
def half (u : Fin 128) : Fin 64 := ⟨u.val % 64, Nat.mod_lt _ (by decide)⟩

/-- A row normed and projected. -/
def line (h nw : Fin 1024 → EReal) (W : Fin 1024 → Fin 1536 → EReal) (j : Fin 1536) : EReal := ∑ x, normed h nw x * W x j

/-- A head's entries times `c`, plus those half a head over times `s`. -/
def turned (y c s : Fin 128 → EReal) (u : Fin 128) : EReal := y u * c u + y (over u) * s u

/-- The cosines for both halves of a head. -/
def both (c : Fin 64 → EReal) (u : Fin 128) : EReal := c (half u)

/-- The sines for both halves of a head, the first half's negated. -/
def signed (s : Fin 64 → EReal) (u : Fin 128) : EReal := if u.val < 64 then -s (half u) else s (half u)

/-- Head `j` of a projected row, normed and turned. -/
def spun (z : Fin 1536 → EReal) (g c s : Fin 128 → EReal) (j : Fin 10) (u : Fin 128) : EReal :=
  turned (headNorm (fun u => z (lane10 j u)) g) c s u

/-- The query's entry: its head turned, times the reciprocal root of the head's width as the program's literal. -/
def query (z : Fin 1536 → EReal) (g c s : Fin 128 → EReal) (e : Fin 1024) : EReal :=
  spun z g c s ⟨e.val / 128, by have := e.isLt; omega⟩ (placeOf e) * Ideal.ofBits FTy.f32 0x3DB504F3#32

/-- The key's entry. -/
def key (z : Fin 1536 → EReal) (g c s : Fin 128 → EReal) (e : Fin 256) : EReal :=
  spun z g c s ⟨8 + e.val / 128, by have := e.isLt; omega⟩ ⟨e.val % 128, Nat.mod_lt _ (by decide)⟩

/-- The value's entry. -/
def value (z : Fin 1536 → EReal) (e : Fin 256) : EReal := z ⟨1280 + e.val, by have := e.isLt; omega⟩

/-- In the first half a turned entry is a difference. -/
theorem turned_low (y : Fin 128 → EReal) (c s : Fin 64 → EReal) (u : Fin 128) (h : u.val < 64) :
    turned y (both c) (signed s) u = y u * c (half u) - y (over u) * s (half u) := by
  unfold turned both signed
  rw [if_pos h, mul_neg, ← sub_eq_add_neg]

/-- In the second half it is a sum. -/
theorem turned_high (y : Fin 128 → EReal) (c s : Fin 64 → EReal) (u : Fin 128) (h : ¬ u.val < 64) :
    turned y (both c) (signed s) u = y u * c (half u) + y (over u) * s (half u) := by
  unfold turned both signed
  rw [if_neg h]

end Cert.Proof.AttnInFn
-- ==== Proof.AttnInBlock.lean ====
/-
  The blocks the attention input projections' kernel writes at a grid point, read at a row and a column: functions of the rows
  of its input blocks.
-/
module

public import proofs.«01_k».proof.Proof.AttnInFn
public import proofs.«01_k».proof.Proof.Gen.KernelAttnInIdeal.Value
public import Idealize.ShloMosaic.Lib.Pipeline.ValueKit
public import Idealize.ShloMosaic.Lib.KernelVsHost

@[expose] public section

set_option maxRecDepth 16384

noncomputable section

namespace Cert.Proof.AttnInBlock

open Idealize.ShloMosaic Idealize.ShloMosaic.TcCoe Idealize.SL.Sem Cert.KernelAttnInIdeal Cert.KernelAttnInIdeal.Gen
open Cert.Proof.PostFn Cert.Proof.RecFn Cert.Proof.AttnInFn

/-- The projected rows. -/
theorem pay4_at (h : FVec Ideal S1x512x1024 .f32) (w : FVec Ideal S1x1024 .f32) (W : FVec Ideal S1024x1536 .bf16) (r : Fin 512)
    (j : Fin 1536) : k0_pay4 (F := Ideal) h w W (ix2 r j)
      = line (fun e => h (ix3 0 r e)) (fun e => w (ix2 0 e)) (fun x u => W (ix2 x u)) j := by
  unfold line normed scale
  pointwise [k0_pay4]

/-- A head's rows normed, as the kernel computes them. -/
def normH (x : FVec Ideal S512x128 .f32) (g : FVec Ideal S1x128 .f32) : FVec Ideal S512x128 .f32 :=
  mulf (mulf x (broadcastTo S512x128 (rsqrt (addf (divf
    (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32))))
    broadcasts_S512x1_S512x128)) (broadcastTo S512x128 (shapeCast S1x128 g shapeCasts_S1x128_S1x128) broadcasts_S1x128_S512x128)

/-- A head's rows normed and turned. -/
def spin (x : FVec Ideal S512x128 .f32) (g : FVec Ideal S1x128 .f32) (c s : FVec Ideal S512x128 .f32) : FVec Ideal S512x128 .f32 :=
  addf (mulf (normH x g) c) (mulf (dynamicRotate 1 64#32 none (normH x g) rotates_S512x128_d1) s)

/-- A query head as stored. -/
def storeQ (x : FVec Ideal S512x128 .f32) : FVec Ideal S1x512x128 .bf16 :=
  shapeCast S1x512x128 (truncf .bf16 (mulf x (broadcast S512x128 (Scalar.ofBits .f32 0x3DB504F3#32))) bitsLt_bf16_f32)
    shapeCasts_S512x128_S1x512x128

/-- A key head as stored. -/
def storeK (x : FVec Ideal S512x128 .f32) : FVec Ideal S1x512x128 .bf16 :=
  shapeCast S1x512x128 (truncf .bf16 x bitsLt_bf16_f32) shapeCasts_S512x128_S1x512x128

theorem normH_at (x : FVec Ideal S512x128 .f32) (g : FVec Ideal S1x128 .f32) (r : Fin 512) (u : Fin 128) :
    normH x g (ix2 r u) = headNorm (fun u => x (ix2 r u)) (fun u => g (ix2 0 u)) u := by
  unfold headNorm scale
  pointwise [normH]

theorem spin_at (x : FVec Ideal S512x128 .f32) (g : FVec Ideal S1x128 .f32) (c s : FVec Ideal S512x128 .f32) (r : Fin 512) (u : Fin 128) :
    spin x g c s (ix2 r u) = turned (headNorm (fun u => x (ix2 r u)) (fun u => g (ix2 0 u))) (fun u => c (ix2 r u)) (fun u => s (ix2 r u)) u := by
  have hr : dynamicRotate 1 64#32 none (normH x g) rotates_S512x128_d1 (ix2 r u) = normH x g (ix2 r (over u)) := by
    unfold dynamicRotate
    have hu := u.isLt
    refine congrArg (normH x g) (eq_ix2 _ r (over u) rfl ?_)
    show (u.val + 128 - (64 + 0) % 128) % 128 = (u.val + 64) % 128
    omega
  refine congrArg₂ (fun a b : EReal => a + b) (congrArg (· * c (ix2 r u)) (normH_at x g r u)) (congrArg (· * s (ix2 r u)) ?_)
  exact hr.trans (normH_at x g r (over u))

theorem storeQ_at (x : FVec Ideal S512x128 .f32) (r : Fin 512) (u : Fin 128) :
    storeQ x (ix3 0 r u) = x (ix2 r u) * Ideal.ofBits FTy.f32 0x3DB504F3#32 := by
  pointwise [storeQ]

theorem storeK_at (x : FVec Ideal S512x128 .f32) (r : Fin 512) (u : Fin 128) : storeK x (ix3 0 r u) = x (ix2 r u) := by
  pointwise [storeK]

/-- A head's columns of the projected rows. -/
abbrev cut (z : FVec Ideal S512x1536 .f32) (o : ℕ) (h : S512x1536.Slices ![0, o] S512x128) : FVec Ideal S512x128 .f32 :=
  extractStridedSlice S512x128 ![0, o] z h

theorem cut_at (z : FVec Ideal S512x1536 .f32) (j : Fin 10) (o : ℕ) (ho : o = 128 * j.val) (h) (r : Fin 512) (u : Fin 128) :
    cut z o h (ix2 r u) = z (ix2 r (lane10 j u)) := by
  subst ho
  refine extractStridedSlice_apply _ z h _ _ fun a => ?_
  match a with
  | ⟨0, _⟩ => show r.val = 0 + r.val; omega
  | ⟨1, _⟩ => rfl

theorem spin_cut (z : FVec Ideal S512x1536 .f32) (g : FVec Ideal S1x128 .f32) (c s : FVec Ideal S512x128 .f32) (j : Fin 10) (o : ℕ)
    (ho : o = 128 * j.val) (h) (r : Fin 512) (u : Fin 128) :
    spin (cut z o h) g c s (ix2 r u)
      = spun (fun k => z (ix2 r k)) (fun u => g (ix2 0 u)) (fun u => c (ix2 r u)) (fun u => s (ix2 r u)) j u := by
  rw [spin_at]
  simp only [cut_at z j o ho h]
  rfl

theorem ldh_eq (x : FVec Ideal S1x512x1024 .f32) :
    View.ld (Val := Elt Ideal) (e' := .f32) x (Rect.unit ![0, 0, 0] ![1, 512, 1024] inb_S1x512x1024_S1x512x1024_0_0_0) = x :=
  View.ld_unit_zero (by funext i; fin_cases i <;> rfl) _ _

theorem ldn_eq (x : FVec Ideal S1x1024 .f32) : View.ld (Val := Elt Ideal) (e' := .f32) x r0_1 = x :=
  View.ld_unit_zero (by funext i; fin_cases i <;> rfl) _ _

theorem ldw_eq (x : FVec Ideal S1024x1536 .bf16) : View.ld (Val := Elt Ideal) (e' := .bf16) x r0_2 = x :=
  View.ld_unit_zero (by funext i; fin_cases i <;> rfl) _ _

theorem ldc_eq (x : FVec Ideal S512x128 .f32) : View.ld (Val := Elt Ideal) (e' := .f32) x r0_3 = x :=
  View.ld_unit_zero (by funext i; fin_cases i <;> rfl) _ _

theorem ldg_eq (x : FVec Ideal S1x128 .f32) : View.ld (Val := Elt Ideal) (e' := .f32) x r0_4 = x :=
  View.ld_unit_zero (by funext i; fin_cases i <;> rfl) _ _

theorem hz3 : (![0, 0, 0] : Fin 3 → ℕ) = fun _ => 0 := by funext i; fin_cases i <;> rfl

variable (h : FVec Ideal S1x512x1024 .f32) (nw : FVec Ideal S1x1024 .f32) (W : FVec Ideal S1024x1536 .bf16)
  (qg kg : FVec Ideal S1x128 .f32) (c s : FVec Ideal S512x128 .f32)

/-- A projected row of the block. -/
abbrev proj1 (r : Fin 512) : Fin 1536 → EReal :=
  line (fun e => h (ix3 0 r e)) (fun e => nw (ix2 0 e)) (fun x u => W (ix2 x u))

theorem pay27_at (r : Fin 512) (j : Fin 1536) : k0_pay27 (F := Ideal) h nw W qg kg c s (ix2 r j) = proj1 h nw W r j := by
  have key : ∀ (a : FVec Ideal S1x512x1024 .f32) (b : FVec Ideal S1x1024 .f32) (d : FVec Ideal S1024x1536 .bf16), a = h → b = nw → d = W →
      line (fun e => a (ix3 0 r e)) (fun e => b (ix2 0 e)) (fun x u => d (ix2 x u)) j = proj1 h nw W r j := by
    rintro _ _ _ rfl rfl rfl
    rfl
  unfold k0_pay27
  exact (pay4_at _ _ _ r j).trans (key _ _ _ (ldh_eq h) (ldn_eq nw) (ldw_eq W))

theorem pay28_eq : k0_pay28 (F := Ideal) h nw W qg kg c s = c := by
  unfold k0_pay28 k0_pay5
  exact (shapeCast_self _ _).trans (ldc_eq c)

theorem pay29_eq : k0_pay29 (F := Ideal) h nw W qg kg c s = s := by
  unfold k0_pay29 k0_pay6
  exact (shapeCast_self _ _).trans (ldc_eq s)

/-- A head of the block, turned, from the values the kernel keeps. -/
theorem spin_block (g : FVec Ideal S1x128 .f32) (j : Fin 10) (o : ℕ) (ho : o = 128 * j.val) (hs) (r : Fin 512) (u : Fin 128) :
    spin (cut (k0_pay27 (F := Ideal) h nw W qg kg c s) o hs)
        (View.ld (Val := Elt Ideal) (e' := .f32) g r0_4)
        (k0_pay28 (F := Ideal) h nw W qg kg c s) (k0_pay29 (F := Ideal) h nw W qg kg c s) (ix2 r u)
      = spun (proj1 h nw W r) (fun u => g (ix2 0 u)) (fun u => c (ix2 r u)) (fun u => s (ix2 r u)) j u := by
  rw [spin_cut _ _ _ _ j o ho, pay28_eq, pay29_eq, ldg_eq g]
  simp only [pay27_at]

/-- The query's block. -/
def blockQ (i : S1x512x1024.Idx) : EReal :=
  query (proj1 h nw W (i 1)) (fun u => qg (ix2 0 u)) (fun u => c (ix2 (i 1) u)) (fun u => s (ix2 (i 1) u)) (i 2)

/-- The key's block. -/
def blockK (i : S1x512x256.Idx) : EReal :=
  key (proj1 h nw W (i 1)) (fun u => kg (ix2 0 u)) (fun u => c (ix2 (i 1) u)) (fun u => s (ix2 (i 1) u)) (i 2)

/-- Each of the eight stores to the query's block writes one head. -/
theorem storeQ_eq (j : Fin 8) (o : ℕ) (ho : o = 128 * j.val) (inb) (P : FVec Ideal S1x512x128 .bf16)
    (hP : ∀ (r : Fin 512) (u : Fin 128), P (ix3 0 r u)
      = spun (proj1 h nw W r) (fun u => qg (ix2 0 u)) (fun u => c (ix2 r u)) (fun u => s (ix2 r u)) ⟨j.val, by have := j.isLt; omega⟩ u
        * Ideal.ofBits FTy.f32 0x3DB504F3#32)
    (x : (Rect.unit (s := S1x512x1024) ![0, 0, o] ![1, 512, 128] inb).shape.Idx) :
    P x = blockQ h nw W qg c s ((Rect.unit (s := S1x512x1024) ![0, 0, o] ![1, 512, 128] inb).emb x) := by
  have hx : x = ix3 (0 : Fin 1) (x 1 : Fin 512) (x 2 : Fin 128) := by
    funext i
    match i with
    | ⟨0, _⟩ => exact Subsingleton.elim (α := Fin 1) _ _
    | ⟨1, _⟩ => rfl
    | ⟨2, _⟩ => rfl
  have hu : (x 2).val < 128 := (x 2).isLt
  have he : (Rect.unit (s := S1x512x1024) ![0, 0, o] ![1, 512, 128] inb).emb x = ix3 (0 : Fin 1) (x 1 : Fin 512) (lane j (x 2)) :=
    eq_ix3 _ _ _ _ (by show 0 + 1 * (x 0).val = 0; have h0 : (x 0).val < 1 := (x 0).isLt; omega)
      (by show 0 + 1 * (x 1).val = (x 1).val; omega) (by show o + 1 * (x 2).val = 128 * j.val + (x 2).val; omega)
  refine (congrArg P hx).trans ((hP (x 1) (x 2)).trans (Eq.trans ?_ (congrArg (blockQ h nw W qg c s) he).symm))
  refine congrArg (fun a : EReal => a * Ideal.ofBits FTy.f32 0x3DB504F3#32)
    (congrArg₂ (spun (proj1 h nw W (x 1)) (fun u => qg (ix2 0 u)) (fun u => c (ix2 (x 1) u)) (fun u => s (ix2 (x 1) u))) (Fin.ext ?_) (Fin.ext ?_))
  · show j.val = (128 * j.val + (x 2).val) / 128
    omega
  · show (x 2).val = (128 * j.val + (x 2).val) % 128
    omega

/-- Each of the two stores to the key's block writes one head. -/
theorem storeK_eq (j : Fin 2) (o : ℕ) (ho : o = 128 * j.val) (inb) (P : FVec Ideal S1x512x128 .bf16)
    (hP : ∀ (r : Fin 512) (u : Fin 128), P (ix3 0 r u)
      = spun (proj1 h nw W r) (fun u => kg (ix2 0 u)) (fun u => c (ix2 r u)) (fun u => s (ix2 r u)) ⟨8 + j.val, by have := j.isLt; omega⟩ u)
    (x : (Rect.unit (s := S1x512x256) ![0, 0, o] ![1, 512, 128] inb).shape.Idx) :
    P x = blockK h nw W kg c s ((Rect.unit (s := S1x512x256) ![0, 0, o] ![1, 512, 128] inb).emb x) := by
  have hx : x = ix3 (0 : Fin 1) (x 1 : Fin 512) (x 2 : Fin 128) := by
    funext i
    match i with
    | ⟨0, _⟩ => exact Subsingleton.elim (α := Fin 1) _ _
    | ⟨1, _⟩ => rfl
    | ⟨2, _⟩ => rfl
  have hu : (x 2).val < 128 := (x 2).isLt
  have hj := j.isLt
  have he : (Rect.unit (s := S1x512x256) ![0, 0, o] ![1, 512, 128] inb).emb x
      = ix3 (0 : Fin 1) (x 1 : Fin 512) (⟨128 * j.val + (x 2).val, by omega⟩ : Fin 256) :=
    eq_ix3 _ _ _ _ (by show 0 + 1 * (x 0).val = 0; have h0 : (x 0).val < 1 := (x 0).isLt; omega)
      (by show 0 + 1 * (x 1).val = (x 1).val; omega) (by show o + 1 * (x 2).val = 128 * j.val + (x 2).val; omega)
  refine (congrArg P hx).trans ((hP (x 1) (x 2)).trans (Eq.trans ?_ (congrArg (blockK h nw W kg c s) he).symm))
  refine congrArg₂ (spun (proj1 h nw W (x 1)) (fun u => kg (ix2 0 u)) (fun u => c (ix2 (x 1) u)) (fun u => s (ix2 (x 1) u))) (Fin.ext ?_) (Fin.ext ?_)
  · show 8 + j.val = 8 + (128 * j.val + (x 2).val) / 128
    omega
  · show (x 2).val = (128 * j.val + (x 2).val) % 128
    omega

/-- A query head's payload, in any of the shapes the kernel's text gives it. -/
theorem headQ (j : Fin 10) (o : ℕ) (ho : o = 128 * j.val) (hs) (P : FVec Ideal S1x512x128 .bf16)
    (hP : P = storeQ (spin (cut (k0_pay27 (F := Ideal) h nw W qg kg c s) o hs)
      (View.ld (Val := Elt Ideal) (e' := .f32) qg r0_4)
      (k0_pay28 (F := Ideal) h nw W qg kg c s) (k0_pay29 (F := Ideal) h nw W qg kg c s))) (r : Fin 512) (u : Fin 128) :
    P (ix3 0 r u) = spun (proj1 h nw W r) (fun u => qg (ix2 0 u)) (fun u => c (ix2 r u)) (fun u => s (ix2 r u)) j u
      * Ideal.ofBits FTy.f32 0x3DB504F3#32 := by
  rw [hP, storeQ_at, spin_block h nw W qg kg c s qg j o ho hs]

/-- A key head's payload. -/
theorem headK (j : Fin 10) (o : ℕ) (ho : o = 128 * j.val) (hs) (P : FVec Ideal S1x512x128 .bf16)
    (hP : P = storeK (spin (cut (k0_pay27 (F := Ideal) h nw W qg kg c s) o hs)
      (View.ld (Val := Elt Ideal) (e' := .f32) kg r0_4)
      (k0_pay28 (F := Ideal) h nw W qg kg c s) (k0_pay29 (F := Ideal) h nw W qg kg c s))) (r : Fin 512) (u : Fin 128) :
    P (ix3 0 r u) = spun (proj1 h nw W r) (fun u => kg (ix2 0 u)) (fun u => c (ix2 r u)) (fun u => s (ix2 r u)) j u := by
  rw [hP, storeK_at, spin_block h nw W qg kg c s kg j o ho hs]

/-- The query's block. -/
theorem out7_eq : out0_7 (F := Ideal) h nw W qg kg c s = blockQ h nw W qg c s := by
  funext y
  unfold out0_7
  refine View.canon_apply_of_pieces _ _ ?_ y (View.cover_of_tiled_head _ _ _ rfl y)
  simp only [List.forall_mem_cons]
  refine ⟨storeQ_eq h nw W qg c s 7 896 rfl _ _ (headQ h nw W qg kg c s 7 896 rfl slices_S512x1536_o0_896_S512x128 _ ?_),
    storeQ_eq h nw W qg c s 6 768 rfl _ _ (headQ h nw W qg kg c s 6 768 rfl slices_S512x1536_o0_768_S512x128 _ ?_),
    storeQ_eq h nw W qg c s 5 640 rfl _ _ (headQ h nw W qg kg c s 5 640 rfl slices_S512x1536_o0_640_S512x128 _ ?_),
    storeQ_eq h nw W qg c s 4 512 rfl _ _ (headQ h nw W qg kg c s 4 512 rfl slices_S512x1536_o0_512_S512x128 _ ?_),
    storeQ_eq h nw W qg c s 3 384 rfl _ _ (headQ h nw W qg kg c s 3 384 rfl slices_S512x1536_o0_384_S512x128 _ ?_),
    storeQ_eq h nw W qg c s 2 256 rfl _ _ (headQ h nw W qg kg c s 2 256 rfl slices_S512x1536_o0_256_S512x128 _ ?_),
    storeQ_eq h nw W qg c s 1 128 rfl _ _ (headQ h nw W qg kg c s 1 128 rfl slices_S512x1536_o0_128_S512x128 _ ?_),
    storeQ_eq h nw W qg c s 0 0 rfl _ _ (headQ h nw W qg kg c s 0 0 rfl slices_S512x1536_o0_0_S512x128 _ ?_), by simp⟩
  all_goals rfl

/-- The key's block. -/
theorem out8_eq : out0_8 (F := Ideal) h nw W qg kg c s = blockK h nw W kg c s := by
  funext y
  unfold out0_8
  refine View.canon_apply_of_pieces _ _ ?_ y (View.cover_of_tiled_head _ _ _ rfl y)
  simp only [List.forall_mem_cons]
  refine ⟨storeK_eq h nw W kg c s 1 128 rfl _ _ (headK h nw W qg kg c s 9 1152 rfl slices_S512x1536_o0_1152_S512x128 _ ?_),
    storeK_eq h nw W kg c s 0 0 rfl _ _ (headK h nw W qg kg c s 8 1024 rfl slices_S512x1536_o0_1024_S512x128 _ ?_), by simp⟩
  all_goals rfl

/-- The value's block, at an index. -/
theorem out9_at (r : Fin 512) (e : Fin 256) : out0_9 (F := Ideal) h nw W qg kg c s (ix3 0 r e) = value (proj1 h nw W r) e := by
  have he := e.isLt
  unfold out0_9
  rw [View.canon_unit_zero hz3]
  have h3 : ∀ z : FVec Ideal S512x1536 .f32, k0_pay3 (F := Ideal) z (ix3 0 r e) = z (ix2 r ⟨1280 + e.val, by omega⟩) := by
    intro z
    pointwise [k0_pay3]
  rw [h3, pay27_at]
  rfl

end Cert.Proof.AttnInBlock
-- ==== Proof.AttnInValue.lean ====
/-
  What the attention input projections' kernel leaves in its three result arrays.
-/
module

public import proofs.«01_k».proof.Proof.AttnInBlock

@[expose] public section

set_option maxRecDepth 16384

noncomputable section

namespace Cert.Proof.AttnInValue

open Idealize.ShloMosaic Idealize.ShloMosaic.TcCoe Idealize.SL.Sem Cert.KernelAttnInIdeal Cert.KernelAttnInIdeal.Gen
open Idealize.ShloMosaic.Pipeline (Dat)
open Cert.Proof.PostFn Cert.Proof.RecFn Cert.Proof.AttnInFn Cert.Proof.AttnInBlock

variable (m : (ℓ : Loc nD τ sig) → Buf (Elt Ideal) ℓ) (ρ : Dev nD → PrngReg)

/-- Two arrays of 64 columns side by side, at an index. -/
theorem join_at (a b : FVec Ideal S8192x64 .f32) (r : Fin 8192) (u : Fin 128) :
    concatenate S8192x128 1 [⟨S8192x64, a⟩, ⟨S8192x64, b⟩] concatenates_S8192x64_S8192x64_S8192x128_d1 (ix2 r u)
      = if u.val < 64 then a (ix2 r (half u)) else b (ix2 r (half u)) := by
  have hu := u.isLt
  have key : ∀ (k : ℕ) (hk : k < 2) (x : FVec Ideal S8192x64 .f32)
      (hx : [(⟨S8192x64, a⟩ : (s : Shape) × (s.Idx → EReal)), ⟨S8192x64, b⟩][k]'hk = ⟨S8192x64, x⟩) (hpre) (hj : u.val / 64 = k),
      concatenate S8192x128 1 [⟨S8192x64, a⟩, ⟨S8192x64, b⟩] concatenates_S8192x64_S8192x64_S8192x128_d1 (ix2 r u) = x (ix2 r (half u)) :=
    fun k hk x hx hpre hj => concatenate_apply_piece (t := S8192x128) 1 [⟨S8192x64, a⟩, ⟨S8192x64, b⟩] _ _ k hk _ _ hx rfl (64 * k) hpre (ix2 r (half u))
      (fun b hb => match b with
        | ⟨0, _⟩ => rfl
        | ⟨1, _⟩ => absurd rfl hb)
      (by show 64 * k + u.val % 64 = u.val; omega)
  by_cases h : u.val < 64
  · rw [if_pos h]
    exact key 0 (by omega) a rfl rfl (by omega)
  · rw [if_neg h]
    exact key 1 (by omega) b rfl rfl (by omega)

/-- The cosines for both halves. -/
theorem V_v0 (c : Dev nD) (r : Fin 8192) (u : Fin 128) :
    V m c main_v0 (ix2 r u) = both (fun k => m ((c : Thread nD τ).loc main_arg5) (ix2 r k)) u := by
  have h : V m c main_v0 = concatenate S8192x128 1 [⟨S8192x64, m ((c : Thread nD τ).loc main_arg5)⟩, ⟨S8192x64, m ((c : Thread nD τ).loc main_arg5)⟩]
      concatenates_S8192x64_S8192x64_S8192x128_d1 := by
    simp only [V, hostOps0]; after_results
  rw [h]
  refine (join_at _ _ r u).trans ?_
  exact ite_self _

/-- The sines for both halves, the first half's negated. -/
theorem V_v2 (c : Dev nD) (r : Fin 8192) (u : Fin 128) :
    V m c main_v2 (ix2 r u) = signed (fun k => m ((c : Thread nD τ).loc main_arg6) (ix2 r k)) u := by
  have h : V m c main_v2 = concatenate S8192x128 1 [⟨S8192x64, Host.negf (F := Ideal) (φ := .f32) (m ((c : Thread nD τ).loc main_arg6))⟩, ⟨S8192x64, m ((c : Thread nD τ).loc main_arg6)⟩]
      concatenates_S8192x64_S8192x64_S8192x128_d1 := by
    simp only [V, hostOps0]; after_results
  rw [h]
  exact join_at _ _ r u

/-- The norm's weights as a row. -/
theorem V_v3 (c : Dev nD) (e : Fin 1024) : V m c main_v3 (ix2 0 e) = m ((c : Thread nD τ).loc main_arg1) (ix1 e) := by
  have h : V m c main_v3 = shapeCast S1x1024 (m ((c : Thread nD τ).loc main_arg1)) shapeCasts_S1024_S1x1024 := by
    simp only [V, hostOps0]; after_results; rfl
  rw [h]
  pointwise []

/-- The projection's weights, kept. -/
theorem V_v4 (c : Dev nD) : V m c main_v4 = m ((c : Thread nD τ).loc main_arg2) := by
  simp only [V, hostOps0]; after_results; rfl

/-- The query's gain as a row. -/
theorem V_v5 (c : Dev nD) (u : Fin 128) : V m c main_v5 (ix2 0 u) = m ((c : Thread nD τ).loc main_arg3) (ix1 u) := by
  have h : V m c main_v5 = shapeCast S1x128 (m ((c : Thread nD τ).loc main_arg3)) shapeCasts_S128_S1x128 := by
    simp only [V, hostOps0]; after_results; rfl
  rw [h]
  pointwise []

/-- The key's gain as a row. -/
theorem V_v6 (c : Dev nD) (u : Fin 128) : V m c main_v6 (ix2 0 u) = m ((c : Thread nD τ).loc main_arg4) (ix1 u) := by
  have h : V m c main_v6 = shapeCast S1x128 (m ((c : Thread nD τ).loc main_arg4)) shapeCasts_S128_S1x128 := by
    simp only [V, hostOps0]; after_results; rfl
  rw [h]
  pointwise []

/-- The batch of a point. -/
def pb (t : Fin cfg0.N) : Fin 8 := grid0.coords t 0

/-- Row `r` of a point's tile. -/
def row (t : Fin cfg0.N) (r : Fin 512) : Fin 8192 :=
  ⟨512 * (grid0.coords t 1).val + r.val, by have h : (grid0.coords t 1).val < 16 := (grid0.coords t 1).isLt; have := r.isLt; omega⟩

theorem idx0 : ∀ t : Fin grid0.N, win0_0.index t 0 = (grid0.coords t 0).val ∧ win0_0.index t 1 = (grid0.coords t 1).val
    ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = (grid0.coords t 1).val ∧ win0_5.index t 1 = 0 := by decide +kernel
theorem idx6 : ∀ t : Fin grid0.N, win0_6.index t 0 = (grid0.coords t 1).val ∧ win0_6.index t 1 = 0 := by decide +kernel
theorem idx7 : ∀ t : Fin grid0.N, win0_7.index t 0 = (grid0.coords t 0).val ∧ win0_7.index t 1 = (grid0.coords t 1).val
    ∧ win0_7.index t 2 = 0 ∧ win0_7.xsize (grid0.coords t) 0 = 1 ∧ win0_7.xsize (grid0.coords t) 1 = 512
    ∧ win0_7.xsize (grid0.coords t) 2 = 1024 := by decide +kernel
theorem idx8 : ∀ t : Fin grid0.N, win0_8.index t 0 = (grid0.coords t 0).val ∧ win0_8.index t 1 = (grid0.coords t 1).val
    ∧ win0_8.index t 2 = 0 ∧ win0_8.xsize (grid0.coords t) 0 = 1 ∧ win0_8.xsize (grid0.coords t) 1 = 512
    ∧ win0_8.xsize (grid0.coords t) 2 = 256 := by decide +kernel
theorem idx9 : ∀ t : Fin grid0.N, win0_9.index t 0 = (grid0.coords t 0).val ∧ win0_9.index t 1 = (grid0.coords t 1).val
    ∧ win0_9.index t 2 = 0 ∧ win0_9.xsize (grid0.coords t) 0 = 1 ∧ win0_9.xsize (grid0.coords t) 1 = 512
    ∧ win0_9.xsize (grid0.coords t) 2 = 256 := by decide +kernel

theorem blk0 (c : Dev nD) (t : Fin cfg0.N) (r : Fin 512) (e : Fin 1024) :
    iblk m c 0 t (ix3 0 r e) = m ((c : Thread nD τ).loc main_arg0) (ix3 (pb t) (row t r) e) := by
  have h := idx0 t
  refine Eq.trans ?_ (congrFun (V_main_arg0 m c) _)
  exact congrArg (V m c main_arg0) (eq_ix3 ((win0_0.rect t).emb (ix3 0 r e)) _ _ _
    (by show win0_0.index t 0 * 1 + 1 * 0 = (grid0.coords t 0).val; omega)
    (by show win0_0.index t 1 * 512 + 1 * r.val = 512 * (grid0.coords t 1).val + r.val; omega)
    (by show win0_0.index t 2 * 1024 + 1 * e.val = e.val; omega))

theorem blk1 (c : Dev nD) (t : Fin cfg0.N) (e : Fin 1024) :
    iblk m c 1 t (ix2 0 e) = m ((c : Thread nD τ).loc main_arg1) (ix1 e) := by
  have h := idx1 t
  refine Eq.trans ?_ (V_v3 m c e)
  exact congrArg (V m c main_v3) (eq_ix2 ((win0_1.rect t).emb (ix2 0 e)) _ _
    (by show win0_1.index t 0 * 1 + 1 * 0 = 0; omega)
    (by show win0_1.index t 1 * 1024 + 1 * e.val = e.val; omega))

theorem blk2 (c : Dev nD) (t : Fin cfg0.N) (x : Fin 1024) (u : Fin 1536) :
    iblk m c 2 t (ix2 x u) = m ((c : Thread nD τ).loc main_arg2) (ix2 x u) := by
  have h := idx2 t
  refine Eq.trans ?_ (congrFun (V_v4 m c) _)
  exact congrArg (V m c main_v4) (eq_ix2 ((win0_2.rect t).emb (ix2 x u)) _ _
    (by show win0_2.index t 0 * 1024 + 1 * x.val = x.val; omega)
    (by show win0_2.index t 1 * 1536 + 1 * u.val = u.val; omega))

theorem blk3 (c : Dev nD) (t : Fin cfg0.N) (u : Fin 128) :
    iblk m c 3 t (ix2 0 u) = m ((c : Thread nD τ).loc main_arg3) (ix1 u) := by
  have h := idx3 t
  refine Eq.trans ?_ (V_v5 m c u)
  exact congrArg (V m c main_v5) (eq_ix2 ((win0_3.rect t).emb (ix2 0 u)) _ _
    (by show win0_3.index t 0 * 1 + 1 * 0 = 0; omega)
    (by show win0_3.index t 1 * 128 + 1 * u.val = u.val; omega))

theorem blk4 (c : Dev nD) (t : Fin cfg0.N) (u : Fin 128) :
    iblk m c 4 t (ix2 0 u) = m ((c : Thread nD τ).loc main_arg4) (ix1 u) := by
  have h := idx4 t
  refine Eq.trans ?_ (V_v6 m c u)
  exact congrArg (V m c main_v6) (eq_ix2 ((win0_4.rect t).emb (ix2 0 u)) _ _
    (by show win0_4.index t 0 * 1 + 1 * 0 = 0; omega)
    (by show win0_4.index t 1 * 128 + 1 * u.val = u.val; omega))

theorem blk5 (c : Dev nD) (t : Fin cfg0.N) (r : Fin 512) (u : Fin 128) :
    iblk m c 5 t (ix2 r u) = both (fun k => m ((c : Thread nD τ).loc main_arg5) (ix2 (row t r) k)) u := by
  have h := idx5 t
  refine Eq.trans ?_ (V_v0 m c (row t r) u)
  exact congrArg (V m c main_v0) (eq_ix2 ((win0_5.rect t).emb (ix2 r u)) _ _
    (by show win0_5.index t 0 * 512 + 1 * r.val = 512 * (grid0.coords t 1).val + r.val; omega)
    (by show win0_5.index t 1 * 128 + 1 * u.val = u.val; omega))

theorem blk6 (c : Dev nD) (t : Fin cfg0.N) (r : Fin 512) (u : Fin 128) :
    iblk m c 6 t (ix2 r u) = signed (fun k => m ((c : Thread nD τ).loc main_arg6) (ix2 (row t r) k)) u := by
  have h := idx6 t
  refine Eq.trans ?_ (V_v2 m c (row t r) u)
  exact congrArg (V m c main_v2) (eq_ix2 ((win0_6.rect t).emb (ix2 r u)) _ _
    (by show win0_6.index t 0 * 512 + 1 * r.val = 512 * (grid0.coords t 1).val + r.val; omega)
    (by show win0_6.index t 1 * 128 + 1 * u.val = u.val; omega))

/-- A projected row of the arguments. -/
abbrev place (c : Dev nD) (b : Fin 8) (r : Fin 8192) : Fin 1536 → EReal :=
  line (fun e => m ((c : Thread nD τ).loc main_arg0) (ix3 b r e)) (fun e => m ((c : Thread nD τ).loc main_arg1) (ix1 e))
    (fun x u => m ((c : Thread nD τ).loc main_arg2) (ix2 x u))

/-- A projected row of a point's block is one of the arguments. -/
theorem proj_at (c : Dev nD) (t : Fin cfg0.N) (r : Fin 512) :
    proj1 (iblk m c 0 t) (iblk m c 1 t) (iblk m c 2 t) r = place m c (pb t) (row t r) := by
  unfold proj1 place
  rw [show (fun e => iblk m c 0 t (ix3 0 r e)) = _ from funext (blk0 m c t r), show (fun e => iblk m c 1 t (ix2 0 e)) = _ from funext (blk1 m c t),
    show (fun x u => iblk m c 2 t (ix2 x u)) = _ from funext fun x => funext (blk2 m c t x)]

theorem coords_of : ∀ (b : Fin 8) (n : Fin 16), ∃ t : Fin grid0.N,
    (grid0.coords t 0).val = b.val ∧ (grid0.coords t 1).val = n.val := by decide +kernel

/-- Every batch and row is a point's batch and a row of its tile. -/
theorem reach (b : Fin 8) (r : Fin 8192) : ∃ (t : Fin cfg0.N) (s : Fin 512), pb t = b ∧ row t s = r := by
  obtain ⟨t, h0, h1⟩ := coords_of b ⟨r.val / 512, by have := r.isLt; omega⟩
  refine ⟨t, ⟨r.val % 512, Nat.mod_lt _ (by decide)⟩, Fin.ext h0, Fin.ext ?_⟩
  show 512 * (grid0.coords t 1).val + r.val % 512 = r.val
  have h : (grid0.coords t 1).val = r.val / 512 := h1
  omega

/-- The query's array. -/
theorem final7 (c : Dev nD) (b : Fin 8) (r : Fin 8192) (e : Fin 1024) :
    (dats m 0 c).arrAt 7 cfg0.N (ix3 b r e) = query (place m c b r) (fun u => m ((c : Thread nD τ).loc main_arg3) (ix1 u))
      (both fun k => m ((c : Thread nD τ).loc main_arg5) (ix2 r k)) (signed fun k => m ((c : Thread nD τ).loc main_arg6) (ix2 r k)) e := by
  obtain ⟨t, s, rfl, rfl⟩ := reach b r
  obtain ⟨h0, h1, h2, x0, x1, x2⟩ := idx7 t
  have hs := s.isLt
  have he := e.isLt
  let y : ((cfg0.win 7).xblock (grid0.coords t)).Idx := fun a => match a with
    | ⟨0, _⟩ => ⟨0, by show 0 < win0_7.xsize (grid0.coords t) 0; omega⟩
    | ⟨1, _⟩ => ⟨s.val, by show s.val < win0_7.xsize (grid0.coords t) 1; omega⟩
    | ⟨2, _⟩ => ⟨e.val, by show e.val < win0_7.xsize (grid0.coords t) 2; omega⟩
  have hb := congrFun (Value.blocks7 m c t (flush0_7 t)) y
  rw [Value.flushed7, out7_eq] at hb
  refine Eq.trans ?_ (hb.trans ((congrArg (blockQ (iblk m c 0 t) (iblk m c 1 t) (iblk m c 2 t) (iblk m c 3 t) (iblk m c 5 t) (iblk m c 6 t))
    (eq_ix3 (x := 1) (y := 512) (z := 1024) _ 0 s e rfl rfl rfl)).trans ?_))
  · refine congrArg ((dats m 0 c).arrAt 7 cfg0.N) (eq_ix3 ((win0_7.rect t).emb y) _ _ _ ?_ ?_ ?_).symm
    · show win0_7.index t 0 * 1 + 1 * 0 = (grid0.coords t 0).val
      omega
    · show win0_7.index t 1 * 512 + 1 * s.val = 512 * (grid0.coords t 1).val + s.val
      omega
    · show win0_7.index t 2 * 1024 + 1 * e.val = e.val
      omega
  · show query (proj1 _ _ _ s) (fun u => iblk m c 3 t (ix2 0 u)) (fun u => iblk m c 5 t (ix2 s u)) (fun u => iblk m c 6 t (ix2 s u)) e = _
    rw [proj_at]
    simp only [blk3, blk5, blk6]

/-- The key's array. -/
theorem final8 (c : Dev nD) (b : Fin 8) (r : Fin 8192) (e : Fin 256) :
    (dats m 0 c).arrAt 8 cfg0.N (ix3 b r e) = key (place m c b r) (fun u => m ((c : Thread nD τ).loc main_arg4) (ix1 u))
      (both fun k => m ((c : Thread nD τ).loc main_arg5) (ix2 r k)) (signed fun k => m ((c : Thread nD τ).loc main_arg6) (ix2 r k)) e := by
  obtain ⟨t, s, rfl, rfl⟩ := reach b r
  obtain ⟨h0, h1, h2, x0, x1, x2⟩ := idx8 t
  have hs := s.isLt
  have he := e.isLt
  let y : ((cfg0.win 8).xblock (grid0.coords t)).Idx := fun a => match a with
    | ⟨0, _⟩ => ⟨0, by show 0 < win0_8.xsize (grid0.coords t) 0; omega⟩
    | ⟨1, _⟩ => ⟨s.val, by show s.val < win0_8.xsize (grid0.coords t) 1; omega⟩
    | ⟨2, _⟩ => ⟨e.val, by show e.val < win0_8.xsize (grid0.coords t) 2; omega⟩
  have hb := congrFun (Value.blocks8 m c t (flush0_8 t)) y
  rw [Value.flushed8, out8_eq] at hb
  refine Eq.trans ?_ (hb.trans ((congrArg (blockK (iblk m c 0 t) (iblk m c 1 t) (iblk m c 2 t) (iblk m c 4 t) (iblk m c 5 t) (iblk m c 6 t))
    (eq_ix3 (x := 1) (y := 512) (z := 256) _ 0 s e rfl rfl rfl)).trans ?_))
  · refine congrArg ((dats m 0 c).arrAt 8 cfg0.N) (eq_ix3 ((win0_8.rect t).emb y) _ _ _ ?_ ?_ ?_).symm
    · show win0_8.index t 0 * 1 + 1 * 0 = (grid0.coords t 0).val
      omega
    · show win0_8.index t 1 * 512 + 1 * s.val = 512 * (grid0.coords t 1).val + s.val
      omega
    · show win0_8.index t 2 * 256 + 1 * e.val = e.val
      omega
  · show key (proj1 _ _ _ s) (fun u => iblk m c 4 t (ix2 0 u)) (fun u => iblk m c 5 t (ix2 s u)) (fun u => iblk m c 6 t (ix2 s u)) e = _
    rw [proj_at]
    simp only [blk4, blk5, blk6]

/-- The value's array. -/
theorem final9 (c : Dev nD) (b : Fin 8) (r : Fin 8192) (e : Fin 256) :
    (dats m 0 c).arrAt 9 cfg0.N (ix3 b r e) = value (place m c b r) e := by
  obtain ⟨t, s, rfl, rfl⟩ := reach b r
  obtain ⟨h0, h1, h2, x0, x1, x2⟩ := idx9 t
  have hs := s.isLt
  have he := e.isLt
  let y : ((cfg0.win 9).xblock (grid0.coords t)).Idx := fun a => match a with
    | ⟨0, _⟩ => ⟨0, by show 0 < win0_9.xsize (grid0.coords t) 0; omega⟩
    | ⟨1, _⟩ => ⟨s.val, by show s.val < win0_9.xsize (grid0.coords t) 1; omega⟩
    | ⟨2, _⟩ => ⟨e.val, by show e.val < win0_9.xsize (grid0.coords t) 2; omega⟩
  have hb := congrFun (Value.blocks9 m c t (flush0_9 t)) y
  rw [Value.flushed9] at hb
  refine Eq.trans ?_ (hb.trans ((congrArg (out0_9 (iblk m c 0 t) (iblk m c 1 t) (iblk m c 2 t) (iblk m c 3 t) (iblk m c 4 t) (iblk m c 5 t) (iblk m c 6 t))
    (eq_ix3 (x := 1) (y := 512) (z := 256) _ 0 s e rfl rfl rfl)).trans ((out9_at _ _ _ _ _ _ _ s e).trans ?_)))
  · refine congrArg ((dats m 0 c).arrAt 9 cfg0.N) (eq_ix3 ((win0_9.rect t).emb y) _ _ _ ?_ ?_ ?_).symm
    · show win0_9.index t 0 * 1 + 1 * 0 = (grid0.coords t 0).val
      omega
    · show win0_9.index t 1 * 512 + 1 * s.val = 512 * (grid0.coords t 1).val + s.val
      omega
    · show win0_9.index t 2 * 256 + 1 * e.val = e.val
      omega
  · rw [proj_at]

end Cert.Proof.AttnInValue
-- ==== Proof.AttnInRef.lean ====
/-
  The reference's attention input projections at an index: the same functions of its arguments' rows as the kernel's blocks.
-/
module

public import proofs.«01_k».proof.Proof.AttnInFn
public import proofs.«01_k».proof.Proof.Gen.ReferenceAttnInIdeal.Run
public import proofs.«01_k».proof.Proof.Gen.ReferenceAttnInIdeal.Read

@[expose] public section

set_option maxRecDepth 16384

noncomputable section

namespace Cert.Proof.AttnInRef

open Idealize.ShloMosaic Cert.ReferenceAttnInIdeal Cert.ReferenceAttnInIdeal.Gen Cert.ReferenceAttnInIdeal.Read
open Cert.Proof.PostFn Cert.Proof.RecFn Cert.Proof.AttnInFn

variable (H : FVec Ideal S8x8192x1024 .f32) (nw : FVec Ideal S1024 .f32) (W : FVec Ideal S1024x1536 .f32)
  (qg kg : FVec Ideal S128 .f32) (C S : FVec Ideal S8192x64 .f32) (b : Fin 8) (r : Fin 8192)

/-- An index of four axes from its coordinates. -/
theorem eq_ix4 {w x y z : ℕ} (i : (⟨4, ![w, x, y, z]⟩ : Shape).Idx) (b : Fin w) (r : Fin x) (j : Fin y) (e : Fin z) (h0 : (i 0).val = b.val)
    (h1 : (i 1).val = r.val) (h2 : (i 2).val = j.val) (h3 : (i 3).val = e.val) : i = ix4 b r j e := by
  funext k
  match k with
  | ⟨0, _⟩ => exact Fin.ext h0
  | ⟨1, _⟩ => exact Fin.ext h1
  | ⟨2, _⟩ => exact Fin.ext h2
  | ⟨3, _⟩ => exact Fin.ext h3

/-- The normed rows. -/
theorem v12_at (e : Fin 1024) : val_main_v12 (F := Ideal) H nw (ix3 b r e) = normed (fun e => H (ix3 b r e)) (fun e => nw (ix1 e)) e := by
  unfold normed scale
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A projected row of the reference's arguments. -/
abbrev place : Fin 1536 → EReal := line (fun e => H (ix3 b r e)) (fun e => nw (ix1 e)) (fun x u => W (ix2 x u))

theorem v13_at (j : Fin 1536) : val_main_v13 (F := Ideal) H nw W (ix3 b r j) = place H nw W b r j := by
  rw [val_main_v13_apply]
  refine Finset.sum_congr rfl fun x _ => congrArg₂ _ ?_ (congrArg W (eq_ix2 _ _ _ rfl rfl))
  exact (congrArg _ (eq_ix3 (x := 8) (y := 8192) (z := 1024) _ b r x rfl rfl rfl)).trans (v12_at H nw b r x)

/-- The query's heads, on an axis of their own. -/
theorem v17_at (j : Fin 8) (u : Fin 128) : val_main_v17 (F := Ideal) H nw W (ix4 b r j u)
    = place H nw W b r (lane10 ⟨j.val, by have := j.isLt; omega⟩ u) := by
  rw [val_main_v17_apply, val_main_v14_apply]
  have hj := j.isLt
  have hu := u.isLt
  have hr := r.isLt
  have hb := b.isLt
  refine (congrArg _ (eq_ix3 (x := 8) (y := 8192) (z := 1536) _ b r (lane10 ⟨j.val, by omega⟩ u) ?_ ?_ ?_)).trans (v13_at H nw W b r _)
  · show (((b.val * 8192 + r.val) * 8 + j.val) * 128 + u.val) / 8388608 = b.val; omega
  · show (((b.val * 8192 + r.val) * 8 + j.val) * 128 + u.val) / 1024 % 8192 = r.val; omega
  · show (((b.val * 8192 + r.val) * 8 + j.val) * 128 + u.val) % 1024 = 128 * j.val + u.val; omega

/-- The key's heads, on an axis of their own. -/
theorem v18_at (j : Fin 2) (u : Fin 128) : val_main_v18 (F := Ideal) H nw W (ix4 b r j u)
    = place H nw W b r (lane10 ⟨8 + j.val, by have := j.isLt; omega⟩ u) := by
  rw [val_main_v18_apply, val_main_v15_apply]
  have hj := j.isLt
  have hu := u.isLt
  have hr := r.isLt
  have hb := b.isLt
  refine (congrArg _ (eq_ix3 (x := 8) (y := 8192) (z := 1536) _ b r (lane10 ⟨8 + j.val, by omega⟩ u) ?_ ?_ ?_)).trans (v13_at H nw W b r _)
  · show (((b.val * 8192 + r.val) * 2 + j.val) * 128 + u.val) / 2097152 = b.val; omega
  · show (((b.val * 8192 + r.val) * 2 + j.val) * 128 + u.val) / 256 % 8192 = r.val; omega
  · show 1024 + (((b.val * 8192 + r.val) * 2 + j.val) * 128 + u.val) % 256 = 128 * (8 + j.val) + u.val; omega

/-- The query's heads normed. -/
theorem v31_at (j : Fin 8) (u : Fin 128) : val_main_v31 (F := Ideal) H nw W qg (ix4 b r j u)
    = headNorm (fun u => val_main_v17 (F := Ideal) H nw W (ix4 b r j u)) (fun u => qg (ix1 u)) u := by
  unfold headNorm scale
  pointwise [val_main_v31, val_main_v30, val_main_v29, val_main_v28, val_main_v27, val_main_v26, val_main_v25, val_main_v24,
    val_main_v23, val_main_v22, val_main_v21, val_main_v20, val_main_v19, val_main_cst_2, val_main_cst_3, val_main_cst_4]

/-- The key's heads normed. -/
theorem v61_at (j : Fin 2) (u : Fin 128) : val_main_v61 (F := Ideal) H nw W kg (ix4 b r j u)
    = headNorm (fun u => val_main_v18 (F := Ideal) H nw W (ix4 b r j u)) (fun u => kg (ix1 u)) u := by
  unfold headNorm scale
  pointwise [val_main_v61, val_main_v60, val_main_v59, val_main_v58, val_main_v57, val_main_v56, val_main_v55, val_main_v54,
    val_main_v53, val_main_v52, val_main_v51, val_main_v50, val_main_v49, val_main_cst_6, val_main_cst_7, val_main_cst_8]

/-- A head's entry `k` of the first half and of the second. -/
def low (k : Fin 64) : Fin 128 := ⟨k.val, by have := k.isLt; omega⟩
def high (k : Fin 64) : Fin 128 := ⟨64 + k.val, by have := k.isLt; omega⟩

theorem v40_at (j : Fin 8) (k : Fin 64) : val_main_v40 (F := Ideal) H nw W qg C S (ix4 b r j k)
    = val_main_v31 (F := Ideal) H nw W qg (ix4 b r j (low k)) * C (ix2 r k) - val_main_v31 (F := Ideal) H nw W qg (ix4 b r j (high k)) * S (ix2 r k) := by
  pointwise [val_main_v40, val_main_v39, val_main_v38, val_main_v37, val_main_v36, val_main_v35, val_main_v34, val_main_v33, val_main_v32]
  rfl

theorem v45_at (j : Fin 8) (k : Fin 64) : val_main_v45 (F := Ideal) H nw W qg C S (ix4 b r j k)
    = val_main_v31 (F := Ideal) H nw W qg (ix4 b r j (high k)) * C (ix2 r k) + val_main_v31 (F := Ideal) H nw W qg (ix4 b r j (low k)) * S (ix2 r k) := by
  pointwise [val_main_v45, val_main_v44, val_main_v43, val_main_v42, val_main_v41, val_main_v35, val_main_v34, val_main_v33, val_main_v32]
  rfl

theorem v70_at (j : Fin 2) (k : Fin 64) : val_main_v70 (F := Ideal) H nw W kg C S (ix4 b r j k)
    = val_main_v61 (F := Ideal) H nw W kg (ix4 b r j (low k)) * C (ix2 r k) - val_main_v61 (F := Ideal) H nw W kg (ix4 b r j (high k)) * S (ix2 r k) := by
  pointwise [val_main_v70, val_main_v69, val_main_v68, val_main_v67, val_main_v66, val_main_v65, val_main_v64, val_main_v63, val_main_v62]
  rfl

theorem v75_at (j : Fin 2) (k : Fin 64) : val_main_v75 (F := Ideal) H nw W kg C S (ix4 b r j k)
    = val_main_v61 (F := Ideal) H nw W kg (ix4 b r j (high k)) * C (ix2 r k) + val_main_v61 (F := Ideal) H nw W kg (ix4 b r j (low k)) * S (ix2 r k) := by
  pointwise [val_main_v75, val_main_v74, val_main_v73, val_main_v72, val_main_v71, val_main_v65, val_main_v64, val_main_v63, val_main_v62]
  rfl

/-- Two arrays of 64 columns side by side along the last of four axes, at an index. -/
theorem join_at {n : ℕ} (x y : FVec Ideal ⟨4, ![8, 8192, n, 64]⟩ .f32) (h) (j : Fin n) (u : Fin 128) :
    concatenate ⟨4, ![8, 8192, n, 128]⟩ 3 [⟨⟨4, ![8, 8192, n, 64]⟩, x⟩, ⟨⟨4, ![8, 8192, n, 64]⟩, y⟩] h (ix4 b r j u)
      = if u.val < 64 then x (ix4 b r j (half u)) else y (ix4 b r j (half u)) := by
  have hu := u.isLt
  have key : ∀ (k : ℕ) (hk : k < 2) (z : FVec Ideal ⟨4, ![8, 8192, n, 64]⟩ .f32)
      (hx : [(⟨⟨4, ![8, 8192, n, 64]⟩, x⟩ : (s : Shape) × (s.Idx → EReal)), ⟨⟨4, ![8, 8192, n, 64]⟩, y⟩][k]'hk = ⟨⟨4, ![8, 8192, n, 64]⟩, z⟩) (hpre)
      (hj : u.val / 64 = k),
      concatenate ⟨4, ![8, 8192, n, 128]⟩ 3 [⟨⟨4, ![8, 8192, n, 64]⟩, x⟩, ⟨⟨4, ![8, 8192, n, 64]⟩, y⟩] h (ix4 b r j u) = z (ix4 b r j (half u)) :=
    fun k hk z hx hpre hj => concatenate_apply_piece (t := ⟨4, ![8, 8192, n, 128]⟩) 3 [⟨⟨4, ![8, 8192, n, 64]⟩, x⟩, ⟨⟨4, ![8, 8192, n, 64]⟩, y⟩] h _ k hk _ _ hx rfl (64 * k) hpre (ix4 b r j (half u))
      (fun b hb => match b with
        | ⟨0, _⟩ => rfl
        | ⟨1, _⟩ => rfl
        | ⟨2, _⟩ => rfl
        | ⟨3, _⟩ => absurd rfl hb)
      (by show 64 * k + u.val % 64 = u.val; omega)
  by_cases hl : u.val < 64
  · rw [if_pos hl]
    exact key 0 (by omega) x rfl rfl (by omega)
  · rw [if_neg hl]
    exact key 1 (by omega) y rfl rfl (by omega)

/-- The two halves of a rotation are the turned head. -/
theorem turned_halves (f : Fin 128 → EReal) (c s : Fin 64 → EReal) (u : Fin 128) :
    (if u.val < 64 then f (low (half u)) * c (half u) - f (high (half u)) * s (half u)
      else f (high (half u)) * c (half u) + f (low (half u)) * s (half u)) = turned f (both c) (signed s) u := by
  have hu := u.isLt
  by_cases h : u.val < 64
  · rw [if_pos h, turned_low f c s u h, show low (half u) = u from Fin.ext (by show u.val % 64 = u.val; omega),
      show high (half u) = over u from Fin.ext (by show 64 + u.val % 64 = (u.val + 64) % 128; omega)]
  · rw [if_neg h, turned_high f c s u h, show high (half u) = u from Fin.ext (by show 64 + u.val % 64 = u.val; omega),
      show low (half u) = over u from Fin.ext (by show u.val % 64 = (u.val + 64) % 128; omega)]

theorem v46_at (j : Fin 8) (u : Fin 128) : val_main_v46 (F := Ideal) H nw W qg C S (ix4 b r j u)
    = spun (place H nw W b r) (fun u => qg (ix1 u)) (both fun k => C (ix2 r k)) (signed fun k => S (ix2 r k)) ⟨j.val, by have := j.isLt; omega⟩ u := by
  unfold val_main_v46
  refine (join_at b r _ _ _ j u).trans ?_
  rw [v40_at, v45_at]
  refine (turned_halves (fun u => val_main_v31 (F := Ideal) H nw W qg (ix4 b r j u)) (fun k => C (ix2 r k)) (fun k => S (ix2 r k)) u).trans ?_
  simp only [v31_at, v17_at]
  rfl

theorem v76_at (j : Fin 2) (u : Fin 128) : val_main_v76 (F := Ideal) H nw W kg C S (ix4 b r j u)
    = spun (place H nw W b r) (fun u => kg (ix1 u)) (both fun k => C (ix2 r k)) (signed fun k => S (ix2 r k)) ⟨8 + j.val, by have := j.isLt; omega⟩ u := by
  unfold val_main_v76
  refine (join_at b r _ _ _ j u).trans ?_
  rw [v70_at, v75_at]
  refine (turned_halves (fun u => val_main_v61 (F := Ideal) H nw W kg (ix4 b r j u)) (fun k => C (ix2 r k)) (fun k => S (ix2 r k)) u).trans ?_
  simp only [v61_at, v18_at]
  rfl

/-- The query's heads side by side again. -/
theorem v77_at (e : Fin 1024) : val_main_v77 (F := Ideal) H nw W qg C S (ix3 b r e)
    = val_main_v48 (F := Ideal) H nw W qg C S (ix4 b r ⟨e.val / 128, by have := e.isLt; omega⟩ (placeOf e)) := by
  rw [val_main_v77_apply]
  have he := e.isLt
  have hr := r.isLt
  have hb := b.isLt
  refine congrArg _ (funext fun a => Fin.ext ?_)
  match a with
  | ⟨0, _⟩ => show ((b.val * 8192 + r.val) * 1024 + e.val) / 8388608 = b.val; omega
  | ⟨1, _⟩ => show ((b.val * 8192 + r.val) * 1024 + e.val) / 1024 % 8192 = r.val; omega
  | ⟨2, _⟩ => show ((b.val * 8192 + r.val) * 1024 + e.val) / 128 % 8 = e.val / 128; omega
  | ⟨3, _⟩ => show ((b.val * 8192 + r.val) * 1024 + e.val) % 128 = e.val % 128; omega

/-- The key's heads side by side again. -/
theorem v79_at (e : Fin 256) : val_main_v79 (F := Ideal) H nw W kg C S (ix3 b r e)
    = val_main_v76 (F := Ideal) H nw W kg C S (ix4 b r ⟨e.val / 128, by have := e.isLt; omega⟩ ⟨e.val % 128, Nat.mod_lt _ (by decide)⟩) := by
  rw [val_main_v79_apply]
  have he := e.isLt
  have hr := r.isLt
  have hb := b.isLt
  refine congrArg _ (funext fun a => Fin.ext ?_)
  match a with
  | ⟨0, _⟩ => show ((b.val * 8192 + r.val) * 256 + e.val) / 2097152 = b.val; omega
  | ⟨1, _⟩ => show ((b.val * 8192 + r.val) * 256 + e.val) / 256 % 8192 = r.val; omega
  | ⟨2, _⟩ => show ((b.val * 8192 + r.val) * 256 + e.val) / 128 % 2 = e.val / 128; omega
  | ⟨3, _⟩ => show ((b.val * 8192 + r.val) * 256 + e.val) % 128 = e.val % 128; omega

/-- The query at an index. -/
theorem v78_at (e : Fin 1024) : val_main_v78 (F := Ideal) H nw W qg C S (ix3 b r e)
    = query (place H nw W b r) (fun u => qg (ix1 u)) (both fun k => C (ix2 r k)) (signed fun k => S (ix2 r k)) e := by
  rw [val_main_v78_apply, v77_at, val_main_v48_apply, v46_at]
  unfold query
  rfl

/-- The key at an index. -/
theorem v80_at (e : Fin 256) : val_main_v80 (F := Ideal) H nw W kg C S (ix3 b r e)
    = key (place H nw W b r) (fun u => kg (ix1 u)) (both fun k => C (ix2 r k)) (signed fun k => S (ix2 r k)) e := by
  rw [val_main_v80_apply, v79_at, v76_at]
  unfold key
  rfl

/-- The value at an index. -/
theorem v81_at (e : Fin 256) : val_main_v81 (F := Ideal) H nw W (ix3 b r e) = value (place H nw W b r) e := by
  have he := e.isLt
  have h : idx_main_v16 (ix3 b r e) = ix3 b r (⟨1280 + e.val, by omega⟩ : Fin 1536) :=
    eq_ix3 _ _ _ _ rfl rfl rfl
  rw [val_main_v81_apply, val_main_v16_apply, h, v13_at]
  unfold value
  rfl

end Cert.Proof.AttnInRef
-- ==== Proof.ClaimAttnIn.lean ====
/-
  The claims about an attention layer's input projections: the frames, and the equation with the reference.
-/
module

public import proofs.«01_k».proof.Defs
public import proofs.«01_k».proof.Proof.AttnInValue
public import proofs.«01_k».proof.Proof.AttnInRef
public import proofs.«01_k».proof.Proof.Gen.KernelAttnIn.Frame

@[expose] public section

set_option maxRecDepth 16384

noncomputable section

namespace Cert.Proof.ClaimAttnIn

open Idealize.ShloMosaic Idealize.SL.Sem Cert.Proof.PostFn Cert.Proof.RecFn

theorem frame : Cert.quiescent_KernelAttnIn (hKernelAttnIn := Cert.KernelAttnIn.Gen.facts) :=
  fun m ρ _ => Cert.KernelAttnIn.Gen.frame m ρ

theorem frame_ideal : Cert.quiescent_KernelAttnInIdeal (hKernelAttnInIdeal := Cert.KernelAttnInIdeal.Gen.facts) :=
  fun m ρ _ => Cert.KernelAttnInIdeal.Gen.frame m ρ

theorem frame_ref : Cert.quiescent_ReferenceAttnInIdeal (hReferenceAttnInIdeal := Cert.ReferenceAttnInIdeal.Gen.facts) :=
  fun m ρ _ =>
    (θ_run Cert.ReferenceAttnInIdeal.defs _ _).mono (fun r h => ⟨fun c => (h c).2.2.2, sem_eq_zero_of_no_sems (by decide) r.2⟩)
      (Cert.ReferenceAttnInIdeal.Value.run (F := Ideal) m ρ)

/-- The kernel and the reference end with equal queries, keys and values. -/
theorem value : Cert.algebraic_KernelAttnInIdeal_ReferenceAttnInIdeal (hKernelAttnInIdeal := Cert.KernelAttnInIdeal.Gen.facts)
    (hReferenceAttnInIdeal := Cert.ReferenceAttnInIdeal.Gen.facts) := by
  intro m ρ m' ρ' _ hag
  let arg (c : Dev Cert.KernelAttnInIdeal.nD) (a : Ref Cert.KernelAttnInIdeal.sig .tc) :=
    m ((c.tc : Thread Cert.KernelAttnInIdeal.nD Cert.KernelAttnInIdeal.τ).loc a)
  refine ⟨fun c => Cert.ReferenceAttnInIdeal.Read.val_main_v78 (F := Ideal) (arg c Cert.KernelAttnInIdeal.main_arg0) (arg c Cert.KernelAttnInIdeal.main_arg1) (arg c Cert.KernelAttnInIdeal.main_arg2)
      (arg c Cert.KernelAttnInIdeal.main_arg3) (arg c Cert.KernelAttnInIdeal.main_arg5) (arg c Cert.KernelAttnInIdeal.main_arg6),
    fun c => Cert.ReferenceAttnInIdeal.Read.val_main_v80 (F := Ideal) (arg c Cert.KernelAttnInIdeal.main_arg0) (arg c Cert.KernelAttnInIdeal.main_arg1) (arg c Cert.KernelAttnInIdeal.main_arg2)
      (arg c Cert.KernelAttnInIdeal.main_arg4) (arg c Cert.KernelAttnInIdeal.main_arg5) (arg c Cert.KernelAttnInIdeal.main_arg6),
    fun c => Cert.ReferenceAttnInIdeal.Read.val_main_v81 (F := Ideal) (arg c Cert.KernelAttnInIdeal.main_arg0) (arg c Cert.KernelAttnInIdeal.main_arg1) (arg c Cert.KernelAttnInIdeal.main_arg2),
    (θ_run _ _ _).mono (fun r h c => ?_) (Cert.KernelAttnInIdeal.Value.run_blocks (F := Ideal) m ρ),
    (θ_run _ _ _).mono (fun r h c => ?_) (Cert.ReferenceAttnInIdeal.Value.run (F := Ideal) m' ρ')⟩
  · obtain ⟨k0, k1, k2, ka⟩ := h c
    refine ⟨k0.trans (funext fun i => ?_), k1.trans (funext fun i => ?_), k2.trans (funext fun i => ?_), ka⟩
    · rw [eq_ix3 (x := 8) (y := 8192) (z := 1024) i (i 0) (i 1) (i 2) rfl rfl rfl]
      exact (AttnInValue.final7 m c (i 0) (i 1) (i 2)).trans (AttnInRef.v78_at _ _ _ _ _ _ (i 0) (i 1) (i 2)).symm
    · rw [eq_ix3 (x := 8) (y := 8192) (z := 256) i (i 0) (i 1) (i 2) rfl rfl rfl]
      exact (AttnInValue.final8 m c (i 0) (i 1) (i 2)).trans (AttnInRef.v80_at _ _ _ _ _ _ (i 0) (i 1) (i 2)).symm
    · rw [eq_ix3 (x := 8) (y := 8192) (z := 256) i (i 0) (i 1) (i 2) rfl rfl rfl]
      exact (AttnInValue.final9 m c (i 0) (i 1) (i 2)).trans (AttnInRef.v81_at _ _ _ (i 0) (i 1) (i 2)).symm
  · obtain ⟨h0, h1, h2, h3, h4, h5, h6⟩ := hag c
    obtain ⟨k0, k1, k2, ka⟩ := h c
    refine ⟨k0.trans ?_, k1.trans ?_, k2.trans ?_, ka⟩
    · refine (Cert.ReferenceAttnInIdeal.Read.val_main_v78_eq m' c).trans ?_
      rw [h0, h1, h2, h3, h5, h6]
    · refine (Cert.ReferenceAttnInIdeal.Read.val_main_v80_eq m' c).trans ?_
      rw [h0, h1, h2, h4, h5, h6]
    · refine (Cert.ReferenceAttnInIdeal.Read.val_main_v81_eq _ _ _).trans ?_
      rw [h0, h1, h2]

end Cert.Proof.ClaimAttnIn
-- ==== Proof.RecInFirstValue.lean ====
/-
  What the input projections' kernel of the first recurrent layer leaves in its five result arrays. It differs from the other
  recurrent layer's in the gates' lower bound only: the softmax's second entry in place of a sum of three.
-/
module

public import proofs.«01_k».proof.Proof.RecInValue
public import proofs.«01_k».proof.Proof.Gen.KernelRecInFirstIdeal.Value

@[expose] public section

set_option maxRecDepth 16384

noncomputable section

namespace Cert.Proof.RecInFirstValue

open Idealize.ShloMosaic Idealize.ShloMosaic.TcCoe Idealize.SL.Sem Cert.KernelRecInFirstIdeal Cert.KernelRecInFirstIdeal.Gen
open Idealize.ShloMosaic.Pipeline (Dat)
open Cert.Proof.PostFn Cert.Proof.RecFn Cert.Proof.RecInFn

/-- The parts of the block's computation that the two layers have in common. -/
theorem pay4_same : k0_pay4 (F := Ideal) = KernelRecInIdeal.Gen.k0_pay4 := rfl
theorem pay3_same : k0_pay3 (F := Ideal) = KernelRecInIdeal.Gen.k0_pay3 := rfl
theorem pay6_same : k0_pay6 (F := Ideal) = KernelRecInIdeal.Gen.k0_pay6 := rfl
theorem pay9_same : k0_pay9 (F := Ideal) = KernelRecInIdeal.Gen.k0_pay9 := rfl
theorem pay10_same : k0_pay10 (F := Ideal) = KernelRecInIdeal.Gen.k0_pay10 := rfl
theorem pay11_same : k0_pay11 (F := Ideal) = KernelRecInIdeal.Gen.k0_pay11 := rfl

/-- The log of the gate above the bound, from the quotients. -/
theorem pay12_at (z : FVec Ideal S512x1024 .f32) (a d : FVec Ideal S4x1024 .f32) (r : Fin 512) (e : Fin 1024) :
    k0_pay12 (F := Ideal) z a d (ix2 r e)
      = Ideal.log ((∑ k : Fin 1, Ideal.div (a (ix2 ⟨1 + k.val, by have := k.isLt; omega⟩ e)) (d (ix2 ⟨1 + k.val, by have := k.isLt; omega⟩ e)))
        + (1 - ∑ k : Fin 1, Ideal.div (a (ix2 ⟨1 + k.val, by have := k.isLt; omega⟩ e)) (d (ix2 ⟨1 + k.val, by have := k.isLt; omega⟩ e)))
          * Ideal.logistic (z (ix2 r e))) := by
  pointwise [k0_pay12]

/-- The gate of a table and a projection's entry. -/
theorem gate_at (z : FVec Ideal S512x1024 .f32) (t : FVec Ideal S4x1024 .f32) (r : Fin 512) (e : Fin 1024) :
    k0_pay12 (F := Ideal) z (k0_pay10 t) (k0_pay11 t) (ix2 r e)
      = forgetFirst (fun k => t (ix2 k e)) (z (ix2 r e)) := by
  rw [pay12_at, pay10_same, pay11_same]
  simp only [RecInBlock.pay11_at, RecInBlock.pay10_at, Fin.sum_univ_one]
  rfl

/-- The second table's gate is the first's arithmetic on its own table and projection. -/
theorem pay13_eq (n : FVec Ideal S512x1024 .bf16) (W : FVec Ideal S1024x1024 .bf16) (t : FVec Ideal S4x1024 .f32) :
    k0_pay13 (F := Ideal) n W t = k0_pay12 (F := Ideal)
      (matmul dot_S512x1024_S1024x1024_S512x1024_1_0_0_1_n_n none n (shapeCast S1024x1024 W shapeCasts_S1024x1024_S1024x1024)
        (constant S512x1024 .f32 0x00000000#32)) (k0_pay10 t) (k0_pay11 t) := by
  unfold k0_pay13 k0_pay12 k0_pay11 k0_pay10
  rfl

/-- The third result's block. -/
theorem out7_at (h : FVec Ideal S1x512x1024 .f32) (nw : FVec Ideal S1x1024 .f32) (W : FVec Ideal S1024x5120 .bf16)
    (f b : FVec Ideal S4x1024 .f32) (r : Fin 512) (e : Fin 1024) :
    out0_7 (F := Ideal) h nw W f b (ix3 0 r e)
      = forgetFirst (fun k => f (ix2 k e)) (line (fun e => h (ix3 0 r e)) (fun e => nw (ix2 0 e)) (fun x u => W (ix2 x u)) 2 e) := by
  unfold out0_7
  rw [View.canon_unit_zero RecInBlock.hz3, pay3_same, pay9_same]
  refine (RecInBlock.pay3_at _ r e).trans ((gate_at _ (RecInBlock.ldt f) r e).trans ?_)
  exact congrArg₂ forgetFirst (congrArg (fun (t : FVec Ideal S4x1024 .f32) k => t (ix2 k e)) (RecInBlock.ldt_eq f))
    ((RecInBlock.pay9_at _ _ _ r e).trans (RecInBlock.line_at h nw W 2 2048 rfl _ r e))

/-- The fourth result's block. -/
theorem out8_at (h : FVec Ideal S1x512x1024 .f32) (nw : FVec Ideal S1x1024 .f32) (W : FVec Ideal S1024x5120 .bf16)
    (f b : FVec Ideal S4x1024 .f32) (r : Fin 512) (e : Fin 1024) :
    out0_8 (F := Ideal) h nw W f b (ix3 0 r e)
      = forgetFirst (fun k => b (ix2 k e)) (line (fun e => h (ix3 0 r e)) (fun e => nw (ix2 0 e)) (fun x u => W (ix2 x u)) 3 e) := by
  unfold out0_8 k0_pay16
  rw [View.canon_unit_zero RecInBlock.hz3, pay13_eq, pay4_same, pay6_same]
  refine (RecInBlock.pay4_at _ r e).trans ((gate_at _ (RecInBlock.ldt b) r e).trans ?_)
  exact congrArg₂ forgetFirst (congrArg (fun (t : FVec Ideal S4x1024 .f32) k => t (ix2 k e)) (RecInBlock.ldt_eq b))
    ((RecInBlock.dot_at _ _ r e).trans (RecInBlock.line_at h nw W 3 3072 rfl _ r e))

variable (m : (ℓ : Loc nD τ sig) → Buf (Elt Ideal) ℓ)

/-- The input blocks are those of the other layer's call on the same arguments. -/
theorem iblk_eq (c : Dev nD) (w : Fin 10) (t : Fin cfg0.N) : iblk m c w t = KernelRecInIdeal.Gen.iblk m c w t := rfl

/-- Block `j` of the projection of a row of the arguments. -/
abbrev place (c : Dev nD) (b : Fin 8) (r : Fin 8192) (e : Fin 1024) (j : Fin 5) : EReal :=
  line (fun e => m ((c : Thread nD τ).loc main_arg0) (ix3 b r e)) (fun e => m ((c : Thread nD τ).loc main_arg1) (ix1 e))
    (fun x u => m ((c : Thread nD τ).loc main_arg2) (ix2 x u)) j e

/-- A projected row of a point's blocks is one of the arguments. -/
theorem line_eq (c : Dev nD) (t : Fin cfg0.N) (s : Fin 512) (e : Fin 1024) (j : Fin 5) :
    line (fun e => iblk m c 0 t (ix3 0 s e)) (fun e => iblk m c 1 t (ix2 0 e)) (fun x u => iblk m c 2 t (ix2 x u)) j e
      = place m c (RecInValue.pb t) (RecInValue.row t s) e j := by
  rw [show (fun e => iblk m c 0 t (ix3 0 s e)) = _ from funext (RecInValue.blk0 m c t s), show (fun e => iblk m c 1 t (ix2 0 e)) = _ from funext (RecInValue.blk1 m c t),
    show (fun x u => iblk m c 2 t (ix2 x u)) = _ from funext fun x => funext (RecInValue.blk2 m c t x)]

/-- The first result array. -/
theorem final5 (c : Dev nD) (b : Fin 8) (r : Fin 8192) (e : Fin 1024) :
    (dats m 0 c).arrAt 5 cfg0.N (ix3 b (longRow r) e) = silu (place m c b r e 0) := by
  obtain ⟨t, s, rfl, rfl⟩ := RecInValue.reach b r
  refine (RecInValue.tile5 _ _ t ((Value.blocks5 m c t (flush0_5 t)).trans (Value.flushed5 m c t)) s e).trans ?_
  exact (RecInBlock.out5_at (iblk m c 0 t) (iblk m c 1 t) (iblk m c 2 t) (iblk m c 3 t) (iblk m c 4 t) s e).trans (congrArg silu (line_eq m c t s e 0))

/-- The second result array. -/
theorem final6 (c : Dev nD) (b : Fin 8) (r : Fin 8192) (e : Fin 1024) :
    (dats m 0 c).arrAt 6 cfg0.N (ix3 b (longRow r) e) = place m c b r e 1 := by
  obtain ⟨t, s, rfl, rfl⟩ := RecInValue.reach b r
  refine (RecInValue.tile6 _ _ t ((Value.blocks6 m c t (flush0_6 t)).trans (Value.flushed6 m c t)) s e).trans ?_
  exact (RecInBlock.out6_at (iblk m c 0 t) (iblk m c 1 t) (iblk m c 2 t) (iblk m c 3 t) (iblk m c 4 t) s e).trans (line_eq m c t s e 1)

/-- The third result array. -/
theorem final7 (c : Dev nD) (b : Fin 8) (r : Fin 8192) (e : Fin 1024) :
    (dats m 0 c).arrAt 7 cfg0.N (ix3 b (longRow r) e)
      = forgetFirst (fun k => m ((c : Thread nD τ).loc main_arg3) (ix2 k e)) (place m c b r e 2) := by
  obtain ⟨t, s, rfl, rfl⟩ := RecInValue.reach b r
  refine (RecInValue.tile7 _ _ t ((Value.blocks7 m c t (flush0_7 t)).trans (Value.flushed7 m c t)) s e).trans ?_
  exact (out7_at _ _ _ _ _ s e).trans (congrArg₂ forgetFirst (funext fun k => RecInValue.blk3 m c t k e) (line_eq m c t s e 2))

/-- The fourth result array. -/
theorem final8 (c : Dev nD) (b : Fin 8) (r : Fin 8192) (e : Fin 1024) :
    (dats m 0 c).arrAt 8 cfg0.N (ix3 b (longRow r) e)
      = forgetFirst (fun k => m ((c : Thread nD τ).loc main_arg4) (ix2 k e)) (place m c b r e 3) := by
  obtain ⟨t, s, rfl, rfl⟩ := RecInValue.reach b r
  refine (RecInValue.tile8 _ _ t ((Value.blocks8 m c t (flush0_8 t)).trans (Value.flushed8 m c t)) s e).trans ?_
  exact (out8_at _ _ _ _ _ s e).trans (congrArg₂ forgetFirst (funext fun k => RecInValue.blk4 m c t k e) (line_eq m c t s e 3))

/-- The fifth result array. -/
theorem final9 (c : Dev nD) (b : Fin 8) (r : Fin 8192) (e : Fin 1024) :
    (dats m 0 c).arrAt 9 cfg0.N (ix3 b r e) = silu (place m c b r e 4) := by
  obtain ⟨t, s, rfl, rfl⟩ := RecInValue.reach b r
  refine (RecInValue.tile9 _ _ t ((Value.blocks9 m c t (flush0_9 t)).trans (Value.flushed9 m c t)) s e).trans ?_
  exact (RecInBlock.out9_at (iblk m c 0 t) (iblk m c 1 t) (iblk m c 2 t) (iblk m c 3 t) (iblk m c 4 t) s e).trans (congrArg silu (line_eq m c t s e 4))

end Cert.Proof.RecInFirstValue
-- ==== Proof.RecInFirstRef.lean ====
/-
  The reference's input projections of the first recurrent layer at an index. They differ from the other recurrent layer's in
  the row of the running sums that the lower bound is taken from.
-/
module

public import proofs.«01_k».proof.Proof.RecInRef
public import proofs.«01_k».proof.Proof.Gen.ReferenceRecInFirstIdeal.Run
public import proofs.«01_k».proof.Proof.Gen.ReferenceRecInFirstIdeal.Read

@[expose] public section

set_option maxRecDepth 16384

noncomputable section

namespace Cert.Proof.RecInFirstRef

open Idealize.ShloMosaic Cert.ReferenceRecInFirstIdeal Cert.ReferenceRecInFirstIdeal.Gen Cert.ReferenceRecInFirstIdeal.Read
open Cert.Proof.PostFn Cert.Proof.RecFn Cert.Proof.RecInFn
open Cert.Proof.RecInRef (place pad_at)

variable (H : FVec Ideal S8x8192x1024 .f32) (nw : FVec Ideal S1024 .f32) (W : FVec Ideal S1024x5120 .f32)
  (T : FVec Ideal S4x1024 .f32) (b : Fin 8) (r : Fin 8192) (e : Fin 1024)

/-- The running sums are the other layer's. -/
theorem v33_same : val_main_v33 (F := Ideal) T = ReferenceRecInIdeal.Read.val_main_v33 (F := Ideal) T := rfl

theorem v33_second : val_main_v33 (F := Ideal) T (ix2 1 e) = chance (fun k => T (ix2 k e)) 0 + chance (fun k => T (ix2 k e)) 1 := by
  rw [v33_same, RecInRef.v33_eq]
  refine (running_at _ 0 _ 1 e).trans ?_
  rw [dif_neg (by decide), dif_neg (by decide), dif_pos (by decide), dif_pos (by decide), add_zero, add_zero, zero_add]
  exact congrArg₂ _ (RecInRef.v32_at T e 0) (RecInRef.v32_at T e 1)

/-- The lower bound. -/
theorem v38_at : val_main_v38 (F := Ideal) T (ix1 e) = chance (fun k => T (ix2 k e)) 1 := by
  have h : val_main_v38 (F := Ideal) T (ix1 e) = val_main_v33 (F := Ideal) T (ix2 1 e) - val_main_v33 (F := Ideal) T (ix2 0 e) := by
    pointwise [val_main_v38, val_main_v37, val_main_v36, val_main_v35, val_main_v34]
  rw [h, v33_second, v33_same, RecInRef.v33_first, lowerFirst_eq]

/-- The forward gate. -/
theorem v53_at : val_main_v53 (F := Ideal) H nw W T (ix3 b r e) = forgetFirst (fun k => T (ix2 k e)) (place H nw W b r e 2) := by
  have h : val_main_v53 (F := Ideal) H nw W T (ix3 b r e) = Ideal.log (val_main_v38 (F := Ideal) T (ix1 e)
      + (1 - val_main_v38 (F := Ideal) T (ix1 e)) * Ideal.logistic (val_main_v16 (F := Ideal) H nw W (ix3 b r e))) := by
    unfold Ideal.logistic
    pointwise [val_main_v53, val_main_v52, val_main_v51, val_main_v50, val_main_v49, val_main_v48, val_main_v47, val_main_v46,
      val_main_v45, val_main_v44, val_main_v43, val_main_v42, val_main_v41, val_main_v40, val_main_v39, val_main_cst_6,
      val_main_cst_7, val_main_cst_8]
  rw [h, v38_at]
  exact congrArg (forgetFirst fun k => T (ix2 k e)) (RecInRef.v16_at H nw W b r e)

/-- The second table's bound is computed as the first's. -/
theorem v71_eq : val_main_v71 (F := Ideal) T = val_main_v38 (F := Ideal) T := rfl

/-- The backward gate. -/
theorem v86_at : val_main_v86 (F := Ideal) H nw W T (ix3 b r e) = forgetFirst (fun k => T (ix2 k e)) (place H nw W b r e 3) := by
  have h : val_main_v86 (F := Ideal) H nw W T (ix3 b r e) = Ideal.log (val_main_v71 (F := Ideal) T (ix1 e)
      + (1 - val_main_v71 (F := Ideal) T (ix1 e)) * Ideal.logistic (val_main_v17 (F := Ideal) H nw W (ix3 b r e))) := by
    unfold Ideal.logistic
    pointwise [val_main_v86, val_main_v85, val_main_v84, val_main_v83, val_main_v82, val_main_v81, val_main_v80, val_main_v79,
      val_main_v78, val_main_v77, val_main_v76, val_main_v75, val_main_v74, val_main_v73, val_main_v72, val_main_cst_13,
      val_main_cst_14, val_main_cst_15]
  rw [h, v71_eq, v38_at]
  exact congrArg (forgetFirst fun k => T (ix2 k e)) (RecInRef.v17_at H nw W b r e)

theorem v88_at : val_main_v88 (F := Ideal) H nw W (ix3 b (longRow r) e) = silu (place H nw W b r e 0) :=
  RecInRef.v88_at H nw W b r e

theorem v89_at : val_main_v89 (F := Ideal) H nw W (ix3 b (longRow r) e) = place H nw W b r e 1 :=
  RecInRef.v89_at H nw W b r e

theorem v54_at : val_main_v54 (F := Ideal) H nw W T (ix3 b (longRow r) e) = forgetFirst (fun k => T (ix2 k e)) (place H nw W b r e 2) :=
  (pad_at b r e (val_main_v53 (F := Ideal) H nw W T) _).trans (v53_at H nw W T b r e)

theorem v87_at : val_main_v87 (F := Ideal) H nw W T (ix3 b (longRow r) e) = forgetFirst (fun k => T (ix2 k e)) (place H nw W b r e 3) :=
  (pad_at b r e (val_main_v86 (F := Ideal) H nw W T) _).trans (v86_at H nw W T b r e)

theorem v91_at : val_main_v91 (F := Ideal) H nw W (ix3 b r e) = silu (place H nw W b r e 4) :=
  RecInRef.v91_at H nw W b r e

end Cert.Proof.RecInFirstRef
-- ==== Proof.ClaimRecInFirst.lean ====
/-
  The claims about the first recurrent layer's input projections: the frames, and the equation with the reference on the rows that exist.
-/
module

public import proofs.«01_k».proof.Defs
public import proofs.«01_k».proof.Proof.ClaimRecIn
public import proofs.«01_k».proof.Proof.RecInFirstValue
public import proofs.«01_k».proof.Proof.RecInFirstRef
public import proofs.«01_k».proof.Proof.Gen.KernelRecInFirst.Frame
public import proofs.«01_k».proof.Proof.Gen.On_real_rows

@[expose] public section

set_option maxRecDepth 16384

noncomputable section

namespace Cert.Proof.ClaimRecInFirst

open Idealize.ShloMosaic Idealize.SL.Sem Cert.Proof.PostFn Cert.Proof.RecFn

theorem frame : Cert.quiescent_KernelRecInFirst (hKernelRecInFirst := Cert.KernelRecInFirst.Gen.facts) :=
  fun m ρ _ => Cert.KernelRecInFirst.Gen.frame m ρ

theorem frame_ideal : Cert.quiescent_KernelRecInFirstIdeal (hKernelRecInFirstIdeal := Cert.KernelRecInFirstIdeal.Gen.facts) :=
  fun m ρ _ => Cert.KernelRecInFirstIdeal.Gen.frame m ρ

theorem frame_ref : Cert.quiescent_ReferenceRecInFirstIdeal (hReferenceRecInFirstIdeal := Cert.ReferenceRecInFirstIdeal.Gen.facts) :=
  fun m ρ _ =>
    (θ_run Cert.ReferenceRecInFirstIdeal.defs _ _).mono (fun r h => ⟨fun c => (h c).2.2.2.2.2, sem_eq_zero_of_no_sems (by decide) r.2⟩)
      (Cert.ReferenceRecInFirstIdeal.Value.run (F := Ideal) m ρ)

/-- The kernel and the reference end with equal results on the rows that exist. -/
theorem value : Cert.algebraic_KernelRecInFirstIdeal_ReferenceRecInFirstIdeal_on_real_rows (hKernelRecInFirstIdeal := Cert.KernelRecInFirstIdeal.Gen.facts)
    (hReferenceRecInFirstIdeal := Cert.ReferenceRecInFirstIdeal.Gen.facts) (hOn_real_rows := Cert.On_real_rows.Gen.facts) := by
  intro m ρ m' ρ' _ hag
  let arg (c : Dev Cert.KernelRecInFirstIdeal.nD) (a : Ref Cert.KernelRecInFirstIdeal.sig .tc) :=
    m ((c.tc : Thread Cert.KernelRecInFirstIdeal.nD Cert.KernelRecInFirstIdeal.τ).loc a)
  refine ⟨fun c => Cert.ReferenceRecInFirstIdeal.Read.val_main_v88 (F := Ideal) (arg c Cert.KernelRecInFirstIdeal.main_arg0) (arg c Cert.KernelRecInFirstIdeal.main_arg1) (arg c Cert.KernelRecInFirstIdeal.main_arg2),
    fun c => Cert.ReferenceRecInFirstIdeal.Read.val_main_v89 (F := Ideal) (arg c Cert.KernelRecInFirstIdeal.main_arg0) (arg c Cert.KernelRecInFirstIdeal.main_arg1) (arg c Cert.KernelRecInFirstIdeal.main_arg2),
    fun c => Cert.ReferenceRecInFirstIdeal.Read.val_main_v54 (F := Ideal) (arg c Cert.KernelRecInFirstIdeal.main_arg0) (arg c Cert.KernelRecInFirstIdeal.main_arg1) (arg c Cert.KernelRecInFirstIdeal.main_arg2) (arg c Cert.KernelRecInFirstIdeal.main_arg3),
    fun c => Cert.ReferenceRecInFirstIdeal.Read.val_main_v87 (F := Ideal) (arg c Cert.KernelRecInFirstIdeal.main_arg0) (arg c Cert.KernelRecInFirstIdeal.main_arg1) (arg c Cert.KernelRecInFirstIdeal.main_arg2) (arg c Cert.KernelRecInFirstIdeal.main_arg4),
    fun c => Cert.ReferenceRecInFirstIdeal.Read.val_main_v91 (F := Ideal) (arg c Cert.KernelRecInFirstIdeal.main_arg0) (arg c Cert.KernelRecInFirstIdeal.main_arg1) (arg c Cert.KernelRecInFirstIdeal.main_arg2),
    (θ_run _ _ _).mono (fun r h c => ?_) (Cert.KernelRecInFirstIdeal.Value.run_blocks (F := Ideal) m ρ),
    (θ_run _ _ _).mono (fun r h c => ?_) (Cert.ReferenceRecInFirstIdeal.Value.run (F := Ideal) m' ρ')⟩
  · obtain ⟨k0, k1, k2, k3, k4, ka⟩ := h c
    refine ⟨fun i hi => ?_, fun i hi => ?_, fun i hi => ?_, fun i hi => ?_, fun i _ => ?_, ka⟩
    · rw [k0]
      exact ClaimRecIn.on_real (hOn := Cert.On_real_rows.Gen.facts) (arg c Cert.KernelRecInFirstIdeal.main_arg0) (arg c Cert.KernelRecInFirstIdeal.main_arg1) (arg c Cert.KernelRecInFirstIdeal.main_arg2)
        (arg c Cert.KernelRecInFirstIdeal.main_arg3) (arg c Cert.KernelRecInFirstIdeal.main_arg4) _ _
        (fun k r e => (RecInFirstValue.final5 m c k r e).trans (RecInFirstRef.v88_at _ _ _ k r e).symm) i hi
    · rw [k1]
      exact ClaimRecIn.on_real (hOn := Cert.On_real_rows.Gen.facts) (arg c Cert.KernelRecInFirstIdeal.main_arg0) (arg c Cert.KernelRecInFirstIdeal.main_arg1) (arg c Cert.KernelRecInFirstIdeal.main_arg2)
        (arg c Cert.KernelRecInFirstIdeal.main_arg3) (arg c Cert.KernelRecInFirstIdeal.main_arg4) _ _
        (fun k r e => (RecInFirstValue.final6 m c k r e).trans (RecInFirstRef.v89_at _ _ _ k r e).symm) i hi
    · rw [k2]
      exact ClaimRecIn.on_real (hOn := Cert.On_real_rows.Gen.facts) (arg c Cert.KernelRecInFirstIdeal.main_arg0) (arg c Cert.KernelRecInFirstIdeal.main_arg1) (arg c Cert.KernelRecInFirstIdeal.main_arg2)
        (arg c Cert.KernelRecInFirstIdeal.main_arg3) (arg c Cert.KernelRecInFirstIdeal.main_arg4) _ _
        (fun k r e => (RecInFirstValue.final7 m c k r e).trans (RecInFirstRef.v54_at _ _ _ _ k r e).symm) i hi
    · rw [k3]
      exact ClaimRecIn.on_real (hOn := Cert.On_real_rows.Gen.facts) (arg c Cert.KernelRecInFirstIdeal.main_arg0) (arg c Cert.KernelRecInFirstIdeal.main_arg1) (arg c Cert.KernelRecInFirstIdeal.main_arg2)
        (arg c Cert.KernelRecInFirstIdeal.main_arg3) (arg c Cert.KernelRecInFirstIdeal.main_arg4) _ _
        (fun k r e => (RecInFirstValue.final8 m c k r e).trans (RecInFirstRef.v87_at _ _ _ _ k r e).symm) i hi
    · rw [k4, eq_ix3 (x := 8) (y := 8192) (z := 1024) i (i 0) (i 1) (i 2) rfl rfl rfl]
      exact (RecInFirstValue.final9 m c (i 0) (i 1) (i 2)).trans (RecInFirstRef.v91_at _ _ _ (i 0) (i 1) (i 2)).symm
  · obtain ⟨h0, h1, h2, h3, h4⟩ := hag c
    obtain ⟨k0, k1, k2, k3, k4, ka⟩ := h c
    refine ⟨fun i _ => congrFun (k0.trans ?_) i, fun i _ => congrFun (k1.trans ?_) i, fun i _ => congrFun (k2.trans ?_) i,
      fun i _ => congrFun (k3.trans ?_) i, fun i _ => congrFun (k4.trans ?_) i, ka⟩
    · refine (Cert.ReferenceRecInFirstIdeal.Read.val_main_v88_eq _ _ _).trans ?_
      rw [h0, h1, h2]
    · refine (Cert.ReferenceRecInFirstIdeal.Read.val_main_v89_eq _ _ _).trans ?_
      rw [h0, h1, h2]
    · refine (Cert.ReferenceRecInFirstIdeal.Read.val_main_v54_eq m' c).trans ?_
      rw [h0, h1, h2, h3]
    · refine (Cert.ReferenceRecInFirstIdeal.Read.val_main_v87_eq m' c).trans ?_
      rw [h0, h1, h2, h4]
    · refine (Cert.ReferenceRecInFirstIdeal.Read.val_main_v91_eq _ _ _).trans ?_
      rw [h0, h1, h2]

end Cert.Proof.ClaimRecInFirst
-- ==== Proof.AttnMetaPay.lean ====
/-
  The meta tokens' attention kernel's values read at an index: the mask, the scores, and the attended row of one head.
-/
module

public import proofs.«01_k».proof.Proof.AttnPay
public import proofs.«01_k».proof.Proof.Gen.KernelAttnMetaIdeal.Skeleton

@[expose] public section

set_option maxRecDepth 16384

noncomputable section

namespace Cert.Proof.AttnMetaPay

open Idealize.ShloMosaic Idealize.ShloMosaic.WordCmp Cert.KernelAttnMetaIdeal Cert.KernelAttnMetaIdeal.Gen Cert.Proof.Softmax
open Cert.Proof.AttnPay (neg_inf)

/-! ## The mask -/

/-- Meta token `a` sees row `c` of the sequence: the row lies behind the 16 meta tokens, at most 128 positions away. -/
def SeesM (a c : ℕ) : Prop := c ≤ a + 112

instance (a c : ℕ) : Decidable (SeesM a c) := by unfold SeesM; infer_instance

/-- The kernel's row word: the stacked row's number modulo 16. -/
theorem row_word : ∀ r : Fin 64,
    Scalar.select
      (IntOp.andi
        (IntOp.xori
          (IntOp.cmpi CmpIPredicate.slt
            (IntOp.remsi ArithUnit.vector (BitVec.ofNat 32 ↑r)
              (Scalar.select (Scalar.cmpi CmpIPredicate.eq 16#32 0#32) 1#32 16#32)) 0#32)
          (Scalar.cmpi CmpIPredicate.slt
            (Scalar.select (Scalar.cmpi CmpIPredicate.eq 16#32 0#32) 1#32 16#32) 0#32))
        (IntOp.cmpi CmpIPredicate.ne
          (IntOp.remsi ArithUnit.vector (BitVec.ofNat 32 ↑r)
            (Scalar.select (Scalar.cmpi CmpIPredicate.eq 16#32 0#32) 1#32 16#32)) 0#32))
      (IntOp.addi
        (IntOp.remsi ArithUnit.vector (BitVec.ofNat 32 ↑r)
          (Scalar.select (Scalar.cmpi CmpIPredicate.eq 16#32 0#32) 1#32 16#32))
        (Scalar.select (Scalar.cmpi CmpIPredicate.eq 16#32 0#32) 1#32 16#32))
      (IntOp.remsi ArithUnit.vector (BitVec.ofNat 32 ↑r)
        (Scalar.select (Scalar.cmpi CmpIPredicate.eq 16#32 0#32) 1#32 16#32))
    = BitVec.ofNat 32 (r.val % 16) := by decide +kernel

/-- The sequence row's position less the meta token's is at most 128. -/
theorem near_word : ∀ (a : Fin 16) (c : Fin 128),
    IntOp.cmpi .sle (IntOp.subi (IntOp.addi 16#32 (BitVec.ofNat 32 c.val)) (BitVec.ofNat 32 a.val)) 128#32 = 1#1
      ↔ SeesM a.val c.val := by decide +kernel

/-- The mask's bit is set exactly where the meta token sees the row. -/
theorem mask_at (r : Fin 64) (c : Fin 128) : k0_pay6 (ix2 r c) = 1#1 ↔ SeesM (r.val % 16) c.val := by
  rw [← near_word ⟨r.val % 16, Nat.mod_lt _ (by norm_num)⟩ c]
  pointwise [k0_pay6]
  rw [row_word r]

/-! ## The attended row -/

/-- What belongs to a stacked row: one of the four heads', 16 rows each. -/
def four {α : Type} (s0 s1 s2 s3 : α) (r : ℕ) : α :=
  if r < 16 then s0 else if r - 16 < 16 then s1 else if r - 16 - 16 < 16 then s2 else s3

/-- The meta token of a stacked row. -/
def tok (r : Fin 64) : Fin 16 := ⟨r.val % 16, Nat.mod_lt _ (by norm_num)⟩

/-- One head's attended row `a` at lane `d`: the scores against the meta tokens and against the sequence rows it sees,
    with the head's sink. -/
def headRow (q km vm : FVec Ideal S1x16x128 .bf16) (k v : FVec Ideal S1x128x128 .bf16) (s : EReal) (a : Fin 16)
    (d : Fin 128) : EReal :=
  attend (fun j : Fin 16 => ∑ e : Fin 128, q (ix3 0 a e) * km (ix3 0 j e))
    (fun c : Fin 128 => if SeesM a.val c.val then ∑ e : Fin 128, q (ix3 0 a e) * k (ix3 0 c e) else ⊥) s
    (fun j => vm (ix3 0 j d)) (fun c => v (ix3 0 c d))

/-- The four heads' queries stacked, read at a row: row modulo 16 of the head the row belongs to. -/
theorem stacked (x y z w : FVec Ideal S1x16x128 .bf16) (r : Fin 64) (e : Fin 128) :
    (if h : r.val < 16 then x (ix3 0 ⟨r.val, h⟩ e)
      else if h : r.val - 16 < 16 then y (ix3 0 ⟨r.val - 16, h⟩ e)
      else if h : r.val - 16 - 16 < 16 then z (ix3 0 ⟨r.val - 16 - 16, h⟩ e)
      else w (ix3 0 ⟨r.val - 16 - 16 - 16, by have := r.isLt; omega⟩ e))
      = four x y z w r.val (ix3 0 (tok r) e) := by
  have hr := r.isLt
  unfold four tok
  split
  · exact congrArg (fun i => x (ix3 0 i e)) (Fin.ext (by simp only []; omega))
  split
  · exact congrArg (fun i => y (ix3 0 i e)) (Fin.ext (by simp only []; omega))
  split
  · exact congrArg (fun i => z (ix3 0 i e)) (Fin.ext (by simp only []; omega))
  · exact congrArg (fun i => w (ix3 0 i e)) (Fin.ext (by simp only []; omega))

/-- The stacked queries at a row. -/
theorem pay7_at (x y z w : FVec Ideal S1x16x128 .bf16) (r : Fin 64) (e : Fin 128) :
    k0_pay7 (F := Ideal) x y z w (ix2 r e) = four x y z w r.val (ix3 0 (tok r) e) := by
  rw [← stacked]
  pointwise [k0_pay7]

/-- The scores against the meta tokens. -/
theorem pay8_at (x y z w km : FVec Ideal S1x16x128 .bf16) (r : Fin 64) (j : Fin 16) :
    k0_pay8 (F := Ideal) x y z w km (ix2 r j)
      = ∑ e : Fin 128, four x y z w r.val (ix3 0 (tok r) e) * km (ix3 0 j e) := by
  simp only [← pay7_at]
  pointwise [k0_pay8]

/-- The masked scores against the sequence rows. -/
theorem pay9_at (q4 : FVec Ideal S64x128 .bf16) (k : FVec Ideal S1x128x128 .bf16) (r : Fin 64) (c : Fin 128) :
    k0_pay9 (F := Ideal) k0_pay6 q4 k (ix2 r c)
      = if SeesM (r.val % 16) c.val then ∑ e : Fin 128, q4 (ix2 r e) * k (ix3 0 c e) else ⊥ := by
  simp only [← mask_at]
  pointwise [k0_pay9, Scalar.select]
  simp only [neg_inf]
  rfl

/-- The stacked sinks. -/
theorem pay10_at (s0 s1 s2 s3 : Ideal .f32) (r : Fin 64) :
    k0_pay10 (F := Ideal) s0 s1 s2 s3 (ix2 r 0) = four s0 s1 s2 s3 r.val := by
  pointwise [k0_pay10, four]
  simp only [dite_eq_ite]

section Group0

variable (q4 : FVec Ideal S64x128 .bf16) (sm : FVec Ideal S64x16 .f32) (k : FVec Ideal S1x128x128 .bf16)
    (s0 s1 s2 s3 : Ideal .f32) (r : Fin 64)

/-- The scores of a stacked row against the sequence rows. -/
abbrev sreal (c : Fin 128) : EReal := k0_pay9 (F := Ideal) k0_pay6 q4 k (ix2 r c)

/-- The greatest score of a stacked row. -/
theorem pay12_at : k0_pay12 (F := Ideal) k0_pay6 q4 sm k s0 s1 s2 s3 (ix2 r 0)
    = rowMax (fun j : Fin 16 => sm (ix2 r j)) (sreal q4 k r) (four s0 s1 s2 s3 r.val) := by
  rw [← pay10_at]
  pointwise [k0_pay12, rowMax]
  simp only [neg_inf]

theorem pay13_at (j : Fin 16) : k0_pay13 (F := Ideal) k0_pay6 q4 sm k s0 s1 s2 s3 (ix2 r j)
    = Ideal.exp (sm (ix2 r j) - rowMax (fun j : Fin 16 => sm (ix2 r j)) (sreal q4 k r) (four s0 s1 s2 s3 r.val)) := by
  rw [← pay12_at]
  pointwise [k0_pay13]

theorem pay15_at (c : Fin 128) : k0_pay15 (F := Ideal) k0_pay6 q4 sm k s0 s1 s2 s3 (ix2 r c)
    = Ideal.exp (sreal q4 k r c - rowMax (fun j : Fin 16 => sm (ix2 r j)) (sreal q4 k r) (four s0 s1 s2 s3 r.val)) := by
  rw [← pay12_at]
  pointwise [k0_pay15]

/-- The denominator of a stacked row. -/
theorem pay16_at : k0_pay16 (F := Ideal) k0_pay6 q4 sm k s0 s1 s2 s3 (ix2 r 0)
    = den (fun j : Fin 16 => sm (ix2 r j)) (sreal q4 k r) (four s0 s1 s2 s3 r.val) := by
  have h : k0_pay16 (F := Ideal) k0_pay6 q4 sm k s0 s1 s2 s3 (ix2 r 0)
      = Ideal.exp (k0_pay10 (F := Ideal) s0 s1 s2 s3 (ix2 r 0) - k0_pay12 (F := Ideal) k0_pay6 q4 sm k s0 s1 s2 s3 (ix2 r 0))
        + ∑ j : Fin 16, k0_pay13 (F := Ideal) k0_pay6 q4 sm k s0 s1 s2 s3 (ix2 r j)
        + ∑ c : Fin 128, k0_pay15 (F := Ideal) k0_pay6 q4 sm k s0 s1 s2 s3 (ix2 r c) := by
    pointwise [k0_pay16]
  rw [h]
  simp only [pay13_at, pay15_at, pay12_at, pay10_at]
  rfl

/-- The first group's attended rows, from its queries and scores. -/
theorem pay17_at (vm : FVec Ideal S1x16x128 .bf16) (v : FVec Ideal S1x128x128 .bf16) (d : Fin 128) :
    k0_pay17 (F := Ideal) (k0_pay11 v) (k0_pay14 k0_pay6 q4 sm k s0 s1 s2 s3 vm) (k0_pay15 k0_pay6 q4 sm k s0 s1 s2 s3)
        (k0_pay16 k0_pay6 q4 sm k s0 s1 s2 s3) (ix2 r d)
      = attend (fun j : Fin 16 => sm (ix2 r j)) (sreal q4 k r) (four s0 s1 s2 s3 r.val)
          (fun j => vm (ix3 0 j d)) (fun c => v (ix3 0 c d)) := by
  have h : k0_pay17 (F := Ideal) (k0_pay11 v) (k0_pay14 k0_pay6 q4 sm k s0 s1 s2 s3 vm)
        (k0_pay15 k0_pay6 q4 sm k s0 s1 s2 s3) (k0_pay16 k0_pay6 q4 sm k s0 s1 s2 s3) (ix2 r d)
      = Ideal.div (∑ j : Fin 16, k0_pay13 (F := Ideal) k0_pay6 q4 sm k s0 s1 s2 s3 (ix2 r j) * vm (ix3 0 j d)
          + ∑ c : Fin 128, k0_pay15 (F := Ideal) k0_pay6 q4 sm k s0 s1 s2 s3 (ix2 r c) * v (ix3 0 c d))
        (k0_pay16 (F := Ideal) k0_pay6 q4 sm k s0 s1 s2 s3 (ix2 r 0)) := by
    pointwise [k0_pay17, k0_pay14, k0_pay11]
  rw [h]
  simp only [pay13_at, pay15_at, pay16_at]
  rfl

end Group0

/-- The attended rows of the first group. -/
theorem group0_at (q0 q1 q2 q3 km vm : FVec Ideal S1x16x128 .bf16) (k v : FVec Ideal S1x128x128 .bf16)
    (s0 s1 s2 s3 : Ideal .f32) (r : Fin 64) (d : Fin 128) :
    k0_pay17 (F := Ideal) (k0_pay11 v)
        (k0_pay14 k0_pay6 (k0_pay7 q0 q1 q2 q3) (k0_pay8 q0 q1 q2 q3 km) k s0 s1 s2 s3 vm)
        (k0_pay15 k0_pay6 (k0_pay7 q0 q1 q2 q3) (k0_pay8 q0 q1 q2 q3 km) k s0 s1 s2 s3)
        (k0_pay16 k0_pay6 (k0_pay7 q0 q1 q2 q3) (k0_pay8 q0 q1 q2 q3 km) k s0 s1 s2 s3) (ix2 r d)
      = headRow (four q0 q1 q2 q3 r.val) km vm k v (four s0 s1 s2 s3 r.val) (tok r) d := by
  rw [pay17_at]
  unfold sreal
  simp only [pay8_at, pay9_at, pay7_at]
  rfl

/-! ## The stored rows -/

/-- Row `a` of the stack's part `g`. -/
def srow (g : Fin 4) (a : Fin 16) : Fin 64 := ⟨16 * g.val + a.val, by have := g.isLt; have := a.isLt; omega⟩

theorem four_srow {α : Type} (s : Fin 4 → α) (g : Fin 4) (a : Fin 16) :
    four (s 0) (s 1) (s 2) (s 3) (srow g a).val = s g := by
  have ha := a.isLt
  unfold four srow
  match g with
  | 0 => rw [if_pos (by simp only [Fin.val_zero]; omega)]
  | 1 => rw [if_neg (by simp only [Fin.val_one]; omega), if_pos (by simp only [Fin.val_one]; omega)]
  | 2 => rw [if_neg (by simp only [Fin.val_two]; omega), if_neg (by simp only [Fin.val_two]; omega), if_pos (by simp only [Fin.val_two]; omega)]
  | 3 => rw [if_neg (by simp only []; omega), if_neg (by simp only []; omega), if_neg (by simp only []; omega)]

theorem tok_srow (g : Fin 4) (a : Fin 16) : tok (srow g a) = a := by
  have ha := a.isLt
  exact Fin.ext (by simp only [srow, tok]; omega)

/-- The first group, the stack's part `g`: head `g`'s attended row. -/
theorem group0_row (q : Fin 4 → FVec Ideal S1x16x128 .bf16) (km vm : FVec Ideal S1x16x128 .bf16)
    (k v : FVec Ideal S1x128x128 .bf16) (s : Fin 4 → Ideal .f32) (g : Fin 4) (a : Fin 16) (d : Fin 128) :
    k0_pay17 (F := Ideal) (k0_pay11 v)
        (k0_pay14 k0_pay6 (k0_pay7 (q 0) (q 1) (q 2) (q 3)) (k0_pay8 (q 0) (q 1) (q 2) (q 3) km) k (s 0) (s 1) (s 2) (s 3) vm)
        (k0_pay15 k0_pay6 (k0_pay7 (q 0) (q 1) (q 2) (q 3)) (k0_pay8 (q 0) (q 1) (q 2) (q 3) km) k (s 0) (s 1) (s 2) (s 3))
        (k0_pay16 k0_pay6 (k0_pay7 (q 0) (q 1) (q 2) (q 3)) (k0_pay8 (q 0) (q 1) (q 2) (q 3) km) k (s 0) (s 1) (s 2) (s 3))
        (ix2 (srow g a) d)
      = headRow (q g) km vm k v (s g) a d := by
  rw [group0_at, four_srow q, four_srow s, tok_srow]

/-- What the first group's stores write: the stack's parts. -/
theorem pay18_at (x : FVec Ideal S128x128 .bf16) (y z : FVec Ideal S64x128 .f32) (w : FVec Ideal S64x1 .f32) (a : Fin 16) (d : Fin 128) :
    k0_pay18 x y z w (ix3 0 a d) = k0_pay17 x y z w (ix2 (srow 0 a) d) := by
  pointwise [k0_pay18, srow]

theorem pay19_at (x : FVec Ideal S128x128 .bf16) (y z : FVec Ideal S64x128 .f32) (w : FVec Ideal S64x1 .f32) (a : Fin 16) (d : Fin 128) :
    k0_pay19 x y z w (ix3 0 a d) = k0_pay17 x y z w (ix2 (srow 1 a) d) := by
  pointwise [k0_pay19, srow]

theorem pay20_at (x : FVec Ideal S128x128 .bf16) (y z : FVec Ideal S64x128 .f32) (w : FVec Ideal S64x1 .f32) (a : Fin 16) (d : Fin 128) :
    k0_pay20 x y z w (ix3 0 a d) = k0_pay17 x y z w (ix2 (srow 2 a) d) := by
  pointwise [k0_pay20, srow]

theorem pay21_at (x : FVec Ideal S128x128 .bf16) (y z : FVec Ideal S64x128 .f32) (w : FVec Ideal S64x1 .f32) (a : Fin 16) (d : Fin 128) :
    k0_pay21 x y z w (ix3 0 a d) = k0_pay17 x y z w (ix2 (srow 3 a) d) := by
  pointwise [k0_pay21, srow]

/-- What the second group's stores write. -/
theorem pay2_at (sc : FVec Ideal S64x128 .f32) (vm : FVec Ideal S16x128 .bf16) (v : FVec Ideal S128x128 .bf16)
    (mx : FVec Ideal S64x1 .f32) (p : FVec Ideal S64x16 .f32) (l : FVec Ideal S64x1 .f32) (a : Fin 16) (d : Fin 128) :
    k0_pay2 sc vm v mx p l (ix3 0 a d) = k0_pay1 sc vm v mx p l (ix2 (srow 0 a) d) := by
  pointwise [k0_pay2, srow]

theorem pay3_at (sc : FVec Ideal S64x128 .f32) (vm : FVec Ideal S16x128 .bf16) (v : FVec Ideal S128x128 .bf16)
    (mx : FVec Ideal S64x1 .f32) (p : FVec Ideal S64x16 .f32) (l : FVec Ideal S64x1 .f32) (a : Fin 16) (d : Fin 128) :
    k0_pay3 sc vm v mx p l (ix3 0 a d) = k0_pay1 sc vm v mx p l (ix2 (srow 1 a) d) := by
  pointwise [k0_pay3, srow]

theorem pay4_at (sc : FVec Ideal S64x128 .f32) (vm : FVec Ideal S16x128 .bf16) (v : FVec Ideal S128x128 .bf16)
    (mx : FVec Ideal S64x1 .f32) (p : FVec Ideal S64x16 .f32) (l : FVec Ideal S64x1 .f32) (a : Fin 16) (d : Fin 128) :
    k0_pay4 sc vm v mx p l (ix3 0 a d) = k0_pay1 sc vm v mx p l (ix2 (srow 2 a) d) := by
  pointwise [k0_pay4, srow]

theorem pay5_at (sc : FVec Ideal S64x128 .f32) (vm : FVec Ideal S16x128 .bf16) (v : FVec Ideal S128x128 .bf16)
    (mx : FVec Ideal S64x1 .f32) (p : FVec Ideal S64x16 .f32) (l : FVec Ideal S64x1 .f32) (a : Fin 16) (d : Fin 128) :
    k0_pay5 sc vm v mx p l (ix3 0 a d) = k0_pay1 sc vm v mx p l (ix2 (srow 3 a) d) := by
  pointwise [k0_pay5, srow]

end Cert.Proof.AttnMetaPay
-- ==== Proof.AttnMetaBlock.lean ====
/-
  What one grid point of the meta tokens' attention kernel writes: one batch's 16 rows, head by head.
-/
module

public import proofs.«01_k».proof.Proof.AttnMetaPay
public import proofs.«01_k».proof.Proof.AttnBlock
public import proofs.«01_k».proof.Proof.Gen.KernelAttnMetaIdeal.Value

@[expose] public section

set_option maxRecDepth 16384

noncomputable section

namespace Cert.Proof.AttnMetaBlock

open Idealize.ShloMosaic Idealize.ShloMosaic.TcCoe Idealize.SL.Sem Cert.KernelAttnMetaIdeal Cert.KernelAttnMetaIdeal.Gen
open Cert.Proof.Softmax Cert.Proof.AttnMetaPay
open Cert.Proof.AttnBlock (qcol kcol ldk ldm lds ldk_at ldm_at lds_at)

variable (m : (ℓ : Loc nD τ sig) → Buf (Elt Ideal) ℓ)

/-- Head `h` of the block, at meta token `a` and lane `d`. -/
def headB (sk : FVec Ideal S8 .f32) (q : FVec Ideal S1x16x1024 .bf16) (km vm : FVec Ideal S1x16x256 .bf16)
    (k v : FVec Ideal S1x128x256 .bf16) (h : Fin 8) (a : Fin 16) (d : Fin 128) : EReal :=
  attend (fun j : Fin 16 => ∑ e : Fin 128, q (ix3 0 a (qcol h e)) * km (ix3 0 j (kcol h e)))
    (fun c : Fin 128 =>
      if SeesM a.val c.val then ∑ e : Fin 128, q (ix3 0 a (qcol h e)) * k (ix3 0 c (kcol h e)) else ⊥)
    (sk (ix1 h)) (fun j => vm (ix3 0 j (kcol h d))) (fun c => v (ix3 0 c (kcol h d)))

/-- The block: every row and column, the column's head first. -/
def blockB (sk : FVec Ideal S8 .f32) (q : FVec Ideal S1x16x1024 .bf16) (km vm : FVec Ideal S1x16x256 .bf16)
    (k v : FVec Ideal S1x128x256 .bf16) : FVec Ideal S1x16x1024 .bf16 := fun y =>
  headB sk q km vm k v ⟨(y 2).val / 128, by have : (y 2).val < 1024 := (y 2).isLt; omega⟩ (y 1)
    ⟨(y 2).val % 128, Nat.mod_lt _ (by norm_num)⟩

theorem blockB_at (sk : FVec Ideal S8 .f32) (q : FVec Ideal S1x16x1024 .bf16) (km vm : FVec Ideal S1x16x256 .bf16)
    (k v : FVec Ideal S1x128x256 .bf16) (y : S1x16x1024.Idx) (h : Fin 8) (a : Fin 16) (d : Fin 128)
    (h1 : (y 1).val = a.val) (h2 : (y 2).val = 128 * h.val + d.val) :
    blockB sk q km vm k v y = headB sk q km vm k v h a d := by
  have hd := d.isLt
  unfold blockB
  have e1 : (⟨(y 2).val / 128, by have : (y 2).val < 1024 := (y 2).isLt; omega⟩ : Fin 8) = h := Fin.ext (by simp only []; omega)
  have e2 : (⟨(y 2).val % 128, Nat.mod_lt _ (by norm_num)⟩ : Fin 128) = d := Fin.ext (by simp only []; omega)
  have e3 : (y 1 : Fin 16) = a := Fin.ext h1
  rw [e1, e2]
  exact congrArg (fun a => headB sk q km vm k v h a d) e3

/-- The queries of one head as the kernel loads them: 128 columns from column `o` on. -/
def ldq (q : FVec Ideal S1x16x1024 .bf16) (o : ℕ)
    (inb : ∀ a, (![0, 0, o] : Fin 3 → ℕ) a + (![1, 16, 128] : Fin 3 → ℕ) a ≤ S1x16x1024.size a) : FVec Ideal S1x16x128 .bf16 :=
  View.ld (Val := Elt Ideal) (S := S1x16x1024) (e' := .bf16) q (Rect.unit ![0, 0, o] ![1, 16, 128] inb)

theorem ldq_at (q : FVec Ideal S1x16x1024 .bf16) (h : Fin 8) (inb) (a : Fin 16) (e : Fin 128) :
    ldq q (128 * h.val) inb (ix3 0 a e) = q (ix3 0 a (qcol h e)) := by
  unfold qcol ldq
  pointwise

/-- One head's attended row, from the parts of the blocks that the kernel loads for it. -/
theorem headRow_ld (sk : FVec Ideal S8 .f32) (q : FVec Ideal S1x16x1024 .bf16) (km vm : FVec Ideal S1x16x256 .bf16)
    (k v : FVec Ideal S1x128x256 .bf16) (h : Fin 8) (a : Fin 16) (d : Fin 128)
    (oq ok : ℕ) (hq : oq = 128 * h.val) (hk : ok = 128 * (h.val / 4)) (iq ik im is) :
    headRow (ldq q oq iq) (ldm km ok im) (ldm vm ok im) (ldk k ok ik) (ldk v ok ik) (lds sk h.val is) a d
      = headB sk q km vm k v h a d := by
  subst hq hk
  unfold headRow headB
  simp only [ldq_at, ldk_at, ldm_at, lds_at]

/-- The first group of four heads, from the parts of the blocks the kernel loads for it. -/
theorem group0_ld (sk : FVec Ideal S8 .f32) (q : FVec Ideal S1x16x1024 .bf16) (km vm : FVec Ideal S1x16x256 .bf16)
    (k v : FVec Ideal S1x128x256 .bf16) (g : Fin 4) (a : Fin 16) (d : Fin 128) :
    k0_pay17 (F := Ideal) (k0_pay11 (ldk v 0 inb_S1x128x256_S1x128x128_0_0_0))
        (k0_pay14 k0_pay6
          (k0_pay7 (ldq q 0 inb_S1x16x1024_S1x16x128_0_0_0) (ldq q 128 inb_S1x16x1024_S1x16x128_0_0_128) (ldq q 256 inb_S1x16x1024_S1x16x128_0_0_256) (ldq q 384 inb_S1x16x1024_S1x16x128_0_0_384))
          (k0_pay8 (ldq q 0 inb_S1x16x1024_S1x16x128_0_0_0) (ldq q 128 inb_S1x16x1024_S1x16x128_0_0_128) (ldq q 256 inb_S1x16x1024_S1x16x128_0_0_256) (ldq q 384 inb_S1x16x1024_S1x16x128_0_0_384)
            (ldm km 0 inb_S1x16x256_S1x16x128_0_0_0))
          (ldk k 0 inb_S1x128x256_S1x128x128_0_0_0)
          (lds sk 0 inb_S8_S1_0) (lds sk 1 inb_S8_S1_1) (lds sk 2 inb_S8_S1_2) (lds sk 3 inb_S8_S1_3)
          (ldm vm 0 inb_S1x16x256_S1x16x128_0_0_0))
        (k0_pay15 k0_pay6
          (k0_pay7 (ldq q 0 inb_S1x16x1024_S1x16x128_0_0_0) (ldq q 128 inb_S1x16x1024_S1x16x128_0_0_128) (ldq q 256 inb_S1x16x1024_S1x16x128_0_0_256) (ldq q 384 inb_S1x16x1024_S1x16x128_0_0_384))
          (k0_pay8 (ldq q 0 inb_S1x16x1024_S1x16x128_0_0_0) (ldq q 128 inb_S1x16x1024_S1x16x128_0_0_128) (ldq q 256 inb_S1x16x1024_S1x16x128_0_0_256) (ldq q 384 inb_S1x16x1024_S1x16x128_0_0_384)
            (ldm km 0 inb_S1x16x256_S1x16x128_0_0_0))
          (ldk k 0 inb_S1x128x256_S1x128x128_0_0_0)
          (lds sk 0 inb_S8_S1_0) (lds sk 1 inb_S8_S1_1) (lds sk 2 inb_S8_S1_2) (lds sk 3 inb_S8_S1_3))
        (k0_pay16 k0_pay6
          (k0_pay7 (ldq q 0 inb_S1x16x1024_S1x16x128_0_0_0) (ldq q 128 inb_S1x16x1024_S1x16x128_0_0_128) (ldq q 256 inb_S1x16x1024_S1x16x128_0_0_256) (ldq q 384 inb_S1x16x1024_S1x16x128_0_0_384))
          (k0_pay8 (ldq q 0 inb_S1x16x1024_S1x16x128_0_0_0) (ldq q 128 inb_S1x16x1024_S1x16x128_0_0_128) (ldq q 256 inb_S1x16x1024_S1x16x128_0_0_256) (ldq q 384 inb_S1x16x1024_S1x16x128_0_0_384)
            (ldm km 0 inb_S1x16x256_S1x16x128_0_0_0))
          (ldk k 0 inb_S1x128x256_S1x128x128_0_0_0)
          (lds sk 0 inb_S8_S1_0) (lds sk 1 inb_S8_S1_1) (lds sk 2 inb_S8_S1_2) (lds sk 3 inb_S8_S1_3)) (ix2 (srow g a) d)
      = headB sk q km vm k v ⟨0 + g.val, by have := g.isLt; omega⟩ a d := by
  refine (group0_row ![ldq q 0 inb_S1x16x1024_S1x16x128_0_0_0, ldq q 128 inb_S1x16x1024_S1x16x128_0_0_128, ldq q 256 inb_S1x16x1024_S1x16x128_0_0_256, ldq q 384 inb_S1x16x1024_S1x16x128_0_0_384] _ _ _ _
    ![lds sk 0 inb_S8_S1_0, lds sk 1 inb_S8_S1_1, lds sk 2 inb_S8_S1_2, lds sk 3 inb_S8_S1_3] g a d).trans ?_
  match g with
  | 0 => exact headRow_ld sk q km vm k v 0 a d 0 0 rfl rfl _ _ _ _
  | 1 => exact headRow_ld sk q km vm k v 1 a d 128 0 rfl rfl _ _ _ _
  | 2 => exact headRow_ld sk q km vm k v 2 a d 256 0 rfl rfl _ _ _ _
  | 3 => exact headRow_ld sk q km vm k v 3 a d 384 0 rfl rfl _ _ _ _

/-- The second group of four heads, from the parts of the blocks the kernel loads for it. -/
theorem group1_ld (sk : FVec Ideal S8 .f32) (q : FVec Ideal S1x16x1024 .bf16) (km vm : FVec Ideal S1x16x256 .bf16)
    (k v : FVec Ideal S1x128x256 .bf16) (g : Fin 4) (a : Fin 16) (d : Fin 128) :
    k0_pay17 (F := Ideal) (k0_pay11 (ldk v 128 inb_S1x128x256_S1x128x128_0_0_128))
        (k0_pay14 k0_pay6
          (k0_pay7 (ldq q 512 inb_S1x16x1024_S1x16x128_0_0_512) (ldq q 640 inb_S1x16x1024_S1x16x128_0_0_640) (ldq q 768 inb_S1x16x1024_S1x16x128_0_0_768) (ldq q 896 inb_S1x16x1024_S1x16x128_0_0_896))
          (k0_pay8 (ldq q 512 inb_S1x16x1024_S1x16x128_0_0_512) (ldq q 640 inb_S1x16x1024_S1x16x128_0_0_640) (ldq q 768 inb_S1x16x1024_S1x16x128_0_0_768) (ldq q 896 inb_S1x16x1024_S1x16x128_0_0_896)
            (ldm km 128 inb_S1x16x256_S1x16x128_0_0_128))
          (ldk k 128 inb_S1x128x256_S1x128x128_0_0_128)
          (lds sk 4 inb_S8_S1_4) (lds sk 5 inb_S8_S1_5) (lds sk 6 inb_S8_S1_6) (lds sk 7 inb_S8_S1_7)
          (ldm vm 128 inb_S1x16x256_S1x16x128_0_0_128))
        (k0_pay15 k0_pay6
          (k0_pay7 (ldq q 512 inb_S1x16x1024_S1x16x128_0_0_512) (ldq q 640 inb_S1x16x1024_S1x16x128_0_0_640) (ldq q 768 inb_S1x16x1024_S1x16x128_0_0_768) (ldq q 896 inb_S1x16x1024_S1x16x128_0_0_896))
          (k0_pay8 (ldq q 512 inb_S1x16x1024_S1x16x128_0_0_512) (ldq q 640 inb_S1x16x1024_S1x16x128_0_0_640) (ldq q 768 inb_S1x16x1024_S1x16x128_0_0_768) (ldq q 896 inb_S1x16x1024_S1x16x128_0_0_896)
            (ldm km 128 inb_S1x16x256_S1x16x128_0_0_128))
          (ldk k 128 inb_S1x128x256_S1x128x128_0_0_128)
          (lds sk 4 inb_S8_S1_4) (lds sk 5 inb_S8_S1_5) (lds sk 6 inb_S8_S1_6) (lds sk 7 inb_S8_S1_7))
        (k0_pay16 k0_pay6
          (k0_pay7 (ldq q 512 inb_S1x16x1024_S1x16x128_0_0_512) (ldq q 640 inb_S1x16x1024_S1x16x128_0_0_640) (ldq q 768 inb_S1x16x1024_S1x16x128_0_0_768) (ldq q 896 inb_S1x16x1024_S1x16x128_0_0_896))
          (k0_pay8 (ldq q 512 inb_S1x16x1024_S1x16x128_0_0_512) (ldq q 640 inb_S1x16x1024_S1x16x128_0_0_640) (ldq q 768 inb_S1x16x1024_S1x16x128_0_0_768) (ldq q 896 inb_S1x16x1024_S1x16x128_0_0_896)
            (ldm km 128 inb_S1x16x256_S1x16x128_0_0_128))
          (ldk k 128 inb_S1x128x256_S1x128x128_0_0_128)
          (lds sk 4 inb_S8_S1_4) (lds sk 5 inb_S8_S1_5) (lds sk 6 inb_S8_S1_6) (lds sk 7 inb_S8_S1_7)) (ix2 (srow g a) d)
      = headB sk q km vm k v ⟨4 + g.val, by have := g.isLt; omega⟩ a d := by
  refine (group0_row ![ldq q 512 inb_S1x16x1024_S1x16x128_0_0_512, ldq q 640 inb_S1x16x1024_S1x16x128_0_0_640, ldq q 768 inb_S1x16x1024_S1x16x128_0_0_768, ldq q 896 inb_S1x16x1024_S1x16x128_0_0_896] _ _ _ _
    ![lds sk 4 inb_S8_S1_4, lds sk 5 inb_S8_S1_5, lds sk 6 inb_S8_S1_6, lds sk 7 inb_S8_S1_7] g a d).trans ?_
  match g with
  | 0 => exact headRow_ld sk q km vm k v 4 a d 512 128 rfl rfl _ _ _ _
  | 1 => exact headRow_ld sk q km vm k v 5 a d 640 128 rfl rfl _ _ _ _
  | 2 => exact headRow_ld sk q km vm k v 6 a d 768 128 rfl rfl _ _ _ _
  | 3 => exact headRow_ld sk q km vm k v 7 a d 896 128 rfl rfl _ _ _ _

/-- Each of the 8 stores writes one head of the block. -/
theorem store_eq (sk : FVec Ideal S8 .f32) (q : FVec Ideal S1x16x1024 .bf16) (km vm : FVec Ideal S1x16x256 .bf16)
    (k v : FVec Ideal S1x128x256 .bf16) (h : Fin 8) (oq : ℕ)
    (hq : oq = 128 * h.val) (inb) (W : FVec Ideal S1x16x128 .bf16)
    (hW : ∀ (a : Fin 16) (d : Fin 128), W (ix3 0 a d) = headB sk q km vm k v h a d)
    (x : (Rect.unit (s := S1x16x1024) ![0, 0, oq] ![1, 16, 128] inb).shape.Idx) :
    W x = blockB sk q km vm k v ((Rect.unit (s := S1x16x1024) ![0, 0, oq] ![1, 16, 128] inb).emb x) := by
  have hx : x = ix3 (0 : Fin 1) (x 1 : Fin 16) (x 2 : Fin 128) := by
    funext i
    match i with
    | ⟨0, _⟩ => exact Subsingleton.elim (α := Fin 1) _ _
    | ⟨1, _⟩ => rfl
    | ⟨2, _⟩ => rfl
  refine (congrArg W hx).trans ((hW _ _).trans (blockB_at sk q km vm k v _ h (x 1) (x 2) ?_ ?_).symm)
  · rw [Rect.emb_apply]
    show 0 + 1 * (x 1).val = (x 1).val
    omega
  · rw [Rect.emb_apply]
    show oq + 1 * (x 2).val = 128 * h.val + (x 2).val
    omega

theorem outs_eq (c : Dev nD) (t : Fin cfg0.N) :
    outsAt0 m c t = blockB (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  funext y
  refine View.canon_apply_of_pieces _ _ ?_ y (View.cover_of_tiled_head _ _ _ rfl y)
  simp only [List.forall_mem_cons]
  refine ⟨store_eq _ _ _ _ _ _ 7 _ rfl _ _ ?_, store_eq _ _ _ _ _ _ 6 _ rfl _ _ ?_,
    store_eq _ _ _ _ _ _ 5 _ rfl _ _ ?_, store_eq _ _ _ _ _ _ 4 _ rfl _ _ ?_,
    store_eq _ _ _ _ _ _ 3 _ rfl _ _ ?_, store_eq _ _ _ _ _ _ 2 _ rfl _ _ ?_,
    store_eq _ _ _ _ _ _ 1 _ rfl _ _ ?_, store_eq _ _ _ _ _ _ 0 _ rfl _ _ ?_, by simp⟩
  all_goals intro a d
  · exact (pay5_at _ _ _ _ _ _ a d).trans (group1_ld _ _ _ _ _ _ 3 a d)
  · exact (pay4_at _ _ _ _ _ _ a d).trans (group1_ld _ _ _ _ _ _ 2 a d)
  · exact (pay3_at _ _ _ _ _ _ a d).trans (group1_ld _ _ _ _ _ _ 1 a d)
  · exact (pay2_at _ _ _ _ _ _ a d).trans (group1_ld _ _ _ _ _ _ 0 a d)
  · exact (pay21_at _ _ _ _ a d).trans (group0_ld _ _ _ _ _ _ 3 a d)
  · exact (pay20_at _ _ _ _ a d).trans (group0_ld _ _ _ _ _ _ 2 a d)
  · exact (pay19_at _ _ _ _ a d).trans (group0_ld _ _ _ _ _ _ 1 a d)
  · exact (pay18_at _ _ _ _ a d).trans (group0_ld _ _ _ _ _ _ 0 a d)

end Cert.Proof.AttnMetaBlock
-- ==== Proof.AttnMetaValue.lean ====
/-
  What the meta tokens' attention kernel's result array holds: at every batch, row and column the attended value of the
  column's head.
-/
module

public import proofs.«01_k».proof.Proof.AttnMetaBlock
public import proofs.«01_k».proof.Proof.AttnValue

@[expose] public section

set_option maxRecDepth 16384

noncomputable section

namespace Cert.Proof.AttnMetaValue

open Idealize.ShloMosaic Idealize.ShloMosaic.TcCoe Idealize.SL.Sem Cert.KernelAttnMetaIdeal Cert.KernelAttnMetaIdeal.Gen
open Idealize.ShloMosaic.Pipeline (Dat)
open Cert.Proof.Softmax Cert.Proof.AttnMetaPay Cert.Proof.AttnMetaBlock
open Cert.Proof.AttnBlock (qcol kcol)
open Cert.Proof.AttnValue (eq_ix3)

variable (m : (ℓ : Loc nD τ sig) → Buf (Elt Ideal) ℓ) (ρ : Dev nD → PrngReg)

/-! ## The function -/

/-- Row `c` of the sequence's first 128. -/
def frow (c : Fin 128) : Fin 8192 := ⟨c.val, by have := c.isLt; omega⟩

/-- The scores of meta token `a` of head `h` against the meta tokens. -/
def smeta (Q : FVec Ideal S8x16x1024 .bf16) (KM : FVec Ideal S8x16x256 .bf16) (b : Fin 8) (a : Fin 16) (h : Fin 8)
    (j : Fin 16) : EReal := ∑ e : Fin 128, Q (ix3 b a (qcol h e)) * KM (ix3 b j (kcol h e))

/-- Its scores against the sequence's first rows. -/
def sseq (Q : FVec Ideal S8x16x1024 .bf16) (K : FVec Ideal S8x8192x256 .bf16) (b : Fin 8) (a : Fin 16) (h : Fin 8)
    (c : Fin 128) : EReal :=
  if SeesM a.val c.val then ∑ e : Fin 128, Q (ix3 b a (qcol h e)) * K (ix3 b (frow c) (kcol h e)) else ⊥

/-- The attended value of batch `b`, meta token `a`, head `h` and lane `d`. -/
def att (Q : FVec Ideal S8x16x1024 .bf16) (KM VM : FVec Ideal S8x16x256 .bf16) (K V : FVec Ideal S8x8192x256 .bf16)
    (SK : FVec Ideal S8 .f32) (b : Fin 8) (a : Fin 16) (h : Fin 8) (d : Fin 128) : EReal :=
  attend (smeta Q KM b a h) (sseq Q K b a h) (SK (ix1 h))
    (fun j => VM (ix3 b j (kcol h d))) (fun c => V (ix3 b (frow c) (kcol h d)))

/-- The whole result. -/
def attG (Q : FVec Ideal S8x16x1024 .bf16) (KM VM : FVec Ideal S8x16x256 .bf16) (K V : FVec Ideal S8x8192x256 .bf16)
    (SK : FVec Ideal S8 .f32) : FVec Ideal S8x16x1024 .bf16 := fun i =>
  att Q KM VM K V SK (i 0) (i 1) ⟨(i 2).val / 128, by have : (i 2).val < 1024 := (i 2).isLt; omega⟩
    ⟨(i 2).val % 128, Nat.mod_lt _ (by norm_num)⟩

theorem attG_at (Q : FVec Ideal S8x16x1024 .bf16) (KM VM : FVec Ideal S8x16x256 .bf16) (K V : FVec Ideal S8x8192x256 .bf16)
    (SK : FVec Ideal S8 .f32) (i : S8x16x1024.Idx) (b : Fin 8) (a : Fin 16) (h : Fin 8) (d : Fin 128)
    (h0 : (i 0).val = b.val) (h1 : (i 1).val = a.val) (h2 : (i 2).val = 128 * h.val + d.val) :
    attG Q KM VM K V SK i = att Q KM VM K V SK b a h d := by
  have hd := d.isLt
  obtain rfl : i = ix3 b a (qcol h d) := eq_ix3 (x := 8) (y := 16) (z := 1024) i b a (qcol h d) h0 h1 h2
  have e3 : (⟨(qcol h d).val / 128, by have := (qcol h d).isLt; omega⟩ : Fin 8) = h := Fin.ext (by simp only [qcol]; omega)
  have e4 : (⟨(qcol h d).val % 128, Nat.mod_lt _ (by norm_num)⟩ : Fin 128) = d := Fin.ext (by simp only [qcol]; omega)
  exact congrArg₂ (att Q KM VM K V SK b a) e3 e4

/-! ## The blocks the points stage -/

/-- The batch of a point. -/
def pb (t : Fin cfg0.N) : Fin 8 := grid0.coords t 0

theorem idx0 : ∀ t : Fin grid0.N, win0_0.index t 0 = 0 := by decide +kernel
theorem idx1 : ∀ t : Fin grid0.N, win0_1.index t 0 = (grid0.coords t 0).val ∧ win0_1.index t 1 = 0
    ∧ win0_1.index t 2 = 0 := by decide +kernel
theorem idx2 : ∀ t : Fin grid0.N, win0_2.index t 0 = (grid0.coords t 0).val ∧ win0_2.index t 1 = 0
    ∧ win0_2.index t 2 = 0 := by decide +kernel
theorem idx3 : ∀ t : Fin grid0.N, win0_3.index t 0 = (grid0.coords t 0).val ∧ win0_3.index t 1 = 0
    ∧ win0_3.index t 2 = 0 := by decide +kernel
theorem idx4 : ∀ t : Fin grid0.N, win0_4.index t 0 = (grid0.coords t 0).val ∧ win0_4.index t 1 = 0
    ∧ win0_4.index t 2 = 0 := by decide +kernel
theorem idx5 : ∀ t : Fin grid0.N, win0_5.index t 0 = (grid0.coords t 0).val ∧ win0_5.index t 1 = 0
    ∧ win0_5.index t 2 = 0 := by decide +kernel
theorem idx6 : ∀ t : Fin grid0.N, win0_6.index t 0 = (grid0.coords t 0).val ∧ win0_6.index t 1 = 0
    ∧ win0_6.index t 2 = 0 ∧ win0_6.xsize (grid0.coords t) 0 = 1 ∧ win0_6.xsize (grid0.coords t) 1 = 16
    ∧ win0_6.xsize (grid0.coords t) 2 = 1024 := by decide +kernel

theorem blk0 (c : Dev nD) (t : Fin cfg0.N) (h : Fin 8) :
    iblk m c 0 t (ix1 h) = m ((c : Thread nD τ).loc main_arg5) (ix1 h) := by
  have h0 := idx0 t
  show m ((c : Thread nD τ).loc main_arg5) ((win0_0.rect t).emb (ix1 h)) = _
  refine congrArg _ (funext fun i => ?_)
  match i with
  | ⟨0, _⟩ => exact Fin.ext (by show win0_0.index t 0 * 8 + 1 * h.val = h.val; omega)

/-- The point's queries. -/
theorem blk1 (c : Dev nD) (t : Fin cfg0.N) (a : Fin 16) (e : Fin 1024) :
    iblk m c 1 t (ix3 0 a e) = m ((c : Thread nD τ).loc main_arg0) (ix3 (pb t) a e) := by
  have h := idx1 t
  exact congrArg (m ((c : Thread nD τ).loc main_arg0)) (eq_ix3 ((win0_1.rect t).emb (ix3 0 a e)) _ _ _
    (by show win0_1.index t 0 * 1 + 1 * 0 = (grid0.coords t 0).val; omega)
    (by show win0_1.index t 1 * 16 + 1 * a.val = a.val; omega)
    (by show win0_1.index t 2 * 1024 + 1 * e.val = e.val; omega))

/-- The meta tokens' keys and values. -/
theorem blk2 (c : Dev nD) (t : Fin cfg0.N) (a : Fin 16) (e : Fin 256) :
    iblk m c 2 t (ix3 0 a e) = m ((c : Thread nD τ).loc main_arg1) (ix3 (pb t) a e) := by
  have h := idx2 t
  exact congrArg (m ((c : Thread nD τ).loc main_arg1)) (eq_ix3 ((win0_2.rect t).emb (ix3 0 a e)) _ _ _
    (by show win0_2.index t 0 * 1 + 1 * 0 = (grid0.coords t 0).val; omega)
    (by show win0_2.index t 1 * 16 + 1 * a.val = a.val; omega)
    (by show win0_2.index t 2 * 256 + 1 * e.val = e.val; omega))

theorem blk3 (c : Dev nD) (t : Fin cfg0.N) (a : Fin 16) (e : Fin 256) :
    iblk m c 3 t (ix3 0 a e) = m ((c : Thread nD τ).loc main_arg2) (ix3 (pb t) a e) := by
  have h := idx3 t
  exact congrArg (m ((c : Thread nD τ).loc main_arg2)) (eq_ix3 ((win0_3.rect t).emb (ix3 0 a e)) _ _ _
    (by show win0_3.index t 0 * 1 + 1 * 0 = (grid0.coords t 0).val; omega)
    (by show win0_3.index t 1 * 16 + 1 * a.val = a.val; omega)
    (by show win0_3.index t 2 * 256 + 1 * e.val = e.val; omega))

/-- The keys and values of the sequence's first rows. -/
theorem blk4 (c : Dev nD) (t : Fin cfg0.N) (a : Fin 128) (e : Fin 256) :
    iblk m c 4 t (ix3 0 a e) = m ((c : Thread nD τ).loc main_arg3) (ix3 (pb t) (frow a) e) := by
  have h := idx4 t
  exact congrArg (m ((c : Thread nD τ).loc main_arg3)) (eq_ix3 ((win0_4.rect t).emb (ix3 0 a e)) _ _ _
    (by show win0_4.index t 0 * 1 + 1 * 0 = (grid0.coords t 0).val; omega)
    (by show win0_4.index t 1 * 128 + 1 * a.val = a.val; omega)
    (by show win0_4.index t 2 * 256 + 1 * e.val = e.val; omega))

theorem blk5 (c : Dev nD) (t : Fin cfg0.N) (a : Fin 128) (e : Fin 256) :
    iblk m c 5 t (ix3 0 a e) = m ((c : Thread nD τ).loc main_arg4) (ix3 (pb t) (frow a) e) := by
  have h := idx5 t
  exact congrArg (m ((c : Thread nD τ).loc main_arg4)) (eq_ix3 ((win0_5.rect t).emb (ix3 0 a e)) _ _ _
    (by show win0_5.index t 0 * 1 + 1 * 0 = (grid0.coords t 0).val; omega)
    (by show win0_5.index t 1 * 128 + 1 * a.val = a.val; omega)
    (by show win0_5.index t 2 * 256 + 1 * e.val = e.val; omega))

/-! ## The array -/

/-- The result array of device `c`: the attention of its arguments. -/
abbrev result (c : Dev nD) : Buf (Elt Ideal) ((c : Thread nD τ).loc main_v0) :=
  attG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem block_eq (c : Dev nD) (t : Fin cfg0.N) (h : Fin 8) (a : Fin 16) (d : Fin 128) :
    headB (iblk m c 0 t) (iblk m c 1 t) (iblk m c 2 t) (iblk m c 3 t) (iblk m c 4 t) (iblk m c 5 t) h a d
      = att (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (pb t) a h d := by
  unfold headB att
  simp only [blk0, blk1, blk2, blk3, blk4, blk5]
  rfl

/-- What a point writes back is its block of the result. -/
theorem flushed_eq (c : Dev nD) (t : Fin cfg0.N) :
    (dats m 0 c).flushed 6 t = ((cfg0.win 6).blk t).view.read (Elt Ideal) (result m c) := by
  rw [Value.flushed6, outs_eq]
  funext y
  have hi := idx6 t
  have h1 : (y 1).val < 16 := (y 1).isLt
  have h2 : (y 2).val < 1024 := (y 2).isLt
  have h0 : (y 0).val < 1 := (y 0).isLt
  refine (blockB_at _ _ _ _ _ _ _ ⟨(y 2).val / 128, by omega⟩ ⟨(y 1).val, h1⟩ ⟨(y 2).val % 128, by omega⟩ rfl
    (by show (y 2).val = 128 * ((y 2).val / 128) + (y 2).val % 128; omega)).trans ((block_eq m c t _ _ _).trans ?_)
  refine (attG_at _ _ _ _ _ _ ((win0_6.rect t).emb y) _ _ _ _ ?_ ?_ ?_).symm
  · show win0_6.index t 0 * 1 + 1 * (y 0).val = (grid0.coords t 0).val
    omega
  · show win0_6.index t 1 * 16 + 1 * (y 1).val = (y 1).val
    omega
  · show win0_6.index t 2 * 1024 + 1 * (y 2).val = 128 * ((y 2).val / 128) + (y 2).val % 128
    omega

/-- An index is in a point's block when its batch is the point's. -/
theorem mem_blk (t : Fin cfg0.N) (i : S8x16x1024.Idx) (h0 : (i 0).val = (grid0.coords t 0).val) :
    i ∈ ((cfg0.win 6).blk t).view.set := by
  show i ∈ ((View.whole main_v0).slice (win0_6.rect t)).set
  rw [View.set_slice_whole, Rect.mem_set_unit]
  have hi := idx6 t
  have h1 : (i 1 : Nat) < 16 := (i 1).isLt
  have h2 : (i 2 : Nat) < 1024 := (i 2).isLt
  intro a
  match a with
  | ⟨0, _⟩ =>
    show win0_6.index t 0 * 1 ≤ (i 0 : Nat) ∧ (i 0 : Nat) < win0_6.index t 0 * 1 + win0_6.xsize (grid0.coords t) 0
    omega
  | ⟨1, _⟩ =>
    show win0_6.index t 1 * 16 ≤ (i 1 : Nat) ∧ (i 1 : Nat) < win0_6.index t 1 * 16 + win0_6.xsize (grid0.coords t) 1
    omega
  | ⟨2, _⟩ =>
    show win0_6.index t 2 * 1024 ≤ (i 2 : Nat) ∧ (i 2 : Nat) < win0_6.index t 2 * 1024 + win0_6.xsize (grid0.coords t) 2
    omega

theorem coords_of : ∀ b : Fin 8, ∃ t : Fin grid0.N, (grid0.coords t 0).val = b.val := by decide +kernel

/-- The points' blocks cover the array. -/
theorem cover (i : S8x16x1024.Idx) : ∃ t : Fin cfg0.N, (cfg0.win 6).flush t = true ∧ i ∈ ((cfg0.win 6).blk t).view.set := by
  have h0 : (i 0 : Nat) < 8 := (i 0).isLt
  obtain ⟨t, ht⟩ := coords_of ⟨(i 0).val, h0⟩
  exact ⟨t, flush0_6 t, mem_blk t i ht.symm⟩

/-- The result array after the run. -/
theorem final (c : Dev nD) : (dats m 0 c).arrAt 6 cfg0.N = result m c :=
  (dats m 0 c).arrAt_eq_of_cover 6 (result m c) (fun t _ => flushed_eq m c t) cover

/-- The run: the result array holds the attention, the arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Proof.AttnMetaValue
-- ==== Proof.AttnMetaRef.lean ====
/-
  The reference's attention of the meta tokens at an index: the keys laid in one list, the visibility mask, the softmax
  over the list of all scores, the weighted values, and the equation with the kernel's attended value when the scores'
  arguments are finite.
-/
module

public import proofs.«01_k».proof.Proof.AttnMetaValue
public import proofs.«01_k».proof.Proof.AttnScore
public import proofs.«01_k».proof.Proof.Gen.ReferenceAttnMetaIdeal.Read

@[expose] public section

set_option maxRecDepth 16384

noncomputable section

namespace Cert.Proof.AttnMetaRef

open Idealize.ShloMosaic Idealize.ShloMosaic.WordCmp Cert.ReferenceAttnMetaIdeal Cert.ReferenceAttnMetaIdeal.Gen
open Cert.ReferenceAttnMetaIdeal.Read
open Cert.Proof.Softmax Cert.Proof.AttnMetaPay Cert.Proof.AttnMetaValue
open Cert.Proof.AttnPay (neg_inf)
open Cert.Proof.AttnBlock (qcol kcol)
open Cert.Proof.AttnValue (eq_ix3)
open Cert.Proof.AttnScore (hd)

variable (Q : FVec Ideal S8x16x1024 .bf16) (KM VM : FVec Ideal S8x16x256 .bf16) (K V : FVec Ideal S8x8192x256 .bf16)
    (SK : FVec Ideal S8 .f32) (b : Fin 8) (a : Fin 16) (k : Fin 2) (g : Fin 4)

/-- The regrouped queries. -/
theorem v5_at (e : Fin 128) : val_main_v5 (F := Ideal) Q (ix5 b a k g e) = Q (ix3 b a (qcol (hd k g) e)) := by
  pointwise [val_main_v5, val_main_v0]
  refine congrArg Q (eq_ix3 _ _ _ _ rfl rfl ?_)
  show k.val * 512 + g.val * 128 + e.val = 128 * (4 * k.val + g.val) + e.val
  omega

/-- The list of keys at a meta token. -/
theorem v12_meta (c : Fin 144) (j : Fin 16) (h : c.val = j.val) (e : Fin 128) :
    val_main_v12 (F := Ideal) KM K (ix4 b c k e) = KM (ix3 b j (kcol (hd k g) e)) := by
  have hj := j.isLt
  have hg := g.isLt
  pointwise [val_main_v12, val_main_v6, val_main_v1]
  rw [dif_pos (by omega)]
  refine congrArg KM (eq_ix3 _ _ _ _ rfl h ?_)
  show k.val * 128 + e.val = 128 * ((4 * k.val + g.val) / 4) + e.val
  omega

/-- The list of keys at a row of the sequence. -/
theorem v12_real (c : Fin 144) (i : Fin 128) (h : c.val = 16 + i.val) (e : Fin 128) :
    val_main_v12 (F := Ideal) KM K (ix4 b c k e) = K (ix3 b (frow i) (kcol (hd k g) e)) := by
  have hi := i.isLt
  have hg := g.isLt
  pointwise [val_main_v12, val_main_v11, val_main_v8, val_main_v3]
  rw [dif_neg (by omega)]
  refine congrArg K (eq_ix3 _ _ _ _ rfl ?_ ?_)
  · show c.val - 16 = i.val
    omega
  · show k.val * 128 + e.val = 128 * ((4 * k.val + g.val) / 4) + e.val
    omega

/-- The list of values at a meta token. -/
theorem v14_meta (c : Fin 144) (j : Fin 16) (h : c.val = j.val) (e : Fin 128) :
    val_main_v14 (F := Ideal) VM V (ix4 b c k e) = VM (ix3 b j (kcol (hd k g) e)) := by
  have hj := j.isLt
  have hg := g.isLt
  pointwise [val_main_v14, val_main_v7, val_main_v2]
  rw [dif_pos (by omega)]
  refine congrArg VM (eq_ix3 _ _ _ _ rfl h ?_)
  show k.val * 128 + e.val = 128 * ((4 * k.val + g.val) / 4) + e.val
  omega

/-- The list of values at a row of the sequence. -/
theorem v14_real (c : Fin 144) (i : Fin 128) (h : c.val = 16 + i.val) (e : Fin 128) :
    val_main_v14 (F := Ideal) VM V (ix4 b c k e) = V (ix3 b (frow i) (kcol (hd k g) e)) := by
  have hi := i.isLt
  have hg := g.isLt
  pointwise [val_main_v14, val_main_v13, val_main_v9, val_main_v4]
  rw [dif_neg (by omega)]
  refine congrArg V (eq_ix3 _ _ _ _ rfl ?_ ?_)
  · show c.val - 16 = i.val
    omega
  · show k.val * 128 + e.val = 128 * ((4 * k.val + g.val) / 4) + e.val
    omega

/-! ## The mask -/

/-- The mask's word: a meta token, or a row at most 128 positions ahead. -/
theorem mask_word : ∀ (a : Fin 16) (c : Fin 144),
    IntOp.ori (IntOp.cmpi .slt (BitVec.ofNat 32 c.val) 16#32)
      (IntOp.cmpi .sle (IntOp.subi (BitVec.ofNat 32 c.val) (BitVec.ofNat 32 a.val)) 128#32) = 1#1
      ↔ c.val < 16 ∨ c.val ≤ a.val + 128 := by decide +kernel

/-- The reference's mask. -/
theorem v27_at (c : Fin 144) : val_main_v27 (F := Ideal) (ix2 a c) = 1#1 ↔ c.val < 16 ∨ c.val ≤ a.val + 128 := by
  rw [← mask_word]
  pointwise [val_main_v27, val_main_v26, val_main_v25, val_main_v24, val_main_v23, val_main_v22, val_main_v21, val_main_v20,
    val_main_v19, val_main_v18, val_main_v17, val_main_v16, val_main_v15, val_main_c, val_main_c_0]

/-! ## The scores -/

/-- The scores, masked. -/
theorem v31_at (c : Fin 144) : val_main_v31 (F := Ideal) Q KM K (ix5 b k g a c)
    = if c.val < 16 ∨ c.val ≤ a.val + 128 then
        ∑ e : Fin 128, Q (ix3 b a (qcol (hd k g) e)) * val_main_v12 (F := Ideal) KM K (ix4 b c k e)
      else ⊥ := by
  pointwise [val_main_v31, val_main_v30, val_main_v29, val_main_v28, val_main_call0_v1, val_main_call0_v2, val_main_call0_v0,
    val_main_cst]
  unfold Scalar.select
  by_cases h : c.val < 16 ∨ c.val ≤ a.val + 128
  · rw [if_pos h]
    refine (if_pos ((v27_at a c).2 h)).trans ?_
    refine Finset.sum_congr rfl fun e _ => ?_
    rw [mul_comm, v5_at]
  · rw [if_neg h]
    exact (if_neg (fun h' => h ((v27_at a c).1 h'))).trans neg_inf

/-- The list of all of a row's scores. -/
abbrev scores (c : Fin (16 + 128 + 1)) : EReal := val_main_v34 (F := Ideal) Q KM K SK (ix5 b k g a c)

/-- The greatest of a row's scores. -/
abbrev top : EReal := rowMax (smeta Q KM b a (hd k g)) (sseq Q K b a (hd k g)) (SK (ix1 (hd k g)))

/-- The softmax denominator of a row. -/
abbrev total : EReal := den (smeta Q KM b a (hd k g)) (sseq Q K b a (hd k g)) (SK (ix1 (hd k g)))

/-- The list before its end is the masked scores. -/
theorem v34_of (c : Fin 145) (i : Fin 144) (h : c.val = i.val) :
    val_main_v34 (F := Ideal) Q KM K SK (ix5 b k g a c) = val_main_v31 (F := Ideal) Q KM K (ix5 b k g a i) := by
  have hi := i.isLt
  pointwise [val_main_v34]
  rw [dif_pos (by omega)]
  exact congrArg (fun x => val_main_v31 (F := Ideal) Q KM K (ix5 b k g a x)) (Fin.ext h)

theorem scores_meta (j : Fin 16) :
    scores Q KM K SK b a k g ((j.castAdd 128).castAdd 1) = smeta Q KM b a (hd k g) j := by
  have hj := j.isLt
  refine (v34_of Q KM K SK b a k g _ (j.castAdd 128) rfl).trans ?_
  rw [v31_at, if_pos (.inl hj)]
  unfold smeta
  exact Finset.sum_congr rfl fun e _ => by rw [v12_meta KM K b k g _ j rfl]

theorem scores_real (i : Fin 128) :
    scores Q KM K SK b a k g ((i.natAdd 16).castAdd 1) = sseq Q K b a (hd k g) i := by
  refine (v34_of Q KM K SK b a k g _ (i.natAdd 16) rfl).trans ?_
  rw [v31_at]
  unfold sseq SeesM
  refine if_congr ?_ (Finset.sum_congr rfl fun e _ => by rw [v12_real KM K b k g _ i rfl]) rfl
  simp only [Fin.val_natAdd]
  omega

theorem scores_sink : scores Q KM K SK b a k g (Fin.natAdd (16 + 128) 0) = SK (ix1 (hd k g)) := by
  have h : ∀ c : Fin 145, c.val = 144 → val_main_v34 (F := Ideal) Q KM K SK (ix5 b k g a c) = SK (ix1 (hd k g)) := by
    intro c hc
    pointwise [val_main_v34, val_main_v33, val_main_v32, val_main_v10]
    rw [dif_neg (by omega)]
    refine congrArg SK (congrArg ix1 (Fin.ext ?_))
    show k.val * 4 + g.val = 4 * k.val + g.val
    omega
  exact h _ rfl

theorem v35_at : val_main_v35 (F := Ideal) Q KM K SK (ix4 b k g a) = top Q KM K SK b a k g := by
  refine Eq.trans ?_ (rowMax_eq _ _ _ (scores Q KM K SK b a k g) (scores_meta Q KM K SK b a k g)
    (scores_real Q KM K SK b a k g) (scores_sink Q KM K SK b a k g))
  unfold val_main_v35 scores
  generalize val_main_v34 (F := Ideal) Q KM K SK = y
  refine (Host.reduce_eq_fold_single (FloatOps.maximumf (F := Ideal) (φ := .f32)) y (val_main_cst_1 (F := Ideal))
    reducesTo_S8x2x4x16x145_S8x2x4x16_d4 (by decide) h_S_ (ix4 b k g a)).trans ?_
  have h0 : val_main_cst_1 (F := Ideal) (Shape.Idx.first h_S_) = ⊥ := neg_inf
  rw [h0]
  refine congrArg (fun f => Finset.fold max ⊥ f (Finset.univ : Finset (Fin 145))) (funext fun c => congrArg y ?_)
  exact funext fun j => Fin.ext (by
    match j with | ⟨0, _⟩ => rfl | ⟨1, _⟩ => rfl | ⟨2, _⟩ => rfl | ⟨3, _⟩ => rfl | ⟨4, _⟩ => rfl)

theorem v39_at (c : Fin 145) : val_main_v39 (F := Ideal) Q KM K SK (ix5 b k g a c) = top Q KM K SK b a k g := by
  rw [val_main_v39_apply, val_main_v38_apply]
  have hi : idx_main_v38 (idx_main_v39 (ix5 b k g a c)) = ix4 b k g a := funext fun j => by
    match j with | ⟨0, _⟩ => rfl | ⟨1, _⟩ => rfl | ⟨2, _⟩ => rfl | ⟨3, _⟩ => rfl
  rw [hi, val_main_v37_apply, v35_at, val_main_v36_apply]
  have h0 : val_main_cst_2 (F := Ideal) (idx_main_v36 (ix4 b k g a)) = ⊥ := neg_inf
  rw [h0]
  exact max_eq_right bot_le

theorem v41_at (c : Fin 145) : val_main_v41 (F := Ideal) Q KM K SK (ix5 b k g a c)
    = Ideal.exp (scores Q KM K SK b a k g c - top Q KM K SK b a k g) := by
  rw [val_main_v41_apply, val_main_v40_apply, v39_at]
  rfl

theorem v42_at : val_main_v42 (F := Ideal) Q KM K SK (ix4 b k g a) = total Q KM K SK b a k g := by
  rw [val_main_v42_apply]
  have h0 : val_main_cst_3 (F := Ideal) (Shape.Idx.first h_S_) = 0 := Ideal.ofBits_zero_f32
  rw [h0, zero_add]
  refine Eq.trans (Finset.sum_congr rfl fun c _ => ?_) (den_eq _ _ _ (scores Q KM K SK b a k g)
    (scores_meta Q KM K SK b a k g) (scores_real Q KM K SK b a k g) (scores_sink Q KM K SK b a k g))
  have hi : idx_main_v42 (ix4 b k g a) c = ix5 b k g a c := funext fun j => by
    match j with | ⟨0, _⟩ => rfl | ⟨1, _⟩ => rfl | ⟨2, _⟩ => rfl | ⟨3, _⟩ => rfl | ⟨4, _⟩ => rfl
  rw [hi]
  exact v41_at Q KM K SK b a k g c

/-- The softmax weight of a score. -/
theorem v45_at (c : Fin 145) : val_main_v45 (F := Ideal) Q KM K SK (ix5 b k g a c)
    = Ideal.div (Ideal.exp (scores Q KM K SK b a k g c - top Q KM K SK b a k g)) (total Q KM K SK b a k g) := by
  rw [val_main_v45_apply, v41_at, val_main_v44_apply, val_main_v43_apply]
  have hi : idx_main_v43 (idx_main_v44 (ix5 b k g a c)) = ix4 b k g a := funext fun j => by
    match j with | ⟨0, _⟩ => rfl | ⟨1, _⟩ => rfl | ⟨2, _⟩ => rfl | ⟨3, _⟩ => rfl
  rw [hi, v42_at]
  rfl

/-- The weighted values, over the list of keys. -/
theorem v48_sum (d : Fin 128) : val_main_v48 (F := Ideal) Q KM VM K V SK (ix5 b a k g d)
    = ∑ i : Fin (16 + 128), Ideal.div (Ideal.exp (scores Q KM K SK b a k g (i.castAdd 1) - top Q KM K SK b a k g))
        (total Q KM K SK b a k g) * val_main_v14 (F := Ideal) VM V (ix4 b i k d) := by
  rw [val_main_v48_apply, val_main_v47_apply]
  refine Finset.sum_congr rfl fun i _ => ?_
  have hl : lidx_main_v47 (idx_main_v48 (ix5 b a k g d)) i = ix4 b i k d := funext fun j => by
    match j with | ⟨0, _⟩ => rfl | ⟨1, _⟩ => rfl | ⟨2, _⟩ => rfl | ⟨3, _⟩ => rfl
  have hr : idx_main_v46 (ridx_main_v47 (idx_main_v48 (ix5 b a k g d)) i)
      = ix5 b k g a (Fin.castAdd (n := 16 + 128) 1 i) := funext fun j => by
    match j with | ⟨0, _⟩ => rfl | ⟨1, _⟩ => rfl | ⟨2, _⟩ => rfl | ⟨3, _⟩ => rfl | ⟨4, _⟩ => rfl
  rw [val_main_v46_apply, hl, hr, v45_at, mul_comm]

/-- With finite queries, keys and sinks, the reference's attended value is the kernel's. -/
theorem v48_at (hQ : ∀ i, Q i ≠ ⊤ ∧ Q i ≠ ⊥) (hKM : ∀ i, KM i ≠ ⊤ ∧ KM i ≠ ⊥) (hK : ∀ i, K i ≠ ⊤ ∧ K i ≠ ⊥)
    (hSK : ∀ i, SK i ≠ ⊤ ∧ SK i ≠ ⊥) (d : Fin 128) :
    val_main_v48 (F := Ideal) Q KM VM K V SK (ix5 b a k g d) = att Q KM VM K V SK b a (hd k g) d := by
  rw [v48_sum, Fin.sum_univ_add]
  simp only [scores_meta, scores_real]
  have hm : ∀ j : Fin 16, val_main_v14 (F := Ideal) VM V (ix4 b (j.castAdd 128) k d) = VM (ix3 b j (kcol (hd k g) d)) :=
    fun j => v14_meta VM V b k g _ j rfl d
  have hr : ∀ i : Fin 128, val_main_v14 (F := Ideal) VM V (ix4 b (i.natAdd 16) k d) = V (ix3 b (frow i) (kcol (hd k g) d)) :=
    fun i => v14_real VM V b k g _ i rfl d
  simp only [hm, hr]
  refine attend_eq (smeta Q KM b a (hd k g)) (sseq Q K b a (hd k g)) (SK (ix1 (hd k g)))
    (fun j => VM (ix3 b j (kcol (hd k g) d))) (fun j => VM (ix3 b j (kcol (hd k g) d)))
    (fun c => V (ix3 b (frow c) (kcol (hd k g) d))) (fun j => ?_) (fun i => ?_) (hSK _).1 (hSK _).2 (fun _ => .inr rfl)
  · exact sum_mul_ne_top _ _ _ (fun _ => hQ _) (fun _ => hKM _)
  · unfold sseq
    split_ifs
    · exact sum_mul_ne_top _ _ _ (fun _ => hQ _) (fun _ => hK _)
    · exact bot_ne_top

/-- The result's columns are the regrouped ones. -/
theorem v49_at (e : Fin 1024) : val_main_v49 (F := Ideal) Q KM VM K V SK (ix3 b a e)
    = val_main_v48 (F := Ideal) Q KM VM K V SK (ix5 b a ⟨e.val / 512, by have := e.isLt; omega⟩
        ⟨e.val / 128 % 4, Nat.mod_lt _ (by norm_num)⟩ ⟨e.val % 128, Nat.mod_lt _ (by norm_num)⟩) := by
  pointwise [val_main_v49]

/-- The same at an index of the result. -/
theorem v50_at (hQ : ∀ i, Q i ≠ ⊤ ∧ Q i ≠ ⊥) (hKM : ∀ i, KM i ≠ ⊤ ∧ KM i ≠ ⊥) (hK : ∀ i, K i ≠ ⊤ ∧ K i ≠ ⊥)
    (hSK : ∀ i, SK i ≠ ⊤ ∧ SK i ≠ ⊥) (e : Fin 1024) :
    val_main_v50 (F := Ideal) Q KM VM K V SK (ix3 b a e) = attG Q KM VM K V SK (ix3 b a e) := by
  have he := e.isLt
  have h2 : e.val = 128 * (4 * (e.val / 512) + e.val / 128 % 4) + e.val % 128 := by omega
  rw [attG_at Q KM VM K V SK (ix3 b a e) b a
    (hd ⟨e.val / 512, by omega⟩ ⟨e.val / 128 % 4, Nat.mod_lt _ (by norm_num)⟩) ⟨e.val % 128, Nat.mod_lt _ (by norm_num)⟩ rfl rfl h2,
    ← v48_at Q KM VM K V SK _ _ _ _ hQ hKM hK hSK, ← v49_at]
  exact val_main_v50_apply (F := Ideal) Q KM VM K V SK (ix3 b a e)

/-- The same of the whole result. -/
theorem v50_eq (hQ : ∀ i, Q i ≠ ⊤ ∧ Q i ≠ ⊥) (hKM : ∀ i, KM i ≠ ⊤ ∧ KM i ≠ ⊥) (hK : ∀ i, K i ≠ ⊤ ∧ K i ≠ ⊥)
    (hSK : ∀ i, SK i ≠ ⊤ ∧ SK i ≠ ⊥) : val_main_v50 (F := Ideal) Q KM VM K V SK = attG Q KM VM K V SK := by
  funext i
  rw [eq_ix3 (x := 8) (y := 16) (z := 1024) i (i 0) (i 1) (i 2) rfl rfl rfl]
  exact v50_at Q KM VM K V SK (i 0) (i 1) hQ hKM hK hSK (i 2)

end Cert.Proof.AttnMetaRef
-- ==== Proof.AttnMetaPre.lean ====
/-
  What the precondition of the claim about the meta tokens' attention says: the meta tokens' queries and keys, the
  sequence's keys and the sinks are finite.
-/
module

public import proofs.«01_k».proof.Proof.AttnMetaRef
public import proofs.«01_k».proof.Proof.AttnPre
public import proofs.«01_k».proof.Proof.Gen.Pre_finite_meta_scores

@[expose] public section

set_option maxRecDepth 16384

noncomputable section

namespace Cert.Proof.AttnMetaPre

open Idealize.ShloMosaic Cert.Pre_finite_meta_scores Cert.Pre_finite_meta_scores.Gen
open Cert.Proof.AttnPre (finite_of_abs)

variable (Q : FVec Ideal S8x16x1024 .bf16) (KM VM : FVec Ideal S8x16x256 .bf16) (K V : FVec Ideal S8x8192x256 .bf16)
    (SK : FVec Ideal S8 .f32)

theorem fin_q (h : (fn (F := Ideal) Q KM VM K V SK).1 = fun _ => 1#1) (i : S8x16x1024.Idx) : Q i ≠ ⊤ ∧ Q i ≠ ⊥ :=
  finite_of_abs _ (congrFun h i)

theorem fin_km (h : (fn (F := Ideal) Q KM VM K V SK).2.1 = fun _ => 1#1) (i : S8x16x256.Idx) : KM i ≠ ⊤ ∧ KM i ≠ ⊥ :=
  finite_of_abs _ (congrFun h i)

theorem fin_k (h : (fn (F := Ideal) Q KM VM K V SK).2.2.1 = fun _ => 1#1) (i : S8x8192x256.Idx) : K i ≠ ⊤ ∧ K i ≠ ⊥ :=
  finite_of_abs _ (congrFun h i)

theorem fin_sk (h : (fn (F := Ideal) Q KM VM K V SK).2.2.2 = fun _ => 1#1) (i : S8.Idx) : SK i ≠ ⊤ ∧ SK i ≠ ⊥ :=
  finite_of_abs _ (congrFun h i)

end Cert.Proof.AttnMetaPre
-- ==== Proof.ClaimAttnMeta.lean ====
/-
  The claims about the attention of the meta tokens: the frames, and the equation with the reference under the precondition.
-/
module

public import proofs.«01_k».proof.Defs
public import proofs.«01_k».proof.Proof.AttnMetaPre
public import proofs.«01_k».proof.Proof.Gen.KernelAttnMeta.Frame

@[expose] public section

set_option maxRecDepth 16384

noncomputable section

namespace Cert.Proof.ClaimAttnMeta

open Idealize.ShloMosaic Idealize.SL.Sem

theorem frame : Cert.quiescent_KernelAttnMeta (hKernelAttnMeta := Cert.KernelAttnMeta.Gen.facts) := fun m ρ _ => Cert.KernelAttnMeta.Gen.frame m ρ

theorem frame_ideal : Cert.quiescent_KernelAttnMetaIdeal (hKernelAttnMetaIdeal := Cert.KernelAttnMetaIdeal.Gen.facts) :=
  fun m ρ _ => Cert.KernelAttnMetaIdeal.Gen.frame m ρ

theorem frame_ideal_pre : Cert.quiescent_KernelAttnMetaIdeal_pre_finite_meta_scores (hKernelAttnMetaIdeal := Cert.KernelAttnMetaIdeal.Gen.facts)
    (hPre_finite_meta_scores := Cert.Pre_finite_meta_scores.Gen.facts) := fun m ρ _ => Cert.KernelAttnMetaIdeal.Gen.frame m ρ

theorem frame_ref : Cert.quiescent_ReferenceAttnMetaIdeal (hReferenceAttnMetaIdeal := Cert.ReferenceAttnMetaIdeal.Gen.facts) := fun m ρ _ =>
  (θ_run Cert.ReferenceAttnMetaIdeal.defs _ _).mono (fun r h => ⟨fun c => (h c).2, sem_eq_zero_of_no_sems (by decide) r.2⟩)
    (Cert.ReferenceAttnMetaIdeal.Value.run (F := Ideal) m ρ)

theorem frame_ref_pre : Cert.quiescent_ReferenceAttnMetaIdeal_pre_finite_meta_scores (hReferenceAttnMetaIdeal := Cert.ReferenceAttnMetaIdeal.Gen.facts)
    (hPre_finite_meta_scores := Cert.Pre_finite_meta_scores.Gen.facts) := fun m ρ _ => frame_ref m ρ trivial

/-- The kernel and the reference end with equal results where the scores' arguments are finite. -/
theorem value : Cert.algebraic_KernelAttnMetaIdeal_ReferenceAttnMetaIdeal_pre_finite_meta_scores (hKernelAttnMetaIdeal := Cert.KernelAttnMetaIdeal.Gen.facts)
    (hReferenceAttnMetaIdeal := Cert.ReferenceAttnMetaIdeal.Gen.facts) (hPre_finite_meta_scores := Cert.Pre_finite_meta_scores.Gen.facts) := by
  intro m ρ m' ρ' pre hag
  refine ⟨fun c => AttnMetaValue.result m c, AttnMetaValue.run m ρ, (θ_run _ _ _).mono (fun _ h c => ⟨(h c).1.trans ?_, (h c).2⟩)
    (Cert.ReferenceAttnMetaIdeal.Value.run (F := Ideal) m' ρ')⟩
  obtain ⟨h0, h1, h2, h3, h4, h5⟩ := hag c
  obtain ⟨p0, p1, p2, p3⟩ := pre c
  refine (Cert.ReferenceAttnMetaIdeal.Read.val_main_v50_eq m' c).trans ?_
  rw [h0, h1, h2, h3, h4, h5]
  exact AttnMetaRef.v50_eq _ _ _ _ _ _ (AttnMetaPre.fin_q _ _ _ _ _ _ p0) (AttnMetaPre.fin_km _ _ _ _ _ _ p1)
    (AttnMetaPre.fin_k _ _ _ _ _ _ p2) (AttnMetaPre.fin_sk _ _ _ _ _ _ p3)

end Cert.Proof.ClaimAttnMeta
-- ==== Proof.RecInMetaPay.lean ====
/-
  The arithmetic of the meta tokens' recurrent input projections, read at a batch, a token and a column: functions of the token's
  row.
-/
module

public import proofs.«01_k».proof.Proof.RecInFn
public import proofs.«01_k».proof.Proof.AttnPay
public import proofs.«01_k».proof.Proof.Gen.KernelRecInMetaIdeal.Skeleton
public import Idealize.ShloMosaic.Lib.Pipeline.ValueKit

@[expose] public section

set_option maxRecDepth 16384

noncomputable section

namespace Cert.Proof.RecInMetaPay

open Idealize.ShloMosaic Cert.KernelRecInMetaIdeal Cert.KernelRecInMetaIdeal.Gen
open Cert.Proof.PostFn Cert.Proof.RecFn Cert.Proof.RecInFn

/-- The row of batch `b`'s token `j` among all the batches' tokens. -/
def mrow (b : Fin 8) (j : Fin 16) : Fin 128 := ⟨b.val * 16 + j.val, by have := b.isLt; have := j.isLt; omega⟩

/-- The batches' tokens laid out as one sequence of rows. -/
theorem flat_at (h : FVec Ideal S8x16x1024 .f32) (b : Fin 8) (j : Fin 16) (e : Fin 1024) :
    shapeCast S128x1024 h shapeCasts_S8x16x1024_S128x1024 (ix2 (mrow b j) e) = h (ix3 b j e) := by
  have hb := b.isLt
  have hj := j.isLt
  pointwise []
  exact congrArg h (eq_ix3 (x := 8) (y := 16) (z := 1024) _ b j e
    (by show (b.val * 16 + j.val) / 16 = b.val; omega) (by show (b.val * 16 + j.val) % 16 = j.val; omega) rfl)

/-- The normed rows. -/
theorem pay9_at (h : FVec Ideal S8x16x1024 .f32) (w : FVec Ideal S1x1024 .f32) (b : Fin 8) (j : Fin 16) (e : Fin 1024) :
    k0_pay9 (F := Ideal) h w (ix2 (mrow b j) e) = normed (fun e => h (ix3 b j e)) (fun e => w (ix2 0 e)) e := by
  have hr : ∀ r : Fin 128, k0_pay9 (F := Ideal) h w (ix2 r e)
      = normed (fun e => shapeCast S128x1024 h shapeCasts_S8x16x1024_S128x1024 (ix2 r e)) (fun e => w (ix2 0 e)) e := fun r => by
    unfold normed scale
    pointwise [k0_pay9]
  rw [hr]
  simp only [flat_at]

theorem pay10_at (h : FVec Ideal S8x16x1024 .f32) (w : FVec Ideal S1x1024 .f32) (W : FVec Ideal S1024x1024 .bf16) (r : Fin 128)
    (e : Fin 1024) : k0_pay10 (F := Ideal) h w W (ix2 r e) = silu (∑ x, k0_pay9 (F := Ideal) h w (ix2 r x) * W (ix2 x e)) := by
  unfold silu
  pointwise [k0_pay10]

theorem pay11_at (h : FVec Ideal S8x16x1024 .f32) (w : FVec Ideal S1x1024 .f32) (W : FVec Ideal S1024x1024 .bf16) (r : Fin 128)
    (e : Fin 1024) : k0_pay11 (F := Ideal) h w W (ix2 r e) = ∑ x, k0_pay9 (F := Ideal) h w (ix2 r x) * W (ix2 x e) := by
  pointwise [k0_pay11]

theorem pay12_at (h : FVec Ideal S8x16x1024 .f32) (w : FVec Ideal S1x1024 .f32) (W : FVec Ideal S1024x1024 .bf16) (r : Fin 128)
    (e : Fin 1024) : k0_pay12 (F := Ideal) h w W (ix2 r e) = ∑ x, k0_pay9 (F := Ideal) h w (ix2 r x) * W (ix2 x e) := by
  pointwise [k0_pay12]

theorem pay16_at (n : FVec Ideal S128x1024 .bf16) (W : FVec Ideal S1024x1024 .bf16) (r : Fin 128) (e : Fin 1024) :
    k0_pay16 (F := Ideal) n W (ix2 r e) = silu (∑ x, n (ix2 r x) * W (ix2 x e)) := by
  unfold silu
  pointwise [k0_pay16]

/-- The softmax of the bounds' table down its columns. -/
theorem pay13_at (t : FVec Ideal S4x1024 .f32) (k : Fin 4) (e : Fin 1024) :
    k0_pay13 (F := Ideal) t (ix2 k e) = chance (fun k => t (ix2 k e)) k := by
  unfold chance colMax
  rw [← AttnPay.neg_inf]
  pointwise [k0_pay13]

/-- The log of the gate above the bound, from the softmax. -/
theorem pay14_at (z : FVec Ideal S128x1024 .f32) (p : FVec Ideal S4x1024 .f32) (r : Fin 128) (e : Fin 1024) :
    k0_pay14 (F := Ideal) z p (ix2 r e)
      = Ideal.log ((∑ k : Fin 3, p (ix2 ⟨1 + k.val, by have := k.isLt; omega⟩ e))
        + (1 - ∑ k : Fin 3, p (ix2 ⟨1 + k.val, by have := k.isLt; omega⟩ e)) * Ideal.logistic (z (ix2 r e))) := by
  pointwise [k0_pay14]

/-- The second table's gate is the first's arithmetic on its own table and projection. -/
theorem pay15_eq (n : FVec Ideal S128x1024 .bf16) (W : FVec Ideal S1024x1024 .bf16) (t : FVec Ideal S4x1024 .f32) :
    k0_pay15 (F := Ideal) n W t = k0_pay14 (F := Ideal)
      (matmul dot_S128x1024_S1024x1024_S128x1024_1_0_0_1_n_n none n (shapeCast S1024x1024 W shapeCasts_S1024x1024_S1024x1024)
        (constant S128x1024 .f32 0x00000000#32)) (k0_pay13 t) := by
  unfold k0_pay15 k0_pay14 k0_pay13
  rfl

theorem dot_at (n : FVec Ideal S128x1024 .bf16) (W : FVec Ideal S1024x1024 .bf16) (r : Fin 128) (e : Fin 1024) :
    matmul (F := Ideal) dot_S128x1024_S1024x1024_S128x1024_1_0_0_1_n_n none n (shapeCast S1024x1024 W shapeCasts_S1024x1024_S1024x1024)
        (constant S128x1024 .f32 0x00000000#32) (ix2 r e) = ∑ x, n (ix2 r x) * W (ix2 x e) := by
  pointwise []

/-- The gate of a table and a projection's entry. -/
theorem gate_at (z : FVec Ideal S128x1024 .f32) (t : FVec Ideal S4x1024 .f32) (r : Fin 128) (e : Fin 1024) :
    k0_pay14 (F := Ideal) z (k0_pay13 t) (ix2 r e) = forget (fun k => t (ix2 k e)) (z (ix2 r e)) := by
  rw [pay14_at]
  simp only [pay13_at]
  rfl

theorem pay1_at (x : FVec Ideal S128x1024 .f32) (b : Fin 8) (j : Fin 16) (e : Fin 1024) :
    k0_pay1 (F := Ideal) x (ix3 b j e) = x (ix2 (mrow b j) e) := by
  pointwise [k0_pay1]
  rfl

theorem pay3_at (x : FVec Ideal S128x1024 .f32) (b : Fin 8) (j : Fin 16) (e : Fin 1024) :
    k0_pay3 (F := Ideal) x (ix3 b j e) = x (ix2 (mrow b j) e) := by
  pointwise [k0_pay3]
  rfl

theorem pay5_at (x : FVec Ideal S128x1024 .f32) (b : Fin 8) (j : Fin 16) (e : Fin 1024) :
    k0_pay5 (F := Ideal) x (ix3 b j e) = x (ix2 (mrow b j) e) := by
  pointwise [k0_pay5]
  rfl

theorem pay7_at (x : FVec Ideal S128x1024 .f32) (b : Fin 8) (j : Fin 16) (e : Fin 1024) :
    k0_pay7 (F := Ideal) x (ix3 b j e) = x (ix2 (mrow b j) e) := by
  pointwise [k0_pay7]
  rfl

theorem pay8_at (x : FVec Ideal S128x1024 .f32) (b : Fin 8) (j : Fin 16) (e : Fin 1024) :
    k0_pay8 (F := Ideal) x (ix3 b j e) = x (ix2 (mrow b j) e) := by
  pointwise [k0_pay8]
  rfl

theorem pay17_at (b : Fin 8) (j : Fin 48) (e : Fin 1024) : k0_pay17 (F := Ideal) (ix3 b j e) = 0 := by
  pointwise [k0_pay17]

theorem pay2_at (b : Fin 8) (j : Fin 48) (e : Fin 1024) : k0_pay2 (F := Ideal) (ix3 b j e) = 0 := by
  pointwise [k0_pay2]

theorem pay4_at (b : Fin 8) (j : Fin 48) (e : Fin 1024) : k0_pay4 (F := Ideal) (ix3 b j e) = 0 := by
  pointwise [k0_pay4]

theorem pay6_at (b : Fin 8) (j : Fin 48) (e : Fin 1024) : k0_pay6 (F := Ideal) (ix3 b j e) = 0 := by
  pointwise [k0_pay6]

/-- The whole of the tokens' rows, loaded. -/
abbrev ldh (x : FVec Ideal S8x16x1024 .f32) : FVec Ideal S8x16x1024 .f32 :=
  View.ld (Val := Elt Ideal) (e' := .f32) x (Rect.unit ![0, 0, 0] ![8, 16, 1024] inb_S8x16x1024_S8x16x1024_0_0_0)

/-- The whole norm's row, loaded. -/
abbrev ldn (x : FVec Ideal S1x1024 .f32) : FVec Ideal S1x1024 .f32 :=
  View.ld (Val := Elt Ideal) (e' := .f32) x (Rect.unit ![0, 0] ![1, 1024] inb_S1x1024_S1x1024_0_0)

/-- The whole bounds' table, loaded. -/
abbrev ldt (x : FVec Ideal S4x1024 .f32) : FVec Ideal S4x1024 .f32 :=
  View.ld (Val := Elt Ideal) (e' := .f32) x (Rect.unit ![0, 0] ![4, 1024] inb_S4x1024_S4x1024_0_0)

/-- The columns of the projection from `o` on, loaded. -/
abbrev ldc (x : FVec Ideal S1024x5120 .bf16) (o : ℕ) (inb : ∀ a : Fin 2, (![0, o] : Fin 2 → ℕ) a + (![1024, 1024] : Fin 2 → ℕ) a ≤ S1024x5120.size a) : FVec Ideal S1024x1024 .bf16 :=
  View.ld (Val := Elt Ideal) (e' := .bf16) x (Rect.unit (s := S1024x5120) ![0, o] ![1024, 1024] inb)

theorem ldh_eq (x : FVec Ideal S8x16x1024 .f32) : ldh x = x :=
  View.ld_unit_zero (by funext i; fin_cases i <;> rfl) _ _

theorem ldn_eq (x : FVec Ideal S1x1024 .f32) : ldn x = x :=
  View.ld_unit_zero (by funext i; fin_cases i <;> rfl) _ _

theorem ldt_eq (x : FVec Ideal S4x1024 .f32) : ldt x = x :=
  View.ld_unit_zero (by funext i; fin_cases i <;> rfl) _ _

/-- The columns loaded, at an index. -/
theorem ldc_at (W : FVec Ideal S1024x5120 .bf16) (j : Fin 5) (o : ℕ) (ho : o = 1024 * j.val) (inb) (x u : Fin 1024) :
    ldc W o inb (ix2 x u) = W (ix2 x (col j u)) :=
  congrArg W (eq_ix2 _ _ _ (by show 0 + 1 * x.val = x.val; omega) (by show o + 1 * u.val = 1024 * j.val + u.val; omega))

/-- Block `k` of the projection of a token's row of the blocks. -/
abbrev lineB (h : FVec Ideal S8x16x1024 .f32) (nw : FVec Ideal S1x1024 .f32) (W : FVec Ideal S1024x5120 .bf16) (k : Fin 5)
    (b : Fin 8) (j : Fin 16) (e : Fin 1024) : EReal :=
  line (fun e => h (ix3 b j e)) (fun e => nw (ix2 0 e)) (fun x u => W (ix2 x u)) k e

/-- A block of the projection, from the loads. -/
theorem line_at (h : FVec Ideal S8x16x1024 .f32) (nw : FVec Ideal S1x1024 .f32) (W : FVec Ideal S1024x5120 .bf16) (k : Fin 5)
    (o : ℕ) (ho : o = 1024 * k.val) (inb) (b : Fin 8) (j : Fin 16) (e : Fin 1024) :
    ∑ x, k0_pay9 (F := Ideal) (ldh h) (ldn nw) (ix2 (mrow b j) x) * ldc W o inb (ix2 x e) = lineB h nw W k b j e := by
  rw [ldh_eq, ldn_eq]
  exact Finset.sum_congr rfl fun x _ => congrArg₂ _ (pay9_at h nw b j x) (ldc_at W k o ho inb x e)

/-- A sequence's last 64 rows: 48 rows of zeros, then the tokens' rows. -/
def chunk (f : Fin 8 → Fin 16 → Fin 1024 → EReal) : S8x64x1024.Idx → EReal := fun y =>
  if h : 48 ≤ (y 1).val then f (y 0) ⟨(y 1).val - 48, by have : (y 1).val < 64 := (y 1).isLt; omega⟩ (y 2) else 0

/-- The store of the tokens' rows holds the last rows of the chunk. -/
theorem store_rows (f : Fin 8 → Fin 16 → Fin 1024 → EReal) (inb) (w : S8x16x1024.Idx → EReal)
    (hw : ∀ (b : Fin 8) (j : Fin 16) (e : Fin 1024), w (ix3 b j e) = f b j e)
    (x : (Rect.unit (s := S8x64x1024) ![0, 48, 0] ![8, 16, 1024] inb).shape.Idx) :
    w x = chunk f ((Rect.unit (s := S8x64x1024) ![0, 48, 0] ![8, 16, 1024] inb).emb x) := by
  have hx := eq_ix3 (x := 8) (y := 16) (z := 1024) x (x 0) (x 1) (x 2) rfl rfl rfl
  have h1 : ((Rect.unit (s := S8x64x1024) ![0, 48, 0] ![8, 16, 1024] inb).emb x 1).val = 48 + 1 * (x 1).val := rfl
  unfold chunk
  rw [dif_pos (by omega)]
  refine (congrArg w hx).trans ((hw _ _ _).trans ?_)
  congr 1
  · exact Fin.ext (by show (x 0).val = 0 + 1 * (x 0).val; omega)
  · exact Fin.ext (by show (x 1).val = 48 + 1 * (x 1).val - 48; omega)
  · exact Fin.ext (by show (x 2).val = 0 + 1 * (x 2).val; omega)

/-- The store of zeros holds the first rows of the chunk. -/
theorem store_zeros (f : Fin 8 → Fin 16 → Fin 1024 → EReal) (inb) (w : S8x48x1024.Idx → EReal)
    (hw : ∀ (b : Fin 8) (j : Fin 48) (e : Fin 1024), w (ix3 b j e) = 0)
    (x : (Rect.unit (s := S8x64x1024) ![0, 0, 0] ![8, 48, 1024] inb).shape.Idx) :
    w x = chunk f ((Rect.unit (s := S8x64x1024) ![0, 0, 0] ![8, 48, 1024] inb).emb x) := by
  have hx := eq_ix3 (x := 8) (y := 48) (z := 1024) x (x 0) (x 1) (x 2) rfl rfl rfl
  have h1 : ((Rect.unit (s := S8x64x1024) ![0, 0, 0] ![8, 48, 1024] inb).emb x 1).val = 0 + 1 * (x 1).val := rfl
  have h2 : (x 1).val < 48 := (x 1).isLt
  unfold chunk
  rw [dif_neg (by omega)]
  exact (congrArg w hx).trans (hw _ _ _)

end Cert.Proof.RecInMetaPay
-- ==== Proof.RecInMetaBlock.lean ====
/-
  The blocks the meta tokens' recurrent input projections' kernel writes: functions of the rows of its input blocks.
-/
module

public import proofs.«01_k».proof.Proof.RecInMetaPay
public import proofs.«01_k».proof.Proof.Gen.KernelRecInMetaIdeal.Value

@[expose] public section

set_option maxRecDepth 16384

noncomputable section

namespace Cert.Proof.RecInMetaBlock

open Idealize.ShloMosaic Idealize.ShloMosaic.TcCoe Idealize.SL.Sem Cert.KernelRecInMetaIdeal Cert.KernelRecInMetaIdeal.Gen
open Cert.Proof.PostFn Cert.Proof.RecFn Cert.Proof.RecInFn Cert.Proof.RecInMetaPay

variable (m : (ℓ : Loc nD τ sig) → Buf (Elt Ideal) ℓ)

/-- Block `k` of the projection of a token's row, at a point. -/
abbrev lineAt (c : Dev nD) (t : Fin cfg0.N) (k : Fin 5) : Fin 8 → Fin 16 → Fin 1024 → EReal :=
  lineB (iblk m c 0 t) (iblk m c 1 t) (iblk m c 2 t) k

/-- The first result's block. -/
theorem out5_eq (c : Dev nD) (t : Fin cfg0.N) : (outsAt0 m c t).1 = chunk fun b j e => silu (lineAt m c t 0 b j e) := by
  unfold outsAt0
  dsimp only
  unfold out0_A_5
  rw [View.read_writes_eq_canon _ _ _ (cover0_A_5 c _ _ _ _ _ _ _ _ _ _ _ _ _ _ _ _ _ _ _ _ _ _ _ _ _ _)]
  funext y
  refine View.canon_apply_of_pieces _ _ ?_ y (cover0_A_5 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [List.forall_mem_cons]
  refine ⟨store_rows _ _ _ fun b j e => ?_, store_zeros _ _ _ pay17_at, by simp⟩
  exact (pay1_at _ b j e).trans ((pay10_at _ _ _ _ e).trans (congrArg silu (line_at _ _ _ 0 0 rfl _ b j e)))

/-- The second result's block. -/
theorem out6_eq (c : Dev nD) (t : Fin cfg0.N) : (outsAt0 m c t).2.1 = chunk (lineAt m c t 1) := by
  unfold outsAt0
  dsimp only
  unfold out0_A_6
  rw [View.read_writes_eq_canon _ _ _ (cover0_A_6 c _ _ _ _ _ _ _ _ _ _ _ _ _ _ _ _ _ _ _ _ _ _ _ _ _ _)]
  funext y
  refine View.canon_apply_of_pieces _ _ ?_ y (cover0_A_6 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [List.forall_mem_cons]
  refine ⟨store_rows _ _ _ fun b j e => ?_, store_zeros _ _ _ pay2_at, by simp⟩
  exact (pay3_at _ b j e).trans ((pay11_at _ _ _ _ e).trans (line_at _ _ _ 1 1024 rfl _ b j e))

/-- The third result's block. -/
theorem out7_eq (c : Dev nD) (t : Fin cfg0.N) :
    (outsAt0 m c t).2.2.1 = chunk fun b j e => forget (fun k => iblk m c 3 t (ix2 k e)) (lineAt m c t 2 b j e) := by
  unfold outsAt0
  dsimp only
  unfold out0_A_7
  rw [View.read_writes_eq_canon _ _ _ (cover0_A_7 c _ _ _ _ _ _ _ _ _ _ _ _ _ _ _ _ _ _ _ _ _ _ _ _ _ _)]
  funext y
  refine View.canon_apply_of_pieces _ _ ?_ y (cover0_A_7 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [List.forall_mem_cons]
  refine ⟨store_rows _ _ _ fun b j e => ?_, store_zeros _ _ _ pay4_at, by simp⟩
  refine (pay5_at _ b j e).trans ((gate_at _ _ _ e).trans (congrArg₂ forget ?_ ?_))
  · exact congrArg (fun (t : FVec Ideal S4x1024 .f32) k => t (ix2 k e)) (ldt_eq _)
  · exact (pay12_at _ _ _ _ e).trans (line_at _ _ _ 2 2048 rfl _ b j e)

/-- The fourth result's block. -/
theorem out8_eq (c : Dev nD) (t : Fin cfg0.N) :
    (outsAt0 m c t).2.2.2.1 = chunk fun b j e => forget (fun k => iblk m c 4 t (ix2 k e)) (lineAt m c t 3 b j e) := by
  unfold outsAt0
  dsimp only
  unfold out0_A_8
  rw [View.read_writes_eq_canon _ _ _ (cover0_A_8 c _ _ _ _ _ _ _ _ _ _ _ _ _ _ _ _ _ _ _ _ _ _ _ _ _ _)]
  funext y
  refine View.canon_apply_of_pieces _ _ ?_ y (cover0_A_8 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [List.forall_mem_cons]
  refine ⟨store_rows _ _ _ fun b j e => ?_, store_zeros _ _ _ pay6_at, by simp⟩
  refine (pay7_at _ b j e).trans ((congrFun (pay15_eq _ _ _) _).trans ((gate_at _ _ _ e).trans (congrArg₂ forget ?_ ?_)))
  · exact congrArg (fun (t : FVec Ideal S4x1024 .f32) k => t (ix2 k e)) (ldt_eq _)
  · exact (dot_at _ _ _ e).trans (line_at _ _ _ 3 3072 rfl _ b j e)

/-- The fifth result's block. -/
theorem out9_at (c : Dev nD) (t : Fin cfg0.N) (b : Fin 8) (j : Fin 16) (e : Fin 1024) :
    (outsAt0 m c t).2.2.2.2 (ix3 b j e) = silu (lineAt m c t 4 b j e) := by
  unfold outsAt0
  dsimp only
  unfold out0_A_9
  rw [View.read_writes_eq_canon _ _ _ (cover0_A_9 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero (by funext i; fin_cases i <;> rfl)]
  exact (pay8_at _ b j e).trans ((pay16_at _ _ _ e).trans (congrArg silu (line_at _ _ _ 4 4096 rfl _ b j e)))

/-- The norm's weights as a row. -/
theorem V_v0 (c : Dev nD) (e : Fin 1024) : V m c main_v0 (ix2 0 e) = m ((c : Thread nD τ).loc main_arg1) (ix1 e) := by
  have h : V m c main_v0 = shapeCast S1x1024 (m ((c : Thread nD τ).loc main_arg1)) shapeCasts_S1024_S1x1024 := by
    simp only [V, hostOps0]; after_results; rfl
  rw [h]
  pointwise []

/-- The projection's weights, kept. -/
theorem V_v1 (c : Dev nD) : V m c main_v1 = m ((c : Thread nD τ).loc main_arg2) := by
  simp only [V, hostOps0]; after_results; rfl

/-- The four long arrays begin as the arguments they are written behind. -/
theorem V_first (c : Dev nD) : V m c main_v2_0 = m ((c : Thread nD τ).loc main_arg5) := by
  simp only [V, hostOps0]; after_results; rfl

theorem V_second (c : Dev nD) : V m c main_v2_1 = m ((c : Thread nD τ).loc main_arg6) := by
  simp only [V, hostOps0]; after_results; rfl

theorem V_third (c : Dev nD) : V m c main_v2_2 = m ((c : Thread nD τ).loc main_arg7) := by
  simp only [V, hostOps0]; after_results; rfl

theorem V_fourth (c : Dev nD) : V m c main_v2_3 = m ((c : Thread nD τ).loc main_arg8) := by
  simp only [V, hostOps0]; after_results; rfl

end Cert.Proof.RecInMetaBlock
-- ==== Proof.RecInMetaRef.lean ====
/-
  The reference's recurrent input projections of the meta tokens at an index: the same functions of its arguments' rows as the
  kernel's blocks, behind the sequences' rows.
-/
module

public import proofs.«01_k».proof.Proof.RecInFn
public import proofs.«01_k».proof.Proof.AttnPay
public import proofs.«01_k».proof.Proof.Gen.ReferenceRecInMetaIdeal.Run
public import proofs.«01_k».proof.Proof.Gen.ReferenceRecInMetaIdeal.Read
public import Idealize.ShloMosaic.Lib.KernelVsHost
public import Idealize.ShloMosaic.Lib.Pipeline.Value

@[expose] public section

set_option maxRecDepth 16384

noncomputable section

namespace Cert.Proof.RecInMetaRef

open Idealize.ShloMosaic Cert.ReferenceRecInMetaIdeal Cert.ReferenceRecInMetaIdeal.Gen Cert.ReferenceRecInMetaIdeal.Read
open Cert.Proof.PostFn Cert.Proof.RecFn Cert.Proof.RecInFn

variable (H : FVec Ideal S8x16x1024 .f32) (nw : FVec Ideal S1024 .f32) (W : FVec Ideal S1024x5120 .f32)
  (T : FVec Ideal S4x1024 .f32) (b : Fin 8) (r : Fin 16) (e : Fin 1024)

/-- The normed rows. -/
theorem v12_at : val_main_v12 (F := Ideal) H nw (ix3 b r e) = normed (fun e => H (ix3 b r e)) (fun e => nw (ix1 e)) e := by
  unfold normed scale
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- Block `j` of the projection of a row of the reference's arguments. -/
abbrev place (j : Fin 5) : EReal := line (fun e => H (ix3 b r e)) (fun e => nw (ix1 e)) (fun x u => W (ix2 x u)) j e

theorem v13_at (j : Fin 5) : val_main_v13 (F := Ideal) H nw W (ix3 b r (col j e)) = place H nw W b r e j := by
  rw [val_main_v13_apply]
  refine Finset.sum_congr rfl fun x _ => congrArg₂ _ ?_ (congrArg W (eq_ix2 _ _ _ rfl rfl))
  exact (congrArg _ (eq_ix3 (x := 8) (y := 16) (z := 1024) _ b r x rfl rfl rfl)).trans (v12_at H nw b r x)

theorem v14_at : val_main_v14 (F := Ideal) H nw W (ix3 b r e) = place H nw W b r e 0 := by
  rw [val_main_v14_apply]
  refine (congrArg _ (eq_ix3 (x := 8) (y := 16) (z := 5120) _ b r (col 0 e) rfl rfl ?_)).trans (v13_at H nw W b r e 0)
  show e.val = 1024 * 0 + e.val
  omega

theorem v15_at : val_main_v15 (F := Ideal) H nw W (ix3 b r e) = place H nw W b r e 1 := by
  rw [val_main_v15_apply]
  exact (congrArg _ (eq_ix3 (x := 8) (y := 16) (z := 5120) _ b r (col 1 e) rfl rfl rfl)).trans (v13_at H nw W b r e 1)

theorem v16_at : val_main_v16 (F := Ideal) H nw W (ix3 b r e) = place H nw W b r e 2 := by
  rw [val_main_v16_apply]
  exact (congrArg _ (eq_ix3 (x := 8) (y := 16) (z := 5120) _ b r (col 2 e) rfl rfl rfl)).trans (v13_at H nw W b r e 2)

theorem v17_at : val_main_v17 (F := Ideal) H nw W (ix3 b r e) = place H nw W b r e 3 := by
  rw [val_main_v17_apply]
  exact (congrArg _ (eq_ix3 (x := 8) (y := 16) (z := 5120) _ b r (col 3 e) rfl rfl rfl)).trans (v13_at H nw W b r e 3)

theorem v18_at : val_main_v18 (F := Ideal) H nw W (ix3 b r e) = place H nw W b r e 4 := by
  rw [val_main_v18_apply]
  exact (congrArg _ (eq_ix3 (x := 8) (y := 16) (z := 5120) _ b r (col 4 e) rfl rfl rfl)).trans (v13_at H nw W b r e 4)

theorem v19_at : val_main_v19 (F := Ideal) H nw W (ix3 b r e) = silu (val_main_v14 (F := Ideal) H nw W (ix3 b r e)) := by
  unfold silu Ideal.logistic
  pointwise [val_main_v19, val_main_call0_v0, val_main_call0_v1, val_main_call0_v2, val_main_call0_v3, val_main_call0_v4,
    val_main_call0_v5, val_main_call0_cst, val_main_call0_cst_0]

theorem v99_at : val_main_v99 (F := Ideal) H nw W (ix3 b r e) = silu (place H nw W b r e 4) := by
  rw [← v18_at]
  unfold silu Ideal.logistic
  pointwise [val_main_v99, val_main_v98, val_main_call7_v0, val_main_call7_v1, val_main_call7_v2, val_main_call7_v3, val_main_call7_v4,
    val_main_call7_v5, val_main_call7_cst, val_main_call7_cst_0]

/-- The greatest entries of the table's columns. -/
theorem v28_at : val_main_v28 (F := Ideal) T (ix1 e) = colMax (fun k => T (ix2 k e)) := by
  unfold val_main_v28 colMax
  refine (Host.reduce_eq_fold_single (FloatOps.maximumf (F := Ideal) (φ := .f32)) T (val_main_cst_3 (F := Ideal))
    reducesTo_S4x1024_S1024_d0 (by decide) h_S_ (ix1 e)).trans ?_
  have h0 : val_main_cst_3 (F := Ideal) (Shape.Idx.first h_S_) = ⊥ := AttnPay.neg_inf
  rw [h0]
  refine congrArg (fun f => Finset.fold max ⊥ f (Finset.univ : Finset (Fin 4))) (funext fun c => congrArg T ?_)
  exact funext fun j => Fin.ext (by match j with | ⟨0, _⟩ => rfl | ⟨1, _⟩ => rfl)

theorem v30_at : val_main_v30 (F := Ideal) T (ix1 e) = colMax (fun k => T (ix2 k e)) := by
  rw [val_main_v30_apply, v28_at, val_main_v29_apply]
  have h0 : val_main_cst_4 (F := Ideal) (idx_main_v29 (ix1 e)) = ⊥ := AttnPay.neg_inf
  rw [h0]
  exact max_eq_right bot_le

theorem v34_at (k : Fin 4) : val_main_v34 (F := Ideal) T (ix2 k e) = Ideal.exp (T (ix2 k e) - val_main_v30 (F := Ideal) T (ix1 e)) := by
  pointwise [val_main_v34, val_main_v33, val_main_v32, val_main_v31]

/-- The softmax of the table's columns. -/
theorem v38_at (k : Fin 4) : val_main_v38 (F := Ideal) T (ix2 k e) = chance (fun k => T (ix2 k e)) k := by
  have h : val_main_v38 (F := Ideal) T (ix2 k e)
      = Ideal.div (val_main_v34 (F := Ideal) T (ix2 k e)) (∑ l : Fin 4, val_main_v34 (F := Ideal) T (ix2 l e)) := by
    pointwise [val_main_v38, val_main_v37, val_main_v36, val_main_v35, val_main_cst_5]
  rw [h]
  simp only [v34_at, v30_at]
  rfl

/-- The running sums of the softmax. -/
theorem v39_eq (k : Fin 4) : val_main_v39 (F := Ideal) T (ix2 k e)
    = Ideal.hostReduceWindowAdd ![4, 1] ![1, 1] ![3, 0] ![0, 0] reduceWindows_S4x1024_S4x1024_w4s1p3_0_w1s1p0_0
        (val_main_v38 (F := Ideal) T) 0 (ix2 k e) := by
  have h0 : val_main_call3_call0_v0 (F := Ideal) (Shape.Idx.first h_S_) = 0 := by
    rw [val_main_call3_call0_v0_apply, val_main_call3_call0_cst_apply]
    pointwise []
  unfold val_main_v39 Host.reduceWindowAdd
  rw [h0]
  rfl

theorem v39_last : val_main_v39 (F := Ideal) T (ix2 3 e)
    = chance (fun k => T (ix2 k e)) 0 + chance (fun k => T (ix2 k e)) 1 + chance (fun k => T (ix2 k e)) 2 + chance (fun k => T (ix2 k e)) 3 := by
  rw [v39_eq]
  refine (running_at _ 0 _ 3 e).trans ?_
  rw [dif_pos (by decide), dif_pos (by decide), dif_pos (by decide), dif_pos (by decide), zero_add]
  exact congrArg₂ _ (congrArg₂ _ (congrArg₂ _ (v38_at T e 0) (v38_at T e 1)) (v38_at T e 2)) (v38_at T e 3)

theorem v39_first : val_main_v39 (F := Ideal) T (ix2 0 e) = chance (fun k => T (ix2 k e)) 0 := by
  rw [v39_eq]
  refine (running_at _ 0 _ 0 e).trans ?_
  rw [dif_neg (by decide), dif_neg (by decide), dif_neg (by decide), dif_pos (by decide), add_zero, add_zero, add_zero, zero_add]
  exact v38_at T e 0

/-- The lower bound. -/
theorem v44_at : val_main_v44 (F := Ideal) T (ix1 e) = lower (fun k => T (ix2 k e)) := by
  have h : val_main_v44 (F := Ideal) T (ix1 e) = val_main_v39 (F := Ideal) T (ix2 3 e) - val_main_v39 (F := Ideal) T (ix2 0 e) := by
    pointwise [val_main_v44, val_main_v43, val_main_v42, val_main_v41, val_main_v40]
  rw [h, v39_last, v39_first, lower_eq]

/-- The forward gate. -/
theorem v59_at : val_main_v59 (F := Ideal) H nw W T (ix3 b r e) = forget (fun k => T (ix2 k e)) (place H nw W b r e 2) := by
  have h : val_main_v59 (F := Ideal) H nw W T (ix3 b r e) = Ideal.log (val_main_v44 (F := Ideal) T (ix1 e)
      + (1 - val_main_v44 (F := Ideal) T (ix1 e)) * Ideal.logistic (val_main_v16 (F := Ideal) H nw W (ix3 b r e))) := by
    unfold Ideal.logistic
    pointwise [val_main_v59, val_main_v58, val_main_v57, val_main_v56, val_main_v55, val_main_v54, val_main_v53, val_main_v52,
      val_main_v51, val_main_v50, val_main_v49, val_main_v48, val_main_v47, val_main_v46, val_main_v45, val_main_cst_6,
      val_main_cst_7, val_main_cst_8]
  rw [h, v44_at, v16_at]
  rfl

/-- The second table's bound is computed as the first's. -/
theorem v79_eq : val_main_v79 (F := Ideal) T = val_main_v44 (F := Ideal) T := rfl

/-- The backward gate. -/
theorem v94_at : val_main_v94 (F := Ideal) H nw W T (ix3 b r e) = forget (fun k => T (ix2 k e)) (place H nw W b r e 3) := by
  have h : val_main_v94 (F := Ideal) H nw W T (ix3 b r e) = Ideal.log (val_main_v79 (F := Ideal) T (ix1 e)
      + (1 - val_main_v79 (F := Ideal) T (ix1 e)) * Ideal.logistic (val_main_v17 (F := Ideal) H nw W (ix3 b r e))) := by
    unfold Ideal.logistic
    pointwise [val_main_v94, val_main_v93, val_main_v92, val_main_v91, val_main_v90, val_main_v89, val_main_v88, val_main_v87,
      val_main_v86, val_main_v85, val_main_v84, val_main_v83, val_main_v82, val_main_v81, val_main_v80, val_main_cst_13,
      val_main_cst_14, val_main_cst_15]
  rw [h, v79_eq, v44_at, v17_at]
  rfl

/-- The argument's first rows, then 48 rows of zeros, then the tokens' rows. -/
def behind (x : S8x8256x1024.Idx → EReal) (f : Fin 8 → Fin 16 → Fin 1024 → EReal) : S8x8256x1024.Idx → EReal := fun i =>
  if (i 1).val < 8192 then x i
  else if h : 8240 ≤ (i 1).val then f (i 0) ⟨(i 1).val - 8240, by have : (i 1).val < 8256 := (i 1).isLt; omega⟩ (i 2) else 0

/-- A slice of the argument joined to the padded rows. -/
theorem behind_eq (x : FVec Ideal S8x8256x1024 .f32) (t : FVec Ideal S8x16x1024 .f32) (z : FVec Ideal S_ .f32) (hz : z (Shape.Idx.first h_S_) = 0)
    (f : Fin 8 → Fin 16 → Fin 1024 → EReal) (ht : ∀ b j e, t (ix3 b j e) = f b j e) :
    concatenate S8x8256x1024 1 [⟨S8x8192x1024, extractStridedSlice S8x8192x1024 ![0, 0, 0] x slices_S8x8256x1024_S8x8192x1024_0_0_0⟩,
      ⟨S8x64x1024, pad S8x64x1024 ![0, 48, 0] ![0, 0, 0] ![0, 0, 0] t z pads_S8x16x1024_S8x64x1024_000_4800_000 h_S_⟩]
      concatenates_S8x8192x1024_S8x64x1024_S8x8256x1024_d1 = behind x f := by
  funext i
  have hi := eq_ix3 (x := 8) (y := 8256) (z := 1024) i (i 0) (i 1) (i 2) rfl rfl rfl
  generalize hb : (i 0 : Fin 8) = b at hi
  generalize hs : (i 1 : Fin 8256) = s at hi
  generalize he : (i 2 : Fin 1024) = e at hi
  subst hi
  have hs' : s.val < 8256 := s.isLt
  unfold behind
  by_cases h1 : s.val < 8192
  · rw [if_pos (show ((ix3 b s e : S8x8256x1024.Idx) 1).val < 8192 from h1)]
    refine (concatenate_pair_apply_left (t := S8x8256x1024) (s₁ := S8x8192x1024) (s₂ := S8x64x1024) 1 _ _ _ _ rfl (ix3 b (⟨s.val, h1⟩ : Fin 8192) e) fun a => ?_).trans ?_
    · match a with
      | ⟨0, _⟩ => rfl
      | ⟨1, _⟩ => rfl
      | ⟨2, _⟩ => rfl
    · exact congrArg x (eq_ix3 _ _ _ _ (by show 0 + b.val = b.val; omega) (by show 0 + s.val = s.val; omega) (by show 0 + e.val = e.val; omega))
  · rw [if_neg (show ¬((ix3 b s e : S8x8256x1024.Idx) 1).val < 8192 from h1)]
    refine (concatenate_pair_apply_right (t := S8x8256x1024) (s₁ := S8x8192x1024) (s₂ := S8x64x1024) 1 _ _ _ _ rfl rfl (ix3 b (⟨s.val - 8192, by omega⟩ : Fin 64) e) (fun a ha => ?_) ?_).trans ?_
    · match a with
      | ⟨0, _⟩ => rfl
      | ⟨1, _⟩ => exact absurd rfl ha
      | ⟨2, _⟩ => rfl
    · show s.val - 8192 + 8192 = s.val
      omega
    · by_cases h2 : 8240 ≤ s.val
      · rw [dif_pos (show 8240 ≤ ((ix3 b s e : S8x8256x1024.Idx) 1).val from h2)]
        refine (pad_apply_of_inside _ _ _ t z _ _ _ (ix3 b (⟨s.val - 8240, by omega⟩ : Fin 16) e) fun a => ?_).trans (ht _ _ _)
        match a with
        | ⟨0, _⟩ => show b.val = 0 + b.val * (0 + 1); omega
        | ⟨1, _⟩ => show s.val - 8192 = 48 + (s.val - 8240) * (0 + 1); omega
        | ⟨2, _⟩ => show e.val = 0 + e.val * (0 + 1); omega
      · rw [dif_neg (show ¬8240 ≤ ((ix3 b s e : S8x8256x1024.Idx) 1).val from h2)]
        refine (pad_apply_of_not_inside _ _ _ t z _ _ _ 1 ?_).trans hz
        show ¬(48 ≤ s.val - 8192 ∧ _ ∧ _)
        omega

/-- The zero the rows are padded with. -/
theorem zero_at : sitofp (F := Ideal) .f32 (constantI S_ 32 0#32) (Shape.Idx.first h_S_) = 0 := by
  show (((0#32 : BitVec 32).toInt : ℝ) : EReal) = 0
  simp

variable (x : FVec Ideal S8x8256x1024 .bf16) (y : FVec Ideal S8x8256x1024 .f32)

theorem v23_eq : val_main_v23 (F := Ideal) H nw W x = behind x fun b j e => silu (place H nw W b j e 0) :=
  behind_eq x (val_main_v19 (F := Ideal) H nw W) (val_main_call1_v0 (F := Ideal)) zero_at _ fun b j e => by rw [v19_at, v14_at]

theorem v27_eq : val_main_v27 (F := Ideal) H nw W x = behind x fun b j e => place H nw W b j e 1 :=
  behind_eq x (val_main_v15 (F := Ideal) H nw W) (val_main_call2_v0 (F := Ideal)) zero_at _ fun b j e => v15_at H nw W b j e

theorem v62_eq : val_main_v62 (F := Ideal) H nw W T y = behind y fun b j e => forget (fun k => T (ix2 k e)) (place H nw W b j e 2) :=
  behind_eq y (val_main_v59 (F := Ideal) H nw W T) (val_main_call4_v0 (F := Ideal)) zero_at _ fun b j e => v59_at H nw W T b j e

theorem v97_eq : val_main_v97 (F := Ideal) H nw W T y = behind y fun b j e => forget (fun k => T (ix2 k e)) (place H nw W b j e 3) :=
  behind_eq y (val_main_v94 (F := Ideal) H nw W T) (val_main_call6_v0 (F := Ideal)) zero_at _ fun b j e => v94_at H nw W T b j e

end Cert.Proof.RecInMetaRef
-- ==== Proof.RecInMetaValue.lean ====
/-
  What the meta tokens' recurrent input projections' kernel leaves in its five result arrays.
-/
module

public import proofs.«01_k».proof.Proof.RecInMetaBlock
public import proofs.«01_k».proof.Proof.RecInMetaRef

@[expose] public section

set_option maxRecDepth 16384

noncomputable section

namespace Cert.Proof.RecInMetaValue

open Idealize.ShloMosaic Idealize.ShloMosaic.TcCoe Idealize.SL.Sem Cert.KernelRecInMetaIdeal Cert.KernelRecInMetaIdeal.Gen
open Idealize.ShloMosaic.Pipeline (Dat)
open Cert.Proof.PostFn Cert.Proof.RecFn Cert.Proof.RecInFn Cert.Proof.RecInMetaPay Cert.Proof.RecInMetaBlock
open Cert.Proof.RecInMetaRef (behind)

variable (m : (ℓ : Loc nD τ sig) → Buf (Elt Ideal) ℓ)

theorem idx0 : ∀ t : Fin grid0.N, win0_0.index t 0 = 0 ∧ win0_0.index t 1 = 0 ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 128 ∧ win0_5.index t 2 = 0
    ∧ win0_5.xsize (grid0.coords t) 0 = 8 ∧ win0_5.xsize (grid0.coords t) 1 = 64 ∧ win0_5.xsize (grid0.coords t) 2 = 1024 := by decide +kernel
theorem idx9 : ∀ t : Fin grid0.N, win0_9.index t 0 = 0 ∧ win0_9.index t 1 = 0 ∧ win0_9.index t 2 = 0
    ∧ win0_9.xsize (grid0.coords t) 0 = 8 ∧ win0_9.xsize (grid0.coords t) 1 = 16 ∧ win0_9.xsize (grid0.coords t) 2 = 1024 := by decide +kernel

theorem blk0 (c : Dev nD) (t : Fin cfg0.N) (b : Fin 8) (j : Fin 16) (e : Fin 1024) :
    iblk m c 0 t (ix3 b j e) = m ((c : Thread nD τ).loc main_arg0) (ix3 b j e) := by
  have h := idx0 t
  refine Eq.trans ?_ (congrFun (V_main_arg0 m c) _)
  exact congrArg (V m c main_arg0) (eq_ix3 ((win0_0.rect t).emb (ix3 b j e)) _ _ _
    (by show win0_0.index t 0 * 8 + 1 * b.val = b.val; omega)
    (by show win0_0.index t 1 * 16 + 1 * j.val = j.val; omega)
    (by show win0_0.index t 2 * 1024 + 1 * e.val = e.val; omega))

theorem blk1 (c : Dev nD) (t : Fin cfg0.N) (e : Fin 1024) :
    iblk m c 1 t (ix2 0 e) = m ((c : Thread nD τ).loc main_arg1) (ix1 e) := by
  have h := idx1 t
  refine Eq.trans ?_ (V_v0 m c e)
  exact congrArg (V m c main_v0) (eq_ix2 ((win0_1.rect t).emb (ix2 0 e)) _ _
    (by show win0_1.index t 0 * 1 + 1 * 0 = 0; omega)
    (by show win0_1.index t 1 * 1024 + 1 * e.val = e.val; omega))

theorem blk2 (c : Dev nD) (t : Fin cfg0.N) (x : Fin 1024) (u : Fin 5120) :
    iblk m c 2 t (ix2 x u) = m ((c : Thread nD τ).loc main_arg2) (ix2 x u) := by
  have h := idx2 t
  refine Eq.trans ?_ (congrFun (V_v1 m c) _)
  exact congrArg (V m c main_v1) (eq_ix2 ((win0_2.rect t).emb (ix2 x u)) _ _
    (by show win0_2.index t 0 * 1024 + 1 * x.val = x.val; omega)
    (by show win0_2.index t 1 * 5120 + 1 * u.val = u.val; omega))

theorem blk3 (c : Dev nD) (t : Fin cfg0.N) (k : Fin 4) (e : Fin 1024) :
    iblk m c 3 t (ix2 k e) = m ((c : Thread nD τ).loc main_arg3) (ix2 k e) := by
  have h := idx3 t
  refine Eq.trans ?_ (congrFun (V_main_arg3 m c) _)
  exact congrArg (V m c main_arg3) (eq_ix2 ((win0_3.rect t).emb (ix2 k e)) _ _
    (by show win0_3.index t 0 * 4 + 1 * k.val = k.val; omega)
    (by show win0_3.index t 1 * 1024 + 1 * e.val = e.val; omega))

theorem blk4 (c : Dev nD) (t : Fin cfg0.N) (k : Fin 4) (e : Fin 1024) :
    iblk m c 4 t (ix2 k e) = m ((c : Thread nD τ).loc main_arg4) (ix2 k e) := by
  have h := idx4 t
  refine Eq.trans ?_ (congrFun (V_main_arg4 m c) _)
  exact congrArg (V m c main_arg4) (eq_ix2 ((win0_4.rect t).emb (ix2 k e)) _ _
    (by show win0_4.index t 0 * 4 + 1 * k.val = k.val; omega)
    (by show win0_4.index t 1 * 1024 + 1 * e.val = e.val; omega))

/-- Block `k` of the projection of a token's row of the arguments. -/
abbrev place (c : Dev nD) (k : Fin 5) (b : Fin 8) (j : Fin 16) (e : Fin 1024) : EReal :=
  line (fun e => m ((c : Thread nD τ).loc main_arg0) (ix3 b j e)) (fun e => m ((c : Thread nD τ).loc main_arg1) (ix1 e))
    (fun x u => m ((c : Thread nD τ).loc main_arg2) (ix2 x u)) k e

theorem lineAt_eq (c : Dev nD) (t : Fin cfg0.N) (k : Fin 5) : lineAt m c t k = place m c k := by
  unfold lineAt lineB
  simp only [blk0, blk1, blk2]

/-- The grid's one point. -/
def pt : Fin cfg0.N := ⟨0, by decide +kernel⟩

/-- The place the long arrays' block gives one of its indices: 8192 rows further on. -/
theorem emb5 (t : Fin cfg0.N) (y : ((cfg0.win 5).xblock (grid0.coords t)).Idx) :
    ((win0_5.rect t).emb y 0).val = (y 0).val ∧ ((win0_5.rect t).emb y 1).val = 8192 + (y 1).val
      ∧ ((win0_5.rect t).emb y 2).val = (y 2).val := by
  obtain ⟨h0, h1, h2, -⟩ := idx5 t
  refine ⟨?_, ?_, ?_⟩
  · show win0_5.index t 0 * 8 + 1 * (y 0).val = (y 0).val
    omega
  · show win0_5.index t 1 * 64 + 1 * (y 1).val = 8192 + (y 1).val
    omega
  · show win0_5.index t 2 * 1024 + 1 * (y 2).val = (y 2).val
    omega

theorem chunk_rows (f : Fin 8 → Fin 16 → Fin 1024 → EReal) (b : Fin 8) (s : Fin 64) (e : Fin 1024) (h : 48 ≤ s.val) :
    chunk f (ix3 b s e) = f b ⟨s.val - 48, by have := s.isLt; omega⟩ e := dif_pos h

theorem chunk_zeros (f : Fin 8 → Fin 16 → Fin 1024 → EReal) (b : Fin 8) (s : Fin 64) (e : Fin 1024) (h : ¬48 ≤ s.val) :
    chunk f (ix3 b s e) = 0 := dif_neg h

/-- An array whose block is `o` has `o`'s rows at the end. -/
theorem tile5 (A : S8x8256x1024.Idx → EReal) (o : S8x64x1024.Idx → EReal)
    (hb : View.read (Elt Ideal) ((cfg0.win 5).blk pt).view A = (cfg0.win 5).cut (grid0.coords pt) o) (b : Fin 8) (s : Fin 64)
    (e : Fin 1024) : A (ix3 b (⟨8192 + s.val, by have := s.isLt; omega⟩ : Fin 8256) e) = o (ix3 b s e) := by
  obtain ⟨-, -, -, x0, x1, x2⟩ := idx5 pt
  have hb' := b.isLt
  have hs := s.isLt
  have he := e.isLt
  let y : ((cfg0.win 5).xblock (grid0.coords pt)).Idx := fun a => match a with
    | ⟨0, _⟩ => ⟨b.val, by show b.val < win0_5.xsize (grid0.coords pt) 0; omega⟩
    | ⟨1, _⟩ => ⟨s.val, by show s.val < win0_5.xsize (grid0.coords pt) 1; omega⟩
    | ⟨2, _⟩ => ⟨e.val, by show e.val < win0_5.xsize (grid0.coords pt) 2; omega⟩
  obtain ⟨e0, e1, e2⟩ := emb5 pt y
  refine Eq.trans ?_ ((congrFun hb y).trans (congrArg o (eq_ix3 (x := 8) (y := 64) (z := 1024) _ b s e rfl rfl rfl)))
  exact congrArg A (eq_ix3 ((win0_5.rect pt).emb y) _ _ _ e0 e1 e2).symm

/-- A long array that keeps `x` outside the block and holds the tokens' chunk inside it is `x`'s first rows with the tokens
    behind. -/
theorem whole5 (A x : S8x8256x1024.Idx → EReal) (o : S8x64x1024.Idx → EReal) (f : Fin 8 → Fin 16 → Fin 1024 → EReal)
    (hk : ∀ i : S8x8256x1024.Idx, (∀ t : Fin cfg0.N, i ∉ ((cfg0.win 5).blk t).view.set) → A i = x i)
    (hb : View.read (Elt Ideal) ((cfg0.win 5).blk pt).view A = (cfg0.win 5).cut (grid0.coords pt) o) (ho : o = chunk f) : A = behind x f := by
  funext i
  obtain ⟨b, s, e, rfl⟩ : ∃ (b : Fin 8) (s : Fin 8256) (e : Fin 1024), i = ix3 b s e := ⟨i 0, i 1, i 2, eq_ix3 _ _ _ _ rfl rfl rfl⟩
  have hs := s.isLt
  unfold behind
  by_cases h1 : s.val < 8192
  · rw [if_pos (show ((ix3 b s e : S8x8256x1024.Idx) 1).val < 8192 from h1)]
    refine hk _ fun t hm => ?_
    obtain ⟨y, hy⟩ := View.exists_emb_of_mem_set _ hm
    have h2 : s.val = 8192 + (y 1).val := (congrArg (fun i : S8x8256x1024.Idx => (i 1).val) hy).symm.trans (emb5 t y).2.1
    omega
  · rw [if_neg (show ¬((ix3 b s e : S8x8256x1024.Idx) 1).val < 8192 from h1)]
    obtain ⟨q, hq⟩ : ∃ q : Fin 64, s.val = 8192 + q.val := ⟨⟨s.val - 8192, by omega⟩, (Nat.add_sub_cancel' (by omega)).symm⟩
    have ht := tile5 A o hb b q e
    have hi : (⟨8192 + q.val, by omega⟩ : Fin 8256) = s := Fin.ext hq.symm
    rw [hi] at ht
    rw [ht, ho]
    by_cases h2 : 8240 ≤ s.val
    · rw [dif_pos (show 8240 ≤ ((ix3 b s e : S8x8256x1024.Idx) 1).val from h2)]
      refine (chunk_rows f b q e (by omega)).trans ?_
      exact congrArg (fun j => f b j e) (Fin.ext (by show q.val - 48 = s.val - 8240; omega))
    · rw [dif_neg (show ¬8240 ≤ ((ix3 b s e : S8x8256x1024.Idx) 1).val from h2)]
      exact chunk_zeros f b q e (by omega)

/-- The first result array. -/
theorem final5 (c : Dev nD) : (dats m 0 c).arrAt 5 cfg0.N
    = behind (m ((c : Thread nD τ).loc main_arg5)) fun b j e => silu (place m c 0 b j e) :=
  whole5 _ _ _ _ (fun i h => (Value.entry5 m c i fun t _ => h t).trans (congrFun (V_first m c) i))
    ((Value.blocks5 m c pt (flush0_5 pt)).trans (Value.flushed5 m c pt)) (by rw [out5_eq, lineAt_eq])

/-- The second result array. -/
theorem final6 (c : Dev nD) : (dats m 0 c).arrAt 6 cfg0.N = behind (m ((c : Thread nD τ).loc main_arg6)) (place m c 1) :=
  whole5 _ _ _ _ (fun i h => (Value.entry6 m c i fun t _ => h t).trans (congrFun (V_second m c) i))
    ((Value.blocks6 m c pt (flush0_6 pt)).trans (Value.flushed6 m c pt)) (by rw [out6_eq, lineAt_eq])

/-- The third result array. -/
theorem final7 (c : Dev nD) : (dats m 0 c).arrAt 7 cfg0.N = behind (m ((c : Thread nD τ).loc main_arg7))
    fun b j e => forget (fun k => m ((c : Thread nD τ).loc main_arg3) (ix2 k e)) (place m c 2 b j e) :=
  whole5 _ _ _ _ (fun i h => (Value.entry7 m c i fun t _ => h t).trans (congrFun (V_third m c) i))
    ((Value.blocks7 m c pt (flush0_7 pt)).trans (Value.flushed7 m c pt)) (by rw [out7_eq, lineAt_eq]; simp only [blk3])

/-- The fourth result array. -/
theorem final8 (c : Dev nD) : (dats m 0 c).arrAt 8 cfg0.N = behind (m ((c : Thread nD τ).loc main_arg8))
    fun b j e => forget (fun k => m ((c : Thread nD τ).loc main_arg4) (ix2 k e)) (place m c 3 b j e) :=
  whole5 _ _ _ _ (fun i h => (Value.entry8 m c i fun t _ => h t).trans (congrFun (V_fourth m c) i))
    ((Value.blocks8 m c pt (flush0_8 pt)).trans (Value.flushed8 m c pt)) (by rw [out8_eq, lineAt_eq]; simp only [blk4])

/-- The fifth result array. -/
theorem final9 (c : Dev nD) (b : Fin 8) (j : Fin 16) (e : Fin 1024) :
    (dats m 0 c).arrAt 9 cfg0.N (ix3 b j e) = silu (place m c 4 b j e) := by
  obtain ⟨h0, h1, h2, x0, x1, x2⟩ := idx9 pt
  have hb := b.isLt
  have hj := j.isLt
  have he := e.isLt
  let y : ((cfg0.win 9).xblock (grid0.coords pt)).Idx := fun a => match a with
    | ⟨0, _⟩ => ⟨b.val, by show b.val < win0_9.xsize (grid0.coords pt) 0; omega⟩
    | ⟨1, _⟩ => ⟨j.val, by show j.val < win0_9.xsize (grid0.coords pt) 1; omega⟩
    | ⟨2, _⟩ => ⟨e.val, by show e.val < win0_9.xsize (grid0.coords pt) 2; omega⟩
  have hy : (win0_9.rect pt).emb y = ix3 b j e := by
    refine eq_ix3 _ _ _ _ ?_ ?_ ?_
    · show win0_9.index pt 0 * 8 + 1 * b.val = b.val
      omega
    · show win0_9.index pt 1 * 16 + 1 * j.val = j.val
      omega
    · show win0_9.index pt 2 * 1024 + 1 * e.val = e.val
      omega
  refine (congrArg ((dats m 0 c).arrAt 9 cfg0.N) hy.symm).trans
    ((congrFun ((Value.blocks9 m c pt (flush0_9 pt)).trans (Value.flushed9 m c pt)) y).trans
      ((congrArg (outsAt0 m c pt).2.2.2.2 (eq_ix3 (x := 8) (y := 16) (z := 1024) _ b j e rfl rfl rfl)).trans ?_))
  rw [out9_at, lineAt_eq]

end Cert.Proof.RecInMetaValue
-- ==== Proof.ClaimRecInMeta.lean ====
/-
  The claims about the meta tokens' recurrent input projections: the frames, and the equation of all five results with the
  reference.
-/
module

public import proofs.«01_k».proof.Defs
public import proofs.«01_k».proof.Proof.RecInMetaValue
public import proofs.«01_k».proof.Proof.Gen.KernelRecInMeta.Frame

@[expose] public section

set_option maxRecDepth 16384

noncomputable section

namespace Cert.Proof.ClaimRecInMeta

open Idealize.ShloMosaic Idealize.SL.Sem Cert.Proof.PostFn

theorem frame : Cert.quiescent_KernelRecInMeta (hKernelRecInMeta := Cert.KernelRecInMeta.Gen.facts) :=
  fun m ρ _ => Cert.KernelRecInMeta.Gen.frame m ρ

theorem frame_ideal : Cert.quiescent_KernelRecInMetaIdeal (hKernelRecInMetaIdeal := Cert.KernelRecInMetaIdeal.Gen.facts) :=
  fun m ρ _ => Cert.KernelRecInMetaIdeal.Gen.frame m ρ

theorem frame_ref : Cert.quiescent_ReferenceRecInMetaIdeal (hReferenceRecInMetaIdeal := Cert.ReferenceRecInMetaIdeal.Gen.facts) :=
  fun m ρ _ =>
    (θ_run Cert.ReferenceRecInMetaIdeal.defs _ _).mono (fun r h => ⟨fun c => (h c).2.2.2.2.2, sem_eq_zero_of_no_sems (by decide) r.2⟩)
      (Cert.ReferenceRecInMetaIdeal.Value.run (F := Ideal) m ρ)

/-- The kernel and the reference end with equal results. -/
theorem value : Cert.algebraic_KernelRecInMetaIdeal_ReferenceRecInMetaIdeal (hKernelRecInMetaIdeal := Cert.KernelRecInMetaIdeal.Gen.facts)
    (hReferenceRecInMetaIdeal := Cert.ReferenceRecInMetaIdeal.Gen.facts) := by
  intro m ρ m' ρ' _ hag
  let arg (c : Dev Cert.KernelRecInMetaIdeal.nD) (a : Ref Cert.KernelRecInMetaIdeal.sig .tc) :=
    m ((c.tc : Thread Cert.KernelRecInMetaIdeal.nD Cert.KernelRecInMetaIdeal.τ).loc a)
  refine ⟨fun c => Cert.ReferenceRecInMetaIdeal.Read.val_main_v23 (F := Ideal) (arg c Cert.KernelRecInMetaIdeal.main_arg0) (arg c Cert.KernelRecInMetaIdeal.main_arg1) (arg c Cert.KernelRecInMetaIdeal.main_arg2) (arg c Cert.KernelRecInMetaIdeal.main_arg5),
    fun c => Cert.ReferenceRecInMetaIdeal.Read.val_main_v27 (F := Ideal) (arg c Cert.KernelRecInMetaIdeal.main_arg0) (arg c Cert.KernelRecInMetaIdeal.main_arg1) (arg c Cert.KernelRecInMetaIdeal.main_arg2) (arg c Cert.KernelRecInMetaIdeal.main_arg6),
    fun c => Cert.ReferenceRecInMetaIdeal.Read.val_main_v62 (F := Ideal) (arg c Cert.KernelRecInMetaIdeal.main_arg0) (arg c Cert.KernelRecInMetaIdeal.main_arg1) (arg c Cert.KernelRecInMetaIdeal.main_arg2) (arg c Cert.KernelRecInMetaIdeal.main_arg3) (arg c Cert.KernelRecInMetaIdeal.main_arg7),
    fun c => Cert.ReferenceRecInMetaIdeal.Read.val_main_v97 (F := Ideal) (arg c Cert.KernelRecInMetaIdeal.main_arg0) (arg c Cert.KernelRecInMetaIdeal.main_arg1) (arg c Cert.KernelRecInMetaIdeal.main_arg2) (arg c Cert.KernelRecInMetaIdeal.main_arg4) (arg c Cert.KernelRecInMetaIdeal.main_arg8),
    fun c => Cert.ReferenceRecInMetaIdeal.Read.val_main_v99 (F := Ideal) (arg c Cert.KernelRecInMetaIdeal.main_arg0) (arg c Cert.KernelRecInMetaIdeal.main_arg1) (arg c Cert.KernelRecInMetaIdeal.main_arg2),
    (θ_run _ _ _).mono (fun r h c => ?_) (Cert.KernelRecInMetaIdeal.Value.run_blocks (F := Ideal) m ρ),
    (θ_run _ _ _).mono (fun r h c => ?_) (Cert.ReferenceRecInMetaIdeal.Value.run (F := Ideal) m' ρ')⟩
  · obtain ⟨k0, k1, k2, k3, k4, ka⟩ := h c
    refine ⟨k0.trans ((RecInMetaValue.final5 m c).trans (RecInMetaRef.v23_eq _ _ _ _).symm),
      k1.trans ((RecInMetaValue.final6 m c).trans (RecInMetaRef.v27_eq _ _ _ _).symm),
      k2.trans ((RecInMetaValue.final7 m c).trans (RecInMetaRef.v62_eq _ _ _ _ _).symm),
      k3.trans ((RecInMetaValue.final8 m c).trans (RecInMetaRef.v97_eq _ _ _ _ _).symm), k4.trans (funext fun i => ?_), ka⟩
    rw [eq_ix3 (x := 8) (y := 16) (z := 1024) i (i 0) (i 1) (i 2) rfl rfl rfl]
    exact (RecInMetaValue.final9 m c (i 0) (i 1) (i 2)).trans (RecInMetaRef.v99_at _ _ _ (i 0) (i 1) (i 2)).symm
  · obtain ⟨h0, h1, h2, h3, h4, h5, h6, h7, h8⟩ := hag c
    obtain ⟨k0, k1, k2, k3, k4, ka⟩ := h c
    refine ⟨k0.trans ?_, k1.trans ?_, k2.trans ?_, k3.trans ?_, k4.trans ?_, ka⟩
    · refine (Cert.ReferenceRecInMetaIdeal.Read.val_main_v23_eq _ _ _ _).trans ?_
      rw [h0, h1, h2, h5]
    · refine (Cert.ReferenceRecInMetaIdeal.Read.val_main_v27_eq _ _ _ _).trans ?_
      rw [h0, h1, h2, h6]
    · refine (Cert.ReferenceRecInMetaIdeal.Read.val_main_v62_eq m' c).trans ?_
      rw [h0, h1, h2, h3, h7]
    · refine (Cert.ReferenceRecInMetaIdeal.Read.val_main_v97_eq m' c).trans ?_
      rw [h0, h1, h2, h4, h8]
    · refine (Cert.ReferenceRecInMetaIdeal.Read.val_main_v99_eq _ _ _).trans ?_
      rw [h0, h1, h2]

end Cert.Proof.ClaimRecInMeta
-- ==== Proof.lean ====
module

public import proofs.«01_k».proof.Defs
public import proofs.«01_k».proof.Proof.ClaimAttn
public import proofs.«01_k».proof.Proof.ClaimPost
public import proofs.«01_k».proof.Proof.ClaimRec
public import proofs.«01_k».proof.Proof.ClaimRecIn
public import proofs.«01_k».proof.Proof.ClaimAttnIn
public import proofs.«01_k».proof.Proof.ClaimRecInFirst
public import proofs.«01_k».proof.Proof.ClaimAttnMeta
public import proofs.«01_k».proof.Proof.ClaimRecInMeta
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.KernelPostIdeal.Value
public import proofs.«01_k».proof.Proof.Gen.ReferencePostIdeal
public import proofs.«01_k».proof.Proof.Gen.ReferencePostIdeal.Run
public import proofs.«01_k».proof.Proof.Gen.ReferencePostIdeal.Read
public import proofs.«01_k».proof.Proof.Gen.KernelPostRec
public import proofs.«01_k».proof.Proof.Gen.KernelPostRec.Skeleton
public import proofs.«01_k».proof.Proof.Gen.KernelPostRec.Launch
public import proofs.«01_k».proof.Proof.Gen.KernelPostRec.Points
public import proofs.«01_k».proof.Proof.Gen.KernelPostRec.Frame
public import proofs.«01_k».proof.Proof.Gen.KernelPostRecIdeal
public import proofs.«01_k».proof.Proof.Gen.KernelPostRecIdeal.Skeleton
public import proofs.«01_k».proof.Proof.Gen.KernelPostRecIdeal.Launch
public import proofs.«01_k».proof.Proof.Gen.KernelPostRecIdeal.Points
public import proofs.«01_k».proof.Proof.Gen.KernelPostRecIdeal.Frame
public import proofs.«01_k».proof.Proof.Gen.ReferencePostRecIdeal
public import proofs.«01_k».proof.Proof.Gen.KernelPostRecIdeal.Value
public import proofs.«01_k».proof.Proof.Gen.ReferencePostRecIdeal.Run
public import proofs.«01_k».proof.Proof.Gen.ReferencePostRecIdeal.Read
public import proofs.«01_k».proof.Proof.Gen.KernelRecIn
public import proofs.«01_k».proof.Proof.Gen.KernelRecIn.Skeleton
public import proofs.«01_k».proof.Proof.Gen.KernelRecIn.Launch
public import proofs.«01_k».proof.Proof.Gen.KernelRecIn.Points
public import proofs.«01_k».proof.Proof.Gen.KernelRecIn.Frame
public import proofs.«01_k».proof.Proof.Gen.KernelRecInIdeal
public import proofs.«01_k».proof.Proof.Gen.KernelRecInIdeal.Skeleton
public import proofs.«01_k».proof.Proof.Gen.KernelRecInIdeal.Launch
public import proofs.«01_k».proof.Proof.Gen.KernelRecInIdeal.Points
public import proofs.«01_k».proof.Proof.Gen.KernelRecInIdeal.Frame
public import proofs.«01_k».proof.Proof.Gen.ReferenceRecInIdeal
public import proofs.«01_k».proof.Proof.Gen.KernelRecInIdeal.Value
public import proofs.«01_k».proof.Proof.Gen.ReferenceRecInIdeal.Run
public import proofs.«01_k».proof.Proof.Gen.ReferenceRecInIdeal.Read
public import proofs.«01_k».proof.Proof.Gen.KernelAttnIn
public import proofs.«01_k».proof.Proof.Gen.KernelAttnIn.Skeleton
public import proofs.«01_k».proof.Proof.Gen.KernelAttnIn.Launch
public import proofs.«01_k».proof.Proof.Gen.KernelAttnIn.Points
public import proofs.«01_k».proof.Proof.Gen.KernelAttnIn.Frame
public import proofs.«01_k».proof.Proof.Gen.KernelAttnInIdeal
public import proofs.«01_k».proof.Proof.Gen.KernelAttnInIdeal.Skeleton
public import proofs.«01_k».proof.Proof.Gen.KernelAttnInIdeal.Launch
public import proofs.«01_k».proof.Proof.Gen.KernelAttnInIdeal.Points
public import proofs.«01_k».proof.Proof.Gen.KernelAttnInIdeal.Frame
public import proofs.«01_k».proof.Proof.Gen.ReferenceAttnInIdeal
public import proofs.«01_k».proof.Proof.Gen.KernelAttnInIdeal.Value
public import proofs.«01_k».proof.Proof.Gen.ReferenceAttnInIdeal.Run
public import proofs.«01_k».proof.Proof.Gen.ReferenceAttnInIdeal.Read
public import proofs.«01_k».proof.Proof.Gen.KernelRecInFirst
public import proofs.«01_k».proof.Proof.Gen.KernelRecInFirst.Skeleton
public import proofs.«01_k».proof.Proof.Gen.KernelRecInFirst.Launch
public import proofs.«01_k».proof.Proof.Gen.KernelRecInFirst.Points
public import proofs.«01_k».proof.Proof.Gen.KernelRecInFirst.Frame
public import proofs.«01_k».proof.Proof.Gen.KernelRecInFirstIdeal
public import proofs.«01_k».proof.Proof.Gen.KernelRecInFirstIdeal.Skeleton
public import proofs.«01_k».proof.Proof.Gen.KernelRecInFirstIdeal.Launch
public import proofs.«01_k».proof.Proof.Gen.KernelRecInFirstIdeal.Points
public import proofs.«01_k».proof.Proof.Gen.KernelRecInFirstIdeal.Frame
public import proofs.«01_k».proof.Proof.Gen.ReferenceRecInFirstIdeal
public import proofs.«01_k».proof.Proof.Gen.KernelRecInFirstIdeal.Value
public import proofs.«01_k».proof.Proof.Gen.ReferenceRecInFirstIdeal.Run
public import proofs.«01_k».proof.Proof.Gen.ReferenceRecInFirstIdeal.Read
public import proofs.«01_k».proof.Proof.Gen.KernelAttnMeta
public import proofs.«01_k».proof.Proof.Gen.KernelAttnMeta.Skeleton
public import proofs.«01_k».proof.Proof.Gen.KernelAttnMeta.Launch
public import proofs.«01_k».proof.Proof.Gen.KernelAttnMeta.Points
public import proofs.«01_k».proof.Proof.Gen.KernelAttnMeta.Frame
public import proofs.«01_k».proof.Proof.Gen.KernelAttnMetaIdeal
public import proofs.«01_k».proof.Proof.Gen.KernelAttnMetaIdeal.Skeleton
public import proofs.«01_k».proof.Proof.Gen.KernelAttnMetaIdeal.Launch
public import proofs.«01_k».proof.Proof.Gen.KernelAttnMetaIdeal.Points
public import proofs.«01_k».proof.Proof.Gen.KernelAttnMetaIdeal.Frame
public import proofs.«01_k».proof.Proof.Gen.ReferenceAttnMetaIdeal
public import proofs.«01_k».proof.Proof.Gen.KernelAttnMetaIdeal.Value
public import proofs.«01_k».proof.Proof.Gen.ReferenceAttnMetaIdeal.Run
public import proofs.«01_k».proof.Proof.Gen.ReferenceAttnMetaIdeal.Read
public import proofs.«01_k».proof.Proof.Gen.KernelRecInMeta
public import proofs.«01_k».proof.Proof.Gen.KernelRecInMeta.Skeleton
public import proofs.«01_k».proof.Proof.Gen.KernelRecInMeta.Launch
public import proofs.«01_k».proof.Proof.Gen.KernelRecInMeta.Points
public import proofs.«01_k».proof.Proof.Gen.KernelRecInMeta.Frame
public import proofs.«01_k».proof.Proof.Gen.KernelRecInMetaIdeal
public import proofs.«01_k».proof.Proof.Gen.KernelRecInMetaIdeal.Skeleton
public import proofs.«01_k».proof.Proof.Gen.KernelRecInMetaIdeal.Launch
public import proofs.«01_k».proof.Proof.Gen.KernelRecInMetaIdeal.Points
public import proofs.«01_k».proof.Proof.Gen.KernelRecInMetaIdeal.Frame
public import proofs.«01_k».proof.Proof.Gen.ReferenceRecInMetaIdeal
public import proofs.«01_k».proof.Proof.Gen.KernelRecInMetaIdeal.Value
public import proofs.«01_k».proof.Proof.Gen.ReferenceRecInMetaIdeal.Run
public import proofs.«01_k».proof.Proof.Gen.ReferenceRecInMetaIdeal.Read
public import proofs.«01_k».proof.Proof.Gen.Pre_finite_meta_scores
public import proofs.«01_k».proof.Proof.Gen.On_real_rows

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.KernelPost.Gen.facts, Cert.KernelPostIdeal.Gen.facts, Cert.ReferencePostIdeal.Gen.facts,
    Cert.KernelPostRec.Gen.facts, Cert.KernelPostRecIdeal.Gen.facts, Cert.ReferencePostRecIdeal.Gen.facts,
    Cert.KernelRecIn.Gen.facts, Cert.KernelRecInIdeal.Gen.facts, Cert.ReferenceRecInIdeal.Gen.facts,
    Cert.KernelAttnIn.Gen.facts, Cert.KernelAttnInIdeal.Gen.facts, Cert.ReferenceAttnInIdeal.Gen.facts,
    Cert.KernelRecInFirst.Gen.facts, Cert.KernelRecInFirstIdeal.Gen.facts, Cert.ReferenceRecInFirstIdeal.Gen.facts,
    Cert.KernelAttnMeta.Gen.facts, Cert.KernelAttnMetaIdeal.Gen.facts, Cert.ReferenceAttnMetaIdeal.Gen.facts,
    Cert.KernelRecInMeta.Gen.facts, Cert.KernelRecInMetaIdeal.Gen.facts, Cert.ReferenceRecInMetaIdeal.Gen.facts,
    Cert.Pre_finite_scores.Gen.facts, Cert.Pre_finite_meta_scores.Gen.facts, Cert.On_real_rows.Gen.facts,
    ClaimAttn.frame, ClaimAttn.frame_ideal, ClaimAttn.frame_ideal_pre, ClaimAttn.frame_ref, ClaimAttn.frame_ref_pre,
    ClaimPost.frame, ClaimPost.frame_ideal, ClaimPost.frame_ref,
    ClaimRec.frame, ClaimRec.frame_ideal, ClaimRec.frame_ref,
    ClaimRecIn.frame, ClaimRecIn.frame_ideal, ClaimRecIn.frame_ref,
    ClaimAttnIn.frame, ClaimAttnIn.frame_ideal, ClaimAttnIn.frame_ref,
    ClaimRecInFirst.frame, ClaimRecInFirst.frame_ideal, ClaimRecInFirst.frame_ref,
    ClaimAttnMeta.frame, ClaimAttnMeta.frame_ideal, ClaimAttnMeta.frame_ideal_pre, ClaimAttnMeta.frame_ref,
    ClaimAttnMeta.frame_ref_pre,
    ClaimRecInMeta.frame, ClaimRecInMeta.frame_ideal, ClaimRecInMeta.frame_ref,
    trivial, ClaimAttn.value, trivial, ClaimPost.value, trivial, ClaimRec.value, trivial, ClaimRecIn.value, trivial, ClaimAttnIn.value,
    trivial, ClaimRecInFirst.value, trivial, ClaimAttnMeta.value, trivial, ClaimRecInMeta.value⟩

end Cert.Proof

end
